-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelDh1 (m : (ℓ : Loc Cert.KernelDh1.nD Cert.KernelDh1.τ Cert.KernelDh1.sig) → Buf (Elt Bits) ℓ) : Prop :=
  True

def Pre_KernelDh1Ideal (m : (ℓ : Loc Cert.KernelDh1Ideal.nD Cert.KernelDh1Ideal.τ Cert.KernelDh1Ideal.sig) → Buf (Elt Ideal) ℓ) : Prop :=
  True

def Pre_ReferenceDh1Ideal (m : (ℓ : Loc Cert.ReferenceDh1Ideal.nD Cert.ReferenceDh1Ideal.τ Cert.ReferenceDh1Ideal.sig) → Buf (Elt Ideal) ℓ) : Prop :=
  True

def Pre_KernelDgate (m : (ℓ : Loc Cert.KernelDgate.nD Cert.KernelDgate.τ Cert.KernelDgate.sig) → Buf (Elt Bits) ℓ) : Prop :=
  True

def Pre_KernelDgateIdeal (m : (ℓ : Loc Cert.KernelDgateIdeal.nD Cert.KernelDgateIdeal.τ Cert.KernelDgateIdeal.sig) → Buf (Elt Ideal) ℓ) : Prop :=
  True

def Pre_ReferenceDgateIdeal (m : (ℓ : Loc Cert.ReferenceDgateIdeal.nD Cert.ReferenceDgateIdeal.τ Cert.ReferenceDgateIdeal.sig) → Buf (Elt Ideal) ℓ) : Prop :=
  True

def Pre_KernelDdown (m : (ℓ : Loc Cert.KernelDdown.nD Cert.KernelDdown.τ Cert.KernelDdown.sig) → Buf (Elt Bits) ℓ) : Prop :=
  True

def Pre_KernelDdownIdeal (m : (ℓ : Loc Cert.KernelDdownIdeal.nD Cert.KernelDdownIdeal.τ Cert.KernelDdownIdeal.sig) → Buf (Elt Ideal) ℓ) : Prop :=
  True

def Pre_ReferenceDdownIdeal (m : (ℓ : Loc Cert.ReferenceDdownIdeal.nD Cert.ReferenceDdownIdeal.τ Cert.ReferenceDdownIdeal.sig) → Buf (Elt Ideal) ℓ) : Prop :=
  True

def Pre_KernelDxg (m : (ℓ : Loc Cert.KernelDxg.nD Cert.KernelDxg.τ Cert.KernelDxg.sig) → Buf (Elt Bits) ℓ) : Prop :=
  True

def Pre_KernelDxgIdeal (m : (ℓ : Loc Cert.KernelDxgIdeal.nD Cert.KernelDxgIdeal.τ Cert.KernelDxgIdeal.sig) → Buf (Elt Ideal) ℓ) : Prop :=
  True

def Pre_ReferenceDxgIdeal (m : (ℓ : Loc Cert.ReferenceDxgIdeal.nD Cert.ReferenceDxgIdeal.τ Cert.ReferenceDxgIdeal.sig) → Buf (Elt Ideal) ℓ) : Prop :=
  True

def Pre_KernelDxu (m : (ℓ : Loc Cert.KernelDxu.nD Cert.KernelDxu.τ Cert.KernelDxu.sig) → Buf (Elt Bits) ℓ) : Prop :=
  True

def Pre_KernelDxuIdeal (m : (ℓ : Loc Cert.KernelDxuIdeal.nD Cert.KernelDxuIdeal.τ Cert.KernelDxuIdeal.sig) → Buf (Elt Ideal) ℓ) : Prop :=
  True

def Pre_ReferenceDxuIdeal (m : (ℓ : Loc Cert.ReferenceDxuIdeal.nD Cert.ReferenceDxuIdeal.τ Cert.ReferenceDxuIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDmix (m : (ℓ : Loc Cert.KernelDmix.nD Cert.KernelDmix.τ Cert.KernelDmix.sig) → Buf (Elt Bits) ℓ) : Prop :=
  True

def Pre_KernelDmixIdeal (m : (ℓ : Loc Cert.KernelDmixIdeal.nD Cert.KernelDmixIdeal.τ Cert.KernelDmixIdeal.sig) → Buf (Elt Ideal) ℓ) : Prop :=
  True

def Pre_ReferenceDmixIdeal (m : (ℓ : Loc Cert.ReferenceDmixIdeal.nD Cert.ReferenceDmixIdeal.τ Cert.ReferenceDmixIdeal.sig) → Buf (Elt Ideal) ℓ) : Prop :=
  True

def Pre_KernelDmerged (m : (ℓ : Loc Cert.KernelDmerged.nD Cert.KernelDmerged.τ Cert.KernelDmerged.sig) → Buf (Elt Bits) ℓ) : Prop :=
  True

def Pre_KernelDmergedIdeal (m : (ℓ : Loc Cert.KernelDmergedIdeal.nD Cert.KernelDmergedIdeal.τ Cert.KernelDmergedIdeal.sig) → Buf (Elt Ideal) ℓ) : Prop :=
  True

def Pre_ReferenceDmergedIdeal (m : (ℓ : Loc Cert.ReferenceDmergedIdeal.nD Cert.ReferenceDmergedIdeal.τ Cert.ReferenceDmergedIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelDyb (m : (ℓ : Loc Cert.KernelDyb.nD Cert.KernelDyb.τ Cert.KernelDyb.sig) → Buf (Elt Bits) ℓ) : Prop :=
  True

def Pre_KernelDybIdeal (m : (ℓ : Loc Cert.KernelDybIdeal.nD Cert.KernelDybIdeal.τ Cert.KernelDybIdeal.sig) → Buf (Elt Ideal) ℓ) : Prop :=
  True

def Pre_ReferenceDybIdeal (m : (ℓ : Loc Cert.ReferenceDybIdeal.nD Cert.ReferenceDybIdeal.τ Cert.ReferenceDybIdeal.sig) → Buf (Elt Ideal) ℓ) : Prop :=
  True

def Pre_KernelDbranch (m : (ℓ : Loc Cert.KernelDbranch.nD Cert.KernelDbranch.τ Cert.KernelDbranch.sig) → Buf (Elt Bits) ℓ) : Prop :=
  True

def Pre_KernelDbranchIdeal (m : (ℓ : Loc Cert.KernelDbranchIdeal.nD Cert.KernelDbranchIdeal.τ Cert.KernelDbranchIdeal.sig) → Buf (Elt Ideal) ℓ) : Prop :=
  True

def Pre_ReferenceDbranchIdeal (m : (ℓ : Loc Cert.ReferenceDbranchIdeal.nD Cert.ReferenceDbranchIdeal.τ Cert.ReferenceDbranchIdeal.sig) → Buf (Elt Ideal) ℓ) : Prop :=
  True

def Pre_KernelXq (m : (ℓ : Loc Cert.KernelXq.nD Cert.KernelXq.τ Cert.KernelXq.sig) → Buf (Elt Bits) ℓ) : Prop :=
  True

def Pre_KernelXqIdeal (m : (ℓ : Loc Cert.KernelXqIdeal.nD Cert.KernelXqIdeal.τ Cert.KernelXqIdeal.sig) → Buf (Elt Ideal) ℓ) : Prop :=
  True

def Pre_ReferenceXqIdeal (m : (ℓ : Loc Cert.ReferenceXqIdeal.nD Cert.ReferenceXqIdeal.τ Cert.ReferenceXqIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1))
      ∧ r.2.sem = fun _ => 0)

def quiescent_KernelDh1 [hKernelDh1 : Cert.KernelDh1.Facts] : Prop :=
  ∀ (m : (ℓ : Loc Cert.KernelDh1.nD Cert.KernelDh1.τ Cert.KernelDh1.sig) → Buf (Elt Bits) ℓ) (g : Dev Cert.KernelDh1.nD → PrngReg), Pre_KernelDh1 m →
    θ_run (Cert.KernelDh1.defs (F := Bits)) (onTc (τ := Cert.KernelDh1.τ) (Cert.KernelDh1.main (F := Bits))) ⟨m, fun _ => 0, g⟩ (fun r => (∀ c : Dev Cert.KernelDh1.nD,
      r.2.mem ((c.tc : Thread Cert.KernelDh1.nD Cert.KernelDh1.τ).loc Cert.KernelDh1.main_arg0) = m ((c.tc : Thread Cert.KernelDh1.nD Cert.KernelDh1.τ).loc Cert.KernelDh1.main_arg0)
      ∧ r.2.mem ((c.tc : Thread Cert.KernelDh1.nD Cert.KernelDh1.τ).loc Cert.KernelDh1.main_arg1) = m ((c.tc : Thread Cert.KernelDh1.nD Cert.KernelDh1.τ).loc Cert.KernelDh1.main_arg1))
      ∧ r.2.sem = fun _ => 0)

def quiescent_KernelDh1Ideal [hKernelDh1Ideal : Cert.KernelDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg), Pre_KernelDh1Ideal m →
    θ_run (Cert.KernelDh1Ideal.defs (F := Ideal)) (onTc (τ := Cert.KernelDh1Ideal.τ) (Cert.KernelDh1Ideal.main (F := Ideal))) ⟨m, fun _ => 0, g⟩ (fun r => (∀ c : Dev Cert.KernelDh1Ideal.nD,
      r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
      ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1))
      ∧ r.2.sem = fun _ => 0)

def quiescent_ReferenceDh1Ideal [hReferenceDh1Ideal : Cert.ReferenceDh1Ideal.Facts] : Prop :=
  ∀ (m : (ℓ : Loc Cert.ReferenceDh1Ideal.nD Cert.ReferenceDh1Ideal.τ Cert.ReferenceDh1Ideal.sig) → Buf (Elt Ideal) ℓ) (g : Dev Cert.ReferenceDh1Ideal.nD → PrngReg), Pre_ReferenceDh1Ideal m →
    θ_run (Cert.ReferenceDh1Ideal.defs (F := Ideal)) (onTc (τ := Cert.ReferenceDh1Ideal.τ) (Cert.ReferenceDh1Ideal.main (F := Ideal))) ⟨m, fun _ => 0, g⟩ (fun r => (∀ c : Dev Cert.ReferenceDh1Ideal.nD,
      r.2.mem ((c.tc : Thread Cert.ReferenceDh1Ideal.nD Cert.ReferenceDh1Ideal.τ).loc Cert.ReferenceDh1Ideal.main_arg0) = m ((c.tc : Thread Cert.ReferenceDh1Ideal.nD Cert.ReferenceDh1Ideal.τ).loc Cert.ReferenceDh1Ideal.main_arg0)
      ∧ r.2.mem ((c.tc : Thread Cert.ReferenceDh1Ideal.nD Cert.ReferenceDh1Ideal.τ).loc Cert.ReferenceDh1Ideal.main_arg1) = m ((c.tc : Thread Cert.ReferenceDh1Ideal.nD Cert.ReferenceDh1Ideal.τ).loc Cert.ReferenceDh1Ideal.main_arg1))
      ∧ r.2.sem = fun _ => 0)

def quiescent_KernelDgate [hKernelDgate : Cert.KernelDgate.Facts] : Prop :=
  ∀ (m : (ℓ : Loc Cert.KernelDgate.nD Cert.KernelDgate.τ Cert.KernelDgate.sig) → Buf (Elt Bits) ℓ) (g : Dev Cert.KernelDgate.nD → PrngReg), Pre_KernelDgate m →
    θ_run (Cert.KernelDgate.defs (F := Bits)) (onTc (τ := Cert.KernelDgate.τ) (Cert.KernelDgate.main (F := Bits))) ⟨m, fun _ => 0, g⟩ (fun r => (∀ c : Dev Cert.KernelDgate.nD,
      r.2.mem ((c.tc : Thread Cert.KernelDgate.nD Cert.KernelDgate.τ).loc Cert.KernelDgate.main_arg0) = m ((c.tc : Thread Cert.KernelDgate.nD Cert.KernelDgate.τ).loc Cert.KernelDgate.main_arg0)
      ∧ r.2.mem ((c.tc : Thread Cert.KernelDgate.nD Cert.KernelDgate.τ).loc Cert.KernelDgate.main_arg1) = m ((c.tc : Thread Cert.KernelDgate.nD Cert.KernelDgate.τ).loc Cert.KernelDgate.main_arg1))
      ∧ r.2.sem = fun _ => 0)

def quiescent_KernelDgateIdeal [hKernelDgateIdeal : Cert.KernelDgateIdeal.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg), Pre_KernelDgateIdeal m →
    θ_run (Cert.KernelDgateIdeal.defs (F := Ideal)) (onTc (τ := Cert.KernelDgateIdeal.τ) (Cert.KernelDgateIdeal.main (F := Ideal))) ⟨m, fun _ => 0, g⟩ (fun r => (∀ c : Dev Cert.KernelDgateIdeal.nD,
      r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
      ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1))
      ∧ r.2.sem = fun _ => 0)

def quiescent_ReferenceDgateIdeal [hReferenceDgateIdeal : Cert.ReferenceDgateIdeal.Facts] : Prop :=
  ∀ (m : (ℓ : Loc Cert.ReferenceDgateIdeal.nD Cert.ReferenceDgateIdeal.τ Cert.ReferenceDgateIdeal.sig) → Buf (Elt Ideal) ℓ) (g : Dev Cert.ReferenceDgateIdeal.nD → PrngReg), Pre_ReferenceDgateIdeal m →
    θ_run (Cert.ReferenceDgateIdeal.defs (F := Ideal)) (onTc (τ := Cert.ReferenceDgateIdeal.τ) (Cert.ReferenceDgateIdeal.main (F := Ideal))) ⟨m, fun _ => 0, g⟩ (fun r => (∀ c : Dev Cert.ReferenceDgateIdeal.nD,
      r.2.mem ((c.tc : Thread Cert.ReferenceDgateIdeal.nD Cert.ReferenceDgateIdeal.τ).loc Cert.ReferenceDgateIdeal.main_arg0) = m ((c.tc : Thread Cert.ReferenceDgateIdeal.nD Cert.ReferenceDgateIdeal.τ).loc Cert.ReferenceDgateIdeal.main_arg0)
      ∧ r.2.mem ((c.tc : Thread Cert.ReferenceDgateIdeal.nD Cert.ReferenceDgateIdeal.τ).loc Cert.ReferenceDgateIdeal.main_arg1) = m ((c.tc : Thread Cert.ReferenceDgateIdeal.nD Cert.ReferenceDgateIdeal.τ).loc Cert.ReferenceDgateIdeal.main_arg1))
      ∧ r.2.sem = fun _ => 0)

def quiescent_KernelDdown [hKernelDdown : Cert.KernelDdown.Facts] : Prop :=
  ∀ (m : (ℓ : Loc Cert.KernelDdown.nD Cert.KernelDdown.τ Cert.KernelDdown.sig) → Buf (Elt Bits) ℓ) (g : Dev Cert.KernelDdown.nD → PrngReg), Pre_KernelDdown m →
    θ_run (Cert.KernelDdown.defs (F := Bits)) (onTc (τ := Cert.KernelDdown.τ) (Cert.KernelDdown.main (F := Bits))) ⟨m, fun _ => 0, g⟩ (fun r => (∀ c : Dev Cert.KernelDdown.nD,
      r.2.mem ((c.tc : Thread Cert.KernelDdown.nD Cert.KernelDdown.τ).loc Cert.KernelDdown.main_arg0) = m ((c.tc : Thread Cert.KernelDdown.nD Cert.KernelDdown.τ).loc Cert.KernelDdown.main_arg0)
      ∧ r.2.mem ((c.tc : Thread Cert.KernelDdown.nD Cert.KernelDdown.τ).loc Cert.KernelDdown.main_arg1) = m ((c.tc : Thread Cert.KernelDdown.nD Cert.KernelDdown.τ).loc Cert.KernelDdown.main_arg1))
      ∧ r.2.sem = fun _ => 0)

def quiescent_KernelDdownIdeal [hKernelDdownIdeal : Cert.KernelDdownIdeal.Facts] : Prop :=
  ∀ (m : (ℓ : Loc Cert.KernelDdownIdeal.nD Cert.KernelDdownIdeal.τ Cert.KernelDdownIdeal.sig) → Buf (Elt Ideal) ℓ) (g : Dev Cert.KernelDdownIdeal.nD → PrngReg), Pre_KernelDdownIdeal m →
    θ_run (Cert.KernelDdownIdeal.defs (F := Ideal)) (onTc (τ := Cert.KernelDdownIdeal.τ) (Cert.KernelDdownIdeal.main (F := Ideal))) ⟨m, fun _ => 0, g⟩ (fun r => (∀ c : Dev Cert.KernelDdownIdeal.nD,
      r.2.mem ((c.tc : Thread Cert.KernelDdownIdeal.nD Cert.KernelDdownIdeal.τ).loc Cert.KernelDdownIdeal.main_arg0) = m ((c.tc : Thread Cert.KernelDdownIdeal.nD Cert.KernelDdownIdeal.τ).loc Cert.KernelDdownIdeal.main_arg0)
      ∧ r.2.mem ((c.tc : Thread Cert.KernelDdownIdeal.nD Cert.KernelDdownIdeal.τ).loc Cert.KernelDdownIdeal.main_arg1) = m ((c.tc : Thread Cert.KernelDdownIdeal.nD Cert.KernelDdownIdeal.τ).loc Cert.KernelDdownIdeal.main_arg1))
      ∧ r.2.sem = fun _ => 0)

def quiescent_ReferenceDdownIdeal [hReferenceDdownIdeal : Cert.ReferenceDdownIdeal.Facts] : Prop :=
  ∀ (m : (ℓ : Loc Cert.ReferenceDdownIdeal.nD Cert.ReferenceDdownIdeal.τ Cert.ReferenceDdownIdeal.sig) → Buf (Elt Ideal) ℓ) (g : Dev Cert.ReferenceDdownIdeal.nD → PrngReg), Pre_ReferenceDdownIdeal m →
    θ_run (Cert.ReferenceDdownIdeal.defs (F := Ideal)) (onTc (τ := Cert.ReferenceDdownIdeal.τ) (Cert.ReferenceDdownIdeal.main (F := Ideal))) ⟨m, fun _ => 0, g⟩ (fun r => (∀ c : Dev Cert.ReferenceDdownIdeal.nD,
      r.2.mem ((c.tc : Thread Cert.ReferenceDdownIdeal.nD Cert.ReferenceDdownIdeal.τ).loc Cert.ReferenceDdownIdeal.main_arg0) = m ((c.tc : Thread Cert.ReferenceDdownIdeal.nD Cert.ReferenceDdownIdeal.τ).loc Cert.ReferenceDdownIdeal.main_arg0)
      ∧ r.2.mem ((c.tc : Thread Cert.ReferenceDdownIdeal.nD Cert.ReferenceDdownIdeal.τ).loc Cert.ReferenceDdownIdeal.main_arg1) = m ((c.tc : Thread Cert.ReferenceDdownIdeal.nD Cert.ReferenceDdownIdeal.τ).loc Cert.ReferenceDdownIdeal.main_arg1))
      ∧ r.2.sem = fun _ => 0)

def quiescent_KernelDxg [hKernelDxg : Cert.KernelDxg.Facts] : Prop :=
  ∀ (m : (ℓ : Loc Cert.KernelDxg.nD Cert.KernelDxg.τ Cert.KernelDxg.sig) → Buf (Elt Bits) ℓ) (g : Dev Cert.KernelDxg.nD → PrngReg), Pre_KernelDxg m →
    θ_run (Cert.KernelDxg.defs (F := Bits)) (onTc (τ := Cert.KernelDxg.τ) (Cert.KernelDxg.main (F := Bits))) ⟨m, fun _ => 0, g⟩ (fun r => (∀ c : Dev Cert.KernelDxg.nD,
      r.2.mem ((c.tc : Thread Cert.KernelDxg.nD Cert.KernelDxg.τ).loc Cert.KernelDxg.main_arg0) = m ((c.tc : Thread Cert.KernelDxg.nD Cert.KernelDxg.τ).loc Cert.KernelDxg.main_arg0)
      ∧ r.2.mem ((c.tc : Thread Cert.KernelDxg.nD Cert.KernelDxg.τ).loc Cert.KernelDxg.main_arg1) = m ((c.tc : Thread Cert.KernelDxg.nD Cert.KernelDxg.τ).loc Cert.KernelDxg.main_arg1))
      ∧ r.2.sem = fun _ => 0)

def quiescent_KernelDxgIdeal [hKernelDxgIdeal : Cert.KernelDxgIdeal.Facts] : Prop :=
  ∀ (m : (ℓ : Loc Cert.KernelDxgIdeal.nD Cert.KernelDxgIdeal.τ Cert.KernelDxgIdeal.sig) → Buf (Elt Ideal) ℓ) (g : Dev Cert.KernelDxgIdeal.nD → PrngReg), Pre_KernelDxgIdeal m →
    θ_run (Cert.KernelDxgIdeal.defs (F := Ideal)) (onTc (τ := Cert.KernelDxgIdeal.τ) (Cert.KernelDxgIdeal.main (F := Ideal))) ⟨m, fun _ => 0, g⟩ (fun r => (∀ c : Dev Cert.KernelDxgIdeal.nD,
      r.2.mem ((c.tc : Thread Cert.KernelDxgIdeal.nD Cert.KernelDxgIdeal.τ).loc Cert.KernelDxgIdeal.main_arg0) = m ((c.tc : Thread Cert.KernelDxgIdeal.nD Cert.KernelDxgIdeal.τ).loc Cert.KernelDxgIdeal.main_arg0)
      ∧ r.2.mem ((c.tc : Thread Cert.KernelDxgIdeal.nD Cert.KernelDxgIdeal.τ).loc Cert.KernelDxgIdeal.main_arg1) = m ((c.tc : Thread Cert.KernelDxgIdeal.nD Cert.KernelDxgIdeal.τ).loc Cert.KernelDxgIdeal.main_arg1))
      ∧ r.2.sem = fun _ => 0)

def quiescent_ReferenceDxgIdeal [hReferenceDxgIdeal : Cert.ReferenceDxgIdeal.Facts] : Prop :=
  ∀ (m : (ℓ : Loc Cert.ReferenceDxgIdeal.nD Cert.ReferenceDxgIdeal.τ Cert.ReferenceDxgIdeal.sig) → Buf (Elt Ideal) ℓ) (g : Dev Cert.ReferenceDxgIdeal.nD → PrngReg), Pre_ReferenceDxgIdeal m →
    θ_run (Cert.ReferenceDxgIdeal.defs (F := Ideal)) (onTc (τ := Cert.ReferenceDxgIdeal.τ) (Cert.ReferenceDxgIdeal.main (F := Ideal))) ⟨m, fun _ => 0, g⟩ (fun r => (∀ c : Dev Cert.ReferenceDxgIdeal.nD,
      r.2.mem ((c.tc : Thread Cert.ReferenceDxgIdeal.nD Cert.ReferenceDxgIdeal.τ).loc Cert.ReferenceDxgIdeal.main_arg0) = m ((c.tc : Thread Cert.ReferenceDxgIdeal.nD Cert.ReferenceDxgIdeal.τ).loc Cert.ReferenceDxgIdeal.main_arg0)
      ∧ r.2.mem ((c.tc : Thread Cert.ReferenceDxgIdeal.nD Cert.ReferenceDxgIdeal.τ).loc Cert.ReferenceDxgIdeal.main_arg1) = m ((c.tc : Thread Cert.ReferenceDxgIdeal.nD Cert.ReferenceDxgIdeal.τ).loc Cert.ReferenceDxgIdeal.main_arg1))
      ∧ r.2.sem = fun _ => 0)

def quiescent_KernelDxu [hKernelDxu : Cert.KernelDxu.Facts] : Prop :=
  ∀ (m : (ℓ : Loc Cert.KernelDxu.nD Cert.KernelDxu.τ Cert.KernelDxu.sig) → Buf (Elt Bits) ℓ) (g : Dev Cert.KernelDxu.nD → PrngReg), Pre_KernelDxu m →
    θ_run (Cert.KernelDxu.defs (F := Bits)) (onTc (τ := Cert.KernelDxu.τ) (Cert.KernelDxu.main (F := Bits))) ⟨m, fun _ => 0, g⟩ (fun r => (∀ c : Dev Cert.KernelDxu.nD,
      r.2.mem ((c.tc : Thread Cert.KernelDxu.nD Cert.KernelDxu.τ).loc Cert.KernelDxu.main_arg0) = m ((c.tc : Thread Cert.KernelDxu.nD Cert.KernelDxu.τ).loc Cert.KernelDxu.main_arg0)
      ∧ r.2.mem ((c.tc : Thread Cert.KernelDxu.nD Cert.KernelDxu.τ).loc Cert.KernelDxu.main_arg1) = m ((c.tc : Thread Cert.KernelDxu.nD Cert.KernelDxu.τ).loc Cert.KernelDxu.main_arg1)
      ∧ r.2.mem ((c.tc : Thread Cert.KernelDxu.nD Cert.KernelDxu.τ).loc Cert.KernelDxu.main_arg2) = m ((c.tc : Thread Cert.KernelDxu.nD Cert.KernelDxu.τ).loc Cert.KernelDxu.main_arg2))
      ∧ r.2.sem = fun _ => 0)

def quiescent_KernelDxuIdeal [hKernelDxuIdeal : Cert.KernelDxuIdeal.Facts] : Prop :=
  ∀ (m : (ℓ : Loc Cert.KernelDxuIdeal.nD Cert.KernelDxuIdeal.τ Cert.KernelDxuIdeal.sig) → Buf (Elt Ideal) ℓ) (g : Dev Cert.KernelDxuIdeal.nD → PrngReg), Pre_KernelDxuIdeal m →
    θ_run (Cert.KernelDxuIdeal.defs (F := Ideal)) (onTc (τ := Cert.KernelDxuIdeal.τ) (Cert.KernelDxuIdeal.main (F := Ideal))) ⟨m, fun _ => 0, g⟩ (fun r => (∀ c : Dev Cert.KernelDxuIdeal.nD,
      r.2.mem ((c.tc : Thread Cert.KernelDxuIdeal.nD Cert.KernelDxuIdeal.τ).loc Cert.KernelDxuIdeal.main_arg0) = m ((c.tc : Thread Cert.KernelDxuIdeal.nD Cert.KernelDxuIdeal.τ).loc Cert.KernelDxuIdeal.main_arg0)
      ∧ r.2.mem ((c.tc : Thread Cert.KernelDxuIdeal.nD Cert.KernelDxuIdeal.τ).loc Cert.KernelDxuIdeal.main_arg1) = m ((c.tc : Thread Cert.KernelDxuIdeal.nD Cert.KernelDxuIdeal.τ).loc Cert.KernelDxuIdeal.main_arg1)
      ∧ r.2.mem ((c.tc : Thread Cert.KernelDxuIdeal.nD Cert.KernelDxuIdeal.τ).loc Cert.KernelDxuIdeal.main_arg2) = m ((c.tc : Thread Cert.KernelDxuIdeal.nD Cert.KernelDxuIdeal.τ).loc Cert.KernelDxuIdeal.main_arg2))
      ∧ r.2.sem = fun _ => 0)

def quiescent_ReferenceDxuIdeal [hReferenceDxuIdeal : Cert.ReferenceDxuIdeal.Facts] : Prop :=
  ∀ (m : (ℓ : Loc Cert.ReferenceDxuIdeal.nD Cert.ReferenceDxuIdeal.τ Cert.ReferenceDxuIdeal.sig) → Buf (Elt Ideal) ℓ) (g : Dev Cert.ReferenceDxuIdeal.nD → PrngReg), Pre_ReferenceDxuIdeal m →
    θ_run (Cert.ReferenceDxuIdeal.defs (F := Ideal)) (onTc (τ := Cert.ReferenceDxuIdeal.τ) (Cert.ReferenceDxuIdeal.main (F := Ideal))) ⟨m, fun _ => 0, g⟩ (fun r => (∀ c : Dev Cert.ReferenceDxuIdeal.nD,
      r.2.mem ((c.tc : Thread Cert.ReferenceDxuIdeal.nD Cert.ReferenceDxuIdeal.τ).loc Cert.ReferenceDxuIdeal.main_arg0) = m ((c.tc : Thread Cert.ReferenceDxuIdeal.nD Cert.ReferenceDxuIdeal.τ).loc Cert.ReferenceDxuIdeal.main_arg0)
      ∧ r.2.mem ((c.tc : Thread Cert.ReferenceDxuIdeal.nD Cert.ReferenceDxuIdeal.τ).loc Cert.ReferenceDxuIdeal.main_arg1) = m ((c.tc : Thread Cert.ReferenceDxuIdeal.nD Cert.ReferenceDxuIdeal.τ).loc Cert.ReferenceDxuIdeal.main_arg1)
      ∧ r.2.mem ((c.tc : Thread Cert.ReferenceDxuIdeal.nD Cert.ReferenceDxuIdeal.τ).loc Cert.ReferenceDxuIdeal.main_arg2) = m ((c.tc : Thread Cert.ReferenceDxuIdeal.nD Cert.ReferenceDxuIdeal.τ).loc Cert.ReferenceDxuIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDmix [hKernelDmix : Cert.KernelDmix.Facts] : Prop :=
  ∀ (m : (ℓ : Loc Cert.KernelDmix.nD Cert.KernelDmix.τ Cert.KernelDmix.sig) → Buf (Elt Bits) ℓ) (g : Dev Cert.KernelDmix.nD → PrngReg), Pre_KernelDmix m →
    θ_run (Cert.KernelDmix.defs (F := Bits)) (onTc (τ := Cert.KernelDmix.τ) (Cert.KernelDmix.main (F := Bits))) ⟨m, fun _ => 0, g⟩ (fun r => (∀ c : Dev Cert.KernelDmix.nD,
      r.2.mem ((c.tc : Thread Cert.KernelDmix.nD Cert.KernelDmix.τ).loc Cert.KernelDmix.main_arg0) = m ((c.tc : Thread Cert.KernelDmix.nD Cert.KernelDmix.τ).loc Cert.KernelDmix.main_arg0)
      ∧ r.2.mem ((c.tc : Thread Cert.KernelDmix.nD Cert.KernelDmix.τ).loc Cert.KernelDmix.main_arg1) = m ((c.tc : Thread Cert.KernelDmix.nD Cert.KernelDmix.τ).loc Cert.KernelDmix.main_arg1))
      ∧ r.2.sem = fun _ => 0)

def quiescent_KernelDmixIdeal [hKernelDmixIdeal : Cert.KernelDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg), Pre_KernelDmixIdeal m →
    θ_run (Cert.KernelDmixIdeal.defs (F := Ideal)) (onTc (τ := Cert.KernelDmixIdeal.τ) (Cert.KernelDmixIdeal.main (F := Ideal))) ⟨m, fun _ => 0, g⟩ (fun r => (∀ c : Dev Cert.KernelDmixIdeal.nD,
      r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
      ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1))
      ∧ r.2.sem = fun _ => 0)

def quiescent_ReferenceDmixIdeal [hReferenceDmixIdeal : Cert.ReferenceDmixIdeal.Facts] : Prop :=
  ∀ (m : (ℓ : Loc Cert.ReferenceDmixIdeal.nD Cert.ReferenceDmixIdeal.τ Cert.ReferenceDmixIdeal.sig) → Buf (Elt Ideal) ℓ) (g : Dev Cert.ReferenceDmixIdeal.nD → PrngReg), Pre_ReferenceDmixIdeal m →
    θ_run (Cert.ReferenceDmixIdeal.defs (F := Ideal)) (onTc (τ := Cert.ReferenceDmixIdeal.τ) (Cert.ReferenceDmixIdeal.main (F := Ideal))) ⟨m, fun _ => 0, g⟩ (fun r => (∀ c : Dev Cert.ReferenceDmixIdeal.nD,
      r.2.mem ((c.tc : Thread Cert.ReferenceDmixIdeal.nD Cert.ReferenceDmixIdeal.τ).loc Cert.ReferenceDmixIdeal.main_arg0) = m ((c.tc : Thread Cert.ReferenceDmixIdeal.nD Cert.ReferenceDmixIdeal.τ).loc Cert.ReferenceDmixIdeal.main_arg0)
      ∧ r.2.mem ((c.tc : Thread Cert.ReferenceDmixIdeal.nD Cert.ReferenceDmixIdeal.τ).loc Cert.ReferenceDmixIdeal.main_arg1) = m ((c.tc : Thread Cert.ReferenceDmixIdeal.nD Cert.ReferenceDmixIdeal.τ).loc Cert.ReferenceDmixIdeal.main_arg1))
      ∧ r.2.sem = fun _ => 0)

def quiescent_KernelDmerged [hKernelDmerged : Cert.KernelDmerged.Facts] : Prop :=
  ∀ (m : (ℓ : Loc Cert.KernelDmerged.nD Cert.KernelDmerged.τ Cert.KernelDmerged.sig) → Buf (Elt Bits) ℓ) (g : Dev Cert.KernelDmerged.nD → PrngReg), Pre_KernelDmerged m →
    θ_run (Cert.KernelDmerged.defs (F := Bits)) (onTc (τ := Cert.KernelDmerged.τ) (Cert.KernelDmerged.main (F := Bits))) ⟨m, fun _ => 0, g⟩ (fun r => (∀ c : Dev Cert.KernelDmerged.nD,
      r.2.mem ((c.tc : Thread Cert.KernelDmerged.nD Cert.KernelDmerged.τ).loc Cert.KernelDmerged.main_arg0) = m ((c.tc : Thread Cert.KernelDmerged.nD Cert.KernelDmerged.τ).loc Cert.KernelDmerged.main_arg0)
      ∧ r.2.mem ((c.tc : Thread Cert.KernelDmerged.nD Cert.KernelDmerged.τ).loc Cert.KernelDmerged.main_arg1) = m ((c.tc : Thread Cert.KernelDmerged.nD Cert.KernelDmerged.τ).loc Cert.KernelDmerged.main_arg1))
      ∧ r.2.sem = fun _ => 0)

def quiescent_KernelDmergedIdeal [hKernelDmergedIdeal : Cert.KernelDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg), Pre_KernelDmergedIdeal m →
    θ_run (Cert.KernelDmergedIdeal.defs (F := Ideal)) (onTc (τ := Cert.KernelDmergedIdeal.τ) (Cert.KernelDmergedIdeal.main (F := Ideal))) ⟨m, fun _ => 0, g⟩ (fun r => (∀ c : Dev Cert.KernelDmergedIdeal.nD,
      r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
      ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1))
      ∧ r.2.sem = fun _ => 0)

def quiescent_ReferenceDmergedIdeal [hReferenceDmergedIdeal : Cert.ReferenceDmergedIdeal.Facts] : Prop :=
  ∀ (m : (ℓ : Loc Cert.ReferenceDmergedIdeal.nD Cert.ReferenceDmergedIdeal.τ Cert.ReferenceDmergedIdeal.sig) → Buf (Elt Ideal) ℓ) (g : Dev Cert.ReferenceDmergedIdeal.nD → PrngReg), Pre_ReferenceDmergedIdeal m →
    θ_run (Cert.ReferenceDmergedIdeal.defs (F := Ideal)) (onTc (τ := Cert.ReferenceDmergedIdeal.τ) (Cert.ReferenceDmergedIdeal.main (F := Ideal))) ⟨m, fun _ => 0, g⟩ (fun r => (∀ c : Dev Cert.ReferenceDmergedIdeal.nD,
      r.2.mem ((c.tc : Thread Cert.ReferenceDmergedIdeal.nD Cert.ReferenceDmergedIdeal.τ).loc Cert.ReferenceDmergedIdeal.main_arg0) = m ((c.tc : Thread Cert.ReferenceDmergedIdeal.nD Cert.ReferenceDmergedIdeal.τ).loc Cert.ReferenceDmergedIdeal.main_arg0)
      ∧ r.2.mem ((c.tc : Thread Cert.ReferenceDmergedIdeal.nD Cert.ReferenceDmergedIdeal.τ).loc Cert.ReferenceDmergedIdeal.main_arg1) = m ((c.tc : Thread Cert.ReferenceDmergedIdeal.nD Cert.ReferenceDmergedIdeal.τ).loc Cert.ReferenceDmergedIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1))
      ∧ r.2.sem = fun _ => 0)

def quiescent_KernelDyb [hKernelDyb : Cert.KernelDyb.Facts] : Prop :=
  ∀ (m : (ℓ : Loc Cert.KernelDyb.nD Cert.KernelDyb.τ Cert.KernelDyb.sig) → Buf (Elt Bits) ℓ) (g : Dev Cert.KernelDyb.nD → PrngReg), Pre_KernelDyb m →
    θ_run (Cert.KernelDyb.defs (F := Bits)) (onTc (τ := Cert.KernelDyb.τ) (Cert.KernelDyb.main (F := Bits))) ⟨m, fun _ => 0, g⟩ (fun r => (∀ c : Dev Cert.KernelDyb.nD,
      r.2.mem ((c.tc : Thread Cert.KernelDyb.nD Cert.KernelDyb.τ).loc Cert.KernelDyb.main_arg0) = m ((c.tc : Thread Cert.KernelDyb.nD Cert.KernelDyb.τ).loc Cert.KernelDyb.main_arg0)
      ∧ r.2.mem ((c.tc : Thread Cert.KernelDyb.nD Cert.KernelDyb.τ).loc Cert.KernelDyb.main_arg1) = m ((c.tc : Thread Cert.KernelDyb.nD Cert.KernelDyb.τ).loc Cert.KernelDyb.main_arg1))
      ∧ r.2.sem = fun _ => 0)

def quiescent_KernelDybIdeal [hKernelDybIdeal : Cert.KernelDybIdeal.Facts] : Prop :=
  ∀ (m : (ℓ : Loc Cert.KernelDybIdeal.nD Cert.KernelDybIdeal.τ Cert.KernelDybIdeal.sig) → Buf (Elt Ideal) ℓ) (g : Dev Cert.KernelDybIdeal.nD → PrngReg), Pre_KernelDybIdeal m →
    θ_run (Cert.KernelDybIdeal.defs (F := Ideal)) (onTc (τ := Cert.KernelDybIdeal.τ) (Cert.KernelDybIdeal.main (F := Ideal))) ⟨m, fun _ => 0, g⟩ (fun r => (∀ c : Dev Cert.KernelDybIdeal.nD,
      r.2.mem ((c.tc : Thread Cert.KernelDybIdeal.nD Cert.KernelDybIdeal.τ).loc Cert.KernelDybIdeal.main_arg0) = m ((c.tc : Thread Cert.KernelDybIdeal.nD Cert.KernelDybIdeal.τ).loc Cert.KernelDybIdeal.main_arg0)
      ∧ r.2.mem ((c.tc : Thread Cert.KernelDybIdeal.nD Cert.KernelDybIdeal.τ).loc Cert.KernelDybIdeal.main_arg1) = m ((c.tc : Thread Cert.KernelDybIdeal.nD Cert.KernelDybIdeal.τ).loc Cert.KernelDybIdeal.main_arg1))
      ∧ r.2.sem = fun _ => 0)

def quiescent_ReferenceDybIdeal [hReferenceDybIdeal : Cert.ReferenceDybIdeal.Facts] : Prop :=
  ∀ (m : (ℓ : Loc Cert.ReferenceDybIdeal.nD Cert.ReferenceDybIdeal.τ Cert.ReferenceDybIdeal.sig) → Buf (Elt Ideal) ℓ) (g : Dev Cert.ReferenceDybIdeal.nD → PrngReg), Pre_ReferenceDybIdeal m →
    θ_run (Cert.ReferenceDybIdeal.defs (F := Ideal)) (onTc (τ := Cert.ReferenceDybIdeal.τ) (Cert.ReferenceDybIdeal.main (F := Ideal))) ⟨m, fun _ => 0, g⟩ (fun r => (∀ c : Dev Cert.ReferenceDybIdeal.nD,
      r.2.mem ((c.tc : Thread Cert.ReferenceDybIdeal.nD Cert.ReferenceDybIdeal.τ).loc Cert.ReferenceDybIdeal.main_arg0) = m ((c.tc : Thread Cert.ReferenceDybIdeal.nD Cert.ReferenceDybIdeal.τ).loc Cert.ReferenceDybIdeal.main_arg0)
      ∧ r.2.mem ((c.tc : Thread Cert.ReferenceDybIdeal.nD Cert.ReferenceDybIdeal.τ).loc Cert.ReferenceDybIdeal.main_arg1) = m ((c.tc : Thread Cert.ReferenceDybIdeal.nD Cert.ReferenceDybIdeal.τ).loc Cert.ReferenceDybIdeal.main_arg1))
      ∧ r.2.sem = fun _ => 0)

def quiescent_KernelDbranch [hKernelDbranch : Cert.KernelDbranch.Facts] : Prop :=
  ∀ (m : (ℓ : Loc Cert.KernelDbranch.nD Cert.KernelDbranch.τ Cert.KernelDbranch.sig) → Buf (Elt Bits) ℓ) (g : Dev Cert.KernelDbranch.nD → PrngReg), Pre_KernelDbranch m →
    θ_run (Cert.KernelDbranch.defs (F := Bits)) (onTc (τ := Cert.KernelDbranch.τ) (Cert.KernelDbranch.main (F := Bits))) ⟨m, fun _ => 0, g⟩ (fun r => (∀ c : Dev Cert.KernelDbranch.nD,
      r.2.mem ((c.tc : Thread Cert.KernelDbranch.nD Cert.KernelDbranch.τ).loc Cert.KernelDbranch.main_arg0) = m ((c.tc : Thread Cert.KernelDbranch.nD Cert.KernelDbranch.τ).loc Cert.KernelDbranch.main_arg0)
      ∧ r.2.mem ((c.tc : Thread Cert.KernelDbranch.nD Cert.KernelDbranch.τ).loc Cert.KernelDbranch.main_arg1) = m ((c.tc : Thread Cert.KernelDbranch.nD Cert.KernelDbranch.τ).loc Cert.KernelDbranch.main_arg1))
      ∧ r.2.sem = fun _ => 0)

def quiescent_KernelDbranchIdeal [hKernelDbranchIdeal : Cert.KernelDbranchIdeal.Facts] : Prop :=
  ∀ (m : (ℓ : Loc Cert.KernelDbranchIdeal.nD Cert.KernelDbranchIdeal.τ Cert.KernelDbranchIdeal.sig) → Buf (Elt Ideal) ℓ) (g : Dev Cert.KernelDbranchIdeal.nD → PrngReg), Pre_KernelDbranchIdeal m →
    θ_run (Cert.KernelDbranchIdeal.defs (F := Ideal)) (onTc (τ := Cert.KernelDbranchIdeal.τ) (Cert.KernelDbranchIdeal.main (F := Ideal))) ⟨m, fun _ => 0, g⟩ (fun r => (∀ c : Dev Cert.KernelDbranchIdeal.nD,
      r.2.mem ((c.tc : Thread Cert.KernelDbranchIdeal.nD Cert.KernelDbranchIdeal.τ).loc Cert.KernelDbranchIdeal.main_arg0) = m ((c.tc : Thread Cert.KernelDbranchIdeal.nD Cert.KernelDbranchIdeal.τ).loc Cert.KernelDbranchIdeal.main_arg0)
      ∧ r.2.mem ((c.tc : Thread Cert.KernelDbranchIdeal.nD Cert.KernelDbranchIdeal.τ).loc Cert.KernelDbranchIdeal.main_arg1) = m ((c.tc : Thread Cert.KernelDbranchIdeal.nD Cert.KernelDbranchIdeal.τ).loc Cert.KernelDbranchIdeal.main_arg1))
      ∧ r.2.sem = fun _ => 0)

def quiescent_ReferenceDbranchIdeal [hReferenceDbranchIdeal : Cert.ReferenceDbranchIdeal.Facts] : Prop :=
  ∀ (m : (ℓ : Loc Cert.ReferenceDbranchIdeal.nD Cert.ReferenceDbranchIdeal.τ Cert.ReferenceDbranchIdeal.sig) → Buf (Elt Ideal) ℓ) (g : Dev Cert.ReferenceDbranchIdeal.nD → PrngReg), Pre_ReferenceDbranchIdeal m →
    θ_run (Cert.ReferenceDbranchIdeal.defs (F := Ideal)) (onTc (τ := Cert.ReferenceDbranchIdeal.τ) (Cert.ReferenceDbranchIdeal.main (F := Ideal))) ⟨m, fun _ => 0, g⟩ (fun r => (∀ c : Dev Cert.ReferenceDbranchIdeal.nD,
      r.2.mem ((c.tc : Thread Cert.ReferenceDbranchIdeal.nD Cert.ReferenceDbranchIdeal.τ).loc Cert.ReferenceDbranchIdeal.main_arg0) = m ((c.tc : Thread Cert.ReferenceDbranchIdeal.nD Cert.ReferenceDbranchIdeal.τ).loc Cert.ReferenceDbranchIdeal.main_arg0)
      ∧ r.2.mem ((c.tc : Thread Cert.ReferenceDbranchIdeal.nD Cert.ReferenceDbranchIdeal.τ).loc Cert.ReferenceDbranchIdeal.main_arg1) = m ((c.tc : Thread Cert.ReferenceDbranchIdeal.nD Cert.ReferenceDbranchIdeal.τ).loc Cert.ReferenceDbranchIdeal.main_arg1))
      ∧ r.2.sem = fun _ => 0)

def quiescent_KernelXq [hKernelXq : Cert.KernelXq.Facts] : Prop :=
  ∀ (m : (ℓ : Loc Cert.KernelXq.nD Cert.KernelXq.τ Cert.KernelXq.sig) → Buf (Elt Bits) ℓ) (g : Dev Cert.KernelXq.nD → PrngReg), Pre_KernelXq m →
    θ_run (Cert.KernelXq.defs (F := Bits)) (onTc (τ := Cert.KernelXq.τ) (Cert.KernelXq.main (F := Bits))) ⟨m, fun _ => 0, g⟩ (fun r => (∀ c : Dev Cert.KernelXq.nD,
      r.2.mem ((c.tc : Thread Cert.KernelXq.nD Cert.KernelXq.τ).loc Cert.KernelXq.main_arg0) = m ((c.tc : Thread Cert.KernelXq.nD Cert.KernelXq.τ).loc Cert.KernelXq.main_arg0)
      ∧ r.2.mem ((c.tc : Thread Cert.KernelXq.nD Cert.KernelXq.τ).loc Cert.KernelXq.main_arg1) = m ((c.tc : Thread Cert.KernelXq.nD Cert.KernelXq.τ).loc Cert.KernelXq.main_arg1))
      ∧ r.2.sem = fun _ => 0)

def quiescent_KernelXqIdeal [hKernelXqIdeal : Cert.KernelXqIdeal.Facts] : Prop :=
  ∀ (m : (ℓ : Loc Cert.KernelXqIdeal.nD Cert.KernelXqIdeal.τ Cert.KernelXqIdeal.sig) → Buf (Elt Ideal) ℓ) (g : Dev Cert.KernelXqIdeal.nD → PrngReg), Pre_KernelXqIdeal m →
    θ_run (Cert.KernelXqIdeal.defs (F := Ideal)) (onTc (τ := Cert.KernelXqIdeal.τ) (Cert.KernelXqIdeal.main (F := Ideal))) ⟨m, fun _ => 0, g⟩ (fun r => (∀ c : Dev Cert.KernelXqIdeal.nD,
      r.2.mem ((c.tc : Thread Cert.KernelXqIdeal.nD Cert.KernelXqIdeal.τ).loc Cert.KernelXqIdeal.main_arg0) = m ((c.tc : Thread Cert.KernelXqIdeal.nD Cert.KernelXqIdeal.τ).loc Cert.KernelXqIdeal.main_arg0)
      ∧ r.2.mem ((c.tc : Thread Cert.KernelXqIdeal.nD Cert.KernelXqIdeal.τ).loc Cert.KernelXqIdeal.main_arg1) = m ((c.tc : Thread Cert.KernelXqIdeal.nD Cert.KernelXqIdeal.τ).loc Cert.KernelXqIdeal.main_arg1))
      ∧ r.2.sem = fun _ => 0)

def quiescent_ReferenceXqIdeal [hReferenceXqIdeal : Cert.ReferenceXqIdeal.Facts] : Prop :=
  ∀ (m : (ℓ : Loc Cert.ReferenceXqIdeal.nD Cert.ReferenceXqIdeal.τ Cert.ReferenceXqIdeal.sig) → Buf (Elt Ideal) ℓ) (g : Dev Cert.ReferenceXqIdeal.nD → PrngReg), Pre_ReferenceXqIdeal m →
    θ_run (Cert.ReferenceXqIdeal.defs (F := Ideal)) (onTc (τ := Cert.ReferenceXqIdeal.τ) (Cert.ReferenceXqIdeal.main (F := Ideal))) ⟨m, fun _ => 0, g⟩ (fun r => (∀ c : Dev Cert.ReferenceXqIdeal.nD,
      r.2.mem ((c.tc : Thread Cert.ReferenceXqIdeal.nD Cert.ReferenceXqIdeal.τ).loc Cert.ReferenceXqIdeal.main_arg0) = m ((c.tc : Thread Cert.ReferenceXqIdeal.nD Cert.ReferenceXqIdeal.τ).loc Cert.ReferenceXqIdeal.main_arg0)
      ∧ r.2.mem ((c.tc : Thread Cert.ReferenceXqIdeal.nD Cert.ReferenceXqIdeal.τ).loc Cert.ReferenceXqIdeal.main_arg1) = m ((c.tc : Thread Cert.ReferenceXqIdeal.nD Cert.ReferenceXqIdeal.τ).loc Cert.ReferenceXqIdeal.main_arg1))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v5) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v4) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v2) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)) →
    ∃ (v0 : (c : Dev Cert.KernelGuIdeal.nD) → Buf (Elt Ideal) ((c.tc : Thread Cert.KernelGuIdeal.nD Cert.KernelGuIdeal.τ).loc Cert.KernelGuIdeal.main_v0)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v0) = v0 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v2) = v0 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1))

def preserves_KernelDh1_KernelDh1Ideal : Prop :=
  True

def algebraic_KernelDh1Ideal_ReferenceDh1Ideal [hKernelDh1Ideal : Cert.KernelDh1Ideal.Facts] [hReferenceDh1Ideal : Cert.ReferenceDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg)
    (m' : (ℓ : Loc Cert.ReferenceDh1Ideal.nD Cert.ReferenceDh1Ideal.τ Cert.ReferenceDh1Ideal.sig) → Buf (Elt Ideal) ℓ) (g' : Dev Cert.ReferenceDh1Ideal.nD → PrngReg), Pre_KernelDh1Ideal m →
    (∀ c : Dev Cert.KernelDh1Ideal.nD,
      m' ((c.tc : Thread Cert.ReferenceDh1Ideal.nD Cert.ReferenceDh1Ideal.τ).loc Cert.ReferenceDh1Ideal.main_arg0) = m ((c.tc : Thread Cert.KernelDh1Ideal.nD Cert.KernelDh1Ideal.τ).loc Cert.KernelDh1Ideal.main_arg0)
      ∧ m' ((c.tc : Thread Cert.ReferenceDh1Ideal.nD Cert.ReferenceDh1Ideal.τ).loc Cert.ReferenceDh1Ideal.main_arg1) = m ((c.tc : Thread Cert.KernelDh1Ideal.nD Cert.KernelDh1Ideal.τ).loc Cert.KernelDh1Ideal.main_arg1)) →
    ∃ (v0 : (c : Dev Cert.KernelDh1Ideal.nD) → Buf (Elt Ideal) ((c.tc : Thread Cert.KernelDh1Ideal.nD Cert.KernelDh1Ideal.τ).loc Cert.KernelDh1Ideal.main_v0)),
      θ_run (Cert.KernelDh1Ideal.defs (F := Ideal)) (onTc (τ := Cert.KernelDh1Ideal.τ) (Cert.KernelDh1Ideal.main (F := Ideal))) ⟨m, fun _ => 0, g⟩ (fun r => ∀ c : Dev Cert.KernelDh1Ideal.nD,
          r.2.mem ((c.tc : Thread Cert.KernelDh1Ideal.nD Cert.KernelDh1Ideal.τ).loc Cert.KernelDh1Ideal.main_v0) = v0 c
          ∧ r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
          ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1))
      ∧ θ_run (Cert.ReferenceDh1Ideal.defs (F := Ideal)) (onTc (τ := Cert.ReferenceDh1Ideal.τ) (Cert.ReferenceDh1Ideal.main (F := Ideal))) ⟨m', fun _ => 0, g'⟩ (fun r => ∀ c : Dev Cert.ReferenceDh1Ideal.nD,
          r.2.mem ((c.tc : Thread Cert.ReferenceDh1Ideal.nD Cert.ReferenceDh1Ideal.τ).loc Cert.ReferenceDh1Ideal.main_v4) = v0 c
          ∧ r.2.mem ((c.tc : Thread Cert.ReferenceDh1Ideal.nD Cert.ReferenceDh1Ideal.τ).loc Cert.ReferenceDh1Ideal.main_arg0) = m' ((c.tc : Thread Cert.ReferenceDh1Ideal.nD Cert.ReferenceDh1Ideal.τ).loc Cert.ReferenceDh1Ideal.main_arg0)
          ∧ r.2.mem ((c.tc : Thread Cert.ReferenceDh1Ideal.nD Cert.ReferenceDh1Ideal.τ).loc Cert.ReferenceDh1Ideal.main_arg1) = m' ((c.tc : Thread Cert.ReferenceDh1Ideal.nD Cert.ReferenceDh1Ideal.τ).loc Cert.ReferenceDh1Ideal.main_arg1))

def preserves_KernelDgate_KernelDgateIdeal : Prop :=
  True

def algebraic_KernelDgateIdeal_ReferenceDgateIdeal [hKernelDgateIdeal : Cert.KernelDgateIdeal.Facts] [hReferenceDgateIdeal : Cert.ReferenceDgateIdeal.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg)
    (m' : (ℓ : Loc Cert.ReferenceDgateIdeal.nD Cert.ReferenceDgateIdeal.τ Cert.ReferenceDgateIdeal.sig) → Buf (Elt Ideal) ℓ) (g' : Dev Cert.ReferenceDgateIdeal.nD → PrngReg), Pre_KernelDgateIdeal m →
    (∀ c : Dev Cert.KernelDgateIdeal.nD,
      m' ((c.tc : Thread Cert.ReferenceDgateIdeal.nD Cert.ReferenceDgateIdeal.τ).loc Cert.ReferenceDgateIdeal.main_arg0) = m ((c.tc : Thread Cert.KernelDgateIdeal.nD Cert.KernelDgateIdeal.τ).loc Cert.KernelDgateIdeal.main_arg0)
      ∧ m' ((c.tc : Thread Cert.ReferenceDgateIdeal.nD Cert.ReferenceDgateIdeal.τ).loc Cert.ReferenceDgateIdeal.main_arg1) = m ((c.tc : Thread Cert.KernelDgateIdeal.nD Cert.KernelDgateIdeal.τ).loc Cert.KernelDgateIdeal.main_arg1)) →
    ∃ (v0 : (c : Dev Cert.KernelDgateIdeal.nD) → Buf (Elt Ideal) ((c.tc : Thread Cert.KernelDgateIdeal.nD Cert.KernelDgateIdeal.τ).loc Cert.KernelDgateIdeal.main_v0)),
      θ_run (Cert.KernelDgateIdeal.defs (F := Ideal)) (onTc (τ := Cert.KernelDgateIdeal.τ) (Cert.KernelDgateIdeal.main (F := Ideal))) ⟨m, fun _ => 0, g⟩ (fun r => ∀ c : Dev Cert.KernelDgateIdeal.nD,
          r.2.mem ((c.tc : Thread Cert.KernelDgateIdeal.nD Cert.KernelDgateIdeal.τ).loc Cert.KernelDgateIdeal.main_v0) = v0 c
          ∧ r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
          ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1))
      ∧ θ_run (Cert.ReferenceDgateIdeal.defs (F := Ideal)) (onTc (τ := Cert.ReferenceDgateIdeal.τ) (Cert.ReferenceDgateIdeal.main (F := Ideal))) ⟨m', fun _ => 0, g'⟩ (fun r => ∀ c : Dev Cert.ReferenceDgateIdeal.nD,
          r.2.mem ((c.tc : Thread Cert.ReferenceDgateIdeal.nD Cert.ReferenceDgateIdeal.τ).loc Cert.ReferenceDgateIdeal.main_v5) = v0 c
          ∧ r.2.mem ((c.tc : Thread Cert.ReferenceDgateIdeal.nD Cert.ReferenceDgateIdeal.τ).loc Cert.ReferenceDgateIdeal.main_arg0) = m' ((c.tc : Thread Cert.ReferenceDgateIdeal.nD Cert.ReferenceDgateIdeal.τ).loc Cert.ReferenceDgateIdeal.main_arg0)
          ∧ r.2.mem ((c.tc : Thread Cert.ReferenceDgateIdeal.nD Cert.ReferenceDgateIdeal.τ).loc Cert.ReferenceDgateIdeal.main_arg1) = m' ((c.tc : Thread Cert.ReferenceDgateIdeal.nD Cert.ReferenceDgateIdeal.τ).loc Cert.ReferenceDgateIdeal.main_arg1))

def preserves_KernelDdown_KernelDdownIdeal : Prop :=
  True

def algebraic_KernelDdownIdeal_ReferenceDdownIdeal [hKernelDdownIdeal : Cert.KernelDdownIdeal.Facts] [hReferenceDdownIdeal : Cert.ReferenceDdownIdeal.Facts] : Prop :=
  ∀ (m : (ℓ : Loc Cert.KernelDdownIdeal.nD Cert.KernelDdownIdeal.τ Cert.KernelDdownIdeal.sig) → Buf (Elt Ideal) ℓ) (g : Dev Cert.KernelDdownIdeal.nD → PrngReg)
    (m' : (ℓ : Loc Cert.ReferenceDdownIdeal.nD Cert.ReferenceDdownIdeal.τ Cert.ReferenceDdownIdeal.sig) → Buf (Elt Ideal) ℓ) (g' : Dev Cert.ReferenceDdownIdeal.nD → PrngReg), Pre_KernelDdownIdeal m →
    (∀ c : Dev Cert.KernelDdownIdeal.nD,
      m' ((c.tc : Thread Cert.ReferenceDdownIdeal.nD Cert.ReferenceDdownIdeal.τ).loc Cert.ReferenceDdownIdeal.main_arg0) = m ((c.tc : Thread Cert.KernelDdownIdeal.nD Cert.KernelDdownIdeal.τ).loc Cert.KernelDdownIdeal.main_arg0)
      ∧ m' ((c.tc : Thread Cert.ReferenceDdownIdeal.nD Cert.ReferenceDdownIdeal.τ).loc Cert.ReferenceDdownIdeal.main_arg1) = m ((c.tc : Thread Cert.KernelDdownIdeal.nD Cert.KernelDdownIdeal.τ).loc Cert.KernelDdownIdeal.main_arg1)) →
    ∃ (v0 : (c : Dev Cert.KernelDdownIdeal.nD) → Buf (Elt Ideal) ((c.tc : Thread Cert.KernelDdownIdeal.nD Cert.KernelDdownIdeal.τ).loc Cert.KernelDdownIdeal.main_v0)),
      θ_run (Cert.KernelDdownIdeal.defs (F := Ideal)) (onTc (τ := Cert.KernelDdownIdeal.τ) (Cert.KernelDdownIdeal.main (F := Ideal))) ⟨m, fun _ => 0, g⟩ (fun r => ∀ c : Dev Cert.KernelDdownIdeal.nD,
          r.2.mem ((c.tc : Thread Cert.KernelDdownIdeal.nD Cert.KernelDdownIdeal.τ).loc Cert.KernelDdownIdeal.main_v0) = v0 c
          ∧ r.2.mem ((c.tc : Thread Cert.KernelDdownIdeal.nD Cert.KernelDdownIdeal.τ).loc Cert.KernelDdownIdeal.main_arg0) = m ((c.tc : Thread Cert.KernelDdownIdeal.nD Cert.KernelDdownIdeal.τ).loc Cert.KernelDdownIdeal.main_arg0)
          ∧ r.2.mem ((c.tc : Thread Cert.KernelDdownIdeal.nD Cert.KernelDdownIdeal.τ).loc Cert.KernelDdownIdeal.main_arg1) = m ((c.tc : Thread Cert.KernelDdownIdeal.nD Cert.KernelDdownIdeal.τ).loc Cert.KernelDdownIdeal.main_arg1))
      ∧ θ_run (Cert.ReferenceDdownIdeal.defs (F := Ideal)) (onTc (τ := Cert.ReferenceDdownIdeal.τ) (Cert.ReferenceDdownIdeal.main (F := Ideal))) ⟨m', fun _ => 0, g'⟩ (fun r => ∀ c : Dev Cert.ReferenceDdownIdeal.nD,
          r.2.mem ((c.tc : Thread Cert.ReferenceDdownIdeal.nD Cert.ReferenceDdownIdeal.τ).loc Cert.ReferenceDdownIdeal.main_v5) = v0 c
          ∧ r.2.mem ((c.tc : Thread Cert.ReferenceDdownIdeal.nD Cert.ReferenceDdownIdeal.τ).loc Cert.ReferenceDdownIdeal.main_arg0) = m' ((c.tc : Thread Cert.ReferenceDdownIdeal.nD Cert.ReferenceDdownIdeal.τ).loc Cert.ReferenceDdownIdeal.main_arg0)
          ∧ r.2.mem ((c.tc : Thread Cert.ReferenceDdownIdeal.nD Cert.ReferenceDdownIdeal.τ).loc Cert.ReferenceDdownIdeal.main_arg1) = m' ((c.tc : Thread Cert.ReferenceDdownIdeal.nD Cert.ReferenceDdownIdeal.τ).loc Cert.ReferenceDdownIdeal.main_arg1))

def preserves_KernelDxg_KernelDxgIdeal : Prop :=
  True

def algebraic_KernelDxgIdeal_ReferenceDxgIdeal [hKernelDxgIdeal : Cert.KernelDxgIdeal.Facts] [hReferenceDxgIdeal : Cert.ReferenceDxgIdeal.Facts] : Prop :=
  ∀ (m : (ℓ : Loc Cert.KernelDxgIdeal.nD Cert.KernelDxgIdeal.τ Cert.KernelDxgIdeal.sig) → Buf (Elt Ideal) ℓ) (g : Dev Cert.KernelDxgIdeal.nD → PrngReg)
    (m' : (ℓ : Loc Cert.ReferenceDxgIdeal.nD Cert.ReferenceDxgIdeal.τ Cert.ReferenceDxgIdeal.sig) → Buf (Elt Ideal) ℓ) (g' : Dev Cert.ReferenceDxgIdeal.nD → PrngReg), Pre_KernelDxgIdeal m →
    (∀ c : Dev Cert.KernelDxgIdeal.nD,
      m' ((c.tc : Thread Cert.ReferenceDxgIdeal.nD Cert.ReferenceDxgIdeal.τ).loc Cert.ReferenceDxgIdeal.main_arg0) = m ((c.tc : Thread Cert.KernelDxgIdeal.nD Cert.KernelDxgIdeal.τ).loc Cert.KernelDxgIdeal.main_arg0)
      ∧ m' ((c.tc : Thread Cert.ReferenceDxgIdeal.nD Cert.ReferenceDxgIdeal.τ).loc Cert.ReferenceDxgIdeal.main_arg1) = m ((c.tc : Thread Cert.KernelDxgIdeal.nD Cert.KernelDxgIdeal.τ).loc Cert.KernelDxgIdeal.main_arg1)) →
    ∃ (v0 : (c : Dev Cert.KernelDxgIdeal.nD) → Buf (Elt Ideal) ((c.tc : Thread Cert.KernelDxgIdeal.nD Cert.KernelDxgIdeal.τ).loc Cert.KernelDxgIdeal.main_v0)),
      θ_run (Cert.KernelDxgIdeal.defs (F := Ideal)) (onTc (τ := Cert.KernelDxgIdeal.τ) (Cert.KernelDxgIdeal.main (F := Ideal))) ⟨m, fun _ => 0, g⟩ (fun r => ∀ c : Dev Cert.KernelDxgIdeal.nD,
          r.2.mem ((c.tc : Thread Cert.KernelDxgIdeal.nD Cert.KernelDxgIdeal.τ).loc Cert.KernelDxgIdeal.main_v0) = v0 c
          ∧ r.2.mem ((c.tc : Thread Cert.KernelDxgIdeal.nD Cert.KernelDxgIdeal.τ).loc Cert.KernelDxgIdeal.main_arg0) = m ((c.tc : Thread Cert.KernelDxgIdeal.nD Cert.KernelDxgIdeal.τ).loc Cert.KernelDxgIdeal.main_arg0)
          ∧ r.2.mem ((c.tc : Thread Cert.KernelDxgIdeal.nD Cert.KernelDxgIdeal.τ).loc Cert.KernelDxgIdeal.main_arg1) = m ((c.tc : Thread Cert.KernelDxgIdeal.nD Cert.KernelDxgIdeal.τ).loc Cert.KernelDxgIdeal.main_arg1))
      ∧ θ_run (Cert.ReferenceDxgIdeal.defs (F := Ideal)) (onTc (τ := Cert.ReferenceDxgIdeal.τ) (Cert.ReferenceDxgIdeal.main (F := Ideal))) ⟨m', fun _ => 0, g'⟩ (fun r => ∀ c : Dev Cert.ReferenceDxgIdeal.nD,
          r.2.mem ((c.tc : Thread Cert.ReferenceDxgIdeal.nD Cert.ReferenceDxgIdeal.τ).loc Cert.ReferenceDxgIdeal.main_v4) = v0 c
          ∧ r.2.mem ((c.tc : Thread Cert.ReferenceDxgIdeal.nD Cert.ReferenceDxgIdeal.τ).loc Cert.ReferenceDxgIdeal.main_arg0) = m' ((c.tc : Thread Cert.ReferenceDxgIdeal.nD Cert.ReferenceDxgIdeal.τ).loc Cert.ReferenceDxgIdeal.main_arg0)
          ∧ r.2.mem ((c.tc : Thread Cert.ReferenceDxgIdeal.nD Cert.ReferenceDxgIdeal.τ).loc Cert.ReferenceDxgIdeal.main_arg1) = m' ((c.tc : Thread Cert.ReferenceDxgIdeal.nD Cert.ReferenceDxgIdeal.τ).loc Cert.ReferenceDxgIdeal.main_arg1))

def preserves_KernelDxu_KernelDxuIdeal : Prop :=
  True

def algebraic_KernelDxuIdeal_ReferenceDxuIdeal [hKernelDxuIdeal : Cert.KernelDxuIdeal.Facts] [hReferenceDxuIdeal : Cert.ReferenceDxuIdeal.Facts] : Prop :=
  ∀ (m : (ℓ : Loc Cert.KernelDxuIdeal.nD Cert.KernelDxuIdeal.τ Cert.KernelDxuIdeal.sig) → Buf (Elt Ideal) ℓ) (g : Dev Cert.KernelDxuIdeal.nD → PrngReg)
    (m' : (ℓ : Loc Cert.ReferenceDxuIdeal.nD Cert.ReferenceDxuIdeal.τ Cert.ReferenceDxuIdeal.sig) → Buf (Elt Ideal) ℓ) (g' : Dev Cert.ReferenceDxuIdeal.nD → PrngReg), Pre_KernelDxuIdeal m →
    (∀ c : Dev Cert.KernelDxuIdeal.nD,
      m' ((c.tc : Thread Cert.ReferenceDxuIdeal.nD Cert.ReferenceDxuIdeal.τ).loc Cert.ReferenceDxuIdeal.main_arg0) = m ((c.tc : Thread Cert.KernelDxuIdeal.nD Cert.KernelDxuIdeal.τ).loc Cert.KernelDxuIdeal.main_arg0)
      ∧ m' ((c.tc : Thread Cert.ReferenceDxuIdeal.nD Cert.ReferenceDxuIdeal.τ).loc Cert.ReferenceDxuIdeal.main_arg1) = m ((c.tc : Thread Cert.KernelDxuIdeal.nD Cert.KernelDxuIdeal.τ).loc Cert.KernelDxuIdeal.main_arg1)
      ∧ m' ((c.tc : Thread Cert.ReferenceDxuIdeal.nD Cert.ReferenceDxuIdeal.τ).loc Cert.ReferenceDxuIdeal.main_arg2) = m ((c.tc : Thread Cert.KernelDxuIdeal.nD Cert.KernelDxuIdeal.τ).loc Cert.KernelDxuIdeal.main_arg2)) →
    ∃ (v0 : (c : Dev Cert.KernelDxuIdeal.nD) → Buf (Elt Ideal) ((c.tc : Thread Cert.KernelDxuIdeal.nD Cert.KernelDxuIdeal.τ).loc Cert.KernelDxuIdeal.main_v0)),
      θ_run (Cert.KernelDxuIdeal.defs (F := Ideal)) (onTc (τ := Cert.KernelDxuIdeal.τ) (Cert.KernelDxuIdeal.main (F := Ideal))) ⟨m, fun _ => 0, g⟩ (fun r => ∀ c : Dev Cert.KernelDxuIdeal.nD,
          r.2.mem ((c.tc : Thread Cert.KernelDxuIdeal.nD Cert.KernelDxuIdeal.τ).loc Cert.KernelDxuIdeal.main_v0) = v0 c
          ∧ r.2.mem ((c.tc : Thread Cert.KernelDxuIdeal.nD Cert.KernelDxuIdeal.τ).loc Cert.KernelDxuIdeal.main_arg0) = m ((c.tc : Thread Cert.KernelDxuIdeal.nD Cert.KernelDxuIdeal.τ).loc Cert.KernelDxuIdeal.main_arg0)
          ∧ r.2.mem ((c.tc : Thread Cert.KernelDxuIdeal.nD Cert.KernelDxuIdeal.τ).loc Cert.KernelDxuIdeal.main_arg1) = m ((c.tc : Thread Cert.KernelDxuIdeal.nD Cert.KernelDxuIdeal.τ).loc Cert.KernelDxuIdeal.main_arg1)
          ∧ r.2.mem ((c.tc : Thread Cert.KernelDxuIdeal.nD Cert.KernelDxuIdeal.τ).loc Cert.KernelDxuIdeal.main_arg2) = m ((c.tc : Thread Cert.KernelDxuIdeal.nD Cert.KernelDxuIdeal.τ).loc Cert.KernelDxuIdeal.main_arg2))
      ∧ θ_run (Cert.ReferenceDxuIdeal.defs (F := Ideal)) (onTc (τ := Cert.ReferenceDxuIdeal.τ) (Cert.ReferenceDxuIdeal.main (F := Ideal))) ⟨m', fun _ => 0, g'⟩ (fun r => ∀ c : Dev Cert.ReferenceDxuIdeal.nD,
          r.2.mem ((c.tc : Thread Cert.ReferenceDxuIdeal.nD Cert.ReferenceDxuIdeal.τ).loc Cert.ReferenceDxuIdeal.main_v5) = v0 c
          ∧ r.2.mem ((c.tc : Thread Cert.ReferenceDxuIdeal.nD Cert.ReferenceDxuIdeal.τ).loc Cert.ReferenceDxuIdeal.main_arg0) = m' ((c.tc : Thread Cert.ReferenceDxuIdeal.nD Cert.ReferenceDxuIdeal.τ).loc Cert.ReferenceDxuIdeal.main_arg0)
          ∧ r.2.mem ((c.tc : Thread Cert.ReferenceDxuIdeal.nD Cert.ReferenceDxuIdeal.τ).loc Cert.ReferenceDxuIdeal.main_arg1) = m' ((c.tc : Thread Cert.ReferenceDxuIdeal.nD Cert.ReferenceDxuIdeal.τ).loc Cert.ReferenceDxuIdeal.main_arg1)
          ∧ r.2.mem ((c.tc : Thread Cert.ReferenceDxuIdeal.nD Cert.ReferenceDxuIdeal.τ).loc Cert.ReferenceDxuIdeal.main_arg2) = m' ((c.tc : Thread Cert.ReferenceDxuIdeal.nD Cert.ReferenceDxuIdeal.τ).loc Cert.ReferenceDxuIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDmix_KernelDmixIdeal : Prop :=
  True

def algebraic_KernelDmixIdeal_ReferenceDmixIdeal [hKernelDmixIdeal : Cert.KernelDmixIdeal.Facts] [hReferenceDmixIdeal : Cert.ReferenceDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg)
    (m' : (ℓ : Loc Cert.ReferenceDmixIdeal.nD Cert.ReferenceDmixIdeal.τ Cert.ReferenceDmixIdeal.sig) → Buf (Elt Ideal) ℓ) (g' : Dev Cert.ReferenceDmixIdeal.nD → PrngReg), Pre_KernelDmixIdeal m →
    (∀ c : Dev Cert.KernelDmixIdeal.nD,
      m' ((c.tc : Thread Cert.ReferenceDmixIdeal.nD Cert.ReferenceDmixIdeal.τ).loc Cert.ReferenceDmixIdeal.main_arg0) = m ((c.tc : Thread Cert.KernelDmixIdeal.nD Cert.KernelDmixIdeal.τ).loc Cert.KernelDmixIdeal.main_arg0)
      ∧ m' ((c.tc : Thread Cert.ReferenceDmixIdeal.nD Cert.ReferenceDmixIdeal.τ).loc Cert.ReferenceDmixIdeal.main_arg1) = m ((c.tc : Thread Cert.KernelDmixIdeal.nD Cert.KernelDmixIdeal.τ).loc Cert.KernelDmixIdeal.main_arg1)) →
    ∃ (v0 : (c : Dev Cert.KernelDmixIdeal.nD) → Buf (Elt Ideal) ((c.tc : Thread Cert.KernelDmixIdeal.nD Cert.KernelDmixIdeal.τ).loc Cert.KernelDmixIdeal.main_v0)),
      θ_run (Cert.KernelDmixIdeal.defs (F := Ideal)) (onTc (τ := Cert.KernelDmixIdeal.τ) (Cert.KernelDmixIdeal.main (F := Ideal))) ⟨m, fun _ => 0, g⟩ (fun r => ∀ c : Dev Cert.KernelDmixIdeal.nD,
          r.2.mem ((c.tc : Thread Cert.KernelDmixIdeal.nD Cert.KernelDmixIdeal.τ).loc Cert.KernelDmixIdeal.main_v0) = v0 c
          ∧ r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
          ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1))
      ∧ θ_run (Cert.ReferenceDmixIdeal.defs (F := Ideal)) (onTc (τ := Cert.ReferenceDmixIdeal.τ) (Cert.ReferenceDmixIdeal.main (F := Ideal))) ⟨m', fun _ => 0, g'⟩ (fun r => ∀ c : Dev Cert.ReferenceDmixIdeal.nD,
          r.2.mem ((c.tc : Thread Cert.ReferenceDmixIdeal.nD Cert.ReferenceDmixIdeal.τ).loc Cert.ReferenceDmixIdeal.main_v5) = v0 c
          ∧ r.2.mem ((c.tc : Thread Cert.ReferenceDmixIdeal.nD Cert.ReferenceDmixIdeal.τ).loc Cert.ReferenceDmixIdeal.main_arg0) = m' ((c.tc : Thread Cert.ReferenceDmixIdeal.nD Cert.ReferenceDmixIdeal.τ).loc Cert.ReferenceDmixIdeal.main_arg0)
          ∧ r.2.mem ((c.tc : Thread Cert.ReferenceDmixIdeal.nD Cert.ReferenceDmixIdeal.τ).loc Cert.ReferenceDmixIdeal.main_arg1) = m' ((c.tc : Thread Cert.ReferenceDmixIdeal.nD Cert.ReferenceDmixIdeal.τ).loc Cert.ReferenceDmixIdeal.main_arg1))

def preserves_KernelDmerged_KernelDmergedIdeal : Prop :=
  True

def algebraic_KernelDmergedIdeal_ReferenceDmergedIdeal [hKernelDmergedIdeal : Cert.KernelDmergedIdeal.Facts] [hReferenceDmergedIdeal : Cert.ReferenceDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg)
    (m' : (ℓ : Loc Cert.ReferenceDmergedIdeal.nD Cert.ReferenceDmergedIdeal.τ Cert.ReferenceDmergedIdeal.sig) → Buf (Elt Ideal) ℓ) (g' : Dev Cert.ReferenceDmergedIdeal.nD → PrngReg), Pre_KernelDmergedIdeal m →
    (∀ c : Dev Cert.KernelDmergedIdeal.nD,
      m' ((c.tc : Thread Cert.ReferenceDmergedIdeal.nD Cert.ReferenceDmergedIdeal.τ).loc Cert.ReferenceDmergedIdeal.main_arg0) = m ((c.tc : Thread Cert.KernelDmergedIdeal.nD Cert.KernelDmergedIdeal.τ).loc Cert.KernelDmergedIdeal.main_arg0)
      ∧ m' ((c.tc : Thread Cert.ReferenceDmergedIdeal.nD Cert.ReferenceDmergedIdeal.τ).loc Cert.ReferenceDmergedIdeal.main_arg1) = m ((c.tc : Thread Cert.KernelDmergedIdeal.nD Cert.KernelDmergedIdeal.τ).loc Cert.KernelDmergedIdeal.main_arg1)) →
    ∃ (v0 : (c : Dev Cert.KernelDmergedIdeal.nD) → Buf (Elt Ideal) ((c.tc : Thread Cert.KernelDmergedIdeal.nD Cert.KernelDmergedIdeal.τ).loc Cert.KernelDmergedIdeal.main_v0)),
      θ_run (Cert.KernelDmergedIdeal.defs (F := Ideal)) (onTc (τ := Cert.KernelDmergedIdeal.τ) (Cert.KernelDmergedIdeal.main (F := Ideal))) ⟨m, fun _ => 0, g⟩ (fun r => ∀ c : Dev Cert.KernelDmergedIdeal.nD,
          r.2.mem ((c.tc : Thread Cert.KernelDmergedIdeal.nD Cert.KernelDmergedIdeal.τ).loc Cert.KernelDmergedIdeal.main_v0) = v0 c
          ∧ r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
          ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1))
      ∧ θ_run (Cert.ReferenceDmergedIdeal.defs (F := Ideal)) (onTc (τ := Cert.ReferenceDmergedIdeal.τ) (Cert.ReferenceDmergedIdeal.main (F := Ideal))) ⟨m', fun _ => 0, g'⟩ (fun r => ∀ c : Dev Cert.ReferenceDmergedIdeal.nD,
          r.2.mem ((c.tc : Thread Cert.ReferenceDmergedIdeal.nD Cert.ReferenceDmergedIdeal.τ).loc Cert.ReferenceDmergedIdeal.main_v4) = v0 c
          ∧ r.2.mem ((c.tc : Thread Cert.ReferenceDmergedIdeal.nD Cert.ReferenceDmergedIdeal.τ).loc Cert.ReferenceDmergedIdeal.main_arg0) = m' ((c.tc : Thread Cert.ReferenceDmergedIdeal.nD Cert.ReferenceDmergedIdeal.τ).loc Cert.ReferenceDmergedIdeal.main_arg0)
          ∧ r.2.mem ((c.tc : Thread Cert.ReferenceDmergedIdeal.nD Cert.ReferenceDmergedIdeal.τ).loc Cert.ReferenceDmergedIdeal.main_arg1) = m' ((c.tc : Thread Cert.ReferenceDmergedIdeal.nD Cert.ReferenceDmergedIdeal.τ).loc Cert.ReferenceDmergedIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v3) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v0)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v0) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v2) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)) →
    ∃ (v0 : (c : Dev Cert.KernelDyIdeal.nD) → Buf (Elt Ideal) ((c.tc : Thread Cert.KernelDyIdeal.nD Cert.KernelDyIdeal.τ).loc Cert.KernelDyIdeal.main_v0)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v0) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v4) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1))

def preserves_KernelDyb_KernelDybIdeal : Prop :=
  True

def algebraic_KernelDybIdeal_ReferenceDybIdeal [hKernelDybIdeal : Cert.KernelDybIdeal.Facts] [hReferenceDybIdeal : Cert.ReferenceDybIdeal.Facts] : Prop :=
  ∀ (m : (ℓ : Loc Cert.KernelDybIdeal.nD Cert.KernelDybIdeal.τ Cert.KernelDybIdeal.sig) → Buf (Elt Ideal) ℓ) (g : Dev Cert.KernelDybIdeal.nD → PrngReg)
    (m' : (ℓ : Loc Cert.ReferenceDybIdeal.nD Cert.ReferenceDybIdeal.τ Cert.ReferenceDybIdeal.sig) → Buf (Elt Ideal) ℓ) (g' : Dev Cert.ReferenceDybIdeal.nD → PrngReg), Pre_KernelDybIdeal m →
    (∀ c : Dev Cert.KernelDybIdeal.nD,
      m' ((c.tc : Thread Cert.ReferenceDybIdeal.nD Cert.ReferenceDybIdeal.τ).loc Cert.ReferenceDybIdeal.main_arg0) = m ((c.tc : Thread Cert.KernelDybIdeal.nD Cert.KernelDybIdeal.τ).loc Cert.KernelDybIdeal.main_arg0)
      ∧ m' ((c.tc : Thread Cert.ReferenceDybIdeal.nD Cert.ReferenceDybIdeal.τ).loc Cert.ReferenceDybIdeal.main_arg1) = m ((c.tc : Thread Cert.KernelDybIdeal.nD Cert.KernelDybIdeal.τ).loc Cert.KernelDybIdeal.main_arg1)) →
    ∃ (v0 : (c : Dev Cert.KernelDybIdeal.nD) → Buf (Elt Ideal) ((c.tc : Thread Cert.KernelDybIdeal.nD Cert.KernelDybIdeal.τ).loc Cert.KernelDybIdeal.main_v0)),
      θ_run (Cert.KernelDybIdeal.defs (F := Ideal)) (onTc (τ := Cert.KernelDybIdeal.τ) (Cert.KernelDybIdeal.main (F := Ideal))) ⟨m, fun _ => 0, g⟩ (fun r => ∀ c : Dev Cert.KernelDybIdeal.nD,
          r.2.mem ((c.tc : Thread Cert.KernelDybIdeal.nD Cert.KernelDybIdeal.τ).loc Cert.KernelDybIdeal.main_v0) = v0 c
          ∧ r.2.mem ((c.tc : Thread Cert.KernelDybIdeal.nD Cert.KernelDybIdeal.τ).loc Cert.KernelDybIdeal.main_arg0) = m ((c.tc : Thread Cert.KernelDybIdeal.nD Cert.KernelDybIdeal.τ).loc Cert.KernelDybIdeal.main_arg0)
          ∧ r.2.mem ((c.tc : Thread Cert.KernelDybIdeal.nD Cert.KernelDybIdeal.τ).loc Cert.KernelDybIdeal.main_arg1) = m ((c.tc : Thread Cert.KernelDybIdeal.nD Cert.KernelDybIdeal.τ).loc Cert.KernelDybIdeal.main_arg1))
      ∧ θ_run (Cert.ReferenceDybIdeal.defs (F := Ideal)) (onTc (τ := Cert.ReferenceDybIdeal.τ) (Cert.ReferenceDybIdeal.main (F := Ideal))) ⟨m', fun _ => 0, g'⟩ (fun r => ∀ c : Dev Cert.ReferenceDybIdeal.nD,
          r.2.mem ((c.tc : Thread Cert.ReferenceDybIdeal.nD Cert.ReferenceDybIdeal.τ).loc Cert.ReferenceDybIdeal.main_v5) = v0 c
          ∧ r.2.mem ((c.tc : Thread Cert.ReferenceDybIdeal.nD Cert.ReferenceDybIdeal.τ).loc Cert.ReferenceDybIdeal.main_arg0) = m' ((c.tc : Thread Cert.ReferenceDybIdeal.nD Cert.ReferenceDybIdeal.τ).loc Cert.ReferenceDybIdeal.main_arg0)
          ∧ r.2.mem ((c.tc : Thread Cert.ReferenceDybIdeal.nD Cert.ReferenceDybIdeal.τ).loc Cert.ReferenceDybIdeal.main_arg1) = m' ((c.tc : Thread Cert.ReferenceDybIdeal.nD Cert.ReferenceDybIdeal.τ).loc Cert.ReferenceDybIdeal.main_arg1))

def preserves_KernelDbranch_KernelDbranchIdeal : Prop :=
  True

def algebraic_KernelDbranchIdeal_ReferenceDbranchIdeal [hKernelDbranchIdeal : Cert.KernelDbranchIdeal.Facts] [hReferenceDbranchIdeal : Cert.ReferenceDbranchIdeal.Facts] : Prop :=
  ∀ (m : (ℓ : Loc Cert.KernelDbranchIdeal.nD Cert.KernelDbranchIdeal.τ Cert.KernelDbranchIdeal.sig) → Buf (Elt Ideal) ℓ) (g : Dev Cert.KernelDbranchIdeal.nD → PrngReg)
    (m' : (ℓ : Loc Cert.ReferenceDbranchIdeal.nD Cert.ReferenceDbranchIdeal.τ Cert.ReferenceDbranchIdeal.sig) → Buf (Elt Ideal) ℓ) (g' : Dev Cert.ReferenceDbranchIdeal.nD → PrngReg), Pre_KernelDbranchIdeal m →
    (∀ c : Dev Cert.KernelDbranchIdeal.nD,
      m' ((c.tc : Thread Cert.ReferenceDbranchIdeal.nD Cert.ReferenceDbranchIdeal.τ).loc Cert.ReferenceDbranchIdeal.main_arg0) = m ((c.tc : Thread Cert.KernelDbranchIdeal.nD Cert.KernelDbranchIdeal.τ).loc Cert.KernelDbranchIdeal.main_arg0)
      ∧ m' ((c.tc : Thread Cert.ReferenceDbranchIdeal.nD Cert.ReferenceDbranchIdeal.τ).loc Cert.ReferenceDbranchIdeal.main_arg1) = m ((c.tc : Thread Cert.KernelDbranchIdeal.nD Cert.KernelDbranchIdeal.τ).loc Cert.KernelDbranchIdeal.main_arg1)) →
    ∃ (v0 : (c : Dev Cert.KernelDbranchIdeal.nD) → Buf (Elt Ideal) ((c.tc : Thread Cert.KernelDbranchIdeal.nD Cert.KernelDbranchIdeal.τ).loc Cert.KernelDbranchIdeal.main_v0)),
      θ_run (Cert.KernelDbranchIdeal.defs (F := Ideal)) (onTc (τ := Cert.KernelDbranchIdeal.τ) (Cert.KernelDbranchIdeal.main (F := Ideal))) ⟨m, fun _ => 0, g⟩ (fun r => ∀ c : Dev Cert.KernelDbranchIdeal.nD,
          r.2.mem ((c.tc : Thread Cert.KernelDbranchIdeal.nD Cert.KernelDbranchIdeal.τ).loc Cert.KernelDbranchIdeal.main_v0) = v0 c
          ∧ r.2.mem ((c.tc : Thread Cert.KernelDbranchIdeal.nD Cert.KernelDbranchIdeal.τ).loc Cert.KernelDbranchIdeal.main_arg0) = m ((c.tc : Thread Cert.KernelDbranchIdeal.nD Cert.KernelDbranchIdeal.τ).loc Cert.KernelDbranchIdeal.main_arg0)
          ∧ r.2.mem ((c.tc : Thread Cert.KernelDbranchIdeal.nD Cert.KernelDbranchIdeal.τ).loc Cert.KernelDbranchIdeal.main_arg1) = m ((c.tc : Thread Cert.KernelDbranchIdeal.nD Cert.KernelDbranchIdeal.τ).loc Cert.KernelDbranchIdeal.main_arg1))
      ∧ θ_run (Cert.ReferenceDbranchIdeal.defs (F := Ideal)) (onTc (τ := Cert.ReferenceDbranchIdeal.τ) (Cert.ReferenceDbranchIdeal.main (F := Ideal))) ⟨m', fun _ => 0, g'⟩ (fun r => ∀ c : Dev Cert.ReferenceDbranchIdeal.nD,
          r.2.mem ((c.tc : Thread Cert.ReferenceDbranchIdeal.nD Cert.ReferenceDbranchIdeal.τ).loc Cert.ReferenceDbranchIdeal.main_v5) = v0 c
          ∧ r.2.mem ((c.tc : Thread Cert.ReferenceDbranchIdeal.nD Cert.ReferenceDbranchIdeal.τ).loc Cert.ReferenceDbranchIdeal.main_arg0) = m' ((c.tc : Thread Cert.ReferenceDbranchIdeal.nD Cert.ReferenceDbranchIdeal.τ).loc Cert.ReferenceDbranchIdeal.main_arg0)
          ∧ r.2.mem ((c.tc : Thread Cert.ReferenceDbranchIdeal.nD Cert.ReferenceDbranchIdeal.τ).loc Cert.ReferenceDbranchIdeal.main_arg1) = m' ((c.tc : Thread Cert.ReferenceDbranchIdeal.nD Cert.ReferenceDbranchIdeal.τ).loc Cert.ReferenceDbranchIdeal.main_arg1))

def preserves_KernelXq_KernelXqIdeal : Prop :=
  True

def algebraic_KernelXqIdeal_ReferenceXqIdeal [hKernelXqIdeal : Cert.KernelXqIdeal.Facts] [hReferenceXqIdeal : Cert.ReferenceXqIdeal.Facts] : Prop :=
  ∀ (m : (ℓ : Loc Cert.KernelXqIdeal.nD Cert.KernelXqIdeal.τ Cert.KernelXqIdeal.sig) → Buf (Elt Ideal) ℓ) (g : Dev Cert.KernelXqIdeal.nD → PrngReg)
    (m' : (ℓ : Loc Cert.ReferenceXqIdeal.nD Cert.ReferenceXqIdeal.τ Cert.ReferenceXqIdeal.sig) → Buf (Elt Ideal) ℓ) (g' : Dev Cert.ReferenceXqIdeal.nD → PrngReg), Pre_KernelXqIdeal m →
    (∀ c : Dev Cert.KernelXqIdeal.nD,
      m' ((c.tc : Thread Cert.ReferenceXqIdeal.nD Cert.ReferenceXqIdeal.τ).loc Cert.ReferenceXqIdeal.main_arg0) = m ((c.tc : Thread Cert.KernelXqIdeal.nD Cert.KernelXqIdeal.τ).loc Cert.KernelXqIdeal.main_arg0)
      ∧ m' ((c.tc : Thread Cert.ReferenceXqIdeal.nD Cert.ReferenceXqIdeal.τ).loc Cert.ReferenceXqIdeal.main_arg1) = m ((c.tc : Thread Cert.KernelXqIdeal.nD Cert.KernelXqIdeal.τ).loc Cert.KernelXqIdeal.main_arg1)) →
    ∃ (v0 : (c : Dev Cert.KernelXqIdeal.nD) → Buf (Elt Ideal) ((c.tc : Thread Cert.KernelXqIdeal.nD Cert.KernelXqIdeal.τ).loc Cert.KernelXqIdeal.main_v0)),
      θ_run (Cert.KernelXqIdeal.defs (F := Ideal)) (onTc (τ := Cert.KernelXqIdeal.τ) (Cert.KernelXqIdeal.main (F := Ideal))) ⟨m, fun _ => 0, g⟩ (fun r => ∀ c : Dev Cert.KernelXqIdeal.nD,
          r.2.mem ((c.tc : Thread Cert.KernelXqIdeal.nD Cert.KernelXqIdeal.τ).loc Cert.KernelXqIdeal.main_v0) = v0 c
          ∧ r.2.mem ((c.tc : Thread Cert.KernelXqIdeal.nD Cert.KernelXqIdeal.τ).loc Cert.KernelXqIdeal.main_arg0) = m ((c.tc : Thread Cert.KernelXqIdeal.nD Cert.KernelXqIdeal.τ).loc Cert.KernelXqIdeal.main_arg0)
          ∧ r.2.mem ((c.tc : Thread Cert.KernelXqIdeal.nD Cert.KernelXqIdeal.τ).loc Cert.KernelXqIdeal.main_arg1) = m ((c.tc : Thread Cert.KernelXqIdeal.nD Cert.KernelXqIdeal.τ).loc Cert.KernelXqIdeal.main_arg1))
      ∧ θ_run (Cert.ReferenceXqIdeal.defs (F := Ideal)) (onTc (τ := Cert.ReferenceXqIdeal.τ) (Cert.ReferenceXqIdeal.main (F := Ideal))) ⟨m', fun _ => 0, g'⟩ (fun r => ∀ c : Dev Cert.ReferenceXqIdeal.nD,
          r.2.mem ((c.tc : Thread Cert.ReferenceXqIdeal.nD Cert.ReferenceXqIdeal.τ).loc Cert.ReferenceXqIdeal.main_v3) = v0 c
          ∧ r.2.mem ((c.tc : Thread Cert.ReferenceXqIdeal.nD Cert.ReferenceXqIdeal.τ).loc Cert.ReferenceXqIdeal.main_arg0) = m' ((c.tc : Thread Cert.ReferenceXqIdeal.nD Cert.ReferenceXqIdeal.τ).loc Cert.ReferenceXqIdeal.main_arg0)
          ∧ r.2.mem ((c.tc : Thread Cert.ReferenceXqIdeal.nD Cert.ReferenceXqIdeal.τ).loc Cert.ReferenceXqIdeal.main_arg1) = m' ((c.tc : Thread Cert.ReferenceXqIdeal.nD Cert.ReferenceXqIdeal.τ).loc Cert.ReferenceXqIdeal.main_arg1))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v0)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v0) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v5) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hKernelDh : Cert.KernelDh.Facts) (hKernelDhIdeal : Cert.KernelDhIdeal.Facts) (hReferenceDhIdeal : Cert.ReferenceDhIdeal.Facts) (hKernelProj : Cert.KernelProj.Facts) (hKernelProjIdeal : Cert.KernelProjIdeal.Facts) (hReferenceProjIdeal : Cert.ReferenceProjIdeal.Facts) (hKernelGu : Cert.KernelGu.Facts) (hKernelGuIdeal : Cert.KernelGuIdeal.Facts) (hReferenceGuIdeal : Cert.ReferenceGuIdeal.Facts) (hKernelDh1 : Cert.KernelDh1.Facts) (hKernelDh1Ideal : Cert.KernelDh1Ideal.Facts) (hReferenceDh1Ideal : Cert.ReferenceDh1Ideal.Facts) (hKernelDgate : Cert.KernelDgate.Facts) (hKernelDgateIdeal : Cert.KernelDgateIdeal.Facts) (hReferenceDgateIdeal : Cert.ReferenceDgateIdeal.Facts) (hKernelDdown : Cert.KernelDdown.Facts) (hKernelDdownIdeal : Cert.KernelDdownIdeal.Facts) (hReferenceDdownIdeal : Cert.ReferenceDdownIdeal.Facts) (hKernelDxg : Cert.KernelDxg.Facts) (hKernelDxgIdeal : Cert.KernelDxgIdeal.Facts) (hReferenceDxgIdeal : Cert.ReferenceDxgIdeal.Facts) (hKernelDxu : Cert.KernelDxu.Facts) (hKernelDxuIdeal : Cert.KernelDxuIdeal.Facts) (hReferenceDxuIdeal : Cert.ReferenceDxuIdeal.Facts) (hKernelDown : Cert.KernelDown.Facts) (hKernelDownIdeal : Cert.KernelDownIdeal.Facts) (hReferenceDownIdeal : Cert.ReferenceDownIdeal.Facts) (hKernelDmix : Cert.KernelDmix.Facts) (hKernelDmixIdeal : Cert.KernelDmixIdeal.Facts) (hReferenceDmixIdeal : Cert.ReferenceDmixIdeal.Facts) (hKernelDmerged : Cert.KernelDmerged.Facts) (hKernelDmergedIdeal : Cert.KernelDmergedIdeal.Facts) (hReferenceDmergedIdeal : Cert.ReferenceDmergedIdeal.Facts) (hKernelMix : Cert.KernelMix.Facts) (hKernelMixIdeal : Cert.KernelMixIdeal.Facts) (hReferenceMixIdeal : Cert.ReferenceMixIdeal.Facts) (hKernelBranch : Cert.KernelBranch.Facts) (hKernelBranchIdeal : Cert.KernelBranchIdeal.Facts) (hReferenceBranchIdeal : Cert.ReferenceBranchIdeal.Facts) (hKernelDy : Cert.KernelDy.Facts) (hKernelDyIdeal : Cert.KernelDyIdeal.Facts) (hReferenceDyIdeal : Cert.ReferenceDyIdeal.Facts) (hKernelDyb : Cert.KernelDyb.Facts) (hKernelDybIdeal : Cert.KernelDybIdeal.Facts) (hReferenceDybIdeal : Cert.ReferenceDybIdeal.Facts) (hKernelDbranch : Cert.KernelDbranch.Facts) (hKernelDbranchIdeal : Cert.KernelDbranchIdeal.Facts) (hReferenceDbranchIdeal : Cert.ReferenceDbranchIdeal.Facts) (hKernelXq : Cert.KernelXq.Facts) (hKernelXqIdeal : Cert.KernelXqIdeal.Facts) (hReferenceXqIdeal : Cert.ReferenceXqIdeal.Facts) (hKernelDo : Cert.KernelDo.Facts) (hKernelDoIdeal : Cert.KernelDoIdeal.Facts) (hReferenceDoIdeal : Cert.ReferenceDoIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelDh1 (hKernelDh1 := hKernelDh1)
    ∧ quiescent_KernelDh1Ideal (hKernelDh1Ideal := hKernelDh1Ideal)
    ∧ quiescent_ReferenceDh1Ideal (hReferenceDh1Ideal := hReferenceDh1Ideal)
    ∧ quiescent_KernelDgate (hKernelDgate := hKernelDgate)
    ∧ quiescent_KernelDgateIdeal (hKernelDgateIdeal := hKernelDgateIdeal)
    ∧ quiescent_ReferenceDgateIdeal (hReferenceDgateIdeal := hReferenceDgateIdeal)
    ∧ quiescent_KernelDdown (hKernelDdown := hKernelDdown)
    ∧ quiescent_KernelDdownIdeal (hKernelDdownIdeal := hKernelDdownIdeal)
    ∧ quiescent_ReferenceDdownIdeal (hReferenceDdownIdeal := hReferenceDdownIdeal)
    ∧ quiescent_KernelDxg (hKernelDxg := hKernelDxg)
    ∧ quiescent_KernelDxgIdeal (hKernelDxgIdeal := hKernelDxgIdeal)
    ∧ quiescent_ReferenceDxgIdeal (hReferenceDxgIdeal := hReferenceDxgIdeal)
    ∧ quiescent_KernelDxu (hKernelDxu := hKernelDxu)
    ∧ quiescent_KernelDxuIdeal (hKernelDxuIdeal := hKernelDxuIdeal)
    ∧ quiescent_ReferenceDxuIdeal (hReferenceDxuIdeal := hReferenceDxuIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDmix (hKernelDmix := hKernelDmix)
    ∧ quiescent_KernelDmixIdeal (hKernelDmixIdeal := hKernelDmixIdeal)
    ∧ quiescent_ReferenceDmixIdeal (hReferenceDmixIdeal := hReferenceDmixIdeal)
    ∧ quiescent_KernelDmerged (hKernelDmerged := hKernelDmerged)
    ∧ quiescent_KernelDmergedIdeal (hKernelDmergedIdeal := hKernelDmergedIdeal)
    ∧ quiescent_ReferenceDmergedIdeal (hReferenceDmergedIdeal := hReferenceDmergedIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelDyb (hKernelDyb := hKernelDyb)
    ∧ quiescent_KernelDybIdeal (hKernelDybIdeal := hKernelDybIdeal)
    ∧ quiescent_ReferenceDybIdeal (hReferenceDybIdeal := hReferenceDybIdeal)
    ∧ quiescent_KernelDbranch (hKernelDbranch := hKernelDbranch)
    ∧ quiescent_KernelDbranchIdeal (hKernelDbranchIdeal := hKernelDbranchIdeal)
    ∧ quiescent_ReferenceDbranchIdeal (hReferenceDbranchIdeal := hReferenceDbranchIdeal)
    ∧ quiescent_KernelXq (hKernelXq := hKernelXq)
    ∧ quiescent_KernelXqIdeal (hKernelXqIdeal := hKernelXqIdeal)
    ∧ quiescent_ReferenceXqIdeal (hReferenceXqIdeal := hReferenceXqIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
    ∧ preserves_KernelDh_KernelDhIdeal
    ∧ algebraic_KernelDhIdeal_ReferenceDhIdeal (hKernelDhIdeal := hKernelDhIdeal) (hReferenceDhIdeal := hReferenceDhIdeal)
    ∧ preserves_KernelProj_KernelProjIdeal
    ∧ algebraic_KernelProjIdeal_ReferenceProjIdeal (hKernelProjIdeal := hKernelProjIdeal) (hReferenceProjIdeal := hReferenceProjIdeal)
    ∧ preserves_KernelGu_KernelGuIdeal
    ∧ algebraic_KernelGuIdeal_ReferenceGuIdeal (hKernelGuIdeal := hKernelGuIdeal) (hReferenceGuIdeal := hReferenceGuIdeal)
    ∧ preserves_KernelDh1_KernelDh1Ideal
    ∧ algebraic_KernelDh1Ideal_ReferenceDh1Ideal (hKernelDh1Ideal := hKernelDh1Ideal) (hReferenceDh1Ideal := hReferenceDh1Ideal)
    ∧ preserves_KernelDgate_KernelDgateIdeal
    ∧ algebraic_KernelDgateIdeal_ReferenceDgateIdeal (hKernelDgateIdeal := hKernelDgateIdeal) (hReferenceDgateIdeal := hReferenceDgateIdeal)
    ∧ preserves_KernelDdown_KernelDdownIdeal
    ∧ algebraic_KernelDdownIdeal_ReferenceDdownIdeal (hKernelDdownIdeal := hKernelDdownIdeal) (hReferenceDdownIdeal := hReferenceDdownIdeal)
    ∧ preserves_KernelDxg_KernelDxgIdeal
    ∧ algebraic_KernelDxgIdeal_ReferenceDxgIdeal (hKernelDxgIdeal := hKernelDxgIdeal) (hReferenceDxgIdeal := hReferenceDxgIdeal)
    ∧ preserves_KernelDxu_KernelDxuIdeal
    ∧ algebraic_KernelDxuIdeal_ReferenceDxuIdeal (hKernelDxuIdeal := hKernelDxuIdeal) (hReferenceDxuIdeal := hReferenceDxuIdeal)
    ∧ preserves_KernelDown_KernelDownIdeal
    ∧ algebraic_KernelDownIdeal_ReferenceDownIdeal (hKernelDownIdeal := hKernelDownIdeal) (hReferenceDownIdeal := hReferenceDownIdeal)
    ∧ preserves_KernelDmix_KernelDmixIdeal
    ∧ algebraic_KernelDmixIdeal_ReferenceDmixIdeal (hKernelDmixIdeal := hKernelDmixIdeal) (hReferenceDmixIdeal := hReferenceDmixIdeal)
    ∧ preserves_KernelDmerged_KernelDmergedIdeal
    ∧ algebraic_KernelDmergedIdeal_ReferenceDmergedIdeal (hKernelDmergedIdeal := hKernelDmergedIdeal) (hReferenceDmergedIdeal := hReferenceDmergedIdeal)
    ∧ preserves_KernelMix_KernelMixIdeal
    ∧ algebraic_KernelMixIdeal_ReferenceMixIdeal (hKernelMixIdeal := hKernelMixIdeal) (hReferenceMixIdeal := hReferenceMixIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelDy_KernelDyIdeal
    ∧ algebraic_KernelDyIdeal_ReferenceDyIdeal (hKernelDyIdeal := hKernelDyIdeal) (hReferenceDyIdeal := hReferenceDyIdeal)
    ∧ preserves_KernelDyb_KernelDybIdeal
    ∧ algebraic_KernelDybIdeal_ReferenceDybIdeal (hKernelDybIdeal := hKernelDybIdeal) (hReferenceDybIdeal := hReferenceDybIdeal)
    ∧ preserves_KernelDbranch_KernelDbranchIdeal
    ∧ algebraic_KernelDbranchIdeal_ReferenceDbranchIdeal (hKernelDbranchIdeal := hKernelDbranchIdeal) (hReferenceDbranchIdeal := hReferenceDbranchIdeal)
    ∧ preserves_KernelXq_KernelXqIdeal
    ∧ algebraic_KernelXqIdeal_ReferenceXqIdeal (hKernelXqIdeal := hKernelXqIdeal) (hReferenceXqIdeal := hReferenceXqIdeal)
    ∧ preserves_KernelDo_KernelDoIdeal
    ∧ algebraic_KernelDoIdeal_ReferenceDoIdeal (hKernelDoIdeal := hKernelDoIdeal) (hReferenceDoIdeal := hReferenceDoIdeal)
-- ==== Pre_finite.lean ====
abbrev S8192x7040 : Shape := ⟨2, ![8192, 7040]⟩
abbrev S8x8192 : Shape := ⟨2, ![8, 8192]⟩
abbrev S8192x512 : Shape := ⟨2, ![8192, 512]⟩
abbrev S_ : Shape := ⟨0, ![]⟩

class Facts : Prop where
  bcast_S_S8192x7040 : S_.BroadcastsInDim S8192x7040 (![] : Fin 0 → Fin S8192x7040.rank)
  reducesTo_S8192x7040_S_d0_1 : S8192x7040.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x7040 .f32) (main_arg1 : FVec F S8x8192 .f32) (main_arg2 : FVec F S8192x512 .bf16) : IVec S_ 1 :=
  let main_v0 : FVec F S8192x7040 .f32 := Host.absf main_arg0
  let main_cst : FVec F S_ .f32 := constant S_ .f32 0x7F800000#32
  let main_v1 : FVec F S8192x7040 .f32 := broadcastInDim S8192x7040 ![] bcast_S_S8192x7040 main_cst
  let main_v2 : IVec S8192x7040 1 := cmpf .olt main_v0 main_v1
  let main_c : IVec S_ 1 := constantI S_ 1 1#1
  let main_v3 : IVec S_ 1 := (fun x v => Host.reduce IntOp.andi x v reducesTo_S8192x7040_S_d0_1 h_S_) main_v2 main_c
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8192x512 .f32 := (extf .f32 · bitsLt_bf16_f32) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v8 main_v13
  main_v14
-- ==== Kernel.lean ====
abbrev S8192x7040 : Shape := ⟨2, ![8192, 7040]⟩
abbrev S8x8192 : Shape := ⟨2, ![8, 8192]⟩
abbrev S8192x512 : Shape := ⟨2, ![8192, 512]⟩
abbrev S36 : Shape := ⟨1, ![36]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192x128 : Shape := ⟨3, ![8, 8192, 128]⟩
abbrev S4x8192x128 : Shape := ⟨3, ![4, 8192, 128]⟩
abbrev S1024x128 : Shape := ⟨2, ![1024, 128]⟩
abbrev S1 : Shape := ⟨1, ![1]⟩
abbrev S2x1024x128 : Shape := ⟨3, ![2, 1024, 128]⟩
abbrev S2x1x1024 : Shape := ⟨3, ![2, 1, 1024]⟩
abbrev S8192x128 : Shape := ⟨2, ![8192, 128]⟩
abbrev S1x1024x128 : Shape := ⟨3, ![1, 1024, 128]⟩
abbrev S2x1x8192 : Shape := ⟨3, ![2, 1, 8192]⟩
abbrev S8x128x1024 : Shape := ⟨3, ![8, 128, 1024]⟩
abbrev S2x8x1x1024 : Shape := ⟨4, ![2, 8, 1, 1024]⟩
abbrev S8x8x1024 : Shape := ⟨3, ![8, 8, 1024]⟩
abbrev S1x128 : Shape := ⟨2, ![1, 128]⟩
abbrev S8x128 : Shape := ⟨2, ![8, 128]⟩
abbrev S8x1024 : Shape := ⟨2, ![8, 1024]⟩
abbrev S1x8x1024 : Shape := ⟨3, ![1, 8, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x128x1024 : Shape := ⟨3, ![1, 128, 1024]⟩
abbrev S128x1024 : Shape := ⟨2, ![128, 1024]⟩
abbrev S1x1x1x1024 : Shape := ⟨4, ![1, 1, 1, 1024]⟩

abbrev nBuf : Space → Nat
  | .hbm => 60
  | .vmem => 32
  | .smem => 2
  | _ => 0

abbrev bufTy : (tb : Table) → Fin (tcTables nBuf tb) → BufTy
  | .hbm, ⟨0, _⟩ => ⟨S8192x7040, .f32⟩
  | .hbm, ⟨1, _⟩ => ⟨S8x8192, .f32⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x8x64, .f32⟩
  | .hbm, ⟨7, _⟩ => ⟨S8x8192x64, .f32⟩
  | .hbm, ⟨8, _⟩ => ⟨S8192x8x64, .f32⟩
  | .hbm, ⟨9, _⟩ => ⟨S8x8192x64, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x8192x1, .f32⟩
  | .hbm, ⟨15, _⟩ => ⟨S8x8192x8192, .f32⟩
  | .hbm, ⟨16, _⟩ => ⟨S8x8192x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x8192, .i32⟩
  | .hbm, ⟨22, _⟩ => ⟨S8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S1x8192x8192, .i1⟩
  | .hbm, ⟨28, _⟩ => ⟨S8x8192x8192, .i1⟩
  | .hbm, ⟨29, _⟩ => ⟨S_, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8192x8x64, .f32⟩
  | .hbm, ⟨46, _⟩ => ⟨S8x8192x64, .f32⟩
  | .hbm, ⟨47, _⟩ => ⟨S8x8192x64, .f32⟩
  | .hbm, ⟨48, _⟩ => ⟨S8192x8x64, .f32⟩
  | .hbm, ⟨49, _⟩ => ⟨S8192x512, .f32⟩
  | .hbm, ⟨50, _⟩ => ⟨S8192x512, .bf16⟩
  | .hbm, ⟨51, _⟩ => ⟨S8x8192x1, .f32⟩
  | .hbm, ⟨52, _⟩ => ⟨S8x8192x128, .f32⟩
  | .hbm, ⟨53, _⟩ => ⟨S8x1x8192, .f32⟩
  | .hbm, ⟨54, _⟩ => ⟨S8x1x8192, .f32⟩
  | .hbm, ⟨55, _⟩ => ⟨S8192x512, .bf16⟩
  | .hbm, ⟨56, _⟩ => ⟨S8192x512, .bf16⟩
  | .hbm, ⟨57, _⟩ => ⟨S8192x512, .bf16⟩
  | .hbm, ⟨58, _⟩ => ⟨S4x8192x128, .f32⟩
  | .hbm, ⟨59, _⟩ => ⟨S8x1x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S2x1024x128, .f32⟩
  | .local _ .vmem, ⟨11, _⟩ => ⟨S2x1024x128, .f32⟩
  | .local _ .vmem, ⟨12, _⟩ => ⟨S2x1x1024, .f32⟩
  | .local _ .vmem, ⟨13, _⟩ => ⟨S2x1x1024, .f32⟩
  | .local _ .vmem, ⟨14, _⟩ => ⟨S2x1x1024, .f32⟩
  | .local _ .vmem, ⟨15, _⟩ => ⟨S2x1x1024, .f32⟩
  | .local _ .vmem, ⟨16, _⟩ => ⟨S8192x128, .bf16⟩
  | .local _ .vmem, ⟨17, _⟩ => ⟨S8192x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1x1024x128, .f32⟩
  | .local _ .vmem, ⟨23, _⟩ => ⟨S1x1024x128, .f32⟩
  | .local _ .vmem, ⟨24, _⟩ => ⟨S2x1x8192, .f32⟩
  | .local _ .vmem, ⟨25, _⟩ => ⟨S2x1x8192, .f32⟩
  | .local _ .vmem, ⟨26, _⟩ => ⟨S2x1024x128, .f32⟩
  | .local _ .vmem, ⟨27, _⟩ => ⟨S2x1024x128, .f32⟩
  | .local _ .vmem, ⟨28, _⟩ => ⟨S2x1024x128, .f32⟩
  | .local _ .vmem, ⟨29, _⟩ => ⟨S8x128x1024, .f32⟩
  | .local _ .vmem, ⟨30, _⟩ => ⟨S2x8x1x1024, .f32⟩
  | .local _ .vmem, ⟨31, _⟩ => ⟨S8x8x1024, .f32⟩
  | .local _ .smem, ⟨0, _⟩ => ⟨S36, .i32⟩
  | .local _ .smem, ⟨1, _⟩ => ⟨S36, .i32⟩
  | _, _ => ⟨S8192x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48_0 : Ref sig .tc := ⟨.hbm, 55, rfl⟩
abbrev main_v48_1 : Ref sig .tc := ⟨.hbm, 56, rfl⟩
abbrev main_v48_2 : Ref sig .tc := ⟨.hbm, 57, rfl⟩
abbrev main_v48_3 : Ref sig .tc := ⟨.hbm, 58, rfl⟩
abbrev main_v48_4 : Ref sig .tc := ⟨.hbm, 59, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v1 : BitVec 32) : Fin 3 → Nat :=
  let v49 : Index := Scalar.indexCast v1
  let c0_15 : Index := 0#32
  let c0_16 : Index := 0#32
  ![v49.toNat, 0, 0]
def k0_cond3 (v3 : BitVec 32) : BitVec 1 :=
  let c0_i32_2 : BitVec 32 := 0#32
  let v13 : BitVec 1 := Scalar.cmpi .eq v3 c0_i32_2
  let v14 : BitVec 32 := Scalar.extui v13
  let c0_i32_3 : BitVec 32 := 0#32
  let v15 : BitVec 1 := Scalar.cmpi .ne v14 c0_i32_3
  v15

def k0_off3 (v1 : BitVec 32) : Fin 3 → Nat :=
  let v37 : Index := Scalar.indexCast v1
  let c0_15 : Index := 0#32
  let c0_16 : Index := 0#32
  ![v37.toNat, 0, 0]
def k0_cond4 (v1 : BitVec 32) (v3 : BitVec 32) : BitVec 1 :=
  let v16 : BitVec 1 := Scalar.cmpi .sgt v1 v3
  let v17 : BitVec 32 := Scalar.extui v16
  let c0_i32_4 : BitVec 32 := 0#32
  let v18 : BitVec 1 := Scalar.cmpi .ne v17 c0_i32_4
  v18

def k0_off4 (v1 : BitVec 32) : Fin 3 → Nat :=
  let v91 : Index := Scalar.indexCast v1
  let c0_51 : Index := 0#32
  let c0_52 : Index := 0#32
  ![v91.toNat, 0, 0]
def k0_off5 (v1 : BitVec 32) : Fin 4 → Nat :=
  let c0_56 : Index := 0#32
  let v100 : Index := Scalar.indexCast v1
  let c0_57 : Index := 0#32
  let c0_58 : Index := 0#32
  ![0, v100.toNat, 0, 0]
def k0_off6 (v1 : BitVec 32) : Fin 4 → Nat :=
  let c1_102 : Index := 1#32
  let v171 : Index := Scalar.indexCast v1
  let c0_103 : Index := 0#32
  let c0_104 : Index := 0#32
  ![1, v171.toNat, 0, 0]
def k0_off7 (v1 : BitVec 32) : Fin 3 → Nat :=
  let v37 : Index := Scalar.indexCast v1
  let c0_15 : Index := 0#32
  let c0_16 : Index := 0#32
  ![v37.toNat, 0, 0]
def k0_cond5 (v1 : BitVec 32) (v3 : BitVec 32) : BitVec 1 :=
  let v19 : BitVec 1 := Scalar.cmpi .eq v1 v3
  let v20 : BitVec 32 := Scalar.extui v19
  let c0_i32_5 : BitVec 32 := 0#32
  let v21 : BitVec 1 := Scalar.cmpi .ne v20 c0_i32_5
  v21

def k0_off8 (v1 : BitVec 32) : Fin 3 → Nat :=
  let v96 : Index := Scalar.indexCast v1
  let c0_52 : Index := 0#32
  let c0_53 : Index := 0#32
  ![v96.toNat, 0, 0]
def k0_off9 (v1 : BitVec 32) : Fin 4 → Nat :=
  let c0_57 : Index := 0#32
  let v105 : Index := Scalar.indexCast v1
  let c0_58 : Index := 0#32
  let c0_59 : Index := 0#32
  ![0, v105.toNat, 0, 0]
def k0_off10 (v1 : BitVec 32) : Fin 4 → Nat :=
  let c1_104 : Index := 1#32
  let v181 : Index := Scalar.indexCast v1
  let c0_105 : Index := 0#32
  let c0_106 : Index := 0#32
  ![1, v181.toNat, 0, 0]

def k0_chk1 (v1 : BitVec 32) (v3 : BitVec 32) : Prop :=
  (∀ (k0_h3 : k0_cond3 v3 = 1#1), ∀ a, (k0_off2 v1) a + S1x8x1024.size a ≤ S8x8x1024.size a) ∧
  (∀ (k0_h4 : k0_cond4 v1 v3 = 1#1), ∀ a, (k0_off3 v1) a + S1x8x1024.size a ≤ S8x8x1024.size a) ∧
  (∀ (k0_h4 : k0_cond4 v1 v3 = 1#1), ∀ a, (k0_off4 v1) a + S1x128x1024.size a ≤ S8x128x1024.size a) ∧
  (∀ (k0_h4 : k0_cond4 v1 v3 = 1#1), ∀ a, (k0_off5 v1) a + S1x1x1x1024.size a ≤ S2x8x1x1024.size a) ∧
  (∀ (k0_h4 : k0_cond4 v1 v3 = 1#1), ∀ a, (k0_off6 v1) a + S1x1x1x1024.size a ≤ S2x8x1x1024.size a) ∧
  (∀ (k0_h5 : k0_cond5 v1 v3 = 1#1), ∀ a, (k0_off7 v1) a + S1x8x1024.size a ≤ S8x8x1024.size a) ∧
  (∀ (k0_h5 : k0_cond5 v1 v3 = 1#1), ∀ a, (k0_off8 v1) a + S1x128x1024.size a ≤ S8x128x1024.size a) ∧
  (∀ (k0_h5 : k0_cond5 v1 v3 = 1#1), ∀ a, (k0_off9 v1) a + S1x1x1x1024.size a ≤ S2x8x1x1024.size a) ∧
  (∀ (k0_h5 : k0_cond5 v1 v3 = 1#1), ∀ a, (k0_off10 v1) a + S1x1x1x1024.size a ≤ S2x8x1x1024.size a)
theorem k0_off2_inb : ∀ (v1 : BitVec 32) (v3 : BitVec 32) (k0_hw1 : k0_chk1 v1 v3), ∀ (k0_h3 : k0_cond3 v3 = 1#1), ∀ a, (k0_off2 v1) a + S1x8x1024.size a ≤ S8x8x1024.size a := fun v1 v3 k0_hw1 k0_h3 => k0_hw1.1 k0_h3
theorem k0_off3_inb : ∀ (v1 : BitVec 32) (v3 : BitVec 32) (k0_hw1 : k0_chk1 v1 v3), ∀ (k0_h4 : k0_cond4 v1 v3 = 1#1), ∀ a, (k0_off3 v1) a + S1x8x1024.size a ≤ S8x8x1024.size a := fun v1 v3 k0_hw1 k0_h4 => k0_hw1.2.1 k0_h4
theorem k0_off4_inb : ∀ (v1 : BitVec 32) (v3 : BitVec 32) (k0_hw1 : k0_chk1 v1 v3), ∀ (k0_h4 : k0_cond4 v1 v3 = 1#1), ∀ a, (k0_off4 v1) a + S1x128x1024.size a ≤ S8x128x1024.size a := fun v1 v3 k0_hw1 k0_h4 => k0_hw1.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S1x1x1x1024.size a ≤ S2x8x1x1024.size a := fun v1 v3 k0_hw1 k0_h4 => k0_hw1.2.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S1x1x1x1024.size a ≤ S2x8x1x1024.size a := fun v1 v3 k0_hw1 k0_h4 => k0_hw1.2.2.2.2.1 k0_h4
theorem k0_off7_inb : ∀ (v1 : BitVec 32) (v3 : BitVec 32) (k0_hw1 : k0_chk1 v1 v3), ∀ (k0_h5 : k0_cond5 v1 v3 = 1#1), ∀ a, (k0_off7 v1) a + S1x8x1024.size a ≤ S8x8x1024.size a := fun v1 v3 k0_hw1 k0_h5 => k0_hw1.2.2.2.2.2.1 k0_h5
theorem k0_off8_inb : ∀ (v1 : BitVec 32) (v3 : BitVec 32) (k0_hw1 : k0_chk1 v1 v3), ∀ (k0_h5 : k0_cond5 v1 v3 = 1#1), ∀ a, (k0_off8 v1) a + S1x128x1024.size a ≤ S8x128x1024.size a := fun v1 v3 k0_hw1 k0_h5 => k0_hw1.2.2.2.2.2.2.1 k0_h5
theorem k0_off9_inb : ∀ (v1 : BitVec 32) (v3 : BitVec 32) (k0_hw1 : k0_chk1 v1 v3), ∀ (k0_h5 : k0_cond5 v1 v3 = 1#1), ∀ a, (k0_off9 v1) a + S1x1x1x1024.size a ≤ S2x8x1x1024.size a := fun v1 v3 k0_hw1 k0_h5 => k0_hw1.2.2.2.2.2.2.2.1 k0_h5
theorem k0_off10_inb : ∀ (v1 : BitVec 32) (v3 : BitVec 32) (k0_hw1 : k0_chk1 v1 v3), ∀ (k0_h5 : k0_cond5 v1 v3 = 1#1), ∀ a, (k0_off10 v1) a + S1x1x1x1024.size a ≤ S2x8x1x1024.size a := fun v1 v3 k0_hw1 k0_h5 => k0_hw1.2.2.2.2.2.2.2.2 k0_h5

def k0_cond7 (i : grid0.Coords) : BitVec 1 :=
  let arg1 : BitVec 32 := BitVec.ofNat 32 (i 1).val
  let c35_i32 : BitVec 32 := 35#32
  let v25 : BitVec 1 := Scalar.cmpi .eq arg1 c35_i32
  let v26 : BitVec 32 := Scalar.extui v25
  let c0_i32_7 : BitVec 32 := 0#32
  let v27 : BitVec 1 := Scalar.cmpi .ne v26 c0_i32_7
  v27

def k0_cond6 (v1 : BitVec 32) : BitVec 1 :=
  let c7_i32 : BitVec 32 := 7#32
  let v22 : BitVec 1 := Scalar.cmpi .eq v1 c7_i32
  let v23 : BitVec 32 := Scalar.extui v22
  let c0_i32_6 : BitVec 32 := 0#32
  let v24 : BitVec 1 := Scalar.cmpi .ne v23 c0_i32_6
  v24

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c40_i32 : BitVec 32 := 40#32
  let v2 : BitVec 32 := Scalar.addi c40_i32 arg0
  let c0_i32 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c44_i32 : BitVec 32 := 44#32
  let v2 : BitVec 32 := Scalar.addi c44_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c36_i32 : BitVec 32 := 36#32
  let v2 : BitVec 32 := Scalar.addi c36_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x7040 : Shape := ⟨2, ![8192, 7040]⟩
abbrev S8x8192 : Shape := ⟨2, ![8, 8192]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S4x8192x128 : Shape := ⟨3, ![4, 8192, 128]⟩
abbrev S4x2x8192 : Shape := ⟨3, ![4, 2, 8192]⟩
abbrev S4x1x8192 : Shape := ⟨3, ![4, 1, 8192]⟩
abbrev S4x8192 : Shape := ⟨2, ![4, 8192]⟩
abbrev S4x8192x1 : Shape := ⟨3, ![4, 8192, 1]⟩

abbrev nBuf : Space → Nat
  | .hbm => 153
  | .vmem => 0
  | .smem => 0
  | _ => 0

abbrev hbmTy0_0 (i : Nat) : BufTy := match i % 128 with
  | 0 => ⟨S8192x7040, .f32⟩
  | 1 => ⟨S8x8192, .f32⟩
  | 2 => ⟨S8192x512, .bf16⟩
  | 3 => ⟨S8192x512, .f32⟩
  | 4 => ⟨S8192x512, .f32⟩
  | 5 => ⟨S8192x512, .f32⟩
  | 6 => ⟨S8192x8x64, .f32⟩
  | 7 => ⟨S8x8192x64, .f32⟩
  | 8 => ⟨S8192x8x64, .f32⟩
  | 9 => ⟨S8x8192x64, .f32⟩
  | 10 => ⟨S8x8192x8192, .f32⟩
  | 11 => ⟨S_, .f32⟩
  | 12 => ⟨S8x8192x8192, .f32⟩
  | 13 => ⟨S8x8192x8192, .f32⟩
  | 14 => ⟨S8x8192x1, .f32⟩
  | 15 => ⟨S8x8192x8192, .f32⟩
  | 16 => ⟨S8x8192x8192, .f32⟩
  | 17 => ⟨S8x1x8192, .f32⟩
  | 18 => ⟨S8x8192x8192, .f32⟩
  | 19 => ⟨S8x8192x8192, .f32⟩
  | 20 => ⟨S8192, .i32⟩
  | 21 => ⟨S1x8192, .i32⟩
  | 22 => ⟨S8192, .i32⟩
  | 23 => ⟨S8192x1, .i32⟩
  | 24 => ⟨S8192x8192, .i32⟩
  | 25 => ⟨S8192x8192, .i32⟩
  | 26 => ⟨S8192x8192, .i1⟩
  | 27 => ⟨S1x8192x8192, .i1⟩
  | 28 => ⟨S8x8192x8192, .i1⟩
  | 29 => ⟨S_, .f32⟩
  | 30 => ⟨S8x8192x8192, .f32⟩
  | 31 => ⟨S8x8192x8192, .f32⟩
  | 32 => ⟨S_, .f32⟩
  | 33 => ⟨S8x8192x8192, .f32⟩
  | 34 => ⟨S_, .f32⟩
  | 35 => ⟨S8x8192, .f32⟩
  | 36 => ⟨S8x8192x1, .f32⟩
  | 37 => ⟨S8x8192x8192, .f32⟩
  | 38 => ⟨S8x8192x8192, .i1⟩
  | 39 => ⟨S8x8192x8192, .f32⟩
  | 40 => ⟨S_, .f32⟩
  | 41 => ⟨S8x8192, .f32⟩
  | 42 => ⟨S_, .f32⟩
  | 43 => ⟨S8x8192, .f32⟩
  | 44 => ⟨S8x8192, .f32⟩
  | 45 => ⟨S_, .f32⟩
  | 46 => ⟨S8x8192, .f32⟩
  | 47 => ⟨S8x8192, .i1⟩
  | 48 => ⟨S_, .f32⟩
  | 49 => ⟨S8x8192, .f32⟩
  | 50 => ⟨S8x8192, .i1⟩
  | 51 => ⟨S_, .f32⟩
  | 52 => ⟨S8x8192, .f32⟩
  | 53 => ⟨S_, .f32⟩
  | 54 => ⟨S8x8192, .f32⟩
  | 55 => ⟨S_, .f32⟩
  | 56 => ⟨S8x8192, .f32⟩
  | 57 => ⟨S8x8192, .f32⟩
  | 58 => ⟨S8x8192, .f32⟩
  | 59 => ⟨S8x8192x1, .f32⟩
  | 60 => ⟨S8x8192x8192, .f32⟩
  | 61 => ⟨S8x8192x8192, .f32⟩
  | 62 => ⟨S8x8192x8192, .f32⟩
  | 63 => ⟨S_, .f32⟩
  | 64 => ⟨S8x8192, .f32⟩
  | 65 => ⟨S8x8192x1, .f32⟩
  | 66 => ⟨S8x8192x8192, .f32⟩
  | 67 => ⟨S8x8192x8192, .f32⟩
  | 68 => ⟨S8x8192x1, .f32⟩
  | 69 => ⟨S_, .f32⟩
  | 70 => ⟨S8x8192x1, .f32⟩
  | 71 => ⟨S8x8192x1, .f32⟩
  | 72 => ⟨S8192x8x64, .f32⟩
  | 73 => ⟨S8x8192x64, .f32⟩
  | 74 => ⟨S8x8192x64, .f32⟩
  | 75 => ⟨S8192x8x64, .f32⟩
  | 76 => ⟨S8192x512, .f32⟩
  | 77 => ⟨S8192x512, .f32⟩
  | 78 => ⟨S8192x8x64, .f32⟩
  | 79 => ⟨S8x8192x64, .f32⟩
  | 80 => ⟨S8x64x8192, .f32⟩
  | 81 => ⟨S8x8192x64, .f32⟩
  | 82 => ⟨S8x8192x8192, .f32⟩
  | 83 => ⟨S8192x8x64, .f32⟩
  | 84 => ⟨S8192x512, .f32⟩
  | 85 => ⟨S8x8192x8192, .f32⟩
  | 86 => ⟨S8x8192x8192, .f32⟩
  | 87 => ⟨S8x8192x8192, .f32⟩
  | 88 => ⟨S_, .f32⟩
  | 89 => ⟨S8x8192, .f32⟩
  | 90 => ⟨S8x8192x1, .f32⟩
  | 91 => ⟨S8x8192x1, .f32⟩
  | 92 => ⟨S8x8192x8192, .f32⟩
  | 93 => ⟨S8x8192x8192, .f32⟩
  | 94 => ⟨S_, .f32⟩
  | 95 => ⟨S8x8192, .f32⟩
  | 96 => ⟨S8x8192x8192, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .f32⟩
  | 102 => ⟨S8x8192x8192, .f32⟩
  | 103 => ⟨S_, .f32⟩
  | 104 => ⟨S8x8192, .f32⟩
  | 105 => ⟨S8x1x8192, .f32⟩
  | 106 => ⟨S_, .f32⟩
  | 107 => ⟨S8x8192, .f32⟩
  | 108 => ⟨S_, .f32⟩
  | 109 => ⟨S8x8192, .f32⟩
  | 110 => ⟨S8x8192x1, .f32⟩
  | 111 => ⟨S_, .f32⟩
  | 112 => ⟨S8x8192, .f32⟩
  | 113 => ⟨S_, .f32⟩
  | 114 => ⟨S8x8192x8192, .f32⟩
  | 115 => ⟨S8x8192x8192, .f32⟩
  | 116 => ⟨S8x8192x64, .f32⟩
  | 117 => ⟨S8x8192x64, .f32⟩
  | 118 => ⟨S8192x8x64, .f32⟩
  | 119 => ⟨S8192x512, .f32⟩
  | 120 => ⟨S8192x8x64, .f32⟩
  | 121 => ⟨S8192x512, .f32⟩
  | 122 => ⟨S4x8192x128, .i32⟩
  | 123 => ⟨S4x8192x128, .i32⟩
  | 124 => ⟨S4x2x8192, .f32⟩
  | 125 => ⟨S4x1x8192, .f32⟩
  | 126 => ⟨S4x8192, .f32⟩
  | 127 => ⟨S4x8192x1, .f32⟩
  | _ => ⟨S8192x7040, .f32⟩

abbrev hbmTy0_1 (i : Nat) : BufTy := match i % 128 with
  | 0 => ⟨S4x2x8192, .f32⟩
  | 1 => ⟨S4x1x8192, .f32⟩
  | 2 => ⟨S4x8192, .f32⟩
  | 3 => ⟨S4x8192x1, .f32⟩
  | 4 => ⟨S_, .i32⟩
  | 5 => ⟨S4x8192x128, .i32⟩
  | 6 => ⟨S4x8192x128, .i32⟩
  | 7 => ⟨S4x8192x128, .i1⟩
  | 8 => ⟨S4x8192x128, .f32⟩
  | 9 => ⟨S_, .i32⟩
  | 10 => ⟨S4x8192x128, .i32⟩
  | 11 => ⟨S4x8192x128, .i32⟩
  | 12 => ⟨S_, .i32⟩
  | 13 => ⟨S4x8192x128, .i32⟩
  | 14 => ⟨S4x8192x128, .i32⟩
  | 15 => ⟨S4x8192x128, .i1⟩
  | 16 => ⟨S4x8192x128, .f32⟩
  | 17 => ⟨S_, .f32⟩
  | 18 => ⟨S4x8192x128, .f32⟩
  | 19 => ⟨S4x8192x128, .f32⟩
  | 20 => ⟨S4x8192x128, .f32⟩
  | 21 => ⟨S8192x512, .bf16⟩
  | 22 => ⟨S8192x512, .bf16⟩
  | 23 => ⟨S8192x512, .bf16⟩
  | 24 => ⟨S8x1x8192, .f32⟩
  | _ => ⟨S8192x7040, .f32⟩

abbrev hbmTy (i : Nat) : BufTy := match i / 128 with
  | 0 => hbmTy0_0 i
  | 1 => hbmTy0_1 i
  | _ => ⟨S8192x7040, .f32⟩

abbrev bufTy : (tb : Table) → Fin (tcTables nBuf tb) → BufTy
  | .hbm, ⟨i, _⟩ => hbmTy i
  | _, _ => ⟨S8192x7040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_12 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_13 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_14 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_15 : Ref sig .tc := ⟨.hbm, 103, rfl⟩
abbrev main_v84 : Ref sig .tc := ⟨.hbm, 104, rfl⟩
abbrev main_v85 : Ref sig .tc := ⟨.hbm, 105, rfl⟩
abbrev main_cst_16 : Ref sig .tc := ⟨.hbm, 106, rfl⟩
abbrev main_v86 : Ref sig .tc := ⟨.hbm, 107, rfl⟩
abbrev main_cst_17 : Ref sig .tc := ⟨.hbm, 108, rfl⟩
abbrev main_v87 : Ref sig .tc := ⟨.hbm, 109, rfl⟩
abbrev main_v88 : Ref sig .tc := ⟨.hbm, 110, rfl⟩
abbrev main_cst_18 : Ref sig .tc := ⟨.hbm, 111, rfl⟩
abbrev main_v89 : Ref sig .tc := ⟨.hbm, 112, rfl⟩
abbrev main_cst_19 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_c : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_c_20 : Ref sig .tc := ⟨.hbm, 137, rfl⟩
abbrev main_v112 : Ref sig .tc := ⟨.hbm, 138, rfl⟩
abbrev main_v113 : Ref sig .tc := ⟨.hbm, 139, rfl⟩
abbrev main_c_21 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_22 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩

abbrev nD : Nat := 1
abbrev τ : Topo := Topo.v7x

variable {F : FTy → Type} [FloatOps F]
-- ==== KernelDw.lean ====
abbrev S8192x1024 : Shape := ⟨2, ![8192, 1024]⟩
abbrev S8192x7040 : Shape := ⟨2, ![8192, 7040]⟩
abbrev S1024x7040 : Shape := ⟨2, ![1024, 7040]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7040, .bf16⟩
  | .hbm, ⟨2, _⟩ => ⟨S1024x7040, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S8192x1024 : Shape := ⟨2, ![8192, 1024]⟩
abbrev S8192x7040 : Shape := ⟨2, ![8192, 7040]⟩
abbrev S_ : Shape := ⟨0, ![]⟩
abbrev S1024x7040 : Shape := ⟨2, ![1024, 7040]⟩
abbrev S7040x1024 : Shape := ⟨2, ![7040, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7040, .bf16⟩
  | .hbm, ⟨2, _⟩ => ⟨S_, .f32⟩
  | .hbm, ⟨3, _⟩ => ⟨S1024x7040, .f32⟩
  | .hbm, ⟨4, _⟩ => ⟨S8192x1024, .f32⟩
  | .hbm, ⟨5, _⟩ => ⟨S8192x7040, .f32⟩
  | .hbm, ⟨6, _⟩ => ⟨S8192x7040, .f32⟩
  | .hbm, ⟨7, _⟩ => ⟨S7040x1024, .f32⟩
  | .hbm, ⟨8, _⟩ => ⟨S1024x7040, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDh.lean ====
abbrev S8192x7040 : Shape := ⟨2, ![8192, 7040]⟩
abbrev S1024x7040 : Shape := ⟨2, ![1024, 7040]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7040, .bf16⟩
  | .hbm, ⟨1, _⟩ => ⟨S1024x7040, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8192x7040 : Shape := ⟨2, ![8192, 7040]⟩
abbrev S1024x7040 : Shape := ⟨2, ![1024, 7040]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x7040, .bf16⟩
  | .hbm, ⟨1, _⟩ => ⟨S1024x7040, .bf16⟩
  | .hbm, ⟨2, _⟩ => ⟨S_, .f32⟩
  | .hbm, ⟨3, _⟩ => ⟨S8192x1024, .f32⟩
  | .hbm, ⟨4, _⟩ => ⟨S1024x7040, .f32⟩
  | .hbm, ⟨5, _⟩ => ⟨S8192x7040, .f32⟩
  | .hbm, ⟨6, _⟩ => ⟨S8192x7040, .f32⟩
  | .hbm, ⟨7, _⟩ => ⟨S8192x1024, .f32⟩
  | _, _ => ⟨S8192x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelProj.lean ====
abbrev S8192x1024 : Shape := ⟨2, ![8192, 1024]⟩
abbrev S1024x7040 : Shape := ⟨2, ![1024, 7040]⟩
abbrev S8192x7040 : Shape := ⟨2, ![8192, 7040]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7040, .bf16⟩
  | .hbm, ⟨2, _⟩ => ⟨S8192x7040, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S8192x1024 : Shape := ⟨2, ![8192, 1024]⟩
abbrev S1024x7040 : Shape := ⟨2, ![1024, 7040]⟩
abbrev S8192x7040 : Shape := ⟨2, ![8192, 7040]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7040, .bf16⟩
  | .hbm, ⟨2, _⟩ => ⟨S8192x1024, .f32⟩
  | .hbm, ⟨3, _⟩ => ⟨S1024x7040, .f32⟩
  | .hbm, ⟨4, _⟩ => ⟨S8192x7040, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGu.lean ====
abbrev S8192x1024 : Shape := ⟨2, ![8192, 1024]⟩
abbrev S1024x6144 : Shape := ⟨2, ![1024, 6144]⟩
abbrev S8192x6144 : Shape := ⟨2, ![8192, 6144]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGuIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDh1.lean ====
abbrev S8192x1024 : Shape := ⟨2, ![8192, 1024]⟩
abbrev S3072x1024 : Shape := ⟨2, ![3072, 1024]⟩
abbrev S8192x3072 : Shape := ⟨2, ![8192, 3072]⟩
abbrev S2048x1024 : Shape := ⟨2, ![2048, 1024]⟩
abbrev S1536x1024 : Shape := ⟨2, ![1536, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .f32⟩
  | .local _ .vmem, ⟨5, _⟩ => ⟨S2048x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDh1Ideal.lean ====
abbrev S8192x1024 : Shape := ⟨2, ![8192, 1024]⟩
abbrev S3072x1024 : Shape := ⟨2, ![3072, 1024]⟩
abbrev S_ : Shape := ⟨0, ![]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S_, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | .hbm, ⟨7, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDgate.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDgateIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDdown.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDdownIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDxg.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxgIdeal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDxu.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDxuIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDown.lean ====
abbrev S8192x3072 : Shape := ⟨2, ![8192, 3072]⟩
abbrev S3072x1024 : Shape := ⟨2, ![3072, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDmix.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDmixIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDmerged.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmergedIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMix.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMixIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelBranch.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDy.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDyIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDyb.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDybIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDbranch.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDbranchIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXq.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXqIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDo.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Steps.lean ====
module

public import Idealize.ShloMosaic.Lib.Pipeline.ValueKit

/-! A sum built up over consecutive steps, in blocks of `p` steps, each step adding `w` terms. -/

@[expose] public section

namespace Cert.Steps

open Idealize.ShloMosaic

theorem at_origin : (![0, 0] : Fin 2 → Nat) = fun _ => 0 := funext fun a => by fin_cases a <;> rfl

/-- A load of a whole matrix reads it. -/
theorem ld_all {n0 n1 : ℕ} {Val : EltTy → Type} {e : EltTy} (h : ∀ a, (![0, 0] : Fin 2 → ℕ) a + ![n0, n1] a ≤ (⟨2, ![n0, n1]⟩ : Shape).size a)
    (X : (⟨2, ![n0, n1]⟩ : Shape).Idx → Val e) : View.ld X (Rect.unit (s := ⟨2, ![n0, n1]⟩) ![0, 0] ![n0, n1] h) = X :=
  View.ld_unit_zero (S := ⟨2, ![n0, n1]⟩) at_origin h X

/-- Two matrices with the same entries are the same. -/
theorem same_entries {n0 n1 : ℕ} {α : Type} {f g : (⟨2, ![n0, n1]⟩ : Shape).Idx → α} (h : ∀ a b, f (ix2 a b) = g (ix2 a b)) : f = g :=
  funext fun i => by rw [eq_ix2 i]; exact h _ _

/-- The first step of a block leaves its own product, a step between adds its product to what the step before left, and the
last step writes out what it gets by adding its own. So what it writes is the sum of all the block's terms. -/
theorem written_sum {N p w q : ℕ} (hp : 2 ≤ p) (kept out prod : ∀ n, n < N → EReal) (term : ℕ → EReal)
    (first : ∀ n h, n % p = 0 → kept n h = prod n h)
    (between : ∀ n h, (n + 1) % p ≠ 0 → (n + 1) % p ≠ p - 1 → kept (n + 1) h = kept n (Nat.lt_of_succ_lt h) + prod (n + 1) h)
    (last : ∀ n h, (n + 1) % p = p - 1 → out (n + 1) h = kept n (Nat.lt_of_succ_lt h) + prod (n + 1) h)
    (step : ∀ n h, n / p = q → prod n h = ∑ r ∈ Finset.range w, term (n % p * w + r))
    (n : ℕ) (h : n < N) (hl : n % p = p - 1) (hq : n / p = q) : out n h = ∑ r ∈ Finset.range (p * w), term r := by
  have grow : ∀ k, k + 1 < p → ∀ h : p * q + k < N, kept (p * q + k) h = ∑ r ∈ Finset.range ((k + 1) * w), term r := by
    intro k
    induction k with
    | zero =>
      intro _ h
      rw [first _ h (Nat.mul_mod_right p q), step _ h (Nat.mul_div_cancel_left q (by omega)), Nat.add_zero, Nat.mul_mod_right, zero_add, one_mul, zero_mul]
      exact Finset.sum_congr rfl fun r _ => by rw [zero_add]
    | succ k ih =>
      intro hk h
      have e1 : (p * q + k + 1) % p = k + 1 := by rw [Nat.add_assoc, Nat.mul_add_mod, Nat.mod_eq_of_lt (by omega)]
      have e2 : (p * q + k + 1) / p = q := by rw [Nat.add_assoc, Nat.mul_add_div (by omega), Nat.div_eq_of_lt (by omega), Nat.add_zero]
      show kept (p * q + k + 1) h = _
      rw [between (p * q + k) h (by omega) (by omega), ih (by omega) _, step (p * q + k + 1) h e2, e1, show (k + 1 + 1) * w = (k + 1) * w + w by ring, Finset.sum_range_add]
  obtain ⟨k, rfl⟩ : ∃ k, p = k + 2 := ⟨p - 2, by omega⟩
  obtain rfl : n = (k + 2) * q + k + 1 := by have := Nat.div_add_mod n (k + 2); rw [hq, hl] at this; omega
  rw [last _ h hl, grow k (by omega) _, step _ h hq, hl, show k + 2 - 1 = k + 1 from rfl, show (k + 2) * w = (k + 1) * w + w by ring, Finset.sum_range_add]

/-- The same where the last step's sum goes on to be used. -/
theorem sum_before_last {N p w q : ℕ} (hp : 2 ≤ p) (kept prod : ∀ n, n < N → EReal) (term : ℕ → EReal) (first : ∀ n h, n % p = 0 → kept n h = prod n h)
    (between : ∀ n h, (n + 1) % p ≠ 0 → (n + 1) % p ≠ p - 1 → kept (n + 1) h = kept n (Nat.lt_of_succ_lt h) + prod (n + 1) h)
    (step : ∀ n h, n / p = q → prod n h = ∑ r ∈ Finset.range w, term (n % p * w + r))
    (n : ℕ) (h : n + 1 < N) (hl : (n + 1) % p = p - 1) (hq : (n + 1) / p = q) :
    kept n (Nat.lt_of_succ_lt h) + prod (n + 1) h = ∑ r ∈ Finset.range (p * w), term r :=
  written_sum hp kept (fun n h => match n, h with | 0, _ => 0 | n + 1, h => kept n (Nat.lt_of_succ_lt h) + prod (n + 1) h) prod term first between
    (fun _ _ _ => rfl) step (n + 1) h hl hq

end Cert.Steps

end
-- ==== Proof.Dw.lean ====
module

public import proofs.«01_k».proof.Proof.Gen.KernelDwIdeal.Value
public import proofs.«01_k».proof.Proof.Gen.ReferenceDwIdeal.Run
public import proofs.«01_k».proof.Proof.Steps

/-! The weight's gradient of the input projection. Each column block of the result is summed over four blocks of rows in a
buffer the kernel carries from step to step; the last step of the four writes the sum out. -/

@[expose] public section

set_option maxRecDepth 16384

noncomputable section

namespace Cert.KernelDwIdeal.Sum

open Cert.KernelDwIdeal Cert.KernelDwIdeal.Gen Cert.KernelDwIdeal.Value
open Idealize.ShloMosaic Idealize.SL.Sem
open Idealize.ShloMosaic.TcCoe
open Cert.Steps (at_origin ld_all same_entries written_sum)

section Step

variable {c : Dev nD} {i : grid0.Coords} {r0 : Memref sig .tc .vmem S2048x1024 .bf16} {h0 : r0.IsWhole}
  {r1 : Memref sig .tc .vmem S2048x1408 .bf16} {h1 : r1.IsWhole} {r2 : Memref sig .tc .vmem S1024x1408 .f32} {h2 : r2.IsWhole}
  {r3 : Memref sig .tc .vmem S1024x1408 .f32} {h3 : r3.IsWhole}
  (x : FVec Ideal S2048x1024 .bf16) (y : FVec Ideal S2048x1408 .bf16) (s : FVec Ideal S1024x1408 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- A step between adds its product to the sum carried. -/
theorem between {ha : ¬cond0_0 i} {hb : cond0_1 i} {hc : ¬cond0_2 i} :
    sout0_B_0 (F := Ideal) c i r0 h0 r1 h1 r2 h2 r3 h3 ha hb hc x y s = addf s (k0_pay1 (F := Ideal) x y) := by
  unfold sout0_B_0
  rw [View.read_writes_eq_canon _ _ _ (scover0_B_0 (F := Ideal) c i r0 h0 r1 h1 r2 h2 r3 h3 ha hb hc x y s)]
  unfold kernelRun0_B
  dsimp only
  rw [View.canon_unit_zero at_origin]
  simp only [k0_pay3, View.readAt_eq_ld, h0.read_unread, h1.read_unread, h3.read_unread, ld_all, shapeCast_self]

/-- The last step does so too, and writes the sum out. -/
theorem written {ha : ¬cond0_0 i} {hb : cond0_1 i} {hc : cond0_2 i} :
    out0_C_2 (F := Ideal) c i r0 h0 r1 h1 r2 h2 r3 h3 ha hb hc x y s = addf s (k0_pay1 (F := Ideal) x y) := by
  unfold out0_C_2
  rw [View.read_writes_eq_canon _ _ _ (cover0_C_2 (F := Ideal) c i r0 h0 r1 h1 r2 h2 r3 h3 ha hb hc x y s)]
  unfold kernelRun0_C
  dsimp only
  sl_unfold_words
  rw [View.canon_unit_zero at_origin]
  simp only [k0_pay3, View.readAt_eq_ld, h0.read_unread, h1.read_unread, h3.read_unread, ld_all, shapeCast_self]
  exact View.readCov_unit_zero (S := S1024x1408) _ at_origin _ _

/-- A step's product at an entry: the sum over the step's rows. -/
theorem prod_at (a : Fin 1024) (b : Fin 1408) : k0_pay1 (F := Ideal) x y (ix2 a b) = ∑ r : Fin 2048, (x (ix2 r a) * y (ix2 r b) : EReal) := by
  unfold k0_pay1
  pointwise []

end Step

section Whole

variable (m : (ℓ : Loc nD τ sig) → Buf (Elt Ideal) ℓ) (c : Dev nD)

/-- The two arguments of the call. -/
def aH : FVec Ideal S8192x1024 .bf16 := m (c, Proc.devRef .tc main_arg0)
def aD : FVec Ideal S8192x7040 .bf16 := m (c, Proc.devRef .tc main_arg1)

theorem steps : cfg0.N = 20 := N_0
theorem idxH : ∀ t : Fin cfg0.N, (cfg0.win (0 : Fin 3)).index t = ![t.val % 4, 0] := (by decide +kernel : ∀ t : Fin grid0.N, _)
theorem idxD : ∀ t : Fin cfg0.N, (cfg0.win (1 : Fin 3)).index t = ![t.val % 4, t.val / 4] := (by decide +kernel : ∀ t : Fin grid0.N, _)

theorem blkH (t : Fin cfg0.N) (r : Fin 2048) (a : Fin 1024) : iblk m c 0 t (ix2 r a) = aH m c (ix2 (⟨t.val % 4 * 2048 + r, by omega⟩ : Fin 8192) a) := by
  unfold iblk
  rw [View.read_apply]
  refine congrArg (aH m c) ?_
  blk_ext [idxH t]

theorem blkD (t : Fin cfg0.N) (r : Fin 2048) (b : Fin 1408) : iblk m c 1 t (ix2 r b)
    = aD m c (ix2 (⟨t.val % 4 * 2048 + r, by omega⟩ : Fin 8192) (⟨t.val / 4 * 1408 + b, by have := t.isLt; have := steps; omega⟩ : Fin 7040)) := by
  unfold iblk
  rw [View.read_apply]
  refine congrArg (aD m c) ?_
  blk_ext [idxD t]

/-- A row's term of the result's entry in row `a` and column `k`; zero past the rows there are. -/
def term (a : Fin 1024) (k : Fin 7040) (r : ℕ) : EReal := if h : r < 8192 then aH m c (ix2 (⟨r, h⟩ : Fin 8192) a) * aD m c (ix2 (⟨r, h⟩ : Fin 8192) k) else 0

/-- A step's product. -/
abbrev prod (t : Fin cfg0.N) : FVec Ideal S1024x1408 .f32 := k0_pay1 (iblk m c 0 t) (iblk m c 1 t)

/-- A step's product adds the terms of the step's rows. -/
theorem step_at (t : Fin cfg0.N) (a : Fin 1024) (b : Fin 1408) (k : Fin 7040) (hk : k.val = t.val / 4 * 1408 + b) :
    prod m c t (ix2 a b) = ∑ r ∈ Finset.range 2048, term m c a k (t.val % 4 * 2048 + r) := by
  have ek : (⟨t.val / 4 * 1408 + b, hk ▸ k.isLt⟩ : Fin 7040) = k := Fin.ext hk.symm
  rw [show prod m c t (ix2 a b) = _ from prod_at _ _ a b, ← Fin.sum_univ_eq_sum_range (fun r => term m c a k (t.val % 4 * 2048 + r)) 2048]
  refine Finset.sum_congr rfl fun r _ => ?_
  unfold term
  rw [dif_pos (by omega), blkH, blkD, ek]

/-- What the first step of a block carries. -/
theorem begins (t : Fin cfg0.N) (h : t.val % 4 = 0) : (outsAt0 m c t.val t.isLt).2 = prod m c t := by
  have e := congrArg Prod.snd (outsAt0_A m c t h (by omega) (by omega))
  dsimp only at e
  rw [first (iblk m c 0 t) (iblk m c 1 t)] at e
  exact e

/-- What a step between carries. -/
theorem goes_on (n : ℕ) (hn : n + 1 < cfg0.N) (h : (n + 1) % 4 ≠ 0) (h3 : (n + 1) % 4 ≠ 3) : (outsAt0 m c (n + 1) hn).2
    = addf (outsAt0 m c n (Nat.lt_of_succ_lt hn)).2 (prod m c ⟨n + 1, hn⟩) := by
  have e := congrArg Prod.snd (outsAt0_B m c ⟨n + 1, hn⟩ h (Nat.one_le_iff_ne_zero.2 h) h3)
  dsimp only at e
  rw [between (iblk m c 0 ⟨n + 1, hn⟩) (iblk m c 1 ⟨n + 1, hn⟩)] at e
  exact e

/-- What the last step of a block writes out. -/
theorem ends (n : ℕ) (hn : n + 1 < cfg0.N) (h : (n + 1) % 4 = 3) : (outsAt0 m c (n + 1) hn).1
    = addf (outsAt0 m c n (Nat.lt_of_succ_lt hn)).2 (prod m c ⟨n + 1, hn⟩) := by
  have e := congrArg Prod.fst (outsAt0_C m c ⟨n + 1, hn⟩ (by dsimp only; omega) (by dsimp only; omega) h)
  dsimp only at e
  rw [written (iblk m c 0 ⟨n + 1, hn⟩) (iblk m c 1 ⟨n + 1, hn⟩)] at e
  exact e

/-- The result's entry: the sum over all the rows. -/
theorem total_at (a : Fin 1024) (k : Fin 7040) : G2 m c (ix2 a k) = ∑ r : Fin 8192, (aH m c (ix2 r a) * aD m c (ix2 r k) : EReal) := by
  have hp : pt2Of (ix2 a k) = 4 * (k.val / 1408) + 3 := by
    show 4 * (5 * (a.val / 1024 - 0) + 1 * (k.val / 1408 - 0)) + 3 = _
    omega
  have hN : pt2Of (ix2 a k) < cfg0.N := by rw [hp, steps]; omega
  have hl : loc2Of (ix2 a k) = ix2 a (⟨k.val % 1408, Nat.mod_lt _ (by decide)⟩ : Fin 1408) := by
    funext d
    apply Fin.ext
    match d with
    | ⟨0, _⟩ => exact Nat.mod_eq_of_lt a.isLt
    | ⟨1, _⟩ => rfl
  unfold G2
  rw [dif_pos hN, ← outsAt0_sweep m c _ hN, hl]
  refine (written_sum (p := 4) (by decide) (fun n h => (outsAt0 m c n h).2 (ix2 a _)) (fun n h => (outsAt0 m c n h).1 (ix2 a _))
    (fun n h => prod m c ⟨n, h⟩ (ix2 a _)) (term m c a k) (fun n h e => congrFun (begins m c ⟨n, h⟩ e) _)
    (fun n h e e' => congrFun (goes_on m c n h e e') _) (fun n h e => congrFun (ends m c n h e) _)
    (fun n h e => step_at m c ⟨n, h⟩ a _ k (by rw [e]; exact (Nat.div_add_mod' _ _).symm)) _ hN (by omega) (by omega)).trans ?_
  rw [← Fin.sum_univ_eq_sum_range (term m c a k) 8192]
  exact Finset.sum_congr rfl fun r _ => dif_pos r.isLt

/-- It is the reference's. -/
theorem same (u : FVec Ideal Cert.ReferenceDwIdeal.S8192x1024 .bf16) (v : FVec Ideal Cert.ReferenceDwIdeal.S8192x7040 .bf16) (hu : u = aH m c) (hv : v = aD m c) :
    transpose Cert.ReferenceDwIdeal.S1024x7040 [1, 0] (Host.dotGeneral Cert.ReferenceDwIdeal.dot_S8192x7040_S8192x1024_S7040x1024_0_0_1_1_n_n none (extf .f32 v Cert.ReferenceDwIdeal.Gen.bitsLt_bf16_f32) (extf .f32 u Cert.ReferenceDwIdeal.Gen.bitsLt_bf16_f32)) Cert.ReferenceDwIdeal.Gen.transposes_S7040x1024_S1024x7040_1_0 = G2 m c := by
  subst hu hv
  exact same_entries fun a k => Eq.trans (by pointwise []) ((Finset.sum_congr rfl fun r _ => mul_comm (aD m c (ix2 r k)) _).trans (total_at m c a k).symm)

end Whole

end Cert.KernelDwIdeal.Sum

end
-- ==== Proof.Dh.lean ====
module

public import proofs.«01_k».proof.Proof.Gen.KernelDhIdeal.Value
public import proofs.«01_k».proof.Proof.Gen.ReferenceDhIdeal.Run
public import proofs.«01_k».proof.Proof.Steps

/-! The gradient of the input projection's input. Each block of the result's rows is summed over five blocks of columns in a
buffer the kernel carries from step to step; the last step of the five writes the sum out. -/

@[expose] public section

set_option maxRecDepth 16384

noncomputable section

namespace Cert.KernelDhIdeal.Sum

open Cert.KernelDhIdeal Cert.KernelDhIdeal.Gen Cert.KernelDhIdeal.Value
open Idealize.ShloMosaic Idealize.SL.Sem
open Idealize.ShloMosaic.TcCoe
open Cert.Steps (at_origin ld_all same_entries written_sum)

section Step

variable {c : Dev nD} {i : grid0.Coords} {r0 : Memref sig .tc .vmem S1024x1408 .bf16} {h0 : r0.IsWhole}
  {r1 : Memref sig .tc .vmem S1024x1408 .bf16} {h1 : r1.IsWhole} {r2 : Memref sig .tc .vmem S1024x1024 .f32} {h2 : r2.IsWhole}
  {r3 : Memref sig .tc .vmem S1024x1024 .f32} {h3 : r3.IsWhole}
  (x : FVec Ideal S1024x1408 .bf16) (y : FVec Ideal S1024x1408 .bf16) (s : FVec Ideal S1024x1024 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- A step between adds its product to the sum carried. -/
theorem between {ha : ¬cond0_0 i} {hb : cond0_1 i} {hc : ¬cond0_2 i} :
    sout0_B_0 (F := Ideal) c i r0 h0 r1 h1 r2 h2 r3 h3 ha hb hc x y s = addf s (k0_pay1 (F := Ideal) x y) := by
  unfold sout0_B_0
  rw [View.read_writes_eq_canon _ _ _ (scover0_B_0 (F := Ideal) c i r0 h0 r1 h1 r2 h2 r3 h3 ha hb hc x y s)]
  unfold kernelRun0_B
  dsimp only
  rw [View.canon_unit_zero at_origin]
  simp only [k0_pay3, View.readAt_eq_ld, h0.read_unread, h1.read_unread, h3.read_unread, ld_all, shapeCast_self]

/-- The last step does so too, and writes the sum out. -/
theorem written {ha : ¬cond0_0 i} {hb : cond0_1 i} {hc : cond0_2 i} :
    out0_C_2 (F := Ideal) c i r0 h0 r1 h1 r2 h2 r3 h3 ha hb hc x y s = addf s (k0_pay1 (F := Ideal) x y) := by
  unfold out0_C_2
  rw [View.read_writes_eq_canon _ _ _ (cover0_C_2 (F := Ideal) c i r0 h0 r1 h1 r2 h2 r3 h3 ha hb hc x y s)]
  unfold kernelRun0_C
  dsimp only
  sl_unfold_words
  rw [View.canon_unit_zero at_origin]
  simp only [k0_pay3, View.readAt_eq_ld, h0.read_unread, h1.read_unread, h3.read_unread, ld_all, shapeCast_self]
  exact View.readCov_unit_zero (S := S1024x1024) _ at_origin _ _

/-- A step's product at an entry: the sum over the step's columns. -/
theorem prod_at (a b : Fin 1024) : k0_pay1 (F := Ideal) x y (ix2 a b) = ∑ r : Fin 1408, (x (ix2 a r) * y (ix2 b r) : EReal) := by
  unfold k0_pay1
  pointwise []

end Step

section Whole

variable (m : (ℓ : Loc nD τ sig) → Buf (Elt Ideal) ℓ) (c : Dev nD)

/-- The two arguments of the call. -/
def aD : FVec Ideal S8192x7040 .bf16 := m (c, Proc.devRef .tc main_arg0)
def aW : FVec Ideal S1024x7040 .bf16 := m (c, Proc.devRef .tc main_arg1)

theorem steps : cfg0.N = 40 := N_0
theorem idxD : ∀ t : Fin cfg0.N, (cfg0.win (0 : Fin 3)).index t = ![t.val / 5, t.val % 5] := (by decide +kernel : ∀ t : Fin grid0.N, _)
theorem idxW : ∀ t : Fin cfg0.N, (cfg0.win (1 : Fin 3)).index t = ![0, t.val % 5] := (by decide +kernel : ∀ t : Fin grid0.N, _)

theorem blkD (t : Fin cfg0.N) (a : Fin 1024) (r : Fin 1408) : iblk m c 0 t (ix2 a r)
    = aD m c (ix2 (⟨t.val / 5 * 1024 + a, by have := t.isLt; have := steps; omega⟩ : Fin 8192) (⟨t.val % 5 * 1408 + r, by omega⟩ : Fin 7040)) := by
  unfold iblk
  rw [View.read_apply]
  refine congrArg (aD m c) ?_
  blk_ext [idxD t]

theorem blkW (t : Fin cfg0.N) (b : Fin 1024) (r : Fin 1408) : iblk m c 1 t (ix2 b r) = aW m c (ix2 b (⟨t.val % 5 * 1408 + r, by omega⟩ : Fin 7040)) := by
  unfold iblk
  rw [View.read_apply]
  refine congrArg (aW m c) ?_
  blk_ext [idxW t]

/-- A column's term of the result's entry in row `k` and column `b`; zero past the columns there are. -/
def term (k : Fin 8192) (b : Fin 1024) (r : ℕ) : EReal := if h : r < 7040 then aD m c (ix2 k (⟨r, h⟩ : Fin 7040)) * aW m c (ix2 b (⟨r, h⟩ : Fin 7040)) else 0

/-- A step's product. -/
abbrev prod (t : Fin cfg0.N) : FVec Ideal S1024x1024 .f32 := k0_pay1 (iblk m c 0 t) (iblk m c 1 t)

/-- A step's product adds the terms of the step's columns. -/
theorem step_at (t : Fin cfg0.N) (a b : Fin 1024) (k : Fin 8192) (hk : k.val = t.val / 5 * 1024 + a) :
    prod m c t (ix2 a b) = ∑ r ∈ Finset.range 1408, term m c k b (t.val % 5 * 1408 + r) := by
  have ek : (⟨t.val / 5 * 1024 + a, hk ▸ k.isLt⟩ : Fin 8192) = k := Fin.ext hk.symm
  rw [show prod m c t (ix2 a b) = _ from prod_at _ _ a b, ← Fin.sum_univ_eq_sum_range (fun r => term m c k b (t.val % 5 * 1408 + r)) 1408]
  refine Finset.sum_congr rfl fun r _ => ?_
  unfold term
  rw [dif_pos (by omega), blkD, blkW, ek]

/-- What the first step of a block carries. -/
theorem begins (t : Fin cfg0.N) (h : t.val % 5 = 0) : (outsAt0 m c t.val t.isLt).2 = prod m c t := by
  have e := congrArg Prod.snd (outsAt0_A m c t h (by omega) (by omega))
  dsimp only at e
  rw [first (iblk m c 0 t) (iblk m c 1 t)] at e
  exact e

/-- What a step between carries. -/
theorem goes_on (n : ℕ) (hn : n + 1 < cfg0.N) (h : (n + 1) % 5 ≠ 0) (h3 : (n + 1) % 5 ≠ 4) : (outsAt0 m c (n + 1) hn).2
    = addf (outsAt0 m c n (Nat.lt_of_succ_lt hn)).2 (prod m c ⟨n + 1, hn⟩) := by
  have e := congrArg Prod.snd (outsAt0_B m c ⟨n + 1, hn⟩ h (Nat.one_le_iff_ne_zero.2 h) h3)
  dsimp only at e
  rw [between (iblk m c 0 ⟨n + 1, hn⟩) (iblk m c 1 ⟨n + 1, hn⟩)] at e
  exact e

/-- What the last step of a block writes out. -/
theorem ends (n : ℕ) (hn : n + 1 < cfg0.N) (h : (n + 1) % 5 = 4) : (outsAt0 m c (n + 1) hn).1
    = addf (outsAt0 m c n (Nat.lt_of_succ_lt hn)).2 (prod m c ⟨n + 1, hn⟩) := by
  have e := congrArg Prod.fst (outsAt0_C m c ⟨n + 1, hn⟩ (by dsimp only; omega) (by dsimp only; omega) h)
  dsimp only at e
  rw [written (iblk m c 0 ⟨n + 1, hn⟩) (iblk m c 1 ⟨n + 1, hn⟩)] at e
  exact e

/-- The result's entry: the sum over all the columns. -/
theorem total_at (k : Fin 8192) (b : Fin 1024) : G2 m c (ix2 k b) = ∑ r : Fin 7040, (aD m c (ix2 k r) * aW m c (ix2 b r) : EReal) := by
  have hp : pt2Of (ix2 k b) = 5 * (k.val / 1024) + 4 := by
    show 5 * (1 * (k.val / 1024 - 0) + 1 * (b.val / 1024 - 0)) + 4 = _
    omega
  have hN : pt2Of (ix2 k b) < cfg0.N := by rw [hp, steps]; omega
  have hl : loc2Of (ix2 k b) = ix2 (⟨k.val % 1024, Nat.mod_lt _ (by decide)⟩ : Fin 1024) b := by
    funext d
    apply Fin.ext
    match d with
    | ⟨0, _⟩ => rfl
    | ⟨1, _⟩ => exact Nat.mod_eq_of_lt b.isLt
  unfold G2
  rw [dif_pos hN, ← outsAt0_sweep m c _ hN, hl]
  refine (written_sum (p := 5) (by decide) (fun n h => (outsAt0 m c n h).2 (ix2 _ b)) (fun n h => (outsAt0 m c n h).1 (ix2 _ b))
    (fun n h => prod m c ⟨n, h⟩ (ix2 _ b)) (term m c k b) (fun n h e => congrFun (begins m c ⟨n, h⟩ e) _)
    (fun n h e e' => congrFun (goes_on m c n h e e') _) (fun n h e => congrFun (ends m c n h e) _)
    (fun n h e => step_at m c ⟨n, h⟩ _ b k (by rw [e]; exact (Nat.div_add_mod' _ _).symm)) _ hN (by omega) (by omega)).trans ?_
  rw [← Fin.sum_univ_eq_sum_range (term m c k b) 7040]
  exact Finset.sum_congr rfl fun r _ => dif_pos r.isLt

/-- It is the reference's. -/
theorem same (u : FVec Ideal Cert.ReferenceDhIdeal.S8192x7040 .bf16) (v : FVec Ideal Cert.ReferenceDhIdeal.S1024x7040 .bf16) (hu : u = aD m c) (hv : v = aW m c) :
    Host.dotGeneral Cert.ReferenceDhIdeal.dot_S8192x7040_S1024x7040_S8192x1024_1_1_0_0_n_n none (extf .f32 u Cert.ReferenceDhIdeal.Gen.bitsLt_bf16_f32) (extf .f32 v Cert.ReferenceDhIdeal.Gen.bitsLt_bf16_f32) = G2 m c := by
  subst hu hv
  exact same_entries fun k b => Eq.trans (by pointwise []) (total_at m c k b).symm

end Whole

end Cert.KernelDhIdeal.Sum

end
-- ==== Proof.Proj.lean ====
module

public import proofs.«01_k».proof.Proof.Gen.KernelProjIdeal.Value
public import proofs.«01_k».proof.Proof.Gen.ReferenceProjIdeal.Run
public import proofs.«01_k».proof.Proof.Steps

/-! The input projection: each step multiplies a block of rows by a block of the weight's columns. -/

@[expose] public section

noncomputable section

namespace Cert.KernelProjIdeal.Whole

open Cert.KernelProjIdeal Cert.KernelProjIdeal.Gen Cert.KernelProjIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S1024x7040 .bf16 := m (c, Proc.devRef .tc main_arg1)

theorem steps : cfg0.N = 20 := by decide +kernel
theorem idx : ∀ t : Fin cfg0.N, (cfg0.win (0 : Fin 3)).index t = ![t.val / 5, 0] ∧ (cfg0.win (1 : Fin 3)).index t = ![0, t.val % 5]
    ∧ (cfg0.win (2 : Fin 3)).index t = ![t.val / 5, t.val % 5] ∧ (cfg0.win (2 : Fin 3)).flush t = true := (by decide +kernel : ∀ t : Fin grid0.N, _)

/-- A step's block of the result, at an entry: the sum of the products along the block's row and column. -/
theorem block_at (t : Fin cfg0.N) (a : Fin 2048) (b : Fin 1408) (i : Fin 8192) (k : Fin 7040) (hi : i.val = t.val / 5 * 2048 + a) (hk : k.val = t.val % 5 * 1408 + b) :
    out0_2 (F := Ideal) (iblk m c 0 t) (iblk m c 1 t) (ix2 a b) = ∑ r : Fin 1024, (aH m c (ix2 i r) * aW m c (ix2 r k) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 r b) = aW m c (ix2 r k) := fun r => by
    unfold iblk
    rw [View.read_apply]
    refine congrArg (aW m c) ?_
    blk_ext [(idx t).2.1]
  have e : ∀ (x : FVec Ideal S2048x1024 .bf16) (y : FVec Ideal S1024x1408 .bf16), out0_2 (F := Ideal) x y (ix2 a b) = ∑ r : Fin 1024, (x (ix2 a r) * y (ix2 r b) : EReal) := fun x y => by
    unfold out0_2
    rw [View.canon_unit_zero at_origin, View.ld_unit_zero (S := S2048x1024) at_origin, View.ld_unit_zero (S := S1024x1408) at_origin]
    unfold k0_pay1
    pointwise []
  rw [e]
  exact Finset.sum_congr rfl fun r _ => congrArg₂ (fun p q : EReal => p * q) (hH r) (hW r)

/-- The result's entry. -/
theorem total_at (i : Fin 8192) (k : Fin 7040) : (dats m 0 c).arrAt 2 cfg0.N (ix2 i k) = ∑ r : Fin 1024, (aH m c (ix2 i r) * aW m c (ix2 r k) : EReal) := by
  obtain ⟨t, ht⟩ : ∃ t : Fin cfg0.N, t.val = i.val / 2048 * 5 + k.val / 1408 := ⟨⟨i.val / 2048 * 5 + k.val / 1408, by rw [steps]; omega⟩, rfl⟩
  have h := congrFun (blocks2 m c t (idx t).2.2.2) (ix2 (⟨i.val % 2048, Nat.mod_lt _ (by decide)⟩ : Fin 2048) (⟨k.val % 1408, Nat.mod_lt _ (by decide)⟩ : Fin 1408))
  rw [View.read_apply, flushed2] at h
  refine Eq.trans (congrArg ((dats m 0 c).arrAt 2 cfg0.N) ?_) (h.trans (block_at m c t _ _ i k ?_ ?_))
  · blk_ext [(idx t).2.2.1]
  · show i.val = t.val / 5 * 2048 + i.val % 2048; omega
  · show k.val = t.val % 5 * 1408 + k.val % 1408; omega

/-- It is the reference's. -/
theorem same (u : FVec Ideal Cert.ReferenceProjIdeal.S8192x1024 .bf16) (v : FVec Ideal Cert.ReferenceProjIdeal.S1024x7040 .bf16) (hu : u = aH m c) (hv : v = aW m c) :
    Host.dotGeneral Cert.ReferenceProjIdeal.dot_S8192x1024_S1024x7040_S8192x7040_1_0_0_1_n_n none (extf .f32 u Cert.ReferenceProjIdeal.Gen.bitsLt_bf16_f32) (extf .f32 v Cert.ReferenceProjIdeal.Gen.bitsLt_bf16_f32) = (dats m 0 c).arrAt 2 cfg0.N := by
  subst hu hv
  exact same_entries fun i k => Eq.trans (by pointwise []) (total_at m c i k).symm

end Cert.KernelProjIdeal.Whole

end
-- ==== Proof.Gu.lean ====
module

public import proofs.«01_k».proof.Proof.Gen.KernelGuIdeal.Value
public import proofs.«01_k».proof.Proof.Gen.ReferenceGuIdeal.Run
public import proofs.«01_k».proof.Proof.Steps

/-! The gate and up projection of the feed-forward net: each step multiplies a block of rows by a block of the weight's columns. -/

@[expose] public section

noncomputable section

namespace Cert.KernelGuIdeal.Whole

open Cert.KernelGuIdeal Cert.KernelGuIdeal.Gen Cert.KernelGuIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S1024x6144 .bf16 := m (c, Proc.devRef .tc main_arg1)

theorem steps : cfg0.N = 16 := by decide +kernel
theorem idx : ∀ t : Fin cfg0.N, (cfg0.win (0 : Fin 3)).index t = ![t.val / 4, 0] ∧ (cfg0.win (1 : Fin 3)).index t = ![0, t.val % 4]
    ∧ (cfg0.win (2 : Fin 3)).index t = ![t.val / 4, t.val % 4] ∧ (cfg0.win (2 : Fin 3)).flush t = true := (by decide +kernel : ∀ t : Fin grid0.N, _)

/-- A step's block of the result, at an entry: the sum of the products along the block's row and column. -/
theorem block_at (t : Fin cfg0.N) (a : Fin 2048) (b : Fin 1536) (i : Fin 8192) (k : Fin 6144) (hi : i.val = t.val / 4 * 2048 + a) (hk : k.val = t.val % 4 * 1536 + b) :
    out0_2 (F := Ideal) (iblk m c 0 t) (iblk m c 1 t) (ix2 a b) = ∑ r : Fin 1024, (aH m c (ix2 i r) * aW m c (ix2 r k) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 r b) = aW m c (ix2 r k) := fun r => by
    unfold iblk
    rw [View.read_apply]
    refine congrArg (aW m c) ?_
    blk_ext [(idx t).2.1]
  have e : ∀ (x : FVec Ideal S2048x1024 .bf16) (y : FVec Ideal S1024x1536 .bf16), out0_2 (F := Ideal) x y (ix2 a b) = ∑ r : Fin 1024, (x (ix2 a r) * y (ix2 r b) : EReal) := fun x y => by
    unfold out0_2
    rw [View.canon_unit_zero at_origin, View.ld_unit_zero (S := S2048x1024) at_origin, View.ld_unit_zero (S := S1024x1536) at_origin]
    unfold k0_pay1
    pointwise []
  rw [e]
  exact Finset.sum_congr rfl fun r _ => congrArg₂ (fun p q : EReal => p * q) (hH r) (hW r)

/-- The result's entry. -/
theorem total_at (i : Fin 8192) (k : Fin 6144) : (dats m 0 c).arrAt 2 cfg0.N (ix2 i k) = ∑ r : Fin 1024, (aH m c (ix2 i r) * aW m c (ix2 r k) : EReal) := by
  obtain ⟨t, ht⟩ : ∃ t : Fin cfg0.N, t.val = i.val / 2048 * 4 + k.val / 1536 := ⟨⟨i.val / 2048 * 4 + k.val / 1536, by rw [steps]; omega⟩, rfl⟩
  have h := congrFun (blocks2 m c t (idx t).2.2.2) (ix2 (⟨i.val % 2048, Nat.mod_lt _ (by decide)⟩ : Fin 2048) (⟨k.val % 1536, Nat.mod_lt _ (by decide)⟩ : Fin 1536))
  rw [View.read_apply, flushed2] at h
  refine Eq.trans (congrArg ((dats m 0 c).arrAt 2 cfg0.N) ?_) (h.trans (block_at m c t _ _ i k ?_ ?_))
  · blk_ext [(idx t).2.2.1]
  · show i.val = t.val / 4 * 2048 + i.val % 2048; omega
  · show k.val = t.val % 4 * 1536 + k.val % 1536; omega

/-- It is the reference's. -/
theorem same (u : FVec Ideal Cert.ReferenceGuIdeal.S8192x1024 .bf16) (v : FVec Ideal Cert.ReferenceGuIdeal.S1024x6144 .bf16) (hu : u = aH m c) (hv : v = aW m c) :
    Host.dotGeneral Cert.ReferenceGuIdeal.dot_S8192x1024_S1024x6144_S8192x6144_1_0_0_1_n_n none (extf .f32 u Cert.ReferenceGuIdeal.Gen.bitsLt_bf16_f32) (extf .f32 v Cert.ReferenceGuIdeal.Gen.bitsLt_bf16_f32) = (dats m 0 c).arrAt 2 cfg0.N := by
  subst hu hv
  exact same_entries fun i k => Eq.trans (by pointwise []) (total_at m c i k).symm

end Cert.KernelGuIdeal.Whole

end
-- ==== Proof.Dh1.lean ====
module

public import proofs.«01_k».proof.Proof.Gen.KernelDh1Ideal.Value
public import proofs.«01_k».proof.Proof.Gen.ReferenceDh1Ideal.Run
public import proofs.«01_k».proof.Proof.Steps

/-! The gradient of the down projection's input: each step multiplies a block of rows by a block of the weight's rows. -/

@[expose] public section

noncomputable section

namespace Cert.KernelDh1Ideal.Whole

open Cert.KernelDh1Ideal Cert.KernelDh1Ideal.Gen Cert.KernelDh1Ideal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S3072x1024 .bf16 := m (c, Proc.devRef .tc main_arg1)

theorem steps : cfg0.N = 8 := by decide +kernel
theorem idx : ∀ t : Fin cfg0.N, (cfg0.win (0 : Fin 3)).index t = ![t.val / 2, 0] ∧ (cfg0.win (1 : Fin 3)).index t = ![t.val % 2, 0]
    ∧ (cfg0.win (2 : Fin 3)).index t = ![t.val / 2, t.val % 2] ∧ (cfg0.win (2 : Fin 3)).flush t = true := (by decide +kernel : ∀ t : Fin grid0.N, _)

/-- A step's block of the result, at an entry: the sum of the products along the two rows. -/
theorem block_at (t : Fin cfg0.N) (a : Fin 2048) (b : Fin 1536) (i : Fin 8192) (k : Fin 3072) (hi : i.val = t.val / 2 * 2048 + a) (hk : k.val = t.val % 2 * 1536 + b) :
    out0_2 (F := Ideal) (iblk m c 0 t) (iblk m c 1 t) (ix2 a b) = ∑ r : Fin 1024, (aH m c (ix2 i r) * aW m c (ix2 k r) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 b r) = aW m c (ix2 k r) := fun r => by
    unfold iblk
    rw [View.read_apply]
    refine congrArg (aW m c) ?_
    blk_ext [(idx t).2.1]
  have e : ∀ (x : FVec Ideal S2048x1024 .bf16) (y : FVec Ideal S1536x1024 .bf16), out0_2 (F := Ideal) x y (ix2 a b) = ∑ r : Fin 1024, (x (ix2 a r) * y (ix2 b r) : EReal) := fun x y => by
    unfold out0_2
    rw [View.canon_unit_zero at_origin, View.ld_unit_zero (S := S2048x1024) at_origin, View.ld_unit_zero (S := S1536x1024) at_origin]
    unfold k0_pay1
    pointwise []
  rw [e]
  exact Finset.sum_congr rfl fun r _ => congrArg₂ (fun p q : EReal => p * q) (hH r) (hW r)

/-- The result's entry. -/
theorem total_at (i : Fin 8192) (k : Fin 3072) : (dats m 0 c).arrAt 2 cfg0.N (ix2 i k) = ∑ r : Fin 1024, (aH m c (ix2 i r) * aW m c (ix2 k r) : EReal) := by
  obtain ⟨t, ht⟩ : ∃ t : Fin cfg0.N, t.val = i.val / 2048 * 2 + k.val / 1536 := ⟨⟨i.val / 2048 * 2 + k.val / 1536, by rw [steps]; omega⟩, rfl⟩
  have h := congrFun (blocks2 m c t (idx t).2.2.2) (ix2 (⟨i.val % 2048, Nat.mod_lt _ (by decide)⟩ : Fin 2048) (⟨k.val % 1536, Nat.mod_lt _ (by decide)⟩ : Fin 1536))
  rw [View.read_apply, flushed2] at h
  refine Eq.trans (congrArg ((dats m 0 c).arrAt 2 cfg0.N) ?_) (h.trans (block_at m c t _ _ i k ?_ ?_))
  · blk_ext [(idx t).2.2.1]
  · show i.val = t.val / 2 * 2048 + i.val % 2048; omega
  · show k.val = t.val % 2 * 1536 + k.val % 1536; omega

/-- It is the reference's. -/
theorem same (u : FVec Ideal Cert.ReferenceDh1Ideal.S8192x1024 .bf16) (v : FVec Ideal Cert.ReferenceDh1Ideal.S3072x1024 .bf16) (hu : u = aH m c) (hv : v = aW m c) :
    Host.dotGeneral Cert.ReferenceDh1Ideal.dot_S8192x1024_S3072x1024_S8192x3072_1_1_0_0_n_n none (extf .f32 u Cert.ReferenceDh1Ideal.Gen.bitsLt_bf16_f32) (extf .f32 v Cert.ReferenceDh1Ideal.Gen.bitsLt_bf16_f32) = (dats m 0 c).arrAt 2 cfg0.N := by
  subst hu hv
  exact same_entries fun i k => Eq.trans (by pointwise []) (total_at m c i k).symm

end Cert.KernelDh1Ideal.Whole

end
-- ==== Proof.Dgate.lean ====
module

public import proofs.«01_k».proof.Proof.Gen.KernelDgateIdeal.Value
public import proofs.«01_k».proof.Proof.Gen.ReferenceDgateIdeal.Run
public import proofs.«01_k».proof.Proof.Steps

/-! The gate weight's gradient. Each column block of the result is summed over four blocks of rows in a
buffer the kernel carries from step to step; the last step of the four writes the sum out. -/

@[expose] public section

set_option maxRecDepth 16384

noncomputable section

namespace Cert.KernelDgateIdeal.Sum

open Cert.KernelDgateIdeal Cert.KernelDgateIdeal.Gen Cert.KernelDgateIdeal.Value
open Idealize.ShloMosaic Idealize.SL.Sem
open Idealize.ShloMosaic.TcCoe
open Cert.Steps (at_origin ld_all same_entries written_sum)

section Step

variable {c : Dev nD} {i : grid0.Coords} {r0 : Memref sig .tc .vmem S2048x1024 .bf16} {h0 : r0.IsWhole}
  {r1 : Memref sig .tc .vmem S2048x1536 .bf16} {h1 : r1.IsWhole} {r2 : Memref sig .tc .vmem S1024x1536 .f32} {h2 : r2.IsWhole}
  {r3 : Memref sig .tc .vmem S1024x1536 .f32} {h3 : r3.IsWhole}
  (x : FVec Ideal S2048x1024 .bf16) (y : FVec Ideal S2048x1536 .bf16) (s : FVec Ideal S1024x1536 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- A step between adds its product to the sum carried. -/
theorem between {ha : ¬cond0_0 i} {hb : cond0_1 i} {hc : ¬cond0_2 i} :
    sout0_B_0 (F := Ideal) c i r0 h0 r1 h1 r2 h2 r3 h3 ha hb hc x y s = addf s (k0_pay1 (F := Ideal) x y) := by
  unfold sout0_B_0
  rw [View.read_writes_eq_canon _ _ _ (scover0_B_0 (F := Ideal) c i r0 h0 r1 h1 r2 h2 r3 h3 ha hb hc x y s)]
  unfold kernelRun0_B
  dsimp only
  rw [View.canon_unit_zero at_origin]
  simp only [k0_pay3, View.readAt_eq_ld, h0.read_unread, h1.read_unread, h3.read_unread, ld_all, shapeCast_self]

/-- The last step does so too, and writes the sum out. -/
theorem written {ha : ¬cond0_0 i} {hb : cond0_1 i} {hc : cond0_2 i} :
    out0_C_2 (F := Ideal) c i r0 h0 r1 h1 r2 h2 r3 h3 ha hb hc x y s = addf s (k0_pay1 (F := Ideal) x y) := by
  unfold out0_C_2
  rw [View.read_writes_eq_canon _ _ _ (cover0_C_2 (F := Ideal) c i r0 h0 r1 h1 r2 h2 r3 h3 ha hb hc x y s)]
  unfold kernelRun0_C
  dsimp only
  sl_unfold_words
  rw [View.canon_unit_zero at_origin]
  simp only [k0_pay3, View.readAt_eq_ld, h0.read_unread, h1.read_unread, h3.read_unread, ld_all, shapeCast_self]
  exact View.readCov_unit_zero (S := S1024x1536) _ at_origin _ _

/-- A step's product at an entry: the sum over the step's rows. -/
theorem prod_at (a : Fin 1024) (b : Fin 1536) : k0_pay1 (F := Ideal) x y (ix2 a b) = ∑ r : Fin 2048, (x (ix2 r a) * y (ix2 r b) : EReal) := by
  unfold k0_pay1
  pointwise []

end Step

section Whole

variable (m : (ℓ : Loc nD τ sig) → Buf (Elt Ideal) ℓ) (c : Dev nD)

/-- The two arguments of the call. -/
def aH : FVec Ideal S8192x1024 .bf16 := m (c, Proc.devRef .tc main_arg0)
def aD : FVec Ideal S8192x3072 .bf16 := m (c, Proc.devRef .tc main_arg1)

theorem steps : cfg0.N = 8 := N_0
theorem idxH : ∀ t : Fin cfg0.N, (cfg0.win (0 : Fin 3)).index t = ![t.val % 4, 0] := (by decide +kernel : ∀ t : Fin grid0.N, _)
theorem idxD : ∀ t : Fin cfg0.N, (cfg0.win (1 : Fin 3)).index t = ![t.val % 4, t.val / 4] := (by decide +kernel : ∀ t : Fin grid0.N, _)

theorem blkH (t : Fin cfg0.N) (r : Fin 2048) (a : Fin 1024) : iblk m c 0 t (ix2 r a) = aH m c (ix2 (⟨t.val % 4 * 2048 + r, by omega⟩ : Fin 8192) a) := by
  unfold iblk
  rw [View.read_apply]
  refine congrArg (aH m c) ?_
  blk_ext [idxH t]

theorem blkD (t : Fin cfg0.N) (r : Fin 2048) (b : Fin 1536) : iblk m c 1 t (ix2 r b)
    = aD m c (ix2 (⟨t.val % 4 * 2048 + r, by omega⟩ : Fin 8192) (⟨t.val / 4 * 1536 + b, by have := t.isLt; have := steps; omega⟩ : Fin 3072)) := by
  unfold iblk
  rw [View.read_apply]
  refine congrArg (aD m c) ?_
  blk_ext [idxD t]

/-- A row's term of the result's entry in row `a` and column `k`; zero past the rows there are. -/
def term (a : Fin 1024) (k : Fin 3072) (r : ℕ) : EReal := if h : r < 8192 then aH m c (ix2 (⟨r, h⟩ : Fin 8192) a) * aD m c (ix2 (⟨r, h⟩ : Fin 8192) k) else 0

/-- A step's product. -/
abbrev prod (t : Fin cfg0.N) : FVec Ideal S1024x1536 .f32 := k0_pay1 (iblk m c 0 t) (iblk m c 1 t)

/-- A step's product adds the terms of the step's rows. -/
theorem step_at (t : Fin cfg0.N) (a : Fin 1024) (b : Fin 1536) (k : Fin 3072) (hk : k.val = t.val / 4 * 1536 + b) :
    prod m c t (ix2 a b) = ∑ r ∈ Finset.range 2048, term m c a k (t.val % 4 * 2048 + r) := by
  have ek : (⟨t.val / 4 * 1536 + b, hk ▸ k.isLt⟩ : Fin 3072) = k := Fin.ext hk.symm
  rw [show prod m c t (ix2 a b) = _ from prod_at _ _ a b, ← Fin.sum_univ_eq_sum_range (fun r => term m c a k (t.val % 4 * 2048 + r)) 2048]
  refine Finset.sum_congr rfl fun r _ => ?_
  unfold term
  rw [dif_pos (by omega), blkH, blkD, ek]

/-- What the first step of a block carries. -/
theorem begins (t : Fin cfg0.N) (h : t.val % 4 = 0) : (outsAt0 m c t.val t.isLt).2 = prod m c t := by
  have e := congrArg Prod.snd (outsAt0_A m c t h (by omega) (by omega))
  dsimp only at e
  rw [first (iblk m c 0 t) (iblk m c 1 t)] at e
  exact e

/-- What a step between carries. -/
theorem goes_on (n : ℕ) (hn : n + 1 < cfg0.N) (h : (n + 1) % 4 ≠ 0) (h3 : (n + 1) % 4 ≠ 3) : (outsAt0 m c (n + 1) hn).2
    = addf (outsAt0 m c n (Nat.lt_of_succ_lt hn)).2 (prod m c ⟨n + 1, hn⟩) := by
  have e := congrArg Prod.snd (outsAt0_B m c ⟨n + 1, hn⟩ h (Nat.one_le_iff_ne_zero.2 h) h3)
  dsimp only at e
  rw [between (iblk m c 0 ⟨n + 1, hn⟩) (iblk m c 1 ⟨n + 1, hn⟩)] at e
  exact e

/-- What the last step of a block writes out. -/
theorem ends (n : ℕ) (hn : n + 1 < cfg0.N) (h : (n + 1) % 4 = 3) : (outsAt0 m c (n + 1) hn).1
    = addf (outsAt0 m c n (Nat.lt_of_succ_lt hn)).2 (prod m c ⟨n + 1, hn⟩) := by
  have e := congrArg Prod.fst (outsAt0_C m c ⟨n + 1, hn⟩ (by dsimp only; omega) (by dsimp only; omega) h)
  dsimp only at e
  rw [written (iblk m c 0 ⟨n + 1, hn⟩) (iblk m c 1 ⟨n + 1, hn⟩)] at e
  exact e

/-- The result's entry: the sum over all the rows. -/
theorem total_at (a : Fin 1024) (k : Fin 3072) : G2 m c (ix2 a k) = ∑ r : Fin 8192, (aH m c (ix2 r a) * aD m c (ix2 r k) : EReal) := by
  have hp : pt2Of (ix2 a k) = 4 * (k.val / 1536) + 3 := by
    show 4 * (2 * (a.val / 1024 - 0) + 1 * (k.val / 1536 - 0)) + 3 = _
    omega
  have hN : pt2Of (ix2 a k) < cfg0.N := by rw [hp, steps]; omega
  have hl : loc2Of (ix2 a k) = ix2 a (⟨k.val % 1536, Nat.mod_lt _ (by decide)⟩ : Fin 1536) := by
    funext d
    apply Fin.ext
    match d with
    | ⟨0, _⟩ => exact Nat.mod_eq_of_lt a.isLt
    | ⟨1, _⟩ => rfl
  unfold G2
  rw [dif_pos hN, ← outsAt0_sweep m c _ hN, hl]
  refine (written_sum (p := 4) (by decide) (fun n h => (outsAt0 m c n h).2 (ix2 a _)) (fun n h => (outsAt0 m c n h).1 (ix2 a _))
    (fun n h => prod m c ⟨n, h⟩ (ix2 a _)) (term m c a k) (fun n h e => congrFun (begins m c ⟨n, h⟩ e) _)
    (fun n h e e' => congrFun (goes_on m c n h e e') _) (fun n h e => congrFun (ends m c n h e) _)
    (fun n h e => step_at m c ⟨n, h⟩ a _ k (by rw [e]; exact (Nat.div_add_mod' _ _).symm)) _ hN (by omega) (by omega)).trans ?_
  rw [← Fin.sum_univ_eq_sum_range (term m c a k) 8192]
  exact Finset.sum_congr rfl fun r _ => dif_pos r.isLt

/-- It is the reference's. -/
theorem same (u : FVec Ideal Cert.ReferenceDgateIdeal.S8192x1024 .bf16) (v : FVec Ideal Cert.ReferenceDgateIdeal.S8192x3072 .bf16) (hu : u = aH m c) (hv : v = aD m c) :
    transpose Cert.ReferenceDgateIdeal.S1024x3072 [1, 0] (Host.dotGeneral Cert.ReferenceDgateIdeal.dot_S8192x3072_S8192x1024_S3072x1024_0_0_1_1_n_n none (extf .f32 v Cert.ReferenceDgateIdeal.Gen.bitsLt_bf16_f32) (extf .f32 u Cert.ReferenceDgateIdeal.Gen.bitsLt_bf16_f32)) Cert.ReferenceDgateIdeal.Gen.transposes_S3072x1024_S1024x3072_1_0 = G2 m c := by
  subst hu hv
  exact same_entries fun a k => Eq.trans (by pointwise []) ((Finset.sum_congr rfl fun r _ => mul_comm (aD m c (ix2 r k)) _).trans (total_at m c a k).symm)

end Whole

end Cert.KernelDgateIdeal.Sum

end
-- ==== Proof.Ddown.lean ====
module

public import proofs.«01_k».proof.Proof.Gen.KernelDdownIdeal.Value
public import proofs.«01_k».proof.Proof.Gen.ReferenceDdownIdeal.Run
public import proofs.«01_k».proof.Proof.Steps

/-! The down weight's gradient. Each row block of the result is summed over four blocks of rows in a
buffer the kernel carries from step to step; the last step of the four writes the sum out. -/

@[expose] public section

set_option maxRecDepth 16384

noncomputable section

namespace Cert.KernelDdownIdeal.Sum

open Cert.KernelDdownIdeal Cert.KernelDdownIdeal.Gen Cert.KernelDdownIdeal.Value
open Idealize.ShloMosaic Idealize.SL.Sem
open Idealize.ShloMosaic.TcCoe
open Cert.Steps (at_origin ld_all same_entries written_sum)

section Step

variable {c : Dev nD} {i : grid0.Coords} {r0 : Memref sig .tc .vmem S2048x1024 .bf16} {h0 : r0.IsWhole}
  {r1 : Memref sig .tc .vmem S2048x1024 .bf16} {h1 : r1.IsWhole} {r2 : Memref sig .tc .vmem S1024x1024 .f32} {h2 : r2.IsWhole}
  {r3 : Memref sig .tc .vmem S1024x1024 .f32} {h3 : r3.IsWhole}
  (x : FVec Ideal S2048x1024 .bf16) (y : FVec Ideal S2048x1024 .bf16) (s : FVec Ideal S1024x1024 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- A step between adds its product to the sum carried. -/
theorem between {ha : ¬cond0_0 i} {hb : cond0_1 i} {hc : ¬cond0_2 i} :
    sout0_B_0 (F := Ideal) c i r0 h0 r1 h1 r2 h2 r3 h3 ha hb hc x y s = addf s (k0_pay1 (F := Ideal) x y) := by
  unfold sout0_B_0
  rw [View.read_writes_eq_canon _ _ _ (scover0_B_0 (F := Ideal) c i r0 h0 r1 h1 r2 h2 r3 h3 ha hb hc x y s)]
  unfold kernelRun0_B
  dsimp only
  rw [View.canon_unit_zero at_origin]
  simp only [k0_pay3, View.readAt_eq_ld, h0.read_unread, h1.read_unread, h3.read_unread, ld_all, shapeCast_self]

/-- The last step does so too, and writes the sum out. -/
theorem written {ha : ¬cond0_0 i} {hb : cond0_1 i} {hc : cond0_2 i} :
    out0_C_2 (F := Ideal) c i r0 h0 r1 h1 r2 h2 r3 h3 ha hb hc x y s = addf s (k0_pay1 (F := Ideal) x y) := by
  unfold out0_C_2
  rw [View.read_writes_eq_canon _ _ _ (cover0_C_2 (F := Ideal) c i r0 h0 r1 h1 r2 h2 r3 h3 ha hb hc x y s)]
  unfold kernelRun0_C
  dsimp only
  sl_unfold_words
  rw [View.canon_unit_zero at_origin]
  simp only [k0_pay3, View.readAt_eq_ld, h0.read_unread, h1.read_unread, h3.read_unread, ld_all, shapeCast_self]
  exact View.readCov_unit_zero (S := S1024x1024) _ at_origin _ _

/-- A step's product at an entry: the sum over the step's rows. -/
theorem prod_at (a b : Fin 1024) : k0_pay1 (F := Ideal) x y (ix2 a b) = ∑ r : Fin 2048, (x (ix2 r a) * y (ix2 r b) : EReal) := by
  unfold k0_pay1
  pointwise []

end Step

section Whole

variable (m : (ℓ : Loc nD τ sig) → Buf (Elt Ideal) ℓ) (c : Dev nD)

/-- The two arguments of the call. -/
def aH : FVec Ideal S8192x3072 .bf16 := m (c, Proc.devRef .tc main_arg0)
def aD : FVec Ideal S8192x1024 .bf16 := m (c, Proc.devRef .tc main_arg1)

theorem steps : cfg0.N = 12 := N_0
theorem idxH : ∀ t : Fin cfg0.N, (cfg0.win (0 : Fin 3)).index t = ![t.val % 4, t.val / 4] := (by decide +kernel : ∀ t : Fin grid0.N, _)
theorem idxD : ∀ t : Fin cfg0.N, (cfg0.win (1 : Fin 3)).index t = ![t.val % 4, 0] := (by decide +kernel : ∀ t : Fin grid0.N, _)

theorem blkH (t : Fin cfg0.N) (r : Fin 2048) (a : Fin 1024) : iblk m c 0 t (ix2 r a)
    = aH m c (ix2 (⟨t.val % 4 * 2048 + r, by omega⟩ : Fin 8192) (⟨t.val / 4 * 1024 + a, by have := t.isLt; have := steps; omega⟩ : Fin 3072)) := by
  unfold iblk
  rw [View.read_apply]
  refine congrArg (aH m c) ?_
  blk_ext [idxH t]

theorem blkD (t : Fin cfg0.N) (r : Fin 2048) (b : Fin 1024) : iblk m c 1 t (ix2 r b) = aD m c (ix2 (⟨t.val % 4 * 2048 + r, by omega⟩ : Fin 8192) b) := by
  unfold iblk
  rw [View.read_apply]
  refine congrArg (aD m c) ?_
  blk_ext [idxD t]

/-- A row's term of the result's entry in row `k` and column `b`; zero past the rows there are. -/
def term (k : Fin 3072) (b : Fin 1024) (r : ℕ) : EReal := if h : r < 8192 then aH m c (ix2 (⟨r, h⟩ : Fin 8192) k) * aD m c (ix2 (⟨r, h⟩ : Fin 8192) b) else 0

/-- A step's product. -/
abbrev prod (t : Fin cfg0.N) : FVec Ideal S1024x1024 .f32 := k0_pay1 (iblk m c 0 t) (iblk m c 1 t)

/-- A step's product adds the terms of the step's rows. -/
theorem step_at (t : Fin cfg0.N) (a b : Fin 1024) (k : Fin 3072) (hk : k.val = t.val / 4 * 1024 + a) :
    prod m c t (ix2 a b) = ∑ r ∈ Finset.range 2048, term m c k b (t.val % 4 * 2048 + r) := by
  have ek : (⟨t.val / 4 * 1024 + a, hk ▸ k.isLt⟩ : Fin 3072) = k := Fin.ext hk.symm
  rw [show prod m c t (ix2 a b) = _ from prod_at _ _ a b, ← Fin.sum_univ_eq_sum_range (fun r => term m c k b (t.val % 4 * 2048 + r)) 2048]
  refine Finset.sum_congr rfl fun r _ => ?_
  unfold term
  rw [dif_pos (by omega), blkH, blkD, ek]

/-- What the first step of a block carries. -/
theorem begins (t : Fin cfg0.N) (h : t.val % 4 = 0) : (outsAt0 m c t.val t.isLt).2 = prod m c t := by
  have e := congrArg Prod.snd (outsAt0_A m c t h (by omega) (by omega))
  dsimp only at e
  rw [first (iblk m c 0 t) (iblk m c 1 t)] at e
  exact e

/-- What a step between carries. -/
theorem goes_on (n : ℕ) (hn : n + 1 < cfg0.N) (h : (n + 1) % 4 ≠ 0) (h3 : (n + 1) % 4 ≠ 3) : (outsAt0 m c (n + 1) hn).2
    = addf (outsAt0 m c n (Nat.lt_of_succ_lt hn)).2 (prod m c ⟨n + 1, hn⟩) := by
  have e := congrArg Prod.snd (outsAt0_B m c ⟨n + 1, hn⟩ h (Nat.one_le_iff_ne_zero.2 h) h3)
  dsimp only at e
  rw [between (iblk m c 0 ⟨n + 1, hn⟩) (iblk m c 1 ⟨n + 1, hn⟩)] at e
  exact e

/-- What the last step of a block writes out. -/
theorem ends (n : ℕ) (hn : n + 1 < cfg0.N) (h : (n + 1) % 4 = 3) : (outsAt0 m c (n + 1) hn).1
    = addf (outsAt0 m c n (Nat.lt_of_succ_lt hn)).2 (prod m c ⟨n + 1, hn⟩) := by
  have e := congrArg Prod.fst (outsAt0_C m c ⟨n + 1, hn⟩ (by dsimp only; omega) (by dsimp only; omega) h)
  dsimp only at e
  rw [written (iblk m c 0 ⟨n + 1, hn⟩) (iblk m c 1 ⟨n + 1, hn⟩)] at e
  exact e

/-- The result's entry: the sum over all the rows. -/
theorem total_at (k : Fin 3072) (b : Fin 1024) : G2 m c (ix2 k b) = ∑ r : Fin 8192, (aH m c (ix2 r k) * aD m c (ix2 r b) : EReal) := by
  have hp : pt2Of (ix2 k b) = 4 * (k.val / 1024) + 3 := by
    show 4 * (1 * (k.val / 1024 - 0) + 1 * (b.val / 1024 - 0)) + 3 = _
    omega
  have hN : pt2Of (ix2 k b) < cfg0.N := by rw [hp, steps]; omega
  have hl : loc2Of (ix2 k b) = ix2 (⟨k.val % 1024, Nat.mod_lt _ (by decide)⟩ : Fin 1024) b := by
    funext d
    apply Fin.ext
    match d with
    | ⟨0, _⟩ => rfl
    | ⟨1, _⟩ => exact Nat.mod_eq_of_lt b.isLt
  unfold G2
  rw [dif_pos hN, ← outsAt0_sweep m c _ hN, hl]
  refine (written_sum (p := 4) (by decide) (fun n h => (outsAt0 m c n h).2 (ix2 _ b)) (fun n h => (outsAt0 m c n h).1 (ix2 _ b))
    (fun n h => prod m c ⟨n, h⟩ (ix2 _ b)) (term m c k b) (fun n h e => congrFun (begins m c ⟨n, h⟩ e) _)
    (fun n h e e' => congrFun (goes_on m c n h e e') _) (fun n h e => congrFun (ends m c n h e) _)
    (fun n h e => step_at m c ⟨n, h⟩ _ b k (by rw [e]; exact (Nat.div_add_mod' _ _).symm)) _ hN (by omega) (by omega)).trans ?_
  rw [← Fin.sum_univ_eq_sum_range (term m c k b) 8192]
  exact Finset.sum_congr rfl fun r _ => dif_pos r.isLt

/-- It is the reference's. -/
theorem same (u : FVec Ideal Cert.ReferenceDdownIdeal.S8192x3072 .bf16) (v : FVec Ideal Cert.ReferenceDdownIdeal.S8192x1024 .bf16) (hu : u = aH m c) (hv : v = aD m c) :
    transpose Cert.ReferenceDdownIdeal.S3072x1024 [1, 0] (Host.dotGeneral Cert.ReferenceDdownIdeal.dot_S8192x1024_S8192x3072_S1024x3072_0_0_1_1_n_n none (extf .f32 v Cert.ReferenceDdownIdeal.Gen.bitsLt_bf16_f32) (extf .f32 u Cert.ReferenceDdownIdeal.Gen.bitsLt_bf16_f32)) Cert.ReferenceDdownIdeal.Gen.transposes_S1024x3072_S3072x1024_1_0 = G2 m c := by
  subst hu hv
  exact same_entries fun k b => Eq.trans (by pointwise []) ((Finset.sum_congr rfl fun r _ => mul_comm (aD m c (ix2 r b)) _).trans (total_at m c k b).symm)

end Whole

end Cert.KernelDdownIdeal.Sum

end
-- ==== Proof.Dxg.lean ====
module

public import proofs.«01_k».proof.Proof.Gen.KernelDxgIdeal.Value
public import proofs.«01_k».proof.Proof.Gen.ReferenceDxgIdeal.Run
public import proofs.«01_k».proof.Proof.Steps

/-! The part of the gradient of the feed-forward net's input that comes through the gate projection. Each block of the result's rows
is summed over two blocks of columns; the second step writes the sum out. -/

@[expose] public section

set_option maxRecDepth 16384

noncomputable section

namespace Cert.KernelDxgIdeal.Sum

open Cert.KernelDxgIdeal Cert.KernelDxgIdeal.Gen Cert.KernelDxgIdeal.Value
open Idealize.ShloMosaic Idealize.SL.Sem
open Idealize.ShloMosaic.TcCoe
open Cert.Steps (at_origin ld_all same_entries sum_before_last)

section Step

variable {c : Dev nD} {i : grid0.Coords} {r0 : Memref sig .tc .vmem S1024x1536 .bf16} {h0 : r0.IsWhole}
  {r1 : Memref sig .tc .vmem S1024x1536 .bf16} {h1 : r1.IsWhole} {r2 : Memref sig .tc .vmem S1024x1024 .f32} {h2 : r2.IsWhole}
  {r3 : Memref sig .tc .vmem S1024x1024 .f32} {h3 : r3.IsWhole}
  (x : FVec Ideal S1024x1536 .bf16) (y : FVec Ideal S1024x1536 .bf16) (s : FVec Ideal S1024x1024 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- The second adds its product and writes the sum out. -/
theorem written {ha : ¬cond0_0 i} {hb : cond0_1 i} {hc : cond0_2 i} :
    out0_B_2 (F := Ideal) c i r0 h0 r1 h1 r2 h2 r3 h3 ha hb hc x y s = addf s (k0_pay1 (F := Ideal) x y) := by
  unfold out0_B_2
  rw [View.read_writes_eq_canon _ _ _ (cover0_B_2 (F := Ideal) c i r0 h0 r1 h1 r2 h2 r3 h3 ha hb hc x y s)]
  unfold kernelRun0_B
  dsimp only
  sl_unfold_words
  rw [View.canon_unit_zero at_origin]
  simp only [k0_pay3, View.readAt_eq_ld, h0.read_unread, h1.read_unread, h3.read_unread, ld_all, shapeCast_self]
  exact View.readCov_unit_zero (S := S1024x1024) _ at_origin _ _

/-- A step's product at an entry: the sum over the step's columns. -/
theorem prod_at (a b : Fin 1024) : k0_pay1 (F := Ideal) x y (ix2 a b) = ∑ r : Fin 1536, (x (ix2 a r) * y (ix2 b r) : EReal) := by
  unfold k0_pay1
  pointwise []

end Step

section Whole

variable (m : (ℓ : Loc nD τ sig) → Buf (Elt Ideal) ℓ) (c : Dev nD)

/-- The arguments of the call. -/
def aD : FVec Ideal S8192x3072 .bf16 := m (c, Proc.devRef .tc main_arg0)
def aW : FVec Ideal S1024x3072 .bf16 := m (c, Proc.devRef .tc main_arg1)

theorem steps : cfg0.N = 16 := N_0
theorem idx : ∀ t : Fin cfg0.N, (cfg0.win (0 : Fin 3)).index t = ![t.val / 2, t.val % 2] ∧ (cfg0.win (1 : Fin 3)).index t = ![0, t.val % 2] := (by decide +kernel : ∀ t : Fin grid0.N, _)

/-- A column's term of the result's entry in row `k` and column `b`; zero past the columns there are. -/
def term (k : Fin 8192) (b : Fin 1024) (r : ℕ) : EReal := if h : r < 3072 then aD m c (ix2 k (⟨r, h⟩ : Fin 3072)) * aW m c (ix2 b (⟨r, h⟩ : Fin 3072)) else 0

/-- A step's product. -/
abbrev prod (t : Fin cfg0.N) : FVec Ideal S1024x1024 .f32 := k0_pay1 (iblk m c 0 t) (iblk m c 1 t)

/-- A step's product adds the terms of the step's columns. -/
theorem step_at (t : Fin cfg0.N) (a b : Fin 1024) (k : Fin 8192) (hk : k.val = t.val / 2 * 1024 + a) :
    prod m c t (ix2 a b) = ∑ r ∈ Finset.range 1536, term m c k b (t.val % 2 * 1536 + r) := by
  rw [show prod m c t (ix2 a b) = _ from prod_at _ _ a b, ← Fin.sum_univ_eq_sum_range (fun r => term m c k b (t.val % 2 * 1536 + r)) 1536]
  refine Finset.sum_congr rfl fun r _ => ?_
  unfold term
  rw [dif_pos (by omega)]
  unfold iblk
  rw [View.read_apply, View.read_apply]
  refine congrArg₂ (fun p q : EReal => p * q) (congrArg (aD m c) ?_) (congrArg (aW m c) ?_)
  · blk_ext [(idx t).1]
  · blk_ext [(idx t).2]

/-- What the first step of a block carries. -/
theorem begins (t : Fin cfg0.N) (h : t.val % 2 = 0) : (outsAt0 m c t.val t.isLt).2 = prod m c t := by
  have e := congrArg Prod.snd (outsAt0_A m c t h (by omega) (by omega))
  dsimp only at e
  rw [first (iblk m c 0 t) (iblk m c 1 t)] at e
  exact e

/-- What the second writes out. -/
theorem ends (n : ℕ) (hn : n + 1 < cfg0.N) (h : (n + 1) % 2 = 1) : (outsAt0 m c (n + 1) hn).1
    = addf (outsAt0 m c n (Nat.lt_of_succ_lt hn)).2 (prod m c ⟨n + 1, hn⟩) := by
  have e := congrArg Prod.fst (outsAt0_B m c ⟨n + 1, hn⟩ (by dsimp only; omega) h h)
  dsimp only at e
  rw [written (iblk m c 0 ⟨n + 1, hn⟩) (iblk m c 1 ⟨n + 1, hn⟩)] at e
  exact e

/-- The result's entry: the sum over all the columns. -/
theorem total_at (k : Fin 8192) (b : Fin 1024) : G2 m c (ix2 k b) = ∑ r : Fin 3072, (aD m c (ix2 k r) * aW m c (ix2 b r) : EReal) := by
  have hr : run2Of (ix2 k b) = k.val / 1024 := by
    show 1 * (k.val / 1024 - 0) + 1 * (b.val / 1024 - 0) = _
    omega
  have hp : pt2Of (ix2 k b) = 2 * (k.val / 1024) + 1 := congrArg (fun q => 2 * q + 1) hr
  have hN : pt2Of (ix2 k b) < cfg0.N := by rw [hp, steps]; omega
  have hl : loc2Of (ix2 k b) = ix2 (⟨k.val % 1024, Nat.mod_lt _ (by decide)⟩ : Fin 1024) b := by
    funext d
    apply Fin.ext
    match d with
    | ⟨0, _⟩ => rfl
    | ⟨1, _⟩ => exact Nat.mod_eq_of_lt b.isLt
  unfold G2
  rw [dif_pos hN, ← outsAt0_sweep m c _ hN, hl]
  refine (congrFun (ends m c (2 * run2Of (ix2 k b)) hN (by omega)) _).trans ?_
  refine (sum_before_last (p := 2) (by decide) (fun n h => (outsAt0 m c n h).2 (ix2 _ b)) (fun n h => prod m c ⟨n, h⟩ (ix2 _ b)) (term m c k b)
    (fun n h e => congrFun (begins m c ⟨n, h⟩ e) _) (fun n h e e' => by omega)
    (fun n h e => step_at m c ⟨n, h⟩ _ b k (by rw [e]; exact (Nat.div_add_mod' _ _).symm)) _ hN (by omega) (by omega)).trans ?_
  rw [← Fin.sum_univ_eq_sum_range (term m c k b) 3072]
  exact Finset.sum_congr rfl fun r _ => dif_pos r.isLt

/-- It is the reference's. -/
theorem same (u : FVec Ideal Cert.ReferenceDxgIdeal.S8192x3072 .bf16) (v : FVec Ideal Cert.ReferenceDxgIdeal.S1024x3072 .bf16) (hu : u = aD m c) (hv : v = aW m c) :
    Host.dotGeneral Cert.ReferenceDxgIdeal.dot_S8192x3072_S1024x3072_S8192x1024_1_1_0_0_n_n none (extf .f32 u Cert.ReferenceDxgIdeal.Gen.bitsLt_bf16_f32) (extf .f32 v Cert.ReferenceDxgIdeal.Gen.bitsLt_bf16_f32) = G2 m c := by
  subst hu hv
  exact same_entries fun k b => Eq.trans (by pointwise []) (total_at m c k b).symm

end Whole

end Cert.KernelDxgIdeal.Sum

end
-- ==== Proof.Dxu.lean ====
module

public import proofs.«01_k».proof.Proof.Gen.KernelDxuIdeal.Value
public import proofs.«01_k».proof.Proof.Gen.ReferenceDxuIdeal.Run
public import proofs.«01_k».proof.Proof.Steps

/-! The part of the gradient of the feed-forward net's input that comes through the up projection, added to the gate's. Each block
of the result's rows is summed over two blocks of columns; the second step adds the gate's part and writes the sum out. -/

@[expose] public section

set_option maxRecDepth 16384

noncomputable section

namespace Cert.KernelDxuIdeal.Sum

open Cert.KernelDxuIdeal Cert.KernelDxuIdeal.Gen Cert.KernelDxuIdeal.Value
open Idealize.ShloMosaic Idealize.SL.Sem
open Idealize.ShloMosaic.TcCoe
open Cert.Steps (at_origin ld_all same_entries sum_before_last)

section Step

variable {c : Dev nD} {i : grid0.Coords} {r0 : Memref sig .tc .vmem S1024x1536 .bf16} {h0 : r0.IsWhole}
  {r1 : Memref sig .tc .vmem S1024x1536 .bf16} {h1 : r1.IsWhole} {r2 : Memref sig .tc .vmem S1024x1024 .f32} {h2 : r2.IsWhole}
  {r3 : Memref sig .tc .vmem S1024x1024 .f32} {h3 : r3.IsWhole} {r4 : Memref sig .tc .vmem S1024x1024 .f32} {h4 : r4.IsWhole}
  (x : FVec Ideal S1024x1536 .bf16) (y : FVec Ideal S1024x1536 .bf16) (z s : FVec Ideal S1024x1024 .f32)

/-- The first step of a block leaves its own product. -/
theorem first {ha : cond0_0 i} {hb : ¬cond0_1 i} {hc : ¬cond0_2 i} :
    sout0_A_0 (F := Ideal) c i r0 h0 r1 h1 r2 h2 r3 h3 r4 h4 ha hb hc x y z = k0_pay1 (F := Ideal) x y := by
  unfold sout0_A_0
  rw [View.read_writes_eq_canon _ _ _ (scover0_A_0 (F := Ideal) c i r0 h0 r1 h1 r2 h2 r3 h3 r4 h4 ha hb hc x y z)]
  unfold kernelRun0_A
  dsimp only
  rw [View.canon_unit_zero at_origin]
  simp only [k0_pay2, View.readAt_eq_ld, h0.read_unread, h1.read_unread, ld_all, shapeCast_self]

/-- The second adds its product and the array given, and writes the sum out. -/
theorem written {ha : ¬cond0_0 i} {hb : cond0_1 i} {hc : cond0_2 i} :
    out0_B_3 (F := Ideal) c i r0 h0 r1 h1 r2 h2 r3 h3 r4 h4 ha hb hc x y z s = addf (addf s (k0_pay1 (F := Ideal) x y)) z := by
  unfold out0_B_3
  rw [View.read_writes_eq_canon _ _ _ (cover0_B_3 (F := Ideal) c i r0 h0 r1 h1 r2 h2 r3 h3 r4 h4 ha hb hc x y z s)]
  unfold kernelRun0_B
  dsimp only
  sl_unfold_words
  rw [View.canon_unit_zero at_origin]
  simp only [k0_pay3, k0_pay4, View.readAt_eq_ld, h0.read_unread, h1.read_unread, h2.read_unread, h4.read_unread, ld_all, shapeCast_self]
  exact congrArg (fun u => addf u z) (View.readCov_unit_zero (S := S1024x1024) _ at_origin _ _)

/-- A step's product at an entry: the sum over the step's columns. -/
theorem prod_at (a b : Fin 1024) : k0_pay1 (F := Ideal) x y (ix2 a b) = ∑ r : Fin 1536, (x (ix2 a r) * y (ix2 b r) : EReal) := by
  unfold k0_pay1
  pointwise []

end Step

section Whole

variable (m : (ℓ : Loc nD τ sig) → Buf (Elt Ideal) ℓ) (c : Dev nD)

/-- The arguments of the call. -/
def aD : FVec Ideal S8192x3072 .bf16 := m (c, Proc.devRef .tc main_arg0)
def aW : FVec Ideal S1024x3072 .bf16 := m (c, Proc.devRef .tc main_arg1)
def aX : FVec Ideal S8192x1024 .f32 := m (c, Proc.devRef .tc main_arg2)

theorem steps : cfg0.N = 16 := N_0
theorem idx : ∀ t : Fin cfg0.N, (cfg0.win (0 : Fin 4)).index t = ![t.val / 2, t.val % 2] ∧ (cfg0.win (1 : Fin 4)).index t = ![0, t.val % 2]
    ∧ (cfg0.win (2 : Fin 4)).index t = ![t.val / 2, 0] := (by decide +kernel : ∀ t : Fin grid0.N, _)

/-- A column's term of the result's entry in row `k` and column `b`; zero past the columns there are. -/
def term (k : Fin 8192) (b : Fin 1024) (r : ℕ) : EReal := if h : r < 3072 then aD m c (ix2 k (⟨r, h⟩ : Fin 3072)) * aW m c (ix2 b (⟨r, h⟩ : Fin 3072)) else 0

/-- A step's product. -/
abbrev prod (t : Fin cfg0.N) : FVec Ideal S1024x1024 .f32 := k0_pay1 (iblk m c 0 t) (iblk m c 1 t)

/-- A step's product adds the terms of the step's columns. -/
theorem step_at (t : Fin cfg0.N) (a b : Fin 1024) (k : Fin 8192) (hk : k.val = t.val / 2 * 1024 + a) :
    prod m c t (ix2 a b) = ∑ r ∈ Finset.range 1536, term m c k b (t.val % 2 * 1536 + r) := by
  rw [show prod m c t (ix2 a b) = _ from prod_at _ _ a b, ← Fin.sum_univ_eq_sum_range (fun r => term m c k b (t.val % 2 * 1536 + r)) 1536]
  refine Finset.sum_congr rfl fun r _ => ?_
  unfold term
  rw [dif_pos (by omega)]
  unfold iblk
  rw [View.read_apply, View.read_apply]
  refine congrArg₂ (fun p q : EReal => p * q) (congrArg (aD m c) ?_) (congrArg (aW m c) ?_)
  · blk_ext [(idx t).1]
  · blk_ext [(idx t).2.1]

/-- What the first step of a block carries. -/
theorem begins (t : Fin cfg0.N) (h : t.val % 2 = 0) : (outsAt0 m c t.val t.isLt).2 = prod m c t := by
  have e := congrArg Prod.snd (outsAt0_A m c t h (by omega) (by omega))
  dsimp only at e
  rw [first (iblk m c 0 t) (iblk m c 1 t)] at e
  exact e

/-- What the second writes out. -/
theorem ends (n : ℕ) (hn : n + 1 < cfg0.N) (h : (n + 1) % 2 = 1) : (outsAt0 m c (n + 1) hn).1
    = addf (addf (outsAt0 m c n (Nat.lt_of_succ_lt hn)).2 (prod m c ⟨n + 1, hn⟩)) (iblk m c 2 ⟨n + 1, hn⟩ : FVec Ideal S1024x1024 .f32) := by
  have e := congrArg Prod.fst (outsAt0_B m c ⟨n + 1, hn⟩ (by dsimp only; omega) h h)
  dsimp only at e
  rw [written (iblk m c 0 ⟨n + 1, hn⟩) (iblk m c 1 ⟨n + 1, hn⟩)] at e
  exact e

/-- The result's entry: the sum over all the columns, and the entry of the array given. -/
theorem total_at (k : Fin 8192) (b : Fin 1024) : G3 m c (ix2 k b) = (∑ r : Fin 3072, (aD m c (ix2 k r) * aW m c (ix2 b r) : EReal)) + aX m c (ix2 k b) := by
  have hr : run3Of (ix2 k b) = k.val / 1024 := by
    show 1 * (k.val / 1024 - 0) + 1 * (b.val / 1024 - 0) = _
    omega
  have hp : pt3Of (ix2 k b) = 2 * (k.val / 1024) + 1 := congrArg (fun q => 2 * q + 1) hr
  have hN : pt3Of (ix2 k b) < cfg0.N := by rw [hp, steps]; omega
  have hl : loc3Of (ix2 k b) = ix2 (⟨k.val % 1024, Nat.mod_lt _ (by decide)⟩ : Fin 1024) b := by
    funext d
    apply Fin.ext
    match d with
    | ⟨0, _⟩ => rfl
    | ⟨1, _⟩ => exact Nat.mod_eq_of_lt b.isLt
  unfold G3
  rw [dif_pos hN, ← outsAt0_sweep m c _ hN, hl]
  refine (congrFun (ends m c (2 * run3Of (ix2 k b)) hN (by omega)) _).trans (congrArg₂ (fun p q : EReal => p + q) ?_ ?_)
  · refine (sum_before_last (p := 2) (by decide) (fun n h => (outsAt0 m c n h).2 (ix2 _ b)) (fun n h => prod m c ⟨n, h⟩ (ix2 _ b)) (term m c k b)
      (fun n h e => congrFun (begins m c ⟨n, h⟩ e) _) (fun n h e e' => by omega)
      (fun n h e => step_at m c ⟨n, h⟩ _ b k (by rw [e]; exact (Nat.div_add_mod' _ _).symm)) _ hN (by omega) (by omega)).trans ?_
    rw [← Fin.sum_univ_eq_sum_range (term m c k b) 3072]
    exact Finset.sum_congr rfl fun r _ => dif_pos r.isLt
  · unfold iblk
    rw [View.read_apply]
    refine congrArg (aX m c) ?_
    have ht : ∀ t : Fin cfg0.N, t.val = 2 * (k.val / 1024) + 1 → t.val / 2 * 1024 + k.val % 1024 = k.val := fun t e => by omega
    have := ht ⟨_, hN⟩ hp
    blk_ext [(idx ⟨pt3Of (ix2 k b), hN⟩).2.2]

/-- It is the reference's. -/
theorem same (u : FVec Ideal Cert.ReferenceDxuIdeal.S8192x3072 .bf16) (v : FVec Ideal Cert.ReferenceDxuIdeal.S1024x3072 .bf16) (w : FVec Ideal Cert.ReferenceDxuIdeal.S8192x1024 .f32) (hu : u = aD m c) (hv : v = aW m c) (hw : w = aX m c) :
    addf (Host.dotGeneral Cert.ReferenceDxuIdeal.dot_S8192x3072_S1024x3072_S8192x1024_1_1_0_0_n_n none (extf .f32 u Cert.ReferenceDxuIdeal.Gen.bitsLt_bf16_f32) (extf .f32 v Cert.ReferenceDxuIdeal.Gen.bitsLt_bf16_f32)) w = G3 m c := by
  subst hu hv hw
  exact same_entries fun k b => Eq.trans (by pointwise []) (total_at m c k b).symm

end Whole

end Cert.KernelDxuIdeal.Sum

end
-- ==== Proof.Down.lean ====
module

public import proofs.«01_k».proof.Proof.Gen.KernelDownIdeal.Value
public import proofs.«01_k».proof.Proof.Gen.ReferenceDownIdeal.Run
public import proofs.«01_k».proof.Proof.Steps

/-! The feed-forward net's down projection added to the stream it joins. Each block of the result's rows is summed over two blocks
of the inner index; the second step adds the stream and writes the sum out. -/

@[expose] public section

set_option maxRecDepth 16384

noncomputable section

namespace Cert.KernelDownIdeal.Sum

open Cert.KernelDownIdeal Cert.KernelDownIdeal.Gen Cert.KernelDownIdeal.Value
open Idealize.ShloMosaic Idealize.SL.Sem
open Idealize.ShloMosaic.TcCoe
open Cert.Steps (at_origin ld_all same_entries sum_before_last)

section Step

variable {c : Dev nD} {i : grid0.Coords} {r0 : Memref sig .tc .vmem S1024x1536 .bf16} {h0 : r0.IsWhole}
  {r1 : Memref sig .tc .vmem S1536x1024 .bf16} {h1 : r1.IsWhole} {r2 : Memref sig .tc .vmem S1024x1024 .f32} {h2 : r2.IsWhole}
  {r3 : Memref sig .tc .vmem S1024x1024 .f32} {h3 : r3.IsWhole} {r4 : Memref sig .tc .vmem S1024x1024 .f32} {h4 : r4.IsWhole}
  (x : FVec Ideal S1024x1536 .bf16) (y : FVec Ideal S1536x1024 .bf16) (z s : FVec Ideal S1024x1024 .f32)

/-- The first step of a block leaves its own product. -/
theorem first {ha : cond0_0 i} {hb : ¬cond0_1 i} {hc : ¬cond0_2 i} :
    sout0_A_0 (F := Ideal) c i r0 h0 r1 h1 r2 h2 r3 h3 r4 h4 ha hb hc x y z = k0_pay1 (F := Ideal) x y := by
  unfold sout0_A_0
  rw [View.read_writes_eq_canon _ _ _ (scover0_A_0 (F := Ideal) c i r0 h0 r1 h1 r2 h2 r3 h3 r4 h4 ha hb hc x y z)]
  unfold kernelRun0_A
  dsimp only
  rw [View.canon_unit_zero at_origin]
  simp only [k0_pay2, View.readAt_eq_ld, h0.read_unread, h1.read_unread, ld_all, shapeCast_self]

/-- The second adds its product and the array given, and writes the sum out. -/
theorem written {ha : ¬cond0_0 i} {hb : cond0_1 i} {hc : cond0_2 i} :
    out0_B_3 (F := Ideal) c i r0 h0 r1 h1 r2 h2 r3 h3 r4 h4 ha hb hc x y z s = addf (addf s (k0_pay1 (F := Ideal) x y)) z := by
  unfold out0_B_3
  rw [View.read_writes_eq_canon _ _ _ (cover0_B_3 (F := Ideal) c i r0 h0 r1 h1 r2 h2 r3 h3 r4 h4 ha hb hc x y z s)]
  unfold kernelRun0_B
  dsimp only
  sl_unfold_words
  rw [View.canon_unit_zero at_origin]
  simp only [k0_pay3, k0_pay4, View.readAt_eq_ld, h0.read_unread, h1.read_unread, h2.read_unread, h4.read_unread, ld_all, shapeCast_self]
  exact congrArg (fun u => addf u z) (View.readCov_unit_zero (S := S1024x1024) _ at_origin _ _)

/-- A step's product at an entry: the sum over the step's part of the inner index. -/
theorem prod_at (a b : Fin 1024) : k0_pay1 (F := Ideal) x y (ix2 a b) = ∑ r : Fin 1536, (x (ix2 a r) * y (ix2 r b) : EReal) := by
  unfold k0_pay1
  pointwise []

end Step

section Whole

variable (m : (ℓ : Loc nD τ sig) → Buf (Elt Ideal) ℓ) (c : Dev nD)

/-- The arguments of the call. -/
def aD : FVec Ideal S8192x3072 .bf16 := m (c, Proc.devRef .tc main_arg0)
def aW : FVec Ideal S3072x1024 .bf16 := m (c, Proc.devRef .tc main_arg1)
def aX : FVec Ideal S8192x1024 .f32 := m (c, Proc.devRef .tc main_arg2)

theorem steps : cfg0.N = 16 := N_0
theorem idx : ∀ t : Fin cfg0.N, (cfg0.win (0 : Fin 4)).index t = ![t.val / 2, t.val % 2] ∧ (cfg0.win (1 : Fin 4)).index t = ![t.val % 2, 0]
    ∧ (cfg0.win (2 : Fin 4)).index t = ![t.val / 2, 0] := (by decide +kernel : ∀ t : Fin grid0.N, _)

/-- A term of the result's entry in row `k` and column `b`; zero past the terms there are. -/
def term (k : Fin 8192) (b : Fin 1024) (r : ℕ) : EReal := if h : r < 3072 then aD m c (ix2 k (⟨r, h⟩ : Fin 3072)) * aW m c (ix2 (⟨r, h⟩ : Fin 3072) b) else 0

/-- A step's product. -/
abbrev prod (t : Fin cfg0.N) : FVec Ideal S1024x1024 .f32 := k0_pay1 (iblk m c 0 t) (iblk m c 1 t)

/-- A step's product adds the terms of the step's part of the inner index. -/
theorem step_at (t : Fin cfg0.N) (a b : Fin 1024) (k : Fin 8192) (hk : k.val = t.val / 2 * 1024 + a) :
    prod m c t (ix2 a b) = ∑ r ∈ Finset.range 1536, term m c k b (t.val % 2 * 1536 + r) := by
  rw [show prod m c t (ix2 a b) = _ from prod_at _ _ a b, ← Fin.sum_univ_eq_sum_range (fun r => term m c k b (t.val % 2 * 1536 + r)) 1536]
  refine Finset.sum_congr rfl fun r _ => ?_
  unfold term
  rw [dif_pos (by omega)]
  unfold iblk
  rw [View.read_apply, View.read_apply]
  refine congrArg₂ (fun p q : EReal => p * q) (congrArg (aD m c) ?_) (congrArg (aW m c) ?_)
  · blk_ext [(idx t).1]
  · blk_ext [(idx t).2.1]

/-- What the first step of a block carries. -/
theorem begins (t : Fin cfg0.N) (h : t.val % 2 = 0) : (outsAt0 m c t.val t.isLt).2 = prod m c t := by
  have e := congrArg Prod.snd (outsAt0_A m c t h (by omega) (by omega))
  dsimp only at e
  rw [first (iblk m c 0 t) (iblk m c 1 t)] at e
  exact e

/-- What the second writes out. -/
theorem ends (n : ℕ) (hn : n + 1 < cfg0.N) (h : (n + 1) % 2 = 1) : (outsAt0 m c (n + 1) hn).1
    = addf (addf (outsAt0 m c n (Nat.lt_of_succ_lt hn)).2 (prod m c ⟨n + 1, hn⟩)) (iblk m c 2 ⟨n + 1, hn⟩ : FVec Ideal S1024x1024 .f32) := by
  have e := congrArg Prod.fst (outsAt0_B m c ⟨n + 1, hn⟩ (by dsimp only; omega) h h)
  dsimp only at e
  rw [written (iblk m c 0 ⟨n + 1, hn⟩) (iblk m c 1 ⟨n + 1, hn⟩)] at e
  exact e

/-- The result's entry: the sum over the whole inner index, and the entry of the array given. -/
theorem total_at (k : Fin 8192) (b : Fin 1024) : G3 m c (ix2 k b) = (∑ r : Fin 3072, (aD m c (ix2 k r) * aW m c (ix2 r b) : EReal)) + aX m c (ix2 k b) := by
  have hr : run3Of (ix2 k b) = k.val / 1024 := by
    show 1 * (k.val / 1024 - 0) + 1 * (b.val / 1024 - 0) = _
    omega
  have hp : pt3Of (ix2 k b) = 2 * (k.val / 1024) + 1 := congrArg (fun q => 2 * q + 1) hr
  have hN : pt3Of (ix2 k b) < cfg0.N := by rw [hp, steps]; omega
  have hl : loc3Of (ix2 k b) = ix2 (⟨k.val % 1024, Nat.mod_lt _ (by decide)⟩ : Fin 1024) b := by
    funext d
    apply Fin.ext
    match d with
    | ⟨0, _⟩ => rfl
    | ⟨1, _⟩ => exact Nat.mod_eq_of_lt b.isLt
  unfold G3
  rw [dif_pos hN, ← outsAt0_sweep m c _ hN, hl]
  refine (congrFun (ends m c (2 * run3Of (ix2 k b)) hN (by omega)) _).trans (congrArg₂ (fun p q : EReal => p + q) ?_ ?_)
  · refine (sum_before_last (p := 2) (by decide) (fun n h => (outsAt0 m c n h).2 (ix2 _ b)) (fun n h => prod m c ⟨n, h⟩ (ix2 _ b)) (term m c k b)
      (fun n h e => congrFun (begins m c ⟨n, h⟩ e) _) (fun n h e e' => by omega)
      (fun n h e => step_at m c ⟨n, h⟩ _ b k (by rw [e]; exact (Nat.div_add_mod' _ _).symm)) _ hN (by omega) (by omega)).trans ?_
    rw [← Fin.sum_univ_eq_sum_range (term m c k b) 3072]
    exact Finset.sum_congr rfl fun r _ => dif_pos r.isLt
  · unfold iblk
    rw [View.read_apply]
    refine congrArg (aX m c) ?_
    have ht : ∀ t : Fin cfg0.N, t.val = 2 * (k.val / 1024) + 1 → t.val / 2 * 1024 + k.val % 1024 = k.val := fun t e => by omega
    have := ht ⟨_, hN⟩ hp
    blk_ext [(idx ⟨pt3Of (ix2 k b), hN⟩).2.2]

/-- It is the reference's. -/
theorem same (u : FVec Ideal Cert.ReferenceDownIdeal.S8192x3072 .bf16) (v : FVec Ideal Cert.ReferenceDownIdeal.S3072x1024 .bf16) (w : FVec Ideal Cert.ReferenceDownIdeal.S8192x1024 .f32) (hu : u = aD m c) (hv : v = aW m c) (hw : w = aX m c) :
    addf (Host.dotGeneral Cert.ReferenceDownIdeal.dot_S8192x3072_S3072x1024_S8192x1024_1_0_0_1_n_n none (extf .f32 u Cert.ReferenceDownIdeal.Gen.bitsLt_bf16_f32) (extf .f32 v Cert.ReferenceDownIdeal.Gen.bitsLt_bf16_f32)) w = G3 m c := by
  subst hu hv hw
  exact same_entries fun k b => Eq.trans (by pointwise []) (total_at m c k b).symm

end Whole

end Cert.KernelDownIdeal.Sum

end
-- ==== Proof.Dmix.lean ====
module

public import proofs.«01_k».proof.Proof.Gen.KernelDmixIdeal.Value
public import proofs.«01_k».proof.Proof.Gen.ReferenceDmixIdeal.Run
public import proofs.«01_k».proof.Proof.Steps

/-! The mixing weight's gradient. The result is summed over four blocks of rows in a buffer the kernel
carries from step to step; the last step of the four writes the sum out. -/

@[expose] public section

set_option maxRecDepth 16384

noncomputable section

namespace Cert.KernelDmixIdeal.Sum

open Cert.KernelDmixIdeal Cert.KernelDmixIdeal.Gen Cert.KernelDmixIdeal.Value
open Idealize.ShloMosaic Idealize.SL.Sem
open Idealize.ShloMosaic.TcCoe
open Cert.Steps (at_origin ld_all same_entries written_sum)

section Step

variable {c : Dev nD} {i : grid0.Coords} {r0 : Memref sig .tc .vmem S2048x1024 .bf16} {h0 : r0.IsWhole}
  {r1 : Memref sig .tc .vmem S2048x1024 .bf16} {h1 : r1.IsWhole} {r2 : Memref sig .tc .vmem S1024x1024 .f32} {h2 : r2.IsWhole}
  {r3 : Memref sig .tc .vmem S1024x1024 .f32} {h3 : r3.IsWhole}
  (x : FVec Ideal S2048x1024 .bf16) (y : FVec Ideal S2048x1024 .bf16) (s : FVec Ideal S1024x1024 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- A step between adds its product to the sum carried. -/
theorem between {ha : ¬cond0_0 i} {hb : cond0_1 i} {hc : ¬cond0_2 i} :
    sout0_B_0 (F := Ideal) c i r0 h0 r1 h1 r2 h2 r3 h3 ha hb hc x y s = addf s (k0_pay1 (F := Ideal) x y) := by
  unfold sout0_B_0
  rw [View.read_writes_eq_canon _ _ _ (scover0_B_0 (F := Ideal) c i r0 h0 r1 h1 r2 h2 r3 h3 ha hb hc x y s)]
  unfold kernelRun0_B
  dsimp only
  rw [View.canon_unit_zero at_origin]
  simp only [k0_pay3, View.readAt_eq_ld, h0.read_unread, h1.read_unread, h3.read_unread, ld_all, shapeCast_self]

/-- The last step does so too, and writes the sum out. -/
theorem written {ha : ¬cond0_0 i} {hb : cond0_1 i} {hc : cond0_2 i} :
    out0_C_2 (F := Ideal) c i r0 h0 r1 h1 r2 h2 r3 h3 ha hb hc x y s = addf s (k0_pay1 (F := Ideal) x y) := by
  unfold out0_C_2
  rw [View.read_writes_eq_canon _ _ _ (cover0_C_2 (F := Ideal) c i r0 h0 r1 h1 r2 h2 r3 h3 ha hb hc x y s)]
  unfold kernelRun0_C
  dsimp only
  sl_unfold_words
  rw [View.canon_unit_zero at_origin]
  simp only [k0_pay3, View.readAt_eq_ld, h0.read_unread, h1.read_unread, h3.read_unread, ld_all, shapeCast_self]
  exact View.readCov_unit_zero (S := S1024x1024) _ at_origin _ _

/-- A step's product at an entry: the sum over the step's rows. -/
theorem prod_at (a b : Fin 1024) : k0_pay1 (F := Ideal) x y (ix2 a b) = ∑ r : Fin 2048, (x (ix2 r a) * y (ix2 r b) : EReal) := by
  unfold k0_pay1
  pointwise []

end Step

section Whole

variable (m : (ℓ : Loc nD τ sig) → Buf (Elt Ideal) ℓ) (c : Dev nD)

/-- The two arguments of the call. -/
def aH : FVec Ideal S8192x1024 .bf16 := m (c, Proc.devRef .tc main_arg0)
def aD : FVec Ideal S8192x1024 .bf16 := m (c, Proc.devRef .tc main_arg1)

theorem steps : cfg0.N = 4 := N_0
theorem idxH : ∀ t : Fin cfg0.N, (cfg0.win (0 : Fin 3)).index t = ![t.val % 4, 0] := (by decide +kernel : ∀ t : Fin grid0.N, _)
theorem idxD : ∀ t : Fin cfg0.N, (cfg0.win (1 : Fin 3)).index t = ![t.val % 4, 0] := (by decide +kernel : ∀ t : Fin grid0.N, _)

theorem blkH (t : Fin cfg0.N) (r : Fin 2048) (a : Fin 1024) : iblk m c 0 t (ix2 r a) = aH m c (ix2 (⟨t.val % 4 * 2048 + r, by omega⟩ : Fin 8192) a) := by
  unfold iblk
  rw [View.read_apply]
  refine congrArg (aH m c) ?_
  blk_ext [idxH t]

theorem blkD (t : Fin cfg0.N) (r : Fin 2048) (b : Fin 1024) : iblk m c 1 t (ix2 r b) = aD m c (ix2 (⟨t.val % 4 * 2048 + r, by omega⟩ : Fin 8192) b) := by
  unfold iblk
  rw [View.read_apply]
  refine congrArg (aD m c) ?_
  blk_ext [idxD t]

/-- A row's term of the result's entry in row `k` and column `b`; zero past the rows there are. -/
def term (k : Fin 1024) (b : Fin 1024) (r : ℕ) : EReal := if h : r < 8192 then aH m c (ix2 (⟨r, h⟩ : Fin 8192) k) * aD m c (ix2 (⟨r, h⟩ : Fin 8192) b) else 0

/-- A step's product. -/
abbrev prod (t : Fin cfg0.N) : FVec Ideal S1024x1024 .f32 := k0_pay1 (iblk m c 0 t) (iblk m c 1 t)

/-- A step's product adds the terms of the step's rows. -/
theorem step_at (t : Fin cfg0.N) (k b : Fin 1024) : prod m c t (ix2 k b) = ∑ r ∈ Finset.range 2048, term m c k b (t.val % 4 * 2048 + r) := by
  rw [show prod m c t (ix2 k b) = _ from prod_at _ _ k b, ← Fin.sum_univ_eq_sum_range (fun r => term m c k b (t.val % 4 * 2048 + r)) 2048]
  refine Finset.sum_congr rfl fun r _ => ?_
  unfold term
  rw [dif_pos (by omega), blkH, blkD]

/-- What the first step of a block carries. -/
theorem begins (t : Fin cfg0.N) (h : t.val % 4 = 0) : (outsAt0 m c t.val t.isLt).2 = prod m c t := by
  have e := congrArg Prod.snd (outsAt0_A m c t h (by have := t.isLt; have := steps; omega) (by omega))
  dsimp only at e
  rw [first (iblk m c 0 t) (iblk m c 1 t)] at e
  exact e

/-- What a step between carries. -/
theorem goes_on (n : ℕ) (hn : n + 1 < cfg0.N) (h : (n + 1) % 4 ≠ 0) (h3 : (n + 1) % 4 ≠ 3) : (outsAt0 m c (n + 1) hn).2
    = addf (outsAt0 m c n (Nat.lt_of_succ_lt hn)).2 (prod m c ⟨n + 1, hn⟩) := by
  have e := congrArg Prod.snd (outsAt0_B m c ⟨n + 1, hn⟩ h (Nat.le_add_left 1 n) h3)
  dsimp only at e
  rw [between (iblk m c 0 ⟨n + 1, hn⟩) (iblk m c 1 ⟨n + 1, hn⟩)] at e
  exact e

/-- What the last step of a block writes out. -/
theorem ends (n : ℕ) (hn : n + 1 < cfg0.N) (h : (n + 1) % 4 = 3) : (outsAt0 m c (n + 1) hn).1
    = addf (outsAt0 m c n (Nat.lt_of_succ_lt hn)).2 (prod m c ⟨n + 1, hn⟩) := by
  have e := congrArg Prod.fst (outsAt0_C m c ⟨n + 1, hn⟩ (by dsimp only; omega) (Nat.le_add_left 1 n) h)
  dsimp only at e
  rw [written (iblk m c 0 ⟨n + 1, hn⟩) (iblk m c 1 ⟨n + 1, hn⟩)] at e
  exact e

/-- The result's entry: the sum over all the rows. -/
theorem total_at (k : Fin 1024) (b : Fin 1024) : G2 m c (ix2 k b) = ∑ r : Fin 8192, (aH m c (ix2 r k) * aD m c (ix2 r b) : EReal) := by
  have hp : pt2Of (ix2 k b) = 3 := by
    show 4 * (1 * (k.val / 1024 - 0) + 1 * (b.val / 1024 - 0)) + 3 = _
    omega
  have hN : pt2Of (ix2 k b) < cfg0.N := by rw [hp, steps]; omega
  have hl : loc2Of (ix2 k b) = ix2 k b := by
    funext d
    apply Fin.ext
    match d with
    | ⟨0, _⟩ => exact Nat.mod_eq_of_lt k.isLt
    | ⟨1, _⟩ => exact Nat.mod_eq_of_lt b.isLt
  unfold G2
  rw [dif_pos hN, ← outsAt0_sweep m c _ hN, hl]
  refine (written_sum (p := 4) (by decide) (fun n h => (outsAt0 m c n h).2 (ix2 k b)) (fun n h => (outsAt0 m c n h).1 (ix2 k b))
    (fun n h => prod m c ⟨n, h⟩ (ix2 k b)) (term m c k b) (fun n h e => congrFun (begins m c ⟨n, h⟩ e) _)
    (fun n h e e' => congrFun (goes_on m c n h e e') _) (fun n h e => congrFun (ends m c n h e) _)
    (q := 0) (fun n h _ => step_at m c ⟨n, h⟩ k b) _ hN (by omega) (by omega)).trans ?_
  rw [← Fin.sum_univ_eq_sum_range (term m c k b) 8192]
  exact Finset.sum_congr rfl fun r _ => dif_pos r.isLt

/-- It is the reference's. -/
theorem same (u : FVec Ideal Cert.ReferenceDmixIdeal.S8192x1024 .bf16) (v : FVec Ideal Cert.ReferenceDmixIdeal.S8192x1024 .bf16) (hu : u = aH m c) (hv : v = aD m c) :
    transpose Cert.ReferenceDmixIdeal.S1024x1024 [1, 0] (Host.dotGeneral Cert.ReferenceDmixIdeal.dot_S8192x1024_S8192x1024_S1024x1024_0_0_1_1_n_n none (extf .f32 v Cert.ReferenceDmixIdeal.Gen.bitsLt_bf16_f32) (extf .f32 u Cert.ReferenceDmixIdeal.Gen.bitsLt_bf16_f32)) Cert.ReferenceDmixIdeal.Gen.transposes_S1024x1024_S1024x1024_1_0 = G2 m c := by
  subst hu hv
  exact same_entries fun k b => Eq.trans (by pointwise []) ((Finset.sum_congr rfl fun r _ => mul_comm (aD m c (ix2 r b)) _).trans (total_at m c k b).symm)

end Whole

end Cert.KernelDmixIdeal.Sum

end
-- ==== Proof.Dmerged.lean ====
module

public import proofs.«01_k».proof.Proof.Gen.KernelDmergedIdeal.Value
public import proofs.«01_k».proof.Proof.Gen.ReferenceDmergedIdeal.Run
public import proofs.«01_k».proof.Proof.Steps

/-! The gradient of the merged branches, given that of the stream: each step multiplies a block of its rows by the whole mixing weight. -/

@[expose] public section

noncomputable section

namespace Cert.KernelDmergedIdeal.Whole

open Cert.KernelDmergedIdeal Cert.KernelDmergedIdeal.Gen Cert.KernelDmergedIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S1024x1024 .bf16 := m (c, Proc.devRef .tc main_arg1)

theorem steps : cfg0.N = 4 := by decide +kernel
theorem idx : ∀ t : Fin cfg0.N, (cfg0.win (0 : Fin 3)).index t = ![t.val, 0] ∧ (cfg0.win (1 : Fin 3)).index t = ![0, 0]
    ∧ (cfg0.win (2 : Fin 3)).index t = ![t.val, 0] ∧ (cfg0.win (2 : Fin 3)).flush t = true := (by decide +kernel : ∀ t : Fin grid0.N, _)

/-- A step's block of the result, at an entry: the sum of the products along the two rows. -/
theorem block_at (t : Fin cfg0.N) (a : Fin 2048) (b : Fin 1024) (i : Fin 8192) (hi : i.val = t.val * 2048 + a) :
    out0_2 (F := Ideal) (iblk m c 0 t) (iblk m c 1 t) (ix2 a b) = ∑ r : Fin 1024, (aH m c (ix2 i r) * aW m c (ix2 b r) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 b r) = aW m c (ix2 b r) := fun r => by
    unfold iblk
    rw [View.read_apply]
    refine congrArg (aW m c) ?_
    blk_ext [(idx t).2.1]
  have e : ∀ (x : FVec Ideal S2048x1024 .bf16) (y : FVec Ideal S1024x1024 .bf16), out0_2 (F := Ideal) x y (ix2 a b) = ∑ r : Fin 1024, (x (ix2 a r) * y (ix2 b r) : EReal) := fun x y => by
    unfold out0_2
    rw [View.canon_unit_zero at_origin, View.ld_unit_zero (S := S2048x1024) at_origin, View.ld_unit_zero (S := S1024x1024) at_origin]
    unfold k0_pay1
    pointwise []
  rw [e]
  exact Finset.sum_congr rfl fun r _ => congrArg₂ (fun p q : EReal => p * q) (hH r) (hW r)

/-- The result's entry. -/
theorem total_at (i : Fin 8192) (k : Fin 1024) : (dats m 0 c).arrAt 2 cfg0.N (ix2 i k) = ∑ r : Fin 1024, (aH m c (ix2 i r) * aW m c (ix2 k r) : EReal) := by
  obtain ⟨t, ht⟩ : ∃ t : Fin cfg0.N, t.val = i.val / 2048 := ⟨⟨i.val / 2048, by rw [steps]; omega⟩, rfl⟩
  have h := congrFun (blocks2 m c t (idx t).2.2.2) (ix2 (⟨i.val % 2048, Nat.mod_lt _ (by decide)⟩ : Fin 2048) k)
  rw [View.read_apply, flushed2] at h
  refine Eq.trans (congrArg ((dats m 0 c).arrAt 2 cfg0.N) ?_) (h.trans (block_at m c t _ k i ?_))
  · blk_ext [(idx t).2.2.1]
  · show i.val = t.val * 2048 + i.val % 2048; omega

/-- It is the reference's. -/
theorem same (u : FVec Ideal Cert.ReferenceDmergedIdeal.S8192x1024 .bf16) (v : FVec Ideal Cert.ReferenceDmergedIdeal.S1024x1024 .bf16) (hu : u = aH m c) (hv : v = aW m c) :
    Host.dotGeneral Cert.ReferenceDmergedIdeal.dot_S8192x1024_S1024x1024_S8192x1024_1_1_0_0_n_n none (extf .f32 u Cert.ReferenceDmergedIdeal.Gen.bitsLt_bf16_f32) (extf .f32 v Cert.ReferenceDmergedIdeal.Gen.bitsLt_bf16_f32) = (dats m 0 c).arrAt 2 cfg0.N := by
  subst hu hv
  exact same_entries fun i k => Eq.trans (by pointwise []) (total_at m c i k).symm

end Cert.KernelDmergedIdeal.Whole

end
-- ==== Proof.Mix.lean ====
module

public import proofs.«01_k».proof.Proof.Gen.KernelMixIdeal.Value
public import proofs.«01_k».proof.Proof.Gen.ReferenceMixIdeal.Run
public import proofs.«01_k».proof.Proof.Steps

/-! The mixing projection added to the stream it joins: each step multiplies a block of rows by the whole weight and adds the stream's block. -/

@[expose] public section

noncomputable section

namespace Cert.KernelMixIdeal.Whole

open Cert.KernelMixIdeal Cert.KernelMixIdeal.Gen Cert.KernelMixIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The arguments of the call. -/
def aH : FVec Ideal S8192x1024 .bf16 := m (c, Proc.devRef .tc main_arg0)
def aW : FVec Ideal S1024x1024 .bf16 := m (c, Proc.devRef .tc main_arg1)
def aX : FVec Ideal S8192x1024 .f32 := m (c, Proc.devRef .tc main_arg2)

theorem steps : cfg0.N = 8 := by decide +kernel
theorem idx : ∀ t : Fin cfg0.N, (cfg0.win (0 : Fin 4)).index t = ![t.val, 0] ∧ (cfg0.win (1 : Fin 4)).index t = ![0, 0] ∧ (cfg0.win (2 : Fin 4)).index t = ![t.val, 0]
    ∧ (cfg0.win (3 : Fin 4)).index t = ![t.val, 0] ∧ (cfg0.win (3 : Fin 4)).flush t = true := (by decide +kernel : ∀ t : Fin grid0.N, _)

/-- A step's block of the result, at an entry: the sum of the products along the row and the column, and the stream's entry. -/
theorem block_at (t : Fin cfg0.N) (a : Fin 1024) (b : Fin 1024) (i : Fin 8192) (hi : i.val = t.val * 1024 + a) :
    out0_3 (F := Ideal) (iblk m c 0 t) (iblk m c 1 t) (iblk m c 2 t) (ix2 a b) = (∑ r : Fin 1024, (aH m c (ix2 i r) * aW m c (ix2 r b) : EReal)) + aX m c (ix2 i b) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 r b) = aW m c (ix2 r b) := fun r => by
    unfold iblk
    rw [View.read_apply]
    refine congrArg (aW m c) ?_
    blk_ext [(idx t).2.1]
  have hX : iblk m c 2 t (ix2 a b) = aX m c (ix2 i b) := by
    unfold iblk
    rw [View.read_apply]
    refine congrArg (aX m c) ?_
    blk_ext [(idx t).2.2.1]
  have e : ∀ (x y : FVec Ideal S1024x1024 .bf16) (z : FVec Ideal S1024x1024 .f32),
      out0_3 (F := Ideal) x y z (ix2 a b) = (∑ r : Fin 1024, (x (ix2 a r) * y (ix2 r b) : EReal)) + z (ix2 a b) := fun x y z => by
    unfold out0_3
    rw [View.canon_unit_zero at_origin]
    simp only [View.ld_unit_zero (S := S1024x1024) at_origin]
    unfold k0_pay1
    pointwise []
  rw [e]
  exact congrArg₂ (fun p q : EReal => p + q) (Finset.sum_congr rfl fun r _ => congrArg₂ (fun p q : EReal => p * q) (hH r) (hW r)) hX

/-- The result's entry. -/
theorem total_at (i : Fin 8192) (k : Fin 1024) :
    (dats m 0 c).arrAt 3 cfg0.N (ix2 i k) = (∑ r : Fin 1024, (aH m c (ix2 i r) * aW m c (ix2 r k) : EReal)) + aX m c (ix2 i k) := by
  obtain ⟨t, ht⟩ : ∃ t : Fin cfg0.N, t.val = i.val / 1024 := ⟨⟨i.val / 1024, by rw [steps]; omega⟩, rfl⟩
  have h := congrFun (blocks3 m c t (idx t).2.2.2.2) (ix2 (⟨i.val % 1024, Nat.mod_lt _ (by decide)⟩ : Fin 1024) k)
  rw [View.read_apply, flushed3] at h
  refine Eq.trans (congrArg ((dats m 0 c).arrAt 3 cfg0.N) ?_) (h.trans (block_at m c t _ k i ?_))
  · blk_ext [(idx t).2.2.2.1]
  · show i.val = t.val * 1024 + i.val % 1024; omega

/-- It is the reference's. -/
theorem same (u : FVec Ideal Cert.ReferenceMixIdeal.S8192x1024 .bf16) (v : FVec Ideal Cert.ReferenceMixIdeal.S1024x1024 .bf16) (w : FVec Ideal Cert.ReferenceMixIdeal.S8192x1024 .f32) (hu : u = aH m c) (hv : v = aW m c) (hw : w = aX m c) :
    addf (Host.dotGeneral Cert.ReferenceMixIdeal.dot_S8192x1024_S1024x1024_S8192x1024_1_0_0_1_n_n none (extf .f32 u Cert.ReferenceMixIdeal.Gen.bitsLt_bf16_f32) (extf .f32 v Cert.ReferenceMixIdeal.Gen.bitsLt_bf16_f32)) w = (dats m 0 c).arrAt 3 cfg0.N := by
  subst hu hv hw
  exact same_entries fun i k => Eq.trans (by pointwise []) (total_at m c i k).symm

end Cert.KernelMixIdeal.Whole

end
-- ==== Proof.Branch.lean ====
module

public import proofs.«01_k».proof.Proof.Gen.KernelBranchIdeal.Value
public import proofs.«01_k».proof.Proof.Gen.ReferenceBranchIdeal.Run
public import proofs.«01_k».proof.Proof.Steps

/-! A branch's projection: each step multiplies a block of rows by the whole weight. -/

@[expose] public section

noncomputable section

namespace Cert.KernelBranchIdeal.Whole

open Cert.KernelBranchIdeal Cert.KernelBranchIdeal.Gen Cert.KernelBranchIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x512 .bf16 := m (c, Proc.devRef .tc main_arg0)
def aW : FVec Ideal S512x1024 .bf16 := m (c, Proc.devRef .tc main_arg1)

theorem steps : cfg0.N = 4 := by decide +kernel
theorem idx : ∀ t : Fin cfg0.N, (cfg0.win (0 : Fin 3)).index t = ![t.val, 0] ∧ (cfg0.win (1 : Fin 3)).index t = ![0, 0]
    ∧ (cfg0.win (2 : Fin 3)).index t = ![t.val, 0] ∧ (cfg0.win (2 : Fin 3)).flush t = true := (by decide +kernel : ∀ t : Fin grid0.N, _)

/-- A step's block of the result, at an entry: the sum of the products along the row and the column. -/
theorem block_at (t : Fin cfg0.N) (a : Fin 2048) (b : Fin 1024) (i : Fin 8192) (hi : i.val = t.val * 2048 + a) :
    out0_2 (F := Ideal) (iblk m c 0 t) (iblk m c 1 t) (ix2 a b) = ∑ r : Fin 512, (aH m c (ix2 i r) * aW m c (ix2 r b) : EReal) := by
  have hH : ∀ r : Fin 512, iblk m c 0 t (ix2 a r) = aH m c (ix2 i r) := fun r => by
    unfold iblk
    rw [View.read_apply]
    refine congrArg (aH m c) ?_
    blk_ext [(idx t).1]
  have hW : ∀ r : Fin 512, iblk m c 1 t (ix2 r b) = aW m c (ix2 r b) := fun r => by
    unfold iblk
    rw [View.read_apply]
    refine congrArg (aW m c) ?_
    blk_ext [(idx t).2.1]
  have e : ∀ (x : FVec Ideal S2048x512 .bf16) (y : FVec Ideal S512x1024 .bf16), out0_2 (F := Ideal) x y (ix2 a b) = ∑ r : Fin 512, (x (ix2 a r) * y (ix2 r b) : EReal) := fun x y => by
    unfold out0_2
    rw [View.canon_unit_zero at_origin, View.ld_unit_zero (S := S2048x512) at_origin, View.ld_unit_zero (S := S512x1024) at_origin]
    unfold k0_pay1
    pointwise []
  rw [e]
  exact Finset.sum_congr rfl fun r _ => congrArg₂ (fun p q : EReal => p * q) (hH r) (hW r)

/-- The result's entry. -/
theorem total_at (i : Fin 8192) (k : Fin 1024) : (dats m 0 c).arrAt 2 cfg0.N (ix2 i k) = ∑ r : Fin 512, (aH m c (ix2 i r) * aW m c (ix2 r k) : EReal) := by
  obtain ⟨t, ht⟩ : ∃ t : Fin cfg0.N, t.val = i.val / 2048 := ⟨⟨i.val / 2048, by rw [steps]; omega⟩, rfl⟩
  have h := congrFun (blocks2 m c t (idx t).2.2.2) (ix2 (⟨i.val % 2048, Nat.mod_lt _ (by decide)⟩ : Fin 2048) k)
  rw [View.read_apply, flushed2] at h
  refine Eq.trans (congrArg ((dats m 0 c).arrAt 2 cfg0.N) ?_) (h.trans (block_at m c t _ k i ?_))
  · blk_ext [(idx t).2.2.1]
  · show i.val = t.val * 2048 + i.val % 2048; omega

/-- It is the reference's. -/
theorem same (u : FVec Ideal Cert.ReferenceBranchIdeal.S8192x512 .bf16) (v : FVec Ideal Cert.ReferenceBranchIdeal.S512x1024 .bf16) (hu : u = aH m c) (hv : v = aW m c) :
    Host.dotGeneral Cert.ReferenceBranchIdeal.dot_S8192x512_S512x1024_S8192x1024_1_0_0_1_n_n none (extf .f32 u Cert.ReferenceBranchIdeal.Gen.bitsLt_bf16_f32) (extf .f32 v Cert.ReferenceBranchIdeal.Gen.bitsLt_bf16_f32) = (dats m 0 c).arrAt 2 cfg0.N := by
  subst hu hv
  exact same_entries fun i k => Eq.trans (by pointwise []) (total_at m c i k).symm

end Cert.KernelBranchIdeal.Whole

end
-- ==== Proof.Dy.lean ====
module

public import proofs.«01_k».proof.Proof.Gen.KernelDyIdeal.Value
public import proofs.«01_k».proof.Proof.Gen.ReferenceDyIdeal.Run
public import proofs.«01_k».proof.Proof.Steps

/-! The gradient of a branch's output: each step multiplies a block of its projection's cotangent by the whole weight. -/

@[expose] public section

noncomputable section

namespace Cert.KernelDyIdeal.Whole

open Cert.KernelDyIdeal Cert.KernelDyIdeal.Gen Cert.KernelDyIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S512x1024 .bf16 := m (c, Proc.devRef .tc main_arg1)

theorem steps : cfg0.N = 4 := by decide +kernel
theorem idx : ∀ t : Fin cfg0.N, (cfg0.win (0 : Fin 3)).index t = ![t.val, 0] ∧ (cfg0.win (1 : Fin 3)).index t = ![0, 0]
    ∧ (cfg0.win (2 : Fin 3)).index t = ![t.val, 0] ∧ (cfg0.win (2 : Fin 3)).flush t = true := (by decide +kernel : ∀ t : Fin grid0.N, _)

/-- A step's block of the result, at an entry: the sum of the products along the two rows. -/
theorem block_at (t : Fin cfg0.N) (a : Fin 2048) (b : Fin 512) (i : Fin 8192) (hi : i.val = t.val * 2048 + a) :
    out0_2 (F := Ideal) (iblk m c 0 t) (iblk m c 1 t) (ix2 a b) = ∑ r : Fin 1024, (aH m c (ix2 i r) * aW m c (ix2 b r) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 b r) = aW m c (ix2 b r) := fun r => by
    unfold iblk
    rw [View.read_apply]
    refine congrArg (aW m c) ?_
    blk_ext [(idx t).2.1]
  have e : ∀ (x : FVec Ideal S2048x1024 .bf16) (y : FVec Ideal S512x1024 .bf16), out0_2 (F := Ideal) x y (ix2 a b) = ∑ r : Fin 1024, (x (ix2 a r) * y (ix2 b r) : EReal) := fun x y => by
    unfold out0_2
    rw [View.canon_unit_zero at_origin, View.ld_unit_zero (S := S2048x1024) at_origin, View.ld_unit_zero (S := S512x1024) at_origin]
    unfold k0_pay1
    pointwise []
  rw [e]
  exact Finset.sum_congr rfl fun r _ => congrArg₂ (fun p q : EReal => p * q) (hH r) (hW r)

/-- The result's entry. -/
theorem total_at (i : Fin 8192) (k : Fin 512) : (dats m 0 c).arrAt 2 cfg0.N (ix2 i k) = ∑ r : Fin 1024, (aH m c (ix2 i r) * aW m c (ix2 k r) : EReal) := by
  obtain ⟨t, ht⟩ : ∃ t : Fin cfg0.N, t.val = i.val / 2048 := ⟨⟨i.val / 2048, by rw [steps]; omega⟩, rfl⟩
  have h := congrFun (blocks2 m c t (idx t).2.2.2) (ix2 (⟨i.val % 2048, Nat.mod_lt _ (by decide)⟩ : Fin 2048) k)
  rw [View.read_apply, flushed2] at h
  refine Eq.trans (congrArg ((dats m 0 c).arrAt 2 cfg0.N) ?_) (h.trans (block_at m c t _ k i ?_))
  · blk_ext [(idx t).2.2.1]
  · show i.val = t.val * 2048 + i.val % 2048; omega

/-- It is the reference's. -/
theorem same (u : FVec Ideal Cert.ReferenceDyIdeal.S8192x1024 .bf16) (v : FVec Ideal Cert.ReferenceDyIdeal.S512x1024 .bf16) (hu : u = aH m c) (hv : v = aW m c) :
    Host.dotGeneral Cert.ReferenceDyIdeal.dot_S8192x1024_S512x1024_S8192x512_1_1_0_0_n_n none (extf .f32 u Cert.ReferenceDyIdeal.Gen.bitsLt_bf16_f32) (extf .f32 v Cert.ReferenceDyIdeal.Gen.bitsLt_bf16_f32) = (dats m 0 c).arrAt 2 cfg0.N := by
  subst hu hv
  exact same_entries fun i k => Eq.trans (by pointwise []) (total_at m c i k).symm

end Cert.KernelDyIdeal.Whole

end
-- ==== Proof.Dyb.lean ====
module

public import proofs.«01_k».proof.Proof.Gen.KernelDybIdeal.Value
public import proofs.«01_k».proof.Proof.Gen.ReferenceDybIdeal.Run
public import proofs.«01_k».proof.Proof.Steps

/-! The gradient of a branch's output, stored as bf16, which over the reals changes nothing. -/

@[expose] public section

noncomputable section

namespace Cert.KernelDybIdeal.Whole

open Cert.KernelDybIdeal Cert.KernelDybIdeal.Gen Cert.KernelDybIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S512x1024 .bf16 := m (c, Proc.devRef .tc main_arg1)

theorem steps : cfg0.N = 4 := by decide +kernel
theorem idx : ∀ t : Fin cfg0.N, (cfg0.win (0 : Fin 3)).index t = ![t.val, 0] ∧ (cfg0.win (1 : Fin 3)).index t = ![0, 0]
    ∧ (cfg0.win (2 : Fin 3)).index t = ![t.val, 0] ∧ (cfg0.win (2 : Fin 3)).flush t = true := (by decide +kernel : ∀ t : Fin grid0.N, _)

/-- A step's block of the result, at an entry: the sum of the products along the two rows. -/
theorem block_at (t : Fin cfg0.N) (a : Fin 2048) (b : Fin 512) (i : Fin 8192) (hi : i.val = t.val * 2048 + a) :
    out0_2 (F := Ideal) (iblk m c 0 t) (iblk m c 1 t) (ix2 a b) = ∑ r : Fin 1024, (aH m c (ix2 i r) * aW m c (ix2 b r) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 b r) = aW m c (ix2 b r) := fun r => by
    unfold iblk
    rw [View.read_apply]
    refine congrArg (aW m c) ?_
    blk_ext [(idx t).2.1]
  have e : ∀ (x : FVec Ideal S2048x1024 .bf16) (y : FVec Ideal S512x1024 .bf16), out0_2 (F := Ideal) x y (ix2 a b) = ∑ r : Fin 1024, (x (ix2 a r) * y (ix2 b r) : EReal) := fun x y => by
    unfold out0_2
    rw [View.canon_unit_zero at_origin, View.ld_unit_zero (S := S2048x1024) at_origin, View.ld_unit_zero (S := S512x1024) at_origin]
    unfold k0_pay1
    pointwise []
  rw [e]
  exact Finset.sum_congr rfl fun r _ => congrArg₂ (fun p q : EReal => p * q) (hH r) (hW r)

/-- The result's entry. -/
theorem total_at (i : Fin 8192) (k : Fin 512) : (dats m 0 c).arrAt 2 cfg0.N (ix2 i k) = ∑ r : Fin 1024, (aH m c (ix2 i r) * aW m c (ix2 k r) : EReal) := by
  obtain ⟨t, ht⟩ : ∃ t : Fin cfg0.N, t.val = i.val / 2048 := ⟨⟨i.val / 2048, by rw [steps]; omega⟩, rfl⟩
  have h := congrFun (blocks2 m c t (idx t).2.2.2) (ix2 (⟨i.val % 2048, Nat.mod_lt _ (by decide)⟩ : Fin 2048) k)
  rw [View.read_apply, flushed2] at h
  refine Eq.trans (congrArg ((dats m 0 c).arrAt 2 cfg0.N) ?_) (h.trans (block_at m c t _ k i ?_))
  · blk_ext [(idx t).2.2.1]
  · show i.val = t.val * 2048 + i.val % 2048; omega

/-- It is the reference's. -/
theorem same (u : FVec Ideal Cert.ReferenceDybIdeal.S8192x1024 .bf16) (v : FVec Ideal Cert.ReferenceDybIdeal.S512x1024 .bf16) (hu : u = aH m c) (hv : v = aW m c) :
    truncf .bf16 (Host.dotGeneral Cert.ReferenceDybIdeal.dot_S8192x1024_S512x1024_S8192x512_1_1_0_0_n_n none (extf .f32 u Cert.ReferenceDybIdeal.Gen.bitsLt_bf16_f32) (extf .f32 v Cert.ReferenceDybIdeal.Gen.bitsLt_bf16_f32)) Cert.ReferenceDybIdeal.Gen.bitsLt_bf16_f32 = (dats m 0 c).arrAt 2 cfg0.N := by
  subst hu hv
  exact same_entries fun i k => Eq.trans (by pointwise []) (total_at m c i k).symm

end Cert.KernelDybIdeal.Whole

end
-- ==== Proof.Dbranch.lean ====
module

public import proofs.«01_k».proof.Proof.Gen.KernelDbranchIdeal.Value
public import proofs.«01_k».proof.Proof.Gen.ReferenceDbranchIdeal.Run
public import proofs.«01_k».proof.Proof.Steps

/-! The gradient of a branch's weight. The result is summed over four blocks of rows in a buffer the kernel
carries from step to step; the last step of the four writes the sum out. -/

@[expose] public section

set_option maxRecDepth 16384

noncomputable section

namespace Cert.KernelDbranchIdeal.Sum

open Cert.KernelDbranchIdeal Cert.KernelDbranchIdeal.Gen Cert.KernelDbranchIdeal.Value
open Idealize.ShloMosaic Idealize.SL.Sem
open Idealize.ShloMosaic.TcCoe
open Cert.Steps (at_origin ld_all same_entries written_sum)

section Step

variable {c : Dev nD} {i : grid0.Coords} {r0 : Memref sig .tc .vmem S2048x512 .bf16} {h0 : r0.IsWhole}
  {r1 : Memref sig .tc .vmem S2048x1024 .bf16} {h1 : r1.IsWhole} {r2 : Memref sig .tc .vmem S512x1024 .f32} {h2 : r2.IsWhole}
  {r3 : Memref sig .tc .vmem S512x1024 .f32} {h3 : r3.IsWhole}
  (x : FVec Ideal S2048x512 .bf16) (y : FVec Ideal S2048x1024 .bf16) (s : FVec Ideal S512x1024 .f32)

/-- The first step of a block leaves its own product. -/
theorem first {ha : cond0_0 i} {hb : ¬cond0_1 i} {hc : ¬cond0_2 i} :
    sout0_A_0 (F := Ideal) c i r0 h0 r1 h1 r2 h2 r3 h3 ha hb hc x y = k0_pay1 (F := Ideal) x y := by
  unfold sout0_A_0
  rw [View.read_writes_eq_canon _ _ _ (scover0_A_0 (F := Ideal) c i r0 h0 r1 h1 r2 h2 r3 h3 ha hb hc x y)]
  unfold kernelRun0_A
  dsimp only
  rw [View.canon_unit_zero at_origin]
  simp only [k0_pay2, View.readAt_eq_ld, h0.read_unread, h1.read_unread, ld_all, shapeCast_self]

/-- A step between adds its product to the sum carried. -/
theorem between {ha : ¬cond0_0 i} {hb : cond0_1 i} {hc : ¬cond0_2 i} :
    sout0_B_0 (F := Ideal) c i r0 h0 r1 h1 r2 h2 r3 h3 ha hb hc x y s = addf s (k0_pay1 (F := Ideal) x y) := by
  unfold sout0_B_0
  rw [View.read_writes_eq_canon _ _ _ (scover0_B_0 (F := Ideal) c i r0 h0 r1 h1 r2 h2 r3 h3 ha hb hc x y s)]
  unfold kernelRun0_B
  dsimp only
  rw [View.canon_unit_zero at_origin]
  simp only [k0_pay3, View.readAt_eq_ld, h0.read_unread, h1.read_unread, h3.read_unread, ld_all, shapeCast_self]

/-- The last step does so too, and writes the sum out. -/
theorem written {ha : ¬cond0_0 i} {hb : cond0_1 i} {hc : cond0_2 i} :
    out0_C_2 (F := Ideal) c i r0 h0 r1 h1 r2 h2 r3 h3 ha hb hc x y s = addf s (k0_pay1 (F := Ideal) x y) := by
  unfold out0_C_2
  rw [View.read_writes_eq_canon _ _ _ (cover0_C_2 (F := Ideal) c i r0 h0 r1 h1 r2 h2 r3 h3 ha hb hc x y s)]
  unfold kernelRun0_C
  dsimp only
  sl_unfold_words
  rw [View.canon_unit_zero at_origin]
  simp only [k0_pay3, View.readAt_eq_ld, h0.read_unread, h1.read_unread, h3.read_unread, ld_all, shapeCast_self]
  exact View.readCov_unit_zero (S := S512x1024) _ at_origin _ _

/-- A step's product at an entry: the sum over the step's rows. -/
theorem prod_at (a : Fin 512) (b : Fin 1024) : k0_pay1 (F := Ideal) x y (ix2 a b) = ∑ r : Fin 2048, (x (ix2 r a) * y (ix2 r b) : EReal) := by
  unfold k0_pay1
  pointwise []

end Step

section Whole

variable (m : (ℓ : Loc nD τ sig) → Buf (Elt Ideal) ℓ) (c : Dev nD)

/-- The two arguments of the call. -/
def aH : FVec Ideal S8192x512 .bf16 := m (c, Proc.devRef .tc main_arg0)
def aD : FVec Ideal S8192x1024 .bf16 := m (c, Proc.devRef .tc main_arg1)

theorem steps : cfg0.N = 4 := N_0
theorem idxH : ∀ t : Fin cfg0.N, (cfg0.win (0 : Fin 3)).index t = ![t.val % 4, 0] := (by decide +kernel : ∀ t : Fin grid0.N, _)
theorem idxD : ∀ t : Fin cfg0.N, (cfg0.win (1 : Fin 3)).index t = ![t.val % 4, 0] := (by decide +kernel : ∀ t : Fin grid0.N, _)

theorem blkH (t : Fin cfg0.N) (r : Fin 2048) (a : Fin 512) : iblk m c 0 t (ix2 r a) = aH m c (ix2 (⟨t.val % 4 * 2048 + r, by omega⟩ : Fin 8192) a) := by
  unfold iblk
  rw [View.read_apply]
  refine congrArg (aH m c) ?_
  blk_ext [idxH t]

theorem blkD (t : Fin cfg0.N) (r : Fin 2048) (b : Fin 1024) : iblk m c 1 t (ix2 r b) = aD m c (ix2 (⟨t.val % 4 * 2048 + r, by omega⟩ : Fin 8192) b) := by
  unfold iblk
  rw [View.read_apply]
  refine congrArg (aD m c) ?_
  blk_ext [idxD t]

/-- A row's term of the result's entry in row `k` and column `b`; zero past the rows there are. -/
def term (k : Fin 512) (b : Fin 1024) (r : ℕ) : EReal := if h : r < 8192 then aH m c (ix2 (⟨r, h⟩ : Fin 8192) k) * aD m c (ix2 (⟨r, h⟩ : Fin 8192) b) else 0

/-- A step's product. -/
abbrev prod (t : Fin cfg0.N) : FVec Ideal S512x1024 .f32 := k0_pay1 (iblk m c 0 t) (iblk m c 1 t)

/-- A step's product adds the terms of the step's rows. -/
theorem step_at (t : Fin cfg0.N) (k : Fin 512) (b : Fin 1024) : prod m c t (ix2 k b) = ∑ r ∈ Finset.range 2048, term m c k b (t.val % 4 * 2048 + r) := by
  rw [show prod m c t (ix2 k b) = _ from prod_at _ _ k b, ← Fin.sum_univ_eq_sum_range (fun r => term m c k b (t.val % 4 * 2048 + r)) 2048]
  refine Finset.sum_congr rfl fun r _ => ?_
  unfold term
  rw [dif_pos (by omega), blkH, blkD]

/-- What the first step of a block carries. -/
theorem begins (t : Fin cfg0.N) (h : t.val % 4 = 0) : (outsAt0 m c t.val t.isLt).2 = prod m c t := by
  have e := congrArg Prod.snd (outsAt0_A m c t h (by have := t.isLt; have := steps; omega) (by omega))
  dsimp only at e
  rw [first (iblk m c 0 t) (iblk m c 1 t)] at e
  exact e

/-- What a step between carries. -/
theorem goes_on (n : ℕ) (hn : n + 1 < cfg0.N) (h : (n + 1) % 4 ≠ 0) (h3 : (n + 1) % 4 ≠ 3) : (outsAt0 m c (n + 1) hn).2
    = addf (outsAt0 m c n (Nat.lt_of_succ_lt hn)).2 (prod m c ⟨n + 1, hn⟩) := by
  have e := congrArg Prod.snd (outsAt0_B m c ⟨n + 1, hn⟩ h (Nat.le_add_left 1 n) h3)
  dsimp only at e
  rw [between (iblk m c 0 ⟨n + 1, hn⟩) (iblk m c 1 ⟨n + 1, hn⟩)] at e
  exact e

/-- What the last step of a block writes out. -/
theorem ends (n : ℕ) (hn : n + 1 < cfg0.N) (h : (n + 1) % 4 = 3) : (outsAt0 m c (n + 1) hn).1
    = addf (outsAt0 m c n (Nat.lt_of_succ_lt hn)).2 (prod m c ⟨n + 1, hn⟩) := by
  have e := congrArg Prod.fst (outsAt0_C m c ⟨n + 1, hn⟩ (by dsimp only; omega) (Nat.le_add_left 1 n) h)
  dsimp only at e
  rw [written (iblk m c 0 ⟨n + 1, hn⟩) (iblk m c 1 ⟨n + 1, hn⟩)] at e
  exact e

/-- The result's entry: the sum over all the rows. -/
theorem total_at (k : Fin 512) (b : Fin 1024) : G2 m c (ix2 k b) = ∑ r : Fin 8192, (aH m c (ix2 r k) * aD m c (ix2 r b) : EReal) := by
  have hp : pt2Of (ix2 k b) = 3 := by
    show 4 * (1 * (k.val / 512 - 0) + 1 * (b.val / 1024 - 0)) + 3 = _
    omega
  have hN : pt2Of (ix2 k b) < cfg0.N := by rw [hp, steps]; omega
  have hl : loc2Of (ix2 k b) = ix2 k b := by
    funext d
    apply Fin.ext
    match d with
    | ⟨0, _⟩ => exact Nat.mod_eq_of_lt k.isLt
    | ⟨1, _⟩ => exact Nat.mod_eq_of_lt b.isLt
  unfold G2
  rw [dif_pos hN, ← outsAt0_sweep m c _ hN, hl]
  refine (written_sum (p := 4) (by decide) (fun n h => (outsAt0 m c n h).2 (ix2 k b)) (fun n h => (outsAt0 m c n h).1 (ix2 k b))
    (fun n h => prod m c ⟨n, h⟩ (ix2 k b)) (term m c k b) (fun n h e => congrFun (begins m c ⟨n, h⟩ e) _)
    (fun n h e e' => congrFun (goes_on m c n h e e') _) (fun n h e => congrFun (ends m c n h e) _)
    (q := 0) (fun n h _ => step_at m c ⟨n, h⟩ k b) _ hN (by omega) (by omega)).trans ?_
  rw [← Fin.sum_univ_eq_sum_range (term m c k b) 8192]
  exact Finset.sum_congr rfl fun r _ => dif_pos r.isLt

/-- It is the reference's. -/
theorem same (u : FVec Ideal Cert.ReferenceDbranchIdeal.S8192x512 .bf16) (v : FVec Ideal Cert.ReferenceDbranchIdeal.S8192x1024 .bf16) (hu : u = aH m c) (hv : v = aD m c) :
    transpose Cert.ReferenceDbranchIdeal.S512x1024 [1, 0] (Host.dotGeneral Cert.ReferenceDbranchIdeal.dot_S8192x1024_S8192x512_S1024x512_0_0_1_1_n_n none (extf .f32 v Cert.ReferenceDbranchIdeal.Gen.bitsLt_bf16_f32) (extf .f32 u Cert.ReferenceDbranchIdeal.Gen.bitsLt_bf16_f32)) Cert.ReferenceDbranchIdeal.Gen.transposes_S1024x512_S512x1024_1_0 = G2 m c := by
  subst hu hv
  exact same_entries fun k b => Eq.trans (by pointwise []) ((Finset.sum_congr rfl fun r _ => mul_comm (aD m c (ix2 r b)) _).trans (total_at m c k b).symm)

end Whole

end Cert.KernelDbranchIdeal.Sum

end
-- ==== Proof.Xq.lean ====
module

public import proofs.«01_k».proof.Proof.Gen.KernelXqIdeal.Value
public import proofs.«01_k».proof.Proof.Gen.ReferenceXqIdeal.Run
public import proofs.«01_k».proof.Proof.Steps

/-! The cross attention's queries, stored as bf16: each step multiplies a block of rows by the whole weight. -/

@[expose] public section

noncomputable section

namespace Cert.KernelXqIdeal.Whole

open Cert.KernelXqIdeal Cert.KernelXqIdeal.Gen Cert.KernelXqIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S1024x1024 .bf16 := m (c, Proc.devRef .tc main_arg1)

theorem steps : cfg0.N = 4 := by decide +kernel
theorem idx : ∀ t : Fin cfg0.N, (cfg0.win (0 : Fin 3)).index t = ![t.val, 0] ∧ (cfg0.win (1 : Fin 3)).index t = ![0, 0]
    ∧ (cfg0.win (2 : Fin 3)).index t = ![t.val, 0] ∧ (cfg0.win (2 : Fin 3)).flush t = true := (by decide +kernel : ∀ t : Fin grid0.N, _)

/-- A step's block of the result, at an entry: the sum of the products along the row and the column. -/
theorem block_at (t : Fin cfg0.N) (a : Fin 2048) (b : Fin 1024) (i : Fin 8192) (hi : i.val = t.val * 2048 + a) :
    out0_2 (F := Ideal) (iblk m c 0 t) (iblk m c 1 t) (ix2 a b) = ∑ r : Fin 1024, (aH m c (ix2 i r) * aW m c (ix2 r b) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 r b) = aW m c (ix2 r b) := fun r => by
    unfold iblk
    rw [View.read_apply]
    refine congrArg (aW m c) ?_
    blk_ext [(idx t).2.1]
  have e : ∀ (x : FVec Ideal S2048x1024 .bf16) (y : FVec Ideal S1024x1024 .bf16), out0_2 (F := Ideal) x y (ix2 a b) = ∑ r : Fin 1024, (x (ix2 a r) * y (ix2 r b) : EReal) := fun x y => by
    unfold out0_2
    rw [View.canon_unit_zero at_origin, View.ld_unit_zero (S := S2048x1024) at_origin, View.ld_unit_zero (S := S1024x1024) at_origin]
    unfold k0_pay1
    pointwise []
  rw [e]
  exact Finset.sum_congr rfl fun r _ => congrArg₂ (fun p q : EReal => p * q) (hH r) (hW r)

/-- The result's entry. -/
theorem total_at (i : Fin 8192) (k : Fin 1024) : (dats m 0 c).arrAt 2 cfg0.N (ix2 i k) = ∑ r : Fin 1024, (aH m c (ix2 i r) * aW m c (ix2 r k) : EReal) := by
  obtain ⟨t, ht⟩ : ∃ t : Fin cfg0.N, t.val = i.val / 2048 := ⟨⟨i.val / 2048, by rw [steps]; omega⟩, rfl⟩
  have h := congrFun (blocks2 m c t (idx t).2.2.2) (ix2 (⟨i.val % 2048, Nat.mod_lt _ (by decide)⟩ : Fin 2048) k)
  rw [View.read_apply, flushed2] at h
  refine Eq.trans (congrArg ((dats m 0 c).arrAt 2 cfg0.N) ?_) (h.trans (block_at m c t _ k i ?_))
  · blk_ext [(idx t).2.2.1]
  · show i.val = t.val * 2048 + i.val % 2048; omega

/-- It is the reference's. -/
theorem same (u : FVec Ideal Cert.ReferenceXqIdeal.S8192x1024 .bf16) (v : FVec Ideal Cert.ReferenceXqIdeal.S1024x1024 .bf16) (hu : u = aH m c) (hv : v = aW m c) :
    truncf .bf16 (Host.dotGeneral Cert.ReferenceXqIdeal.dot_S8192x1024_S1024x1024_S8192x1024_1_0_0_1_n_n none (extf .f32 u Cert.ReferenceXqIdeal.Gen.bitsLt_bf16_f32) (extf .f32 v Cert.ReferenceXqIdeal.Gen.bitsLt_bf16_f32)) Cert.ReferenceXqIdeal.Gen.bitsLt_bf16_f32 = (dats m 0 c).arrAt 2 cfg0.N := by
  subst hu hv
  exact same_entries fun i k => Eq.trans (by pointwise []) (total_at m c i k).symm

end Cert.KernelXqIdeal.Whole

end
-- ==== Proof.Do.lean ====
module

public import proofs.«01_k».proof.Proof.Gen.KernelDoIdeal.Value
public import proofs.«01_k».proof.Proof.Gen.ReferenceDoIdeal.Run
public import proofs.«01_k».proof.Proof.Steps

/-! The gradient of the cross attention's output, stored as bf16: each step multiplies a block of rows by the whole weight. -/

@[expose] public section

noncomputable section

namespace Cert.KernelDoIdeal.Whole

open Cert.KernelDoIdeal Cert.KernelDoIdeal.Gen Cert.KernelDoIdeal.Value
open Idealize.ShloMosaic Idealize.SL.Sem
open Idealize.ShloMosaic.TcCoe
open Cert.Steps (at_origin same_entries)

variable (m : (ℓ : Loc nD τ sig) → Buf (Elt Ideal) ℓ) (c : Dev nD)

/-- The two arguments of the call. -/
def aH : FVec Ideal S8192x1024 .bf16 := m (c, Proc.devRef .tc main_arg0)
def aW : FVec Ideal S1024x1024 .bf16 := m (c, Proc.devRef .tc main_arg1)

theorem steps : cfg0.N = 4 := by decide +kernel
theorem idx : ∀ t : Fin cfg0.N, (cfg0.win (0 : Fin 3)).index t = ![t.val, 0] ∧ (cfg0.win (1 : Fin 3)).index t = ![0, 0]
    ∧ (cfg0.win (2 : Fin 3)).index t = ![t.val, 0] ∧ (cfg0.win (2 : Fin 3)).flush t = true := (by decide +kernel : ∀ t : Fin grid0.N, _)

/-- A step's block of the result, at an entry: the sum of the products along the two rows. -/
theorem block_at (t : Fin cfg0.N) (a : Fin 2048) (b : Fin 1024) (i : Fin 8192) (hi : i.val = t.val * 2048 + a) :
    out0_2 (F := Ideal) (iblk m c 0 t) (iblk m c 1 t) (ix2 a b) = ∑ r : Fin 1024, (aH m c (ix2 i r) * aW m c (ix2 b r) : EReal) := by
  have hH : ∀ r : Fin 1024, iblk m c 0 t (ix2 a r) = aH m c (ix2 i r) := fun r => by
    unfold iblk
    rw [View.read_apply]
    refine congrArg (aH m c) ?_
    blk_ext [(idx t).1]
  have hW : ∀ r : Fin 1024, iblk m c 1 t (ix2 b r) = aW m c (ix2 b r) := fun r => by
    unfold iblk
    rw [View.read_apply]
    refine congrArg (aW m c) ?_
    blk_ext [(idx t).2.1]
  have e : ∀ (x : FVec Ideal S2048x1024 .bf16) (y : FVec Ideal S1024x1024 .bf16), out0_2 (F := Ideal) x y (ix2 a b) = ∑ r : Fin 1024, (x (ix2 a r) * y (ix2 b r) : EReal) := fun x y => by
    unfold out0_2
    rw [View.canon_unit_zero at_origin, View.ld_unit_zero (S := S2048x1024) at_origin, View.ld_unit_zero (S := S1024x1024) at_origin]
    unfold k0_pay1
    pointwise []
  rw [e]
  exact Finset.sum_congr rfl fun r _ => congrArg₂ (fun p q : EReal => p * q) (hH r) (hW r)

/-- The result's entry. -/
theorem total_at (i : Fin 8192) (k : Fin 1024) : (dats m 0 c).arrAt 2 cfg0.N (ix2 i k) = ∑ r : Fin 1024, (aH m c (ix2 i r) * aW m c (ix2 k r) : EReal) := by
  obtain ⟨t, ht⟩ : ∃ t : Fin cfg0.N, t.val = i.val / 2048 := ⟨⟨i.val / 2048, by rw [steps]; omega⟩, rfl⟩
  have h := congrFun (blocks2 m c t (idx t).2.2.2) (ix2 (⟨i.val % 2048, Nat.mod_lt _ (by decide)⟩ : Fin 2048) k)
  rw [View.read_apply, flushed2] at h
  refine Eq.trans (congrArg ((dats m 0 c).arrAt 2 cfg0.N) ?_) (h.trans (block_at m c t _ k i ?_))
  · blk_ext [(idx t).2.2.1]
  · show i.val = t.val * 2048 + i.val % 2048; omega

/-- It is the reference's. -/
theorem same (u : FVec Ideal Cert.ReferenceDoIdeal.S8192x1024 .bf16) (v : FVec Ideal Cert.ReferenceDoIdeal.S1024x1024 .bf16) (hu : u = aH m c) (hv : v = aW m c) :
    truncf .bf16 (Host.dotGeneral Cert.ReferenceDoIdeal.dot_S8192x1024_S1024x1024_S8192x1024_1_1_0_0_n_n none (extf .f32 u Cert.ReferenceDoIdeal.Gen.bitsLt_bf16_f32) (extf .f32 v Cert.ReferenceDoIdeal.Gen.bitsLt_bf16_f32)) Cert.ReferenceDoIdeal.Gen.bitsLt_bf16_f32 = (dats m 0 c).arrAt 2 cfg0.N := by
  subst hu hv
  exact same_entries fun i k => Eq.trans (by pointwise []) (total_at m c i k).symm

end Cert.KernelDoIdeal.Whole

end
-- ==== Proof.Rows.lean ====
module

public import Idealize.ShloMosaic.Lib.VecWindow
public import Idealize.ShloMosaic.Lib.ValueIdxCore

/-!
Arrays as families of rows: a scratch array of shape `n × a × b` is `n` rows of shape `1 × a × b`, and one of shape
`m × n × a × b` is `m · n` rows of shape `1 × 1 × a × b`. A load of a row is the row; a store of a row changes that row.
-/

@[expose] public section

noncomputable section

namespace Cert.Fox

open Idealize.ShloMosaic Idealize.ShloMosaic.ValueIdx

variable {α : Type}

/-- The array whose rows along the first axis are given. -/
def arr3 {n a b : ℕ} (f : Fin n → (⟨3, ![1, a, b]⟩ : Shape).Idx → α) : (⟨3, ![n, a, b]⟩ : Shape).Idx → α :=
  fun y => f (y 0) (ix3 0 (y 1) (y 2))

/-- The array whose rows along the first two axes are given. -/
def arr4 {m n a b : ℕ} (f : Fin m → Fin n → (⟨4, ![1, 1, a, b]⟩ : Shape).Idx → α) : (⟨4, ![m, n, a, b]⟩ : Shape).Idx → α :=
  fun y => f (y 0) (y 1) (ix4 0 0 (y 2) (y 3))

/-- Row `r` of an array. -/
def row3 {n a b : ℕ} (x : (⟨3, ![n, a, b]⟩ : Shape).Idx → α) (r : Fin n) : (⟨3, ![1, a, b]⟩ : Shape).Idx → α :=
  fun y => x (ix3 r (y 1) (y 2))

theorem row3_arr3 {n a b : ℕ} (f : Fin n → (⟨3, ![1, a, b]⟩ : Shape).Idx → α) (r : Fin n) : row3 (arr3 f) r = f r := by
  funext y
  show f r (ix3 0 (y 1) (y 2)) = f r y
  congr 1
  conv_rhs => rw [eq_ix3 y]
  congr 1
  exact Subsingleton.elim _ _

/-- Every array is the array of its rows. -/
theorem arr3_row3 {n a b : ℕ} (x : (⟨3, ![n, a, b]⟩ : Shape).Idx → α) : arr3 (row3 x) = x := by
  funext y; exact congrArg x (eq_ix3 y).symm

/-- Every array is the array of its rows. -/
theorem exists_arr4 {m n a b : ℕ} (x : (⟨4, ![m, n, a, b]⟩ : Shape).Idx → α) :
    ∃ f : Fin m → Fin n → (⟨4, ![1, 1, a, b]⟩ : Shape).Idx → α, x = arr4 f :=
  ⟨fun p q y => x (ix4 p q (y 2) (y 3)), funext fun y => congrArg x (eq_ix4 y)⟩

/-- The window of one row reads that row. -/
theorem window_arr3 {n a b : ℕ} (f : Fin n → (⟨3, ![1, a, b]⟩ : Shape).Idx → α) (r : Fin n)
    (inb : ∀ k, (![r.val, 0, 0] : Fin 3 → ℕ) k + (⟨3, ![1, a, b]⟩ : Shape).size k ≤ (⟨3, ![n, a, b]⟩ : Shape).size k) :
    VecWindow.window (s := ⟨3, ![n, a, b]⟩) (arr3 f) ![r.val, 0, 0] (⟨3, ![1, a, b]⟩ : Shape).size inb = f r := by
  funext y
  have e : (Rect.unit (s := ⟨3, ![n, a, b]⟩) ![r.val, 0, 0] (⟨3, ![1, a, b]⟩ : Shape).size inb).emb y = ix3 r (y 1) (y 2) := by
    funext k
    have h0 : (y 0).val = 0 := by have : (y 0).val < 1 := (y 0).isLt; omega
    match k with
    | ⟨0, _⟩ => exact Fin.ext (show r.val + 1 * (y 0).val = r.val by omega)
    | ⟨1, _⟩ => exact Fin.ext (show 0 + 1 * (y 1).val = (y 1).val by omega)
    | ⟨2, _⟩ => exact Fin.ext (show 0 + 1 * (y 2).val = (y 2).val by omega)
  show arr3 f _ = _
  rw [e]
  exact congrFun (row3_arr3 f r) y

/-- A store of one row changes that row. -/
theorem put_arr3 {n a b : ℕ} (f : Fin n → (⟨3, ![1, a, b]⟩ : Shape).Idx → α) (r : Fin n) (w : (⟨3, ![1, a, b]⟩ : Shape).Idx → α) :
    VecWindow.put (s := ⟨3, ![n, a, b]⟩) (arr3 f) ![r.val, 0, 0] (⟨3, ![1, a, b]⟩ : Shape).size w = arr3 (Function.update f r w) := by
  funext y
  unfold VecWindow.put arr3
  by_cases h : y 0 = r
  · have hall : ∀ k : Fin 3, (![r.val, 0, 0] : Fin 3 → ℕ) k ≤ (y k).val ∧ (y k).val < (![r.val, 0, 0] : Fin 3 → ℕ) k + (⟨3, ![1, a, b]⟩ : Shape).size k := by
      intro k
      match k with
      | ⟨0, _⟩ => have := congrArg Fin.val h; exact ⟨show r.val ≤ (y 0).val by omega, show (y 0).val < r.val + 1 by omega⟩
      | ⟨1, _⟩ => exact ⟨Nat.zero_le _, show (y 1).val < 0 + a by have : (y 1).val < a := (y 1).isLt; omega⟩
      | ⟨2, _⟩ => exact ⟨Nat.zero_le _, show (y 2).val < 0 + b by have : (y 2).val < b := (y 2).isLt; omega⟩
    rw [dif_pos hall, h, Function.update_self]
    refine congrArg w (funext fun k => Fin.ext ?_)
    rw [Rect.unitLocal_val]
    match k with
    | ⟨0, _⟩ => have := congrArg Fin.val h; exact (show (y 0).val - r.val = 0 by omega)
    | ⟨1, _⟩ => exact Nat.sub_zero _
    | ⟨2, _⟩ => exact Nat.sub_zero _
  · rw [dif_neg]
    · exact (congrFun (Function.update_of_ne h w f) _).symm
    intro hall
    obtain ⟨h1, h2⟩ := hall 0
    exact h (Fin.ext (by
      have h1' : r.val ≤ (y 0).val := h1
      have h2' : (y 0).val < r.val + 1 := h2
      omega))

/-- The window of one row reads that row. -/
theorem window_arr4 {m n a b : ℕ} (f : Fin m → Fin n → (⟨4, ![1, 1, a, b]⟩ : Shape).Idx → α) (p : Fin m) (r : Fin n)
    (inb : ∀ k, (![p.val, r.val, 0, 0] : Fin 4 → ℕ) k + (⟨4, ![1, 1, a, b]⟩ : Shape).size k ≤ (⟨4, ![m, n, a, b]⟩ : Shape).size k) :
    VecWindow.window (s := ⟨4, ![m, n, a, b]⟩) (arr4 f) ![p.val, r.val, 0, 0] (⟨4, ![1, 1, a, b]⟩ : Shape).size inb = f p r := by
  funext y
  have h0 : (y 0).val = 0 := by have : (y 0).val < 1 := (y 0).isLt; omega
  have h1 : (y 1).val = 0 := by have : (y 1).val < 1 := (y 1).isLt; omega
  have e : (Rect.unit (s := ⟨4, ![m, n, a, b]⟩) ![p.val, r.val, 0, 0] (⟨4, ![1, 1, a, b]⟩ : Shape).size inb).emb y = ix4 p r (y 2) (y 3) := by
    funext k
    match k with
    | ⟨0, _⟩ => exact Fin.ext (show p.val + 1 * (y 0).val = p.val by omega)
    | ⟨1, _⟩ => exact Fin.ext (show r.val + 1 * (y 1).val = r.val by omega)
    | ⟨2, _⟩ => exact Fin.ext (show 0 + 1 * (y 2).val = (y 2).val by omega)
    | ⟨3, _⟩ => exact Fin.ext (show 0 + 1 * (y 3).val = (y 3).val by omega)
  show arr4 f _ = _
  rw [e]
  show f p r (ix4 0 0 (y 2) (y 3)) = f p r y
  congr 1
  conv_rhs => rw [eq_ix4 y]
  congr 1 <;> exact Subsingleton.elim _ _

/-- A store of one row changes that row. -/
theorem put_arr4 {m n a b : ℕ} (f : Fin m → Fin n → (⟨4, ![1, 1, a, b]⟩ : Shape).Idx → α) (p : Fin m) (r : Fin n)
    (w : (⟨4, ![1, 1, a, b]⟩ : Shape).Idx → α) :
    VecWindow.put (s := ⟨4, ![m, n, a, b]⟩) (arr4 f) ![p.val, r.val, 0, 0] (⟨4, ![1, 1, a, b]⟩ : Shape).size w
      = arr4 (Function.update f p (Function.update (f p) r w)) := by
  funext y
  unfold VecWindow.put arr4
  by_cases h : y 0 = p ∧ y 1 = r
  · have g0 := congrArg Fin.val h.1
    have g1 := congrArg Fin.val h.2
    have hall : ∀ k : Fin 4, (![p.val, r.val, 0, 0] : Fin 4 → ℕ) k ≤ (y k).val ∧ (y k).val < (![p.val, r.val, 0, 0] : Fin 4 → ℕ) k + (⟨4, ![1, 1, a, b]⟩ : Shape).size k := by
      intro k
      match k with
      | ⟨0, _⟩ => exact ⟨show p.val ≤ (y 0).val by omega, show (y 0).val < p.val + 1 by omega⟩
      | ⟨1, _⟩ => exact ⟨show r.val ≤ (y 1).val by omega, show (y 1).val < r.val + 1 by omega⟩
      | ⟨2, _⟩ => exact ⟨Nat.zero_le _, show (y 2).val < 0 + a by have : (y 2).val < a := (y 2).isLt; omega⟩
      | ⟨3, _⟩ => exact ⟨Nat.zero_le _, show (y 3).val < 0 + b by have : (y 3).val < b := (y 3).isLt; omega⟩
    rw [dif_pos hall, h.1, h.2, Function.update_self, Function.update_self]
    refine congrArg w (funext fun k => Fin.ext ?_)
    rw [Rect.unitLocal_val]
    match k with
    | ⟨0, _⟩ => exact (show (y 0).val - p.val = 0 by omega)
    | ⟨1, _⟩ => exact (show (y 1).val - r.val = 0 by omega)
    | ⟨2, _⟩ => exact Nat.sub_zero _
    | ⟨3, _⟩ => exact Nat.sub_zero _
  · rw [dif_neg]
    · by_cases hp : y 0 = p
      · have hr : y 1 ≠ r := fun e => h ⟨hp, e⟩
        rw [hp, Function.update_self]
        exact (congrFun (Function.update_of_ne hr w (f p)) _).symm
      · exact (congrFun (congrFun (Function.update_of_ne hp (Function.update (f p) r w) f) (y 1)) _).symm
    · intro hall
      obtain ⟨a1, a2⟩ := hall 0
      obtain ⟨b1, b2⟩ := hall 1
      have a1' : p.val ≤ (y 0).val := a1
      have a2' : (y 0).val < p.val + 1 := a2
      have b1' : r.val ≤ (y 1).val := b1
      have b2' : (y 1).val < r.val + 1 := b2
      exact h ⟨Fin.ext (by omega), Fin.ext (by omega)⟩

/-- Both rows of a two-row array, stored. -/
theorem arr3_two {a b : ℕ} (f : Fin 2 → (⟨3, ![1, a, b]⟩ : Shape).Idx → α) (u v : (⟨3, ![1, a, b]⟩ : Shape).Idx → α) :
    Function.update (Function.update f 0 u) 1 v = ![u, v] := by
  funext k
  match k with
  | ⟨0, _⟩ => rfl
  | ⟨1, _⟩ => rfl

section Views

variable {sig : RefSig} {κ : Kind} {sp : Space} {e : EltTy} {Val : EltTy → Type} [∀ e, Nonempty (Val e)]

/-- A load of row `r` of an array given by its rows. -/
theorem readAt_arr3 {n a b : ℕ} (v : View sig κ sp ⟨3, ![n, a, b]⟩ e) (f : Fin n → (⟨3, ![1, a, b]⟩ : Shape).Idx → Val e) (r : Fin n)
    {off : Fin 3 → ℕ} (h : off = ![r.val, 0, 0])
    (inb : ∀ k, off k + (⟨3, ![1, a, b]⟩ : Shape).size k ≤ (⟨3, ![n, a, b]⟩ : Shape).size k) :
    v.readAt Val (Rect.unit (s := ⟨3, ![n, a, b]⟩) off (⟨3, ![1, a, b]⟩ : Shape).size inb).toLoadRect (v.rep (arr3 f)) = f r := by
  subst h
  exact (View.readAt_rep_unit v (arr3 f) inb rfl inb).trans (window_arr3 f r inb)

/-- A load of row `r` of an array. -/
theorem readAt_row3 {n a b : ℕ} (v : View sig κ sp ⟨3, ![n, a, b]⟩ e) (x : (⟨3, ![n, a, b]⟩ : Shape).Idx → Val e) (r : Fin n)
    {off : Fin 3 → ℕ} (h : off = ![r.val, 0, 0])
    (inb : ∀ k, off k + (⟨3, ![1, a, b]⟩ : Shape).size k ≤ (⟨3, ![n, a, b]⟩ : Shape).size k) :
    v.readAt Val (Rect.unit (s := ⟨3, ![n, a, b]⟩) off (⟨3, ![1, a, b]⟩ : Shape).size inb).toLoadRect (v.rep x) = row3 x r := by
  have := readAt_arr3 v (row3 x) r h inb
  rwa [arr3_row3] at this

/-- A load of a row of an array given by its rows. -/
theorem readAt_arr4 {m n a b : ℕ} (v : View sig κ sp ⟨4, ![m, n, a, b]⟩ e) (f : Fin m → Fin n → (⟨4, ![1, 1, a, b]⟩ : Shape).Idx → Val e)
    (p : Fin m) (r : Fin n) {off : Fin 4 → ℕ} (h : off = ![p.val, r.val, 0, 0])
    (inb : ∀ k, off k + (⟨4, ![1, 1, a, b]⟩ : Shape).size k ≤ (⟨4, ![m, n, a, b]⟩ : Shape).size k) :
    v.readAt Val (Rect.unit (s := ⟨4, ![m, n, a, b]⟩) off (⟨4, ![1, 1, a, b]⟩ : Shape).size inb).toLoadRect (v.rep (arr4 f)) = f p r := by
  subst h
  exact (View.readAt_rep_unit v (arr4 f) inb rfl inb).trans (window_arr4 f p r inb)

/-- A load of the row that the last store wrote. -/
theorem readAt_store {s : Shape} (v : View sig κ sp s e) (g : v.ty.Contents Val) {off size : Fin s.rank → ℕ}
    (inb : ∀ k, off k + size k ≤ s.size k) (w : (Rect.unit off size inb).shape.Idx → Val e) (L : List (View.Piece Val s e)) :
    v.readAt Val (Rect.unit off size inb).toLoadRect (v.writes Val g (⟨Rect.unit off size inb, w⟩ :: L)) = w := by
  rw [View.readAt_unit v _ inb rfl inb, View.read_writes_cons_put v g inb w L rfl]
  exact VecWindow.window_put_same _ _ _ _ _

/-- Both rows of a two-row array stored. -/
theorem read_two {a b : ℕ} (v : View sig κ sp ⟨3, ![2, a, b]⟩ e) (g : v.ty.Contents Val) (u w : (⟨3, ![1, a, b]⟩ : Shape).Idx → Val e)
    (i0 : ∀ k, (![0, 0, 0] : Fin 3 → ℕ) k + (⟨3, ![1, a, b]⟩ : Shape).size k ≤ (⟨3, ![2, a, b]⟩ : Shape).size k)
    (i1 : ∀ k, (![1, 0, 0] : Fin 3 → ℕ) k + (⟨3, ![1, a, b]⟩ : Shape).size k ≤ (⟨3, ![2, a, b]⟩ : Shape).size k) :
    v.read Val (v.writes Val g [⟨Rect.unit (s := ⟨3, ![2, a, b]⟩) ![1, 0, 0] (⟨3, ![1, a, b]⟩ : Shape).size i1, w⟩,
      ⟨Rect.unit (s := ⟨3, ![2, a, b]⟩) ![0, 0, 0] (⟨3, ![1, a, b]⟩ : Shape).size i0, u⟩]) = arr3 ![u, w] := by
  rw [View.read_writes_cons_put v g i1 w _ rfl, View.read_writes_cons_put v g i0 u _ rfl, View.writes_nil, ← arr3_row3 (v.read Val g)]
  rw [← arr3_two (row3 (v.read Val g)) u w]
  exact (congrArg (fun z => VecWindow.put (s := ⟨3, ![2, a, b]⟩) z ![1, 0, 0] (⟨3, ![1, a, b]⟩ : Shape).size w)
    (put_arr3 (row3 (v.read Val g)) 0 u)).trans (put_arr3 _ 1 w)

/-- One row stored. -/
theorem read_one {n a b : ℕ} (v : View sig κ sp ⟨3, ![n, a, b]⟩ e) (f : Fin n → (⟨3, ![1, a, b]⟩ : Shape).Idx → Val e) (r : Fin n)
    {off : Fin 3 → ℕ} (h : off = ![r.val, 0, 0]) (w : (⟨3, ![1, a, b]⟩ : Shape).Idx → Val e)
    (inb : ∀ k, off k + (⟨3, ![1, a, b]⟩ : Shape).size k ≤ (⟨3, ![n, a, b]⟩ : Shape).size k) :
    v.read Val (v.writes Val (v.rep (arr3 f)) [⟨Rect.unit (s := ⟨3, ![n, a, b]⟩) off (⟨3, ![1, a, b]⟩ : Shape).size inb, w⟩])
      = arr3 (Function.update f r w) := by
  subst h
  rw [View.read_writes_cons_put v _ inb w _ rfl, View.writes_nil, View.read_rep]
  exact put_arr3 f r w

/-- One row stored twice. -/
theorem read_twice {n a b : ℕ} (v : View sig κ sp ⟨3, ![n, a, b]⟩ e) (f : Fin n → (⟨3, ![1, a, b]⟩ : Shape).Idx → Val e) (r : Fin n)
    {off : Fin 3 → ℕ} (h : off = ![r.val, 0, 0]) (u w : (⟨3, ![1, a, b]⟩ : Shape).Idx → Val e)
    (i0 i1 : ∀ k, off k + (⟨3, ![1, a, b]⟩ : Shape).size k ≤ (⟨3, ![n, a, b]⟩ : Shape).size k) :
    v.read Val (v.writes Val (v.rep (arr3 f)) [⟨Rect.unit (s := ⟨3, ![n, a, b]⟩) off (⟨3, ![1, a, b]⟩ : Shape).size i1, w⟩,
      ⟨Rect.unit (s := ⟨3, ![n, a, b]⟩) off (⟨3, ![1, a, b]⟩ : Shape).size i0, u⟩]) = arr3 (Function.update f r w) := by
  subst h
  rw [View.read_writes_cons_put v _ i1 w _ rfl, View.read_writes_cons_put v _ i0 u _ rfl, View.writes_nil, View.read_rep]
  refine (congrArg (fun z => VecWindow.put (s := ⟨3, ![n, a, b]⟩) z ![r.val, 0, 0] (⟨3, ![1, a, b]⟩ : Shape).size w)
    (put_arr3 f r u)).trans ((put_arr3 _ r w).trans ?_)
  rw [Function.update_idem]

/-- Column `r` of a two-row array of rows stored. -/
theorem read_pair {n a b : ℕ} (v : View sig κ sp ⟨4, ![2, n, a, b]⟩ e) (f : Fin 2 → Fin n → (⟨4, ![1, 1, a, b]⟩ : Shape).Idx → Val e)
    (r : Fin n) {o0 o1 : Fin 4 → ℕ} (h0 : o0 = ![0, r.val, 0, 0]) (h1 : o1 = ![1, r.val, 0, 0])
    (u w : (⟨4, ![1, 1, a, b]⟩ : Shape).Idx → Val e)
    (i0 : ∀ k, o0 k + (⟨4, ![1, 1, a, b]⟩ : Shape).size k ≤ (⟨4, ![2, n, a, b]⟩ : Shape).size k)
    (i1 : ∀ k, o1 k + (⟨4, ![1, 1, a, b]⟩ : Shape).size k ≤ (⟨4, ![2, n, a, b]⟩ : Shape).size k) :
    v.read Val (v.writes Val (v.rep (arr4 f)) [⟨Rect.unit (s := ⟨4, ![2, n, a, b]⟩) o1 (⟨4, ![1, 1, a, b]⟩ : Shape).size i1, w⟩,
      ⟨Rect.unit (s := ⟨4, ![2, n, a, b]⟩) o0 (⟨4, ![1, 1, a, b]⟩ : Shape).size i0, u⟩])
      = arr4 ![Function.update (f 0) r u, Function.update (f 1) r w] := by
  subst h0 h1
  rw [View.read_writes_cons_put v _ i1 w _ rfl, View.read_writes_cons_put v _ i0 u _ rfl, View.writes_nil, View.read_rep]
  refine (congrArg (fun z => VecWindow.put (s := ⟨4, ![2, n, a, b]⟩) z ![1, r.val, 0, 0] (⟨4, ![1, 1, a, b]⟩ : Shape).size w)
    (put_arr4 f 0 r u)).trans ((put_arr4 _ 1 r w).trans (congrArg arr4 (funext fun k => ?_)))
  match k with
  | ⟨0, _⟩ => rfl
  | ⟨1, _⟩ => rfl

/-- A load of row 1 after a store of row 0. -/
theorem readAt_other {n a b : ℕ} (v : View sig κ sp ⟨4, ![2, n, a, b]⟩ e) (f : Fin 2 → Fin n → (⟨4, ![1, 1, a, b]⟩ : Shape).Idx → Val e)
    (r : Fin n) {o0 o1 : Fin 4 → ℕ} (h0 : o0 = ![0, r.val, 0, 0]) (h1 : o1 = ![1, r.val, 0, 0])
    (u : (⟨4, ![1, 1, a, b]⟩ : Shape).Idx → Val e)
    (i0 : ∀ k, o0 k + (⟨4, ![1, 1, a, b]⟩ : Shape).size k ≤ (⟨4, ![2, n, a, b]⟩ : Shape).size k)
    (i1 : ∀ k, o1 k + (⟨4, ![1, 1, a, b]⟩ : Shape).size k ≤ (⟨4, ![2, n, a, b]⟩ : Shape).size k) :
    v.readAt Val (Rect.unit (s := ⟨4, ![2, n, a, b]⟩) o1 (⟨4, ![1, 1, a, b]⟩ : Shape).size i1).toLoadRect
      (v.writes Val (v.rep (arr4 f)) [⟨Rect.unit (s := ⟨4, ![2, n, a, b]⟩) o0 (⟨4, ![1, 1, a, b]⟩ : Shape).size i0, u⟩]) = f 1 r := by
  subst h0 h1
  rw [View.readAt_unit v _ i1 rfl i1, View.read_writes_cons_put v _ i0 u _ rfl, View.writes_nil, View.read_rep]
  exact (congrArg (fun z => VecWindow.window (s := ⟨4, ![2, n, a, b]⟩) z ![1, r.val, 0, 0] (⟨4, ![1, 1, a, b]⟩ : Shape).size i1)
    (put_arr4 f 0 r u)).trans (window_arr4 _ 1 r i1)

end Views

end Cert.Fox

end
-- ==== Proof.State.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Rows
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Fox

/-- The tile of one grid step: the blocks of the keys, values, queries, output, its cotangent, the column of sums, and
the rows of sums and of log-sums. -/
structure Tile (F : FTy → Type) where
  k : S1024x128.Idx → Elt F .f32
  v : S1024x128.Idx → Elt F .f32
  q : S1024x128.Idx → Elt F .f32
  y : S1024x128.Idx → Elt F .bf16
  dy : S1024x128.Idx → Elt F .bf16
  ck : S2x1024x128.Idx → Elt F .f32
  cq : S2x1x1024.Idx → Elt F .f32
  ls : S2x1x1024.Idx → Elt F .f32

/-- The running sums, by rows: for each head of the pair the gradients of the key tile, the value tile and the
key-side sums; for each query tile the transposed gradient of the queries; for each head and query tile the
query-side sums. -/
structure Sums (F : FTy → Type) where
  dk : Fin 2 → S1x1024x128.Idx → Elt F .f32
  dv : Fin 2 → S1x1024x128.Idx → Elt F .f32
  dc : Fin 2 → S1x1024x128.Idx → Elt F .f32
  dqt : Fin 8 → S1x128x1024.Idx → Elt F .f32
  dcq : Fin 2 → Fin 8 → S1x1x1x1024.Idx → Elt F .f32

/-- What the output and its cotangent contribute per query row. -/
def dRow (x : Tile F) : S1x8x1024.Idx → Elt F .f32 := k0_pay7 x.y x.dy

/-- The query-side sums cleared. -/
def Sums.clearQ (s : Sums F) : Sums F :=
  { s with dqt := fun r => row3 (k0_pay2 (F := F)) r, dcq := fun h r y => k0_pay3 (F := F) (ValueIdx.ix4 h r (y 2) (y 3)) }

/-- The key-side sums cleared. -/
def Sums.clearK (s : Sums F) : Sums F :=
  { s with dk := row3 (k0_pay4 (F := F)), dv := row3 (k0_pay5 (F := F)), dc := row3 (k0_pay6 (F := F)) }

/-- Head 0 of the pair, a step off the diagonal: the new gradient of the key tile. -/
def offDk0 (x : Tile F) (D : S1x8x1024.Idx → Elt F .f32) (s : Sums F) : S1x1024x128.Idx → Elt F .f32 :=
  let v35 := k0_pay18 x.q
  let v60 := k0_pay21 k0_pay1 x.k x.q (row3 x.cq 0) (row3 x.ls 0) (row3 x.ck 0)
  let v61 := k0_pay22 k0_pay1 x.v x.dy
  let v63 := k0_pay23 D
  k0_pay27 v35 v60 v61 v63 (s.dk 0)

/-- The new gradient of the value tile. -/
def offDv0 (x : Tile F) (D : S1x8x1024.Idx → Elt F .f32) (s : Sums F) : S1x1024x128.Idx → Elt F .f32 :=
  let v60 := k0_pay21 k0_pay1 x.k x.q (row3 x.cq 0) (row3 x.ls 0) (row3 x.ck 0)
  k0_pay26 x.dy v60 (s.dv 0)

/-- The new key-side sums. -/
def offDc0 (x : Tile F) (D : S1x8x1024.Idx → Elt F .f32) (s : Sums F) : S1x1024x128.Idx → Elt F .f32 :=
  let v60 := k0_pay21 k0_pay1 x.k x.q (row3 x.cq 0) (row3 x.ls 0) (row3 x.ck 0)
  let v61 := k0_pay22 k0_pay1 x.v x.dy
  let v63 := k0_pay23 D
  k0_pay28 v60 v61 v63 (s.dc 0)

/-- The new query-side sums of query tile `r`. -/
def offDcq0 (x : Tile F) (D : S1x8x1024.Idx → Elt F .f32) (s : Sums F) (r : Fin 8) : S1x1x1x1024.Idx → Elt F .f32 :=
  let v60 := k0_pay21 k0_pay1 x.k x.q (row3 x.cq 0) (row3 x.ls 0) (row3 x.ck 0)
  let v61 := k0_pay22 k0_pay1 x.v x.dy
  let v63 := k0_pay23 D
  let v65 := k0_pay24 v60 v61 v63
  k0_pay31 v65 (s.dcq 0 r)

/-- Head 1 of the pair, a step off the diagonal: the new gradient of the key tile. -/
def offDk1 (x : Tile F) (D : S1x8x1024.Idx → Elt F .f32) (s : Sums F) : S1x1024x128.Idx → Elt F .f32 :=
  let v29 := k0_pay16 x.k
  let v31 := k0_pay17 x.v
  let v35 := k0_pay18 x.q
  let v39 := k0_pay19 D
  let v118 := k0_pay34 k0_pay1 v31
  let v131 := k0_pay35 k0_pay1 v29 v35 (row3 x.cq 1) (row3 x.ls 1) (row3 x.ck 1)
  let cst := constant S1024x1024 .f32 0x00000000#32
  k0_pay39 v35 x.dy v39 v118 v131 cst (s.dk 1)

/-- The new gradient of the value tile. -/
def offDv1 (x : Tile F) (D : S1x8x1024.Idx → Elt F .f32) (s : Sums F) : S1x1024x128.Idx → Elt F .f32 :=
  let v29 := k0_pay16 x.k
  let v35 := k0_pay18 x.q
  let v131 := k0_pay35 k0_pay1 v29 v35 (row3 x.cq 1) (row3 x.ls 1) (row3 x.ck 1)
  k0_pay38 x.dy v131 (s.dv 1)

/-- The new key-side sums. -/
def offDc1 (x : Tile F) (D : S1x8x1024.Idx → Elt F .f32) (s : Sums F) : S1x1024x128.Idx → Elt F .f32 :=
  let v29 := k0_pay16 x.k
  let v31 := k0_pay17 x.v
  let v35 := k0_pay18 x.q
  let v39 := k0_pay19 D
  let v118 := k0_pay34 k0_pay1 v31
  let v131 := k0_pay35 k0_pay1 v29 v35 (row3 x.cq 1) (row3 x.ls 1) (row3 x.ck 1)
  let cst := constant S1024x1024 .f32 0x00000000#32
  k0_pay40 x.dy v39 v118 v131 cst (s.dc 1)

/-- The new query-side sums of query tile `r`. -/
def offDcq1 (x : Tile F) (D : S1x8x1024.Idx → Elt F .f32) (s : Sums F) (r : Fin 8) : S1x1x1x1024.Idx → Elt F .f32 :=
  let v29 := k0_pay16 x.k
  let v31 := k0_pay17 x.v
  let v35 := k0_pay18 x.q
  let v39 := k0_pay19 D
  let v118 := k0_pay34 k0_pay1 v31
  let v131 := k0_pay35 k0_pay1 v29 v35 (row3 x.cq 1) (row3 x.ls 1) (row3 x.ck 1)
  let cst := constant S1024x1024 .f32 0x00000000#32
  k0_pay9 (k0_pay36 x.dy v39 v118 v131 cst) (s.dcq 1 r)

/-- The transposed gradient of query tile `r` after head 0. -/
def offDqA (x : Tile F) (D : S1x8x1024.Idx → Elt F .f32) (s : Sums F) (r : Fin 8) : S1x128x1024.Idx → Elt F .f32 :=
  let v43 := k0_pay20 k0_pay1 x.k
  let v60 := k0_pay21 k0_pay1 x.k x.q (row3 x.cq 0) (row3 x.ls 0) (row3 x.ck 0)
  let v61 := k0_pay22 k0_pay1 x.v x.dy
  let v63 := k0_pay23 D
  k0_pay30 (k0_pay29 v43 v60 v61 v63 (s.dqt r))

/-- The transposed gradient of query tile `r` after both heads. -/
def offDq (x : Tile F) (D : S1x8x1024.Idx → Elt F .f32) (s : Sums F) (r : Fin 8) : S1x128x1024.Idx → Elt F .f32 :=
  let v29 := k0_pay16 x.k
  let v31 := k0_pay17 x.v
  let v35 := k0_pay18 x.q
  let v39 := k0_pay19 D
  let v118 := k0_pay34 k0_pay1 v31
  let v131 := k0_pay35 k0_pay1 v29 v35 (row3 x.cq 1) (row3 x.ls 1) (row3 x.ck 1)
  let cst := constant S1024x1024 .f32 0x00000000#32
  let cst9 := constant S128x1024 .f32 0x00000000#32
  k0_pay8 (k0_pay33 k0_pay1 v29) (k0_pay37 x.dy v39 v118 v131 cst) (k0_pay41 (offDqA x D s r)) cst9

/-- A step off the diagonal, for query tile `r`. -/
def offStep (x : Tile F) (D : S1x8x1024.Idx → Elt F .f32) (s : Sums F) (r : Fin 8) : Sums F where
  dk := ![offDk0 x D s, offDk1 x D s]
  dv := ![offDv0 x D s, offDv1 x D s]
  dc := ![offDc0 x D s, offDc1 x D s]
  dqt := Function.update s.dqt r (offDq x D s r)
  dcq := ![Function.update (s.dcq 0) r (offDcq0 x D s r), Function.update (s.dcq 1) r (offDcq1 x D s r)]

/-- Head 0 of the pair, a step on the diagonal: the new gradient of the key tile. -/
def diagDk0 (x : Tile F) (D : S1x8x1024.Idx → Elt F .f32) (s : Sums F) : S1x1024x128.Idx → Elt F .f32 :=
  let v35 := k0_pay44 x.q
  let v39 := k0_pay45 D
  let v47 := k0_pay47 k0_pay1 x.v
  let v59 := k0_pay48 k0_pay1 x.k x.q (row3 x.cq 0) (row3 x.ls 0) (row3 x.ck 0)
  let v62 := k0_pay49
  let v63 := k0_pay50 (F := F)
  k0_pay55 v35 x.dy v39 v47 v59 v62 v63 (s.dk 0)

/-- The new gradient of the value tile. -/
def diagDv0 (x : Tile F) (D : S1x8x1024.Idx → Elt F .f32) (s : Sums F) : S1x1024x128.Idx → Elt F .f32 :=
  let v59 := k0_pay48 k0_pay1 x.k x.q (row3 x.cq 0) (row3 x.ls 0) (row3 x.ck 0)
  let v62 := k0_pay49
  let v63 := k0_pay50 (F := F)
  k0_pay54 x.dy v59 v62 v63 (s.dv 0)

/-- The new key-side sums. -/
def diagDc0 (x : Tile F) (D : S1x8x1024.Idx → Elt F .f32) (s : Sums F) : S1x1024x128.Idx → Elt F .f32 :=
  let v39 := k0_pay45 D
  let v47 := k0_pay47 k0_pay1 x.v
  let v59 := k0_pay48 k0_pay1 x.k x.q (row3 x.cq 0) (row3 x.ls 0) (row3 x.ck 0)
  let v62 := k0_pay49
  let v63 := k0_pay50 (F := F)
  k0_pay56 x.dy v39 v47 v59 v62 v63 (s.dc 0)

/-- The new query-side sums of query tile `r`. -/
def diagDcq0 (x : Tile F) (D : S1x8x1024.Idx → Elt F .f32) (s : Sums F) (r : Fin 8) : S1x1x1x1024.Idx → Elt F .f32 :=
  let v39 := k0_pay45 D
  let v47 := k0_pay47 k0_pay1 x.v
  let v59 := k0_pay48 k0_pay1 x.k x.q (row3 x.cq 0) (row3 x.ls 0) (row3 x.ck 0)
  let v62 := k0_pay49
  let v63 := k0_pay50 (F := F)
  let v70 := k0_pay52 x.dy v39 v47 v59 v62 v63
  k0_pay58 v70 (s.dcq 0 r)

/-- Head 1 of the pair, a step on the diagonal: the new gradient of the key tile. -/
def diagDk1 (x : Tile F) (D : S1x8x1024.Idx → Elt F .f32) (s : Sums F) : S1x1024x128.Idx → Elt F .f32 :=
  let v29 := k0_pay42 x.k
  let v31 := k0_pay43 x.v
  let v35 := k0_pay44 x.q
  let v39 := k0_pay45 D
  let v123 := k0_pay61 k0_pay1 v31
  let v131 := k0_pay62 k0_pay1 v29 v35 (row3 x.cq 1) (row3 x.ls 1)
  let v132 := row3 x.ck 1
  k0_pay67 v35 x.dy v39 v123 v131 v132 (s.dk 1)

/-- The new gradient of the value tile. -/
def diagDv1 (x : Tile F) (D : S1x8x1024.Idx → Elt F .f32) (s : Sums F) : S1x1024x128.Idx → Elt F .f32 :=
  let v29 := k0_pay42 x.k
  let v35 := k0_pay44 x.q
  let v131 := k0_pay62 k0_pay1 v29 v35 (row3 x.cq 1) (row3 x.ls 1)
  let v132 := row3 x.ck 1
  k0_pay66 x.dy v131 v132 (s.dv 1)

/-- The new key-side sums. -/
def diagDc1 (x : Tile F) (D : S1x8x1024.Idx → Elt F .f32) (s : Sums F) : S1x1024x128.Idx → Elt F .f32 :=
  let v29 := k0_pay42 x.k
  let v31 := k0_pay43 x.v
  let v35 := k0_pay44 x.q
  let v39 := k0_pay45 D
  let v123 := k0_pay61 k0_pay1 v31
  let v131 := k0_pay62 k0_pay1 v29 v35 (row3 x.cq 1) (row3 x.ls 1)
  let v132 := row3 x.ck 1
  k0_pay10 (k0_pay68 x.dy v39 v123 v131 v132 (s.dc 1))

/-- The new query-side sums of query tile `r`. -/
def diagDcq1 (x : Tile F) (D : S1x8x1024.Idx → Elt F .f32) (s : Sums F) (r : Fin 8) : S1x1x1x1024.Idx → Elt F .f32 :=
  let v29 := k0_pay42 x.k
  let v31 := k0_pay43 x.v
  let v35 := k0_pay44 x.q
  let v39 := k0_pay45 D
  let v123 := k0_pay61 k0_pay1 v31
  let v131 := k0_pay62 k0_pay1 v29 v35 (row3 x.cq 1) (row3 x.ls 1)
  let v132 := row3 x.ck 1
  k0_pay12 (k0_pay64 x.dy v39 v123 v131 v132) (s.dcq 1 r)

/-- The transposed gradient of query tile `r` after head 0. -/
def diagDqA (x : Tile F) (D : S1x8x1024.Idx → Elt F .f32) (s : Sums F) (r : Fin 8) : S1x128x1024.Idx → Elt F .f32 :=
  let v39 := k0_pay45 D
  let v43 := k0_pay46 k0_pay1 x.k
  let v47 := k0_pay47 k0_pay1 x.v
  let v59 := k0_pay48 k0_pay1 x.k x.q (row3 x.cq 0) (row3 x.ls 0) (row3 x.ck 0)
  let v62 := k0_pay49
  let v63 := k0_pay50 (F := F)
  let v71 := k0_pay53 x.dy v39 v47 v59 v62 v63
  k0_pay57 v43 v71 (s.dqt r)

/-- The transposed gradient of query tile `r` after both heads. -/
def diagDq (x : Tile F) (D : S1x8x1024.Idx → Elt F .f32) (s : Sums F) (r : Fin 8) : S1x128x1024.Idx → Elt F .f32 :=
  let v29 := k0_pay42 x.k
  let v31 := k0_pay43 x.v
  let v35 := k0_pay44 x.q
  let v39 := k0_pay45 D
  let v119 := k0_pay60 k0_pay1 v29
  let v123 := k0_pay61 k0_pay1 v31
  let v131 := k0_pay62 k0_pay1 v29 v35 (row3 x.cq 1) (row3 x.ls 1)
  let v132 := row3 x.ck 1
  k0_pay11 v119 (k0_pay65 x.dy v39 v123 v131 v132) (diagDqA x D s r)

/-- A step on the diagonal, for query tile `r`. -/
def diagStep (x : Tile F) (D : S1x8x1024.Idx → Elt F .f32) (s : Sums F) (r : Fin 8) : Sums F where
  dk := ![diagDk0 x D s, diagDk1 x D s]
  dv := ![diagDv0 x D s, diagDv1 x D s]
  dc := ![diagDc0 x D s, diagDc1 x D s]
  dqt := Function.update s.dqt r (diagDq x D s r)
  dcq := ![Function.update (s.dcq 0) r (diagDcq0 x D s r), Function.update (s.dcq 1) r (diagDcq1 x D s r)]

/-- What the last step of a key tile stores as the gradient of the key tile. -/
def outDk (s : Sums F) : S1024x128.Idx → Elt F .bf16 := k0_pay69 k0_pay1 (s.dk 0) (s.dk 1)

/-- What it stores as the gradient of the value tile. -/
def outDv (s : Sums F) : S1024x128.Idx → Elt F .bf16 := k0_pay70 k0_pay1 (s.dv 0) (s.dv 1)

/-- What it stores as the key-side sums. -/
def outDc (i : grid0.Coords) (s : Sums F) : S1x1024x128.Idx → Elt F .f32 :=
  k0_pay13 (k0_pay71 (BitVec.ofNat 32 (i 0).val) (s.dc 0)) (k0_pay72 (BitVec.ofNat 32 (i 0).val)) (s.dc 1)

/-- What the last step of a pair of heads stores as the gradient of the query rows, in tiles of 1024 rows. -/
def outDq (s : Sums F) : S8192x128.Idx → Elt F .bf16 := fun y =>
  k0_pay73 (s.dqt ⟨(y 0).val / 1024, by have : (y 0).val < 8192 := (y 0).isLt; show _ < 8; omega⟩)
    (ValueIdx.ix2 ⟨(y 0).val % 1024, Nat.mod_lt _ (by norm_num)⟩ (y 1))

/-- What it stores as the query-side sums, in tiles of 1024 columns. -/
def outDcq (s : Sums F) : S2x1x8192.Idx → Elt F .f32 := fun y =>
  k0_pay74 (s.dcq (y 0) ⟨(y 2).val / 1024, by have : (y 2).val < 8192 := (y 2).isLt; show _ < 8; omega⟩)
    (ValueIdx.ix3 0 0 ⟨(y 2).val % 1024, Nat.mod_lt _ (by norm_num)⟩)

abbrev tb0 : Memref sig .tc .smem S36 .i32 := Memref.whole main_c
abbrev tb1 : Memref sig .tc .smem S36 .i32 := Memref.whole main_c_0
abbrev sc0 : Memref sig .tc .vmem S2x1024x128 .f32 := Memref.whole cc0_scratch0
abbrev sc1 : Memref sig .tc .vmem S2x1024x128 .f32 := Memref.whole cc0_scratch1
abbrev sc2 : Memref sig .tc .vmem S2x1024x128 .f32 := Memref.whole cc0_scratch2
abbrev sc3 : Memref sig .tc .vmem S8x128x1024 .f32 := Memref.whole cc0_scratch3
abbrev sc4 : Memref sig .tc .vmem S2x8x1x1024 .f32 := Memref.whole cc0_scratch4
abbrev sc5 : Memref sig .tc .vmem S8x8x1024 .f32 := Memref.whole cc0_scratch5

end Cert.KernelIdeal.Fox

end
-- ==== Proof.Pins.lean ====
module

public import proofs.«01_k».proof.Proof.State

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Fox

/-- The query tile and the key tile of each step of a pair of heads: for each key tile, the query tiles from it on. -/
def iqs : List ℕ := [0, 1, 2, 3, 4, 5, 6, 7, 1, 2, 3, 4, 5, 6, 7, 2, 3, 4, 5, 6, 7, 3, 4, 5, 6, 7, 4, 5, 6, 7, 5, 6, 7, 6, 7, 7]
def iks : List ℕ := [0, 0, 0, 0, 0, 0, 0, 0, 1, 1, 1, 1, 1, 1, 1, 2, 2, 2, 2, 2, 2, 3, 3, 3, 3, 3, 4, 4, 4, 4, 5, 5, 5, 6, 6, 7]
def iq (n : ℕ) : ℕ := iqs.getD (n % 36) 0
def ik (n : ℕ) : ℕ := iks.getD (n % 36) 0

/-- The two tables. -/
def tab0 : S36.Idx → BitVec 32 := fun x => BitVec.ofNat 32 (iqs.getD (x 0).val 0)
def tab1 : S36.Idx → BitVec 32 := fun x => BitVec.ofNat 32 (iks.getD (x 0).val 0)

set_option backward.proofsInPublic true in
/-- The tables' contents. -/
def tabs : pre0.Contents (Elt Ideal) := fun | ⟨0, _⟩ => tab0 | ⟨1, _⟩ => tab1 | ⟨_ + 2, h⟩ => absurd h (by simp)

theorem tab0_eq : (fun i => lit0 (S36.rowMajor i)) = tab0 := by
  funext i; revert i; decide +kernel
theorem tab1_eq : (fun i => lit1 (S36.rowMajor i)) = tab1 := by
  funext i; revert i; decide +kernel

/-! ## The windows' blocks lie in their arrays -/

theorem in0 : ∀ i : grid0.Coords, ∀ a, (cc0_transform_0 k0_off1_inb numel1_S1 tabs i a + 1) * S1024x128.size a ≤ S8192x7040.size a := by decide +kernel
theorem blk0 : ∀ i : grid0.Coords, ∃ h : (∀ a, (cc0_transform_0 k0_off1_inb numel1_S1 tabs i a + 1) * S1024x128.size a ≤ S8192x7040.size a), EltTy.bits .f32 = 32 ∨ (Rect.block (s := S8192x7040) S1024x128.size (cc0_transform_0 k0_off1_inb numel1_S1 tabs i) h).WholeWords (EltTy.packing .f32) :=
  fun i => ⟨in0 i, .inl rfl⟩

theorem in1 : ∀ i : grid0.Coords, ∀ a, (cc0_transform_1 k0_off1_inb numel1_S1 tabs i a + 1) * S1024x128.size a ≤ S8192x7040.size a := by decide +kernel
theorem blk1 : ∀ i : grid0.Coords, ∃ h : (∀ a, (cc0_transform_1 k0_off1_inb numel1_S1 tabs i a + 1) * S1024x128.size a ≤ S8192x7040.size a), EltTy.bits .f32 = 32 ∨ (Rect.block (s := S8192x7040) S1024x128.size (cc0_transform_1 k0_off1_inb numel1_S1 tabs i) h).WholeWords (EltTy.packing .f32) :=
  fun i => ⟨in1 i, .inl rfl⟩

theorem in2 : ∀ i : grid0.Coords, ∀ a, (cc0_transform_2 k0_off1_inb numel1_S1 tabs i a + 1) * S1024x128.size a ≤ S8192x7040.size a := by decide +kernel
theorem blk2 : ∀ i : grid0.Coords, ∃ h : (∀ a, (cc0_transform_2 k0_off1_inb numel1_S1 tabs i a + 1) * S1024x128.size a ≤ S8192x7040.size a), EltTy.bits .f32 = 32 ∨ (Rect.block (s := S8192x7040) S1024x128.size (cc0_transform_2 k0_off1_inb numel1_S1 tabs i) h).WholeWords (EltTy.packing .f32) :=
  fun i => ⟨in2 i, .inl rfl⟩

theorem in3 : ∀ i : grid0.Coords, ∀ a, (cc0_transform_3 k0_off1_inb numel1_S1 tabs i a + 1) * S1024x128.size a ≤ S8192x512.size a := by decide +kernel
theorem blk3 : ∀ i : grid0.Coords, ∃ h : (∀ a, (cc0_transform_3 k0_off1_inb numel1_S1 tabs i a + 1) * S1024x128.size a ≤ S8192x512.size a), EltTy.bits .bf16 = 32 ∨ (Rect.block (s := S8192x512) S1024x128.size (cc0_transform_3 k0_off1_inb numel1_S1 tabs i) h).WholeWords (EltTy.packing .bf16) :=
  fun i => ⟨in3 i, .inr (Affine.block_words_dvd (s := S8192x512) (p := EltTy.packing .bf16) (by decide) (by decide))⟩

theorem in4 : ∀ i : grid0.Coords, ∀ a, (cc0_transform_4 k0_off1_inb numel1_S1 tabs i a + 1) * S1024x128.size a ≤ S8192x512.size a := by decide +kernel
theorem blk4 : ∀ i : grid0.Coords, ∃ h : (∀ a, (cc0_transform_4 k0_off1_inb numel1_S1 tabs i a + 1) * S1024x128.size a ≤ S8192x512.size a), EltTy.bits .bf16 = 32 ∨ (Rect.block (s := S8192x512) S1024x128.size (cc0_transform_4 k0_off1_inb numel1_S1 tabs i) h).WholeWords (EltTy.packing .bf16) :=
  fun i => ⟨in4 i, .inr (Affine.block_words_dvd (s := S8192x512) (p := EltTy.packing .bf16) (by decide) (by decide))⟩

theorem in5 : ∀ i : grid0.Coords, ∀ a, (cc0_transform_5 k0_off1_inb numel1_S1 tabs i a + 1) * S2x1024x128.size a ≤ S8x8192x128.size a := by decide +kernel
theorem blk5 : ∀ i : grid0.Coords, ∃ h : (∀ a, (cc0_transform_5 k0_off1_inb numel1_S1 tabs i a + 1) * S2x1024x128.size a ≤ S8x8192x128.size a), EltTy.bits .f32 = 32 ∨ (Rect.block (s := S8x8192x128) S2x1024x128.size (cc0_transform_5 k0_off1_inb numel1_S1 tabs i) h).WholeWords (EltTy.packing .f32) :=
  fun i => ⟨in5 i, .inl rfl⟩

theorem in6 : ∀ i : grid0.Coords, ∀ a, (cc0_transform_6 k0_off1_inb numel1_S1 tabs i a + 1) * S2x1x1024.size a ≤ S8x1x8192.size a := by decide +kernel
theorem blk6 : ∀ i : grid0.Coords, ∃ h : (∀ a, (cc0_transform_6 k0_off1_inb numel1_S1 tabs i a + 1) * S2x1x1024.size a ≤ S8x1x8192.size a), EltTy.bits .f32 = 32 ∨ (Rect.block (s := S8x1x8192) S2x1x1024.size (cc0_transform_6 k0_off1_inb numel1_S1 tabs i) h).WholeWords (EltTy.packing .f32) :=
  fun i => ⟨in6 i, .inl rfl⟩

theorem in7 : ∀ i : grid0.Coords, ∀ a, (cc0_transform_7 k0_off1_inb numel1_S1 tabs i a + 1) * S2x1x1024.size a ≤ S8x1x8192.size a := by decide +kernel
theorem blk7 : ∀ i : grid0.Coords, ∃ h : (∀ a, (cc0_transform_7 k0_off1_inb numel1_S1 tabs i a + 1) * S2x1x1024.size a ≤ S8x1x8192.size a), EltTy.bits .f32 = 32 ∨ (Rect.block (s := S8x1x8192) S2x1x1024.size (cc0_transform_7 k0_off1_inb numel1_S1 tabs i) h).WholeWords (EltTy.packing .f32) :=
  fun i => ⟨in7 i, .inl rfl⟩

theorem in9 : ∀ i : grid0.Coords, ∀ a, (cc0_transform_9 k0_off1_inb numel1_S1 tabs i a + 1) * S1024x128.size a ≤ S8192x512.size a := by decide +kernel
theorem blk9 : ∀ i : grid0.Coords, ∃ h : (∀ a, (cc0_transform_9 k0_off1_inb numel1_S1 tabs i a + 1) * S1024x128.size a ≤ S8192x512.size a), EltTy.bits .bf16 = 32 ∨ (Rect.block (s := S8192x512) S1024x128.size (cc0_transform_9 k0_off1_inb numel1_S1 tabs i) h).WholeWords (EltTy.packing .bf16) :=
  fun i => ⟨in9 i, .inr (Affine.block_words_dvd (s := S8192x512) (p := EltTy.packing .bf16) (by decide) (by decide))⟩

theorem in10 : ∀ i : grid0.Coords, ∀ a, (cc0_transform_10 k0_off1_inb numel1_S1 tabs i a + 1) * S1024x128.size a ≤ S8192x512.size a := by decide +kernel
theorem blk10 : ∀ i : grid0.Coords, ∃ h : (∀ a, (cc0_transform_10 k0_off1_inb numel1_S1 tabs i a + 1) * S1024x128.size a ≤ S8192x512.size a), EltTy.bits .bf16 = 32 ∨ (Rect.block (s := S8192x512) S1024x128.size (cc0_transform_10 k0_off1_inb numel1_S1 tabs i) h).WholeWords (EltTy.packing .bf16) :=
  fun i => ⟨in10 i, .inr (Affine.block_words_dvd (s := S8192x512) (p := EltTy.packing .bf16) (by decide) (by decide))⟩

theorem in11 : ∀ i : grid0.Coords, ∀ a, (cc0_transform_11 k0_off1_inb numel1_S1 tabs i a + 1) * S1x1024x128.size a ≤ S4x8192x128.size a := by decide +kernel
theorem blk11 : ∀ i : grid0.Coords, ∃ h : (∀ a, (cc0_transform_11 k0_off1_inb numel1_S1 tabs i a + 1) * S1x1024x128.size a ≤ S4x8192x128.size a), EltTy.bits .f32 = 32 ∨ (Rect.block (s := S4x8192x128) S1x1024x128.size (cc0_transform_11 k0_off1_inb numel1_S1 tabs i) h).WholeWords (EltTy.packing .f32) :=
  fun i => ⟨in11 i, .inl rfl⟩

theorem ok_tabs : ok0 (F := Ideal) tabs := ⟨blk0, blk1, blk2, blk3, blk4, blk5, blk6, blk7, blk9, blk10, blk11⟩

/-- The launch's tables, and the pipeline at them. -/
def adm : (pcfg0 (F := Ideal)).Adm := ⟨tabs, ok_tabs⟩
abbrev cfgA : Pipeline.Cfg sig Λ₀ := cfg0 (F := Ideal) adm
abbrev pcs : Fin 1 → Pipeline.Cfg sig Λ₀ := Pipeline.pin (pcfgs (F := Ideal)) fun _ => adm

/-- A step's coordinates. -/
abbrev crd (t : Fin cfgA.N) : cfgA.grid.Coords := cfgA.grid.coords t

/-- The query tile of a step, and its words. -/
def row (n : ℕ) : Fin 8 := Fin.ofNat 8 (iq n)
def w0 (n : ℕ) : BitVec 32 := BitVec.ofNat 32 (iq n)
def w1 (n : ℕ) : BitVec 32 := BitVec.ofNat 32 (ik n)

/-- Whether a step is the last of its key tile, of its pair of heads. -/
def isKey (n : ℕ) : Bool := iq n == 7
def isEnd (n : ℕ) : Bool := n % 36 == 35

/-- The schedule at a step. -/
abbrev FactsAt (t : Fin cfgA.N) : Prop :=
  (cfgA.idle (8 : Fin 13) (cfgA.grid.coords t) = !isEnd t.val ∧ (cfgA.win (8 : Fin 13)).flush t = isEnd t.val)
  ∧ (cfgA.idle (9 : Fin 13) (cfgA.grid.coords t) = !isKey t.val ∧ (cfgA.win (9 : Fin 13)).flush t = isKey t.val)
  ∧ (cfgA.idle (10 : Fin 13) (cfgA.grid.coords t) = !isKey t.val ∧ (cfgA.win (10 : Fin 13)).flush t = isKey t.val)
  ∧ (cfgA.idle (11 : Fin 13) (cfgA.grid.coords t) = !isKey t.val ∧ (cfgA.win (11 : Fin 13)).flush t = isKey t.val)
  ∧ (cfgA.idle (12 : Fin 13) (cfgA.grid.coords t) = !isEnd t.val ∧ (cfgA.win (12 : Fin 13)).flush t = isEnd t.val)

theorem read0 : ∀ t : Fin cfgA.N, View.readAt (Elt Ideal) tb0.view (Rect.unit (s := S36) (k0_off1 (crd t)) S1.size (k0_off1_inb (crd t))).toLoadRect tab0 (Shape.Idx.first (numel1_S1.symm ▸ Nat.one_pos)) = w0 t.val := by decide +kernel
theorem read1 : ∀ t : Fin cfgA.N, View.readAt (Elt Ideal) tb1.view (Rect.unit (s := S36) (k0_off1 (crd t)) S1.size (k0_off1_inb (crd t))).toLoadRect tab1 (Shape.Idx.first (numel1_S1.symm ▸ Nat.one_pos)) = w1 t.val := by decide +kernel
theorem chk : ∀ t : Fin cfgA.N, k0_chk1 (w0 t.val) (w1 t.val) := by decide +kernel
theorem row_eq : ∀ t : Fin cfgA.N, (w0 t.val).toNat = (row t.val).val := by decide +kernel
theorem key_eq : ∀ t : Fin cfgA.N, (k0_cond6 (w0 t.val) = 1#1) ↔ isKey t.val = true := by decide +kernel
theorem end_eq : ∀ t : Fin cfgA.N, (k0_cond7 (crd t) = 1#1) ↔ isEnd t.val = true := by decide +kernel
theorem facts_0 : ∀ t : Fin cfgA.N, 0 ≤ t.val → t.val < 18 → FactsAt t := by decide +kernel
theorem facts_18 : ∀ t : Fin cfgA.N, 18 ≤ t.val → t.val < 36 → FactsAt t := by decide +kernel
theorem facts_36 : ∀ t : Fin cfgA.N, 36 ≤ t.val → t.val < 54 → FactsAt t := by decide +kernel
theorem facts_54 : ∀ t : Fin cfgA.N, 54 ≤ t.val → t.val < 72 → FactsAt t := by decide +kernel
theorem facts_72 : ∀ t : Fin cfgA.N, 72 ≤ t.val → t.val < 90 → FactsAt t := by decide +kernel
theorem facts_90 : ∀ t : Fin cfgA.N, 90 ≤ t.val → t.val < 108 → FactsAt t := by decide +kernel
theorem facts_108 : ∀ t : Fin cfgA.N, 108 ≤ t.val → t.val < 126 → FactsAt t := by decide +kernel
theorem facts_126 : ∀ t : Fin cfgA.N, 126 ≤ t.val → t.val < 144 → FactsAt t := by decide +kernel
theorem facts : ∀ t : Fin cfgA.N, FactsAt t := fun t => by
  have h0 : 0 ≤ t.val := Nat.zero_le _
  rcases Nat.lt_or_ge t.val 18 with h18 | h18; · exact facts_0 t h0 h18
  rcases Nat.lt_or_ge t.val 36 with h36 | h36; · exact facts_18 t h18 h36
  rcases Nat.lt_or_ge t.val 54 with h54 | h54; · exact facts_36 t h36 h54
  rcases Nat.lt_or_ge t.val 72 with h72 | h72; · exact facts_54 t h54 h72
  rcases Nat.lt_or_ge t.val 90 with h90 | h90; · exact facts_72 t h72 h90
  rcases Nat.lt_or_ge t.val 108 with h108 | h108; · exact facts_90 t h90 h108
  rcases Nat.lt_or_ge t.val 126 with h126 | h126; · exact facts_108 t h108 h126
  exact facts_126 t h126 t.isLt

/-- The words of a step decide its clearings, and that a row is summed up before it is used. -/
theorem first_step : ∀ t : Fin cfgA.N, t.val = 0 → Scalar.cmpi .ne (Scalar.extui (Scalar.cmpi .eq (BitVec.ofNat 32 ((crd t) 1).val) 0#32)) 0#32 = 1#1
    ∧ Scalar.cmpi .ne (Scalar.extui (Scalar.cmpi .eq (w0 t.val) (w1 t.val))) 0#32 = 1#1 := by decide +kernel
theorem row_known : ∀ t : Fin cfgA.N, k0_cond3 (w1 t.val) = 1#1 ∨ (row t.val).val < t.val := by decide +kernel
theorem row_new : ∀ t : Fin cfgA.N, ∀ r : Fin 8, r.val = t.val → k0_cond3 (w1 t.val) = 1#1 ∧ r = row t.val := by decide +kernel

end Cert.KernelIdeal.Fox

end
-- ==== Proof.Secs.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (i : grid0.Coords) (a2 : Memref sig .tc .smem S36 .i32) (ha2 : a2.IsWhole) (a3 : Memref sig .tc .smem S36 .i32) (ha3 : a3.IsWhole) (a4 : Memref sig .tc .vmem S1024x128 .f32) (ha4 : a4.IsWhole) (a5 : Memref sig .tc .vmem S1024x128 .f32) (ha5 : a5.IsWhole) (a6 : Memref sig .tc .vmem S1024x128 .f32) (ha6 : a6.IsWhole) (a7 : Memref sig .tc .vmem S1024x128 .bf16) (ha7 : a7.IsWhole) (a8 : Memref sig .tc .vmem S1024x128 .bf16) (ha8 : a8.IsWhole) (a9 : Memref sig .tc .vmem S2x1024x128 .f32) (ha9 : a9.IsWhole) (a10 : Memref sig .tc .vmem S2x1x1024 .f32) (ha10 : a10.IsWhole) (a11 : Memref sig .tc .vmem S2x1x1024 .f32) (ha11 : a11.IsWhole) (a12 : Memref sig .tc .vmem S8192x128 .bf16) (ha12 : a12.IsWhole) (a13 : Memref sig .tc .vmem S1024x128 .bf16) (ha13 : a13.IsWhole) (a14 : Memref sig .tc .vmem S1024x128 .bf16) (ha14 : a14.IsWhole) (a15 : Memref sig .tc .vmem S1x1024x128 .f32) (ha15 : a15.IsWhole) (a16 : Memref sig .tc .vmem S2x1x8192 .f32) (ha16 : a16.IsWhole) (a17 : Memref sig .tc .vmem S2x1024x128 .f32) (ha17 : a17.IsWhole) (a18 : Memref sig .tc .vmem S2x1024x128 .f32) (ha18 : a18.IsWhole) (a19 : Memref sig .tc .vmem S2x1024x128 .f32) (ha19 : a19.IsWhole) (a20 : Memref sig .tc .vmem S8x128x1024 .f32) (ha20 : a20.IsWhole) (a21 : Memref sig .tc .vmem S2x8x1x1024 .f32) (ha21 : a21.IsWhole) (a22 : Memref sig .tc .vmem S8x8x1024 .f32) (ha22 : a22.IsWhole)

set_option cleanup.letToHave false in
set_option maxHeartbeats 40000000 in
/-- The first step of a pair of heads clears the query-side sums. -/
noncomputable def secZero
    (v1 v3 : Elt F .i32) (k0_hw1 : k0_chk1 v1 v3) : Prog (TpuEff nD τ sig (Elt F) Λ₀ .tc) PUnit := do
  if k0_h1 : Scalar.cmpi .ne (Scalar.extui (Scalar.cmpi .eq (BitVec.ofNat 32 (i 1).val) 0#32)) 0#32 = 1#1 then do
    let v29 : Vec F S8x128x1024 .f32 ← Prog.lift (.load a20 (Rect.unit (s := S8x128x1024) ![0, 0, 0] S8x128x1024.size inb_S8x128x1024_S8x128x1024_0_0_0).toLoadRect (View.loadsAt_vmem h_S8x128x1024))
    Prog.lift (.store a20 (Rect.unit (s := S8x128x1024) ![0, 0, 0] S8x128x1024.size inb_S8x128x1024_S8x128x1024_0_0_0) (k0_pay2 (F := F)) Finset.univ (View.stores_vmem_bits_univ h_S8x128x1024 rfl) (.inl rfl))
    let v33 : Vec F S2x8x1x1024 .f32 ← Prog.lift (.load a21 (Rect.unit (s := S2x8x1x1024) ![0, 0, 0, 0] S2x8x1x1024.size inb_S2x8x1x1024_S2x8x1x1024_0_0_0_0).toLoadRect (View.loadsAt_vmem h_S2x8x1x1024))
    Prog.lift (.store a21 (Rect.unit (s := S2x8x1x1024) ![0, 0, 0, 0] S2x8x1x1024.size inb_S2x8x1x1024_S2x8x1x1024_0_0_0_0) (k0_pay3 (F := F)) Finset.univ (View.stores_vmem_bits_univ h_S2x8x1x1024 rfl) (.inl rfl))
    pure ⟨⟩
  else do
    pure ⟨⟩

set_option cleanup.letToHave false in
set_option maxHeartbeats 40000000 in
/-- The first step of a key tile clears its key-side sums. -/
noncomputable def secNew
    (v1 v3 : Elt F .i32) (k0_hw1 : k0_chk1 v1 v3) : Prog (TpuEff nD τ sig (Elt F) Λ₀ .tc) PUnit := do
  if Scalar.cmpi .ne (Scalar.extui (Scalar.cmpi .eq v1 v3)) 0#32 = 1#1 then do
    let v29 : Vec F S2x1024x128 .f32 ← Prog.lift (.load a17 (Rect.unit (s := S2x1024x128) ![0, 0, 0] S2x1024x128.size inb_S2x1024x128_S2x1024x128_0_0_0).toLoadRect (View.loadsAt_vmem h_S2x1024x128))
    Prog.lift (.store a17 (Rect.unit (s := S2x1024x128) ![0, 0, 0] S2x1024x128.size inb_S2x1024x128_S2x1024x128_0_0_0) (k0_pay4 (F := F)) Finset.univ (View.stores_vmem_bits_univ h_S2x1024x128 rfl) (.inl rfl))
    let v33 : Vec F S2x1024x128 .f32 ← Prog.lift (.load a18 (Rect.unit (s := S2x1024x128) ![0, 0, 0] S2x1024x128.size inb_S2x1024x128_S2x1024x128_0_0_0).toLoadRect (View.loadsAt_vmem h_S2x1024x128))
    Prog.lift (.store a18 (Rect.unit (s := S2x1024x128) ![0, 0, 0] S2x1024x128.size inb_S2x1024x128_S2x1024x128_0_0_0) (k0_pay5 (F := F)) Finset.univ (View.stores_vmem_bits_univ h_S2x1024x128 rfl) (.inl rfl))
    let v37 : Vec F S2x1024x128 .f32 ← Prog.lift (.load a19 (Rect.unit (s := S2x1024x128) ![0, 0, 0] S2x1024x128.size inb_S2x1024x128_S2x1024x128_0_0_0).toLoadRect (View.loadsAt_vmem h_S2x1024x128))
    Prog.lift (.store a19 (Rect.unit (s := S2x1024x128) ![0, 0, 0] S2x1024x128.size inb_S2x1024x128_S2x1024x128_0_0_0) (k0_pay6 (F := F)) Finset.univ (View.stores_vmem_bits_univ h_S2x1024x128 rfl) (.inl rfl))
    pure ⟨⟩
  else do
    pure ⟨⟩

set_option cleanup.letToHave false in
set_option maxHeartbeats 40000000 in
/-- On the first key tile, the sums of `y` times its cotangent per query row. -/
noncomputable def secD
    (v1 v3 : Elt F .i32) (k0_hw1 : k0_chk1 v1 v3) : Prog (TpuEff nD τ sig (Elt F) Λ₀ .tc) PUnit := do
  if k0_h3 : k0_cond3 v3 = 1#1 then do
    let v28 : Vec F S1024x128 .bf16 ← Prog.lift (.load a7 (Rect.unit (s := S1024x128) ![0, 0] S1024x128.size inb_S1024x128_S1024x128_0_0).toLoadRect (View.loadsAt_vmem h_S1024x128))
    let v31 : Vec F S1024x128 .bf16 ← Prog.lift (.load a8 (Rect.unit (s := S1024x128) ![0, 0] S1024x128.size inb_S1024x128_S1024x128_0_0).toLoadRect (View.loadsAt_vmem h_S1024x128))
    let v50 : Vec F S1x8x1024 .f32 ← Prog.lift (.load a22 (Rect.unit (s := S8x8x1024) (k0_off2 v1) S1x8x1024.size (k0_off2_inb v1 v3 k0_hw1 k0_h3)).toLoadRect (View.loadsAt_vmem h_S1x8x1024))
    Prog.lift (.store a22 (Rect.unit (s := S8x8x1024) (k0_off2 v1) S1x8x1024.size (k0_off2_inb v1 v3 k0_hw1 k0_h3)) (k0_pay7 v28 v31) Finset.univ (View.stores_vmem_bits_univ h_S1x8x1024 rfl) (.inl rfl))
    pure ⟨⟩
  else do
    pure ⟨⟩

set_option cleanup.letToHave false in
set_option maxHeartbeats 40000000 in
/-- A step off the diagonal. -/
noncomputable def secOff
    (v1 v3 : Elt F .i32) (k0_hw1 : k0_chk1 v1 v3) : Prog (TpuEff nD τ sig (Elt F) Λ₀ .tc) PUnit := do
  if k0_h4 : k0_cond4 v1 v3 = 1#1 then do
    let ⟨v29, v31, v35, v36, v39, v43, v60, v61, v63⟩ : Σ' (v29 : FVec F S1024x128 .bf16) (v31 : FVec F S1024x128 .bf16) (v35 : FVec F S1024x128 .bf16) (v36 : Vec F S1024x128 .bf16) (v39 : FVec F S8x1024 .f32) (v43 : FVec F S1024x128 .bf16) (v60 : FVec F S1024x1024 .f32) (v61 : FVec F S1024x1024 .f32), FVec F S1024x1024 .f32 ← k0_part1 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1 k0_pay1 k0_h4
    let ⟨v65, v95⟩ : Σ' (v65 : FVec F S1024x1024 .f32), FVec F S128x1024 .f32 ← k0_part2 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1 k0_h4 v35 v36 v43 v60 v61 v63
    let ⟨v114, v118, v131, cst_75⟩ : Σ' (v114 : FVec F S1024x128 .bf16) (v118 : FVec F S1024x128 .bf16) (v131 : FVec F S1024x1024 .f32), FVec F S1024x1024 .f32 ← k0_part3 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1 k0_pay1 k0_h4 v29 v31 v35 v65 v95
    let ⟨v136, v137, v164, cst_99⟩ : Σ' (v136 : FVec F S1024x1024 .f32) (v137 : FVec F S1024x1024 .bf16) (v164 : FVec F S128x1024 .f32), FVec F S128x1024 .f32 ← k0_part4 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1 k0_h4 v35 v36 v39 v118 v131 cst_75
    let v168 : Vec F S1x128x1024 .f32 ← Prog.lift (.load a20 (Rect.unit (s := S8x128x1024) (k0_off4 v1) S1x128x1024.size (k0_off4_inb v1 v3 k0_hw1 k0_h4)).toLoadRect (View.loadsAt_vmem h_S1x128x1024))
    Prog.lift (.store a20 (Rect.unit (s := S8x128x1024) (k0_off4 v1) S1x128x1024.size (k0_off4_inb v1 v3 k0_hw1 k0_h4)) (k0_pay8 v114 v137 v164 cst_99) Finset.univ (View.stores_vmem_bits_univ h_S1x128x1024 rfl) (.inl rfl))
    let v172 : Vec F S1x1x1x1024 .f32 ← Prog.lift (.load a21 (Rect.unit (s := S2x8x1x1024) (k0_off6 v1) S1x1x1x1024.size (k0_off6_inb v1 v3 k0_hw1 k0_h4)).toLoadRect (View.loadsAt_vmem h_S1x1x1x1024))
    let v178 : Vec F S1x1x1x1024 .f32 ← Prog.lift (.load a21 (Rect.unit (s := S2x8x1x1024) (k0_off6 v1) S1x1x1x1024.size (k0_off6_inb v1 v3 k0_hw1 k0_h4)).toLoadRect (View.loadsAt_vmem h_S1x1x1x1024))
    Prog.lift (.store a21 (Rect.unit (s := S2x8x1x1024) (k0_off6 v1) S1x1x1x1024.size (k0_off6_inb v1 v3 k0_hw1 k0_h4)) (k0_pay9 v136 v172) Finset.univ (View.stores_vmem_bits_univ h_S1x1x1x1024 rfl) (.inl rfl))
    pure ⟨⟩
  else do
    pure ⟨⟩

set_option cleanup.letToHave false in
set_option maxHeartbeats 40000000 in
/-- A step on the diagonal. -/
noncomputable def secDiag
    (v1 v3 : Elt F .i32) (k0_hw1 : k0_chk1 v1 v3) : Prog (TpuEff nD τ sig (Elt F) Λ₀ .tc) PUnit := do
  if k0_h5 : k0_cond5 v1 v3 = 1#1 then do
    let ⟨v29, v31, v35, v36, v39, v43, v47, v59, v62, v63⟩ : Σ' (v29 : FVec F S1024x128 .bf16) (v31 : FVec F S1024x128 .bf16) (v35 : FVec F S1024x128 .bf16) (v36 : Vec F S1024x128 .bf16) (v39 : FVec F S8x1024 .f32) (v43 : FVec F S1024x128 .bf16) (v47 : FVec F S1024x128 .bf16) (v59 : FVec F S1024x1024 .f32) (v62 : IVec S1024x1024 1), FVec F S1024x1024 .f32 ← k0_part5 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1 k0_pay1 k0_h5
    let ⟨v70, v71⟩ : Σ' (v70 : FVec F S1024x1024 .f32), FVec F S1024x1024 .bf16 ← k0_part6 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v35 v36 v39 v47 v59 v62 v63
    let ⟨v119, v123, v131⟩ : Σ' (v119 : FVec F S1024x128 .bf16) (v123 : FVec F S1024x128 .bf16), FVec F S1024x1024 .f32 ← k0_part7 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1 k0_pay1 k0_h5 v29 v31 v35 v43 v70 v71
    let ⟨v146, v147, v168⟩ : Σ' (v146 : FVec F S1024x1024 .f32) (v147 : FVec F S1024x1024 .bf16), FVec F S1024x128 .f32 ← k0_part8 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v35 v36 v39 v123 v131
    let v169 : Vec F S1x1024x128 .f32 ← Prog.lift (.load a19 (Rect.unit (s := S2x1024x128) ![1, 0, 0] S1x1024x128.size inb_S2x1024x128_S1x1024x128_1_0_0).toLoadRect (View.loadsAt_vmem h_S1x1024x128))
    Prog.lift (.store a19 (Rect.unit (s := S2x1024x128) ![1, 0, 0] S1x1024x128.size inb_S2x1024x128_S1x1024x128_1_0_0) (k0_pay10 v168) Finset.univ (View.stores_vmem_bits_univ h_S1x1024x128 rfl) (.inl rfl))
    let v173 : Vec F S1x128x1024 .f32 ← Prog.lift (.load a20 (Rect.unit (s := S8x128x1024) (k0_off8 v1) S1x128x1024.size (k0_off8_inb v1 v3 k0_hw1 k0_h5)).toLoadRect (View.loadsAt_vmem h_S1x128x1024))
    let v178 : Vec F S1x128x1024 .f32 ← Prog.lift (.load a20 (Rect.unit (s := S8x128x1024) (k0_off8 v1) S1x128x1024.size (k0_off8_inb v1 v3 k0_hw1 k0_h5)).toLoadRect (View.loadsAt_vmem h_S1x128x1024))
    Prog.lift (.store a20 (Rect.unit (s := S8x128x1024) (k0_off8 v1) S1x128x1024.size (k0_off8_inb v1 v3 k0_hw1 k0_h5)) (k0_pay11 v119 v147 v173) Finset.univ (View.stores_vmem_bits_univ h_S1x128x1024 rfl) (.inl rfl))
    let v182 : Vec F S1x1x1x1024 .f32 ← Prog.lift (.load a21 (Rect.unit (s := S2x8x1x1024) (k0_off10 v1) S1x1x1x1024.size (k0_off10_inb v1 v3 k0_hw1 k0_h5)).toLoadRect (View.loadsAt_vmem h_S1x1x1x1024))
    let v188 : Vec F S1x1x1x1024 .f32 ← Prog.lift (.load a21 (Rect.unit (s := S2x8x1x1024) (k0_off10 v1) S1x1x1x1024.size (k0_off10_inb v1 v3 k0_hw1 k0_h5)).toLoadRect (View.loadsAt_vmem h_S1x1x1x1024))
    Prog.lift (.store a21 (Rect.unit (s := S2x8x1x1024) (k0_off10 v1) S1x1x1x1024.size (k0_off10_inb v1 v3 k0_hw1 k0_h5)) (k0_pay12 v146 v182) Finset.univ (View.stores_vmem_bits_univ h_S1x1x1x1024 rfl) (.inl rfl))
    pure ⟨⟩
  else do
    pure ⟨⟩

set_option cleanup.letToHave false in
set_option maxHeartbeats 40000000 in
/-- The last step of a key tile stores its results. -/
noncomputable def secKeys
    (v1 v3 : Elt F .i32) (k0_hw1 : k0_chk1 v1 v3) : Prog (TpuEff nD τ sig (Elt F) Λ₀ .tc) PUnit := do
  if k0_h6 : k0_cond6 v1 = 1#1 then do
    let ⟨v55, v59⟩ : Σ' (v55 : FVec F S1024x128 .f32), IVec S1x128 1 ← k0_part9 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 (BitVec.ofNat 32 (i 0).val) k0_pay1
    let v60 : Vec F S1x1024x128 .f32 ← Prog.lift (.load a19 (Rect.unit (s := S2x1024x128) ![1, 0, 0] S1x1024x128.size inb_S2x1024x128_S1x1024x128_1_0_0).toLoadRect (View.loadsAt_vmem h_S1x1024x128))
    let v67 : Vec F S1x1024x128 .f32 ← Prog.lift (.load a15 (Rect.unit (s := S1x1024x128) ![0, 0, 0] S1x1024x128.size inb_S1x1024x128_S1x1024x128_0_0_0).toLoadRect (View.loadsAt_vmem h_S1x1024x128))
    Prog.lift (.store a15 (Rect.unit (s := S1x1024x128) ![0, 0, 0] S1x1024x128.size inb_S1x1024x128_S1x1024x128_0_0_0) (k0_pay13 v55 v59 v60) Finset.univ (View.stores_vmem_bits_univ h_S1x1024x128 rfl) (.inl rfl))
    pure ⟨⟩
  else do
    pure ⟨⟩

set_option cleanup.letToHave false in
set_option maxHeartbeats 40000000 in
/-- The last step of a pair of heads stores the query-side results. -/
noncomputable def secEnd
    (v1 v3 : Elt F .i32) (k0_hw1 : k0_chk1 v1 v3) : Prog (TpuEff nD τ sig (Elt F) Λ₀ .tc) PUnit := do
  if k0_h7 : k0_cond7 i = 1#1 then do
    let v53 : FVec F S1x1024 .f32 ← k0_part10 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22
    k0_part11 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v53
    let v104 : FVec F S1x1024 .f32 ← k0_part12 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22
    k0_part13 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v104
    let v155 : FVec F S1x1024 .f32 ← k0_part14 i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22
    let v156 : Vec F S1x1x1024 .f32 ← Prog.lift (.load a16 (Rect.unit (s := S2x1x8192) ![0, 0, 7168] S1x1x1024.size inb_S2x1x8192_S1x1x1024_0_0_7168).toLoadRect (View.loadsAt_vmem h_S1x1x1024))
    Prog.lift (.store a16 (Rect.unit (s := S2x1x8192) ![0, 0, 7168] S1x1x1024.size inb_S2x1x8192_S1x1x1024_0_0_7168) (k0_pay14 v155) Finset.univ (View.stores_vmem_bits_univ h_S1x1x1024 rfl) (.inl rfl))
    let v159 : Vec F S1x1x1x1024 .f32 ← Prog.lift (.load a21 (Rect.unit (s := S2x8x1x1024) ![1, 7, 0, 0] S1x1x1x1024.size inb_S2x8x1x1024_S1x1x1x1024_1_7_0_0).toLoadRect (View.loadsAt_vmem h_S1x1x1x1024))
    let v161 : Vec F S1x1x1024 .f32 ← Prog.lift (.load a16 (Rect.unit (s := S2x1x8192) ![1, 0, 7168] S1x1x1024.size inb_S2x1x8192_S1x1x1024_1_0_7168).toLoadRect (View.loadsAt_vmem h_S1x1x1024))
    Prog.lift (.store a16 (Rect.unit (s := S2x1x8192) ![1, 0, 7168] S1x1x1024.size inb_S2x1x8192_S1x1x1024_1_0_7168) (k0_pay15 v159) Finset.univ (View.stores_vmem_bits_univ h_S1x1x1024 rfl) (.inl rfl))
    pure ⟨⟩
  else do
    pure ⟨⟩

/-- A conditional statement before a rest is the rest after it. -/
theorem dite_step {Ef : Type → Type} {β : Type} {p : Prop} {dp : Decidable p} (A : p → Prog Ef PUnit) (A' : p → Prog Ef β) (R : PUnit → Prog Ef β)
    (hA : ∀ h, A' h = A h >>= R) : (dite p A' fun _ => R ⟨⟩) = (dite p A fun _ => pure ⟨⟩) >>= R := by
  by_cases h : p
  · rw [dif_pos h, dif_pos h, hA]
  · rw [dif_neg h, dif_neg h]; rfl
theorem ite_step {Ef : Type → Type} {β : Type} {p : Prop} {dp : Decidable p} (A : Prog Ef PUnit) (A' : Prog Ef β) (R : PUnit → Prog Ef β)
    (hA : A' = A >>= R) : (ite p A' (R ⟨⟩)) = (ite p A (pure ⟨⟩)) >>= R := by
  by_cases h : p
  · rw [if_pos h, if_pos h, hA]
  · rw [if_neg h, if_neg h]; rfl

set_option cleanup.letToHave false in
set_option maxHeartbeats 40000000 in
/-- The body as its seven conditional statements in a row. -/
noncomputable def bodySecs : Prog (TpuEff nD τ sig (Elt F) Λ₀ .tc) PUnit := do
  let v1 : Elt F .i32 ← smemLoad a2 (Rect.unit (s := S36) (k0_off1 i) S1.size (k0_off1_inb i)) numel1_S1 rfl
  let v3 : Elt F .i32 ← smemLoad a3 (Rect.unit (s := S36) (k0_off1 i) S1.size (k0_off1_inb i)) numel1_S1 rfl
  have k0_hw1 : k0_chk1 v1 v3 := (← Prog.lift (TpuEff.assume (k0_chk1 v1 v3) (k0_chk1.dec v1 v3))).down
  secZero i a20 a21 v1 v3 k0_hw1
  secNew a17 a18 a19 v1 v3 k0_hw1
  secD a7 a8 a22 v1 v3 k0_hw1
  secOff i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1
  secDiag i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1
  secKeys i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1
  secEnd i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 v1 v3 k0_hw1
  pure ⟨⟩

set_option maxHeartbeats 40000000 in
theorem skel_eq_secs :
    cc0_fox_bwd_skel (F := F) i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 = bodySecs i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 := by
  unfold cc0_fox_bwd_skel bodySecs
  extract_lets a0 a1 v7 v8 v9 p7 p6
  refine congrArg _ (funext fun v1 => ?_)
  refine congrArg _ (funext fun v3 => ?_)
  refine congrArg _ (funext fun hw => ?_)
  extract_lets hw1 v10 v11 v12 p5 p4 p3 p2 p1 hw2
  refine Eq.trans (dite_step ?A0 _ _ ?h0) (congr (congrArg bind (?s0 : _ = secZero i a20 a21 _ _ _)) (funext fun _ => ?_))
  case s0 => rfl
  case h0 => intro h; rfl
  dsimp -zeta only [p1]
  refine Eq.trans (ite_step ?A1 _ _ ?h1) (congr (congrArg bind (?s1 : _ = secNew a17 a18 a19 _ _ _)) (funext fun _ => ?_))
  case s1 => rfl
  case h1 => rfl
  dsimp -zeta only [p2]
  refine Eq.trans (dite_step ?A2 _ _ ?h2) (congr (congrArg bind (?s2 : _ = secD a7 a8 a22 _ _ _)) (funext fun _ => ?_))
  case s2 => rfl
  case h2 => intro h; rfl
  dsimp -zeta only [p3]
  refine Eq.trans (dite_step ?A3 _ _ ?h3) (congr (congrArg bind (?s3 : _ = secOff i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 _ _ _)) (funext fun _ => ?_))
  case s3 => rfl
  case h3 => intro h; rfl
  dsimp -zeta only [p4]
  refine Eq.trans (dite_step ?A4 _ _ ?h4) (congr (congrArg bind (?s4 : _ = secDiag i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 _ _ _)) (funext fun _ => ?_))
  case s4 => rfl
  case h4 => intro h; rfl
  dsimp -zeta only [p5]
  refine Eq.trans (dite_step ?A5 _ _ ?h5) (congr (congrArg bind (?s5 : _ = secKeys i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 _ _ _)) (funext fun _ => ?_))
  case s5 => rfl
  case h5 => intro h; rfl
  dsimp -zeta only [p6]
  refine Eq.trans (dite_step ?A6 _ _ ?h6) (congr (congrArg bind (?s6 : _ = secEnd i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 _ _ _)) (funext fun _ => ?_))
  case s6 => rfl
  case h6 => intro h; rfl
  rfl

end Cert.KernelIdeal.Fox

end
-- ==== Proof.Edges.lean ====
module

public import proofs.«01_k».proof.Proof.Secs
public import proofs.«01_k».proof.Proof.State

@[expose] public section

set_option maxRecDepth 16384
set_option Elab.async false

noncomputable section

namespace Cert.KernelIdeal.Fox

open Cert.KernelIdeal Cert.KernelIdeal.Gen
open Idealize.ShloMosaic
open Memref (isWhole_whole)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Fox

local notation "𝕄" => MT nD τ sig Unit (Elt F) ℕ (UR sig nD τ) ℕ

/-- A memref held at contents that it reads as `X` is held at the contents that spell `X`. -/
theorem rep_mk (c : Thread nD τ) {sp : Space} {sh : Shape} {e : EltTy} {m : Memref sig c.2.kind sp sh e} {q : PosShare TreeShare}
    {f : m.view.ty.Contents (Elt F)} {X : sh.Idx → Elt F e} (h : m.view.read (Elt F) f = X) :
    (m.view.loc c ↦[m.view.set]{q} f) ⊢ (m.view.loc c ↦[m.view.set]{q} m.view.rep X : sProp 𝕄) := by
  rw [← owns_eq_rep]
  unfold owns
  iintro H
  iexists f
  isplitr
  · ipureintro; exact h
  · iexact H

/-- A block of 1024 rows of the query gradient is the tile it was made from. -/
theorem outDq_emb (s : Sums F) (r : Fin 8) {off : Fin 2 → ℕ} (h : off = ![1024 * r.val, 0])
    (inb : ∀ k, off k + S1024x128.size k ≤ S8192x128.size k) (x : S1024x128.Idx) :
    k0_pay73 (s.dqt r) x = outDq s ((Rect.unit (s := S8192x128) off S1024x128.size inb).emb x) := by
  subst h
  have h0 : ((Rect.unit (s := S8192x128) ![1024 * r.val, 0] S1024x128.size inb).emb x 0).val = 1024 * r.val + (x 0).val := by
    show 1024 * r.val + 1 * (x 0).val = _; omega
  have h1 : ((Rect.unit (s := S8192x128) ![1024 * r.val, 0] S1024x128.size inb).emb x 1).val = (x 1).val := by
    show 0 + 1 * (x 1).val = _; omega
  have hx : (x 0).val < 1024 := (x 0).isLt
  refine congrArg₂ (fun (a : Fin 8) b => k0_pay73 (s.dqt a) b) (Fin.ext ?_) ((ValueIdx.eq_ix2 x).trans (congrArg₂ ValueIdx.ix2 (Fin.ext ?_) (Fin.ext ?_)))
  · show r.val = _ / 1024
    rw [h0]; omega
  · show (x 0).val = _ % 1024
    rw [h0]; omega
  · exact h1.symm

/-- A block of 1024 columns of the query-side sums of one head is the row it was made from. -/
theorem outDcq_emb (s : Sums F) (p : Fin 2) (r : Fin 8) {off : Fin 3 → ℕ} (h : off = ![p.val, 0, 1024 * r.val])
    (inb : ∀ k, off k + S1x1x1024.size k ≤ S2x1x8192.size k) (x : S1x1x1024.Idx) :
    k0_pay74 (s.dcq p r) x = outDcq s ((Rect.unit (s := S2x1x8192) off S1x1x1024.size inb).emb x) := by
  subst h
  have hx0 : (x 0).val < 1 := (x 0).isLt
  have hx1 : (x 1).val < 1 := (x 1).isLt
  have hx2 : (x 2).val < 1024 := (x 2).isLt
  have h0 : ((Rect.unit (s := S2x1x8192) ![p.val, 0, 1024 * r.val] S1x1x1024.size inb).emb x 0).val = p.val := by
    show p.val + 1 * (x 0).val = _; omega
  have h2 : ((Rect.unit (s := S2x1x8192) ![p.val, 0, 1024 * r.val] S1x1x1024.size inb).emb x 2).val = 1024 * r.val + (x 2).val := by
    show 1024 * r.val + 1 * (x 2).val = _; omega
  have e : x = ValueIdx.ix3 0 0 ⟨(1024 * r.val + (x 2).val) % 1024, Nat.mod_lt _ (by norm_num)⟩ := by
    refine (ValueIdx.eq_ix3 x).trans ?_
    congr 1
    · exact Fin.ext (by show (x 0).val = 0; omega)
    · exact Fin.ext (by show (x 1).val = 0; omega)
    · exact Fin.ext (by show (x 2).val = _ % 1024; omega)
  have e0 : ((Rect.unit (s := S2x1x8192) ![p.val, 0, 1024 * r.val] S1x1x1024.size inb).emb x 0) = p := Fin.ext h0
  refine (congrArg (k0_pay74 (s.dcq p r)) e).trans ?_
  unfold outDcq
  congr 1
  · refine congrArg₂ s.dcq e0.symm (Fin.ext ?_)
    show r.val = _ / 1024
    rw [h2]; omega
  · congr 1
    refine Fin.ext ?_
    show _ % 1024 = _ % 1024
    rw [h2]

variable (c : Dev nD) (i : grid0.Coords) (a2 : Memref sig .tc .smem S36 .i32) (ha2 : a2.IsWhole) (a3 : Memref sig .tc .smem S36 .i32) (ha3 : a3.IsWhole) (a4 : Memref sig .tc .vmem S1024x128 .f32) (ha4 : a4.IsWhole) (a5 : Memref sig .tc .vmem S1024x128 .f32) (ha5 : a5.IsWhole) (a6 : Memref sig .tc .vmem S1024x128 .f32) (ha6 : a6.IsWhole) (a7 : Memref sig .tc .vmem S1024x128 .bf16) (ha7 : a7.IsWhole) (a8 : Memref sig .tc .vmem S1024x128 .bf16) (ha8 : a8.IsWhole) (a9 : Memref sig .tc .vmem S2x1024x128 .f32) (ha9 : a9.IsWhole) (a10 : Memref sig .tc .vmem S2x1x1024 .f32) (ha10 : a10.IsWhole) (a11 : Memref sig .tc .vmem S2x1x1024 .f32) (ha11 : a11.IsWhole) (a12 : Memref sig .tc .vmem S8192x128 .bf16) (ha12 : a12.IsWhole) (a13 : Memref sig .tc .vmem S1024x128 .bf16) (ha13 : a13.IsWhole) (a14 : Memref sig .tc .vmem S1024x128 .bf16) (ha14 : a14.IsWhole) (a15 : Memref sig .tc .vmem S1x1024x128 .f32) (ha15 : a15.IsWhole) (a16 : Memref sig .tc .vmem S2x1x8192 .f32) (ha16 : a16.IsWhole)
include c i a2 ha2 a3 ha3 a4 ha4 a5 ha5 a6 ha6 a7 ha7 a8 ha8 a9 ha9 a10 ha10 a11 ha11 a12 ha12 a13 ha13 a14 ha14 a15 ha15 a16 ha16

set_option maxHeartbeats 8000000 in
/-- The first step of a pair of heads clears the query-side sums. -/
theorem run_zero (v1 v3 : Elt F .i32) (hw : k0_chk1 v1 v3) (k0_h1 : Scalar.cmpi .ne (Scalar.extui (Scalar.cmpi .eq (BitVec.ofNat 32 (i 1).val) 0#32)) 0#32 = 1#1)
     (s : Sums F)  (K : PUnit → sProp 𝕄) :
    iprop(owns (c : Thread nD τ) sc3 fullShare (arr3 (s).dqt) ∗ owns (c : Thread nD τ) sc4 fullShare (arr4 (s).dcq) ∗ ((owns (c : Thread nD τ) sc3 fullShare (arr3 s.clearQ.dqt) ∗ owns (c : Thread nD τ) sc4 fullShare (arr4 s.clearQ.dcq)) -∗ K ⟨⟩)) ⊢ wp frame (wpE (defs₀ (F := F)) Variants.none c none) Set.univ (secZero i sc3 sc4 v1 v3 hw) K := by
  rw [secZero, dif_pos k0_h1]
  repeat rw [owns_eq_rep]
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨S3, S4, Hk⟩
  sl_exec!
  sl_step
  have g20 : sc3.view.read (Elt F) (sc3.view.writes (Elt F) sc3.view.junk (run_zero.sl.S3_1)) = arr3 s.clearQ.dqt := by
    rw [show run_zero.sl.S3_1 = [⟨Rect.unit (s := S8x128x1024) ![0, 0, 0] S8x128x1024.size inb_S8x128x1024_S8x128x1024_0_0_0, k0_pay2 (F := F)⟩] from rfl, View.read_writes_full]
    exact (arr3_row3 _).symm
  ihave S3 := (rep_mk (c : Thread nD τ) g20) $$ S3
  have g21 : sc4.view.read (Elt F) (sc4.view.writes (Elt F) sc4.view.junk (run_zero.sl.S4_1)) = arr4 s.clearQ.dcq := by
    rw [show run_zero.sl.S4_1 = [⟨Rect.unit (s := S2x8x1x1024) ![0, 0, 0, 0] S2x8x1x1024.size inb_S2x8x1x1024_S2x8x1x1024_0_0_0_0, k0_pay3 (F := F)⟩] from rfl, View.read_writes_full]
    exact funext fun y => congrArg _ (ValueIdx.eq_ix4 y)
  ihave S4 := (rep_mk (c : Thread nD τ) g21) $$ S4
  iapply Hk
  isplitl [S3]; iexact S3
  iexact S4

set_option maxHeartbeats 8000000 in
/-- The first step of a key tile clears its key-side sums. -/
theorem run_new (v1 v3 : Elt F .i32) (hw : k0_chk1 v1 v3) (k0_h2 : Scalar.cmpi .ne (Scalar.extui (Scalar.cmpi .eq v1 v3)) 0#32 = 1#1)
     (s : Sums F)  (K : PUnit → sProp 𝕄) :
    iprop(owns (c : Thread nD τ) sc0 fullShare (arr3 (s).dk) ∗ owns (c : Thread nD τ) sc1 fullShare (arr3 (s).dv) ∗ owns (c : Thread nD τ) sc2 fullShare (arr3 (s).dc) ∗ ((owns (c : Thread nD τ) sc0 fullShare (arr3 s.clearK.dk) ∗ owns (c : Thread nD τ) sc1 fullShare (arr3 s.clearK.dv) ∗ owns (c : Thread nD τ) sc2 fullShare (arr3 s.clearK.dc)) -∗ K ⟨⟩)) ⊢ wp frame (wpE (defs₀ (F := F)) Variants.none c none) Set.univ (secNew sc0 sc1 sc2 v1 v3 hw) K := by
  rw [secNew, if_pos k0_h2]
  repeat rw [owns_eq_rep]
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨S0, S1, S2, Hk⟩
  sl_exec!
  sl_step
  have g17 : sc0.view.read (Elt F) (sc0.view.writes (Elt F) sc0.view.junk (run_new.sl.S0_1)) = arr3 s.clearK.dk := by
    rw [show run_new.sl.S0_1 = [⟨Rect.unit (s := S2x1024x128) ![0, 0, 0] S2x1024x128.size inb_S2x1024x128_S2x1024x128_0_0_0, k0_pay4 (F := F)⟩] from rfl, View.read_writes_full]
    exact (arr3_row3 _).symm
  ihave S0 := (rep_mk (c : Thread nD τ) g17) $$ S0
  have g18 : sc1.view.read (Elt F) (sc1.view.writes (Elt F) sc1.view.junk (run_new.sl.S1_1)) = arr3 s.clearK.dv := by
    rw [show run_new.sl.S1_1 = [⟨Rect.unit (s := S2x1024x128) ![0, 0, 0] S2x1024x128.size inb_S2x1024x128_S2x1024x128_0_0_0, k0_pay5 (F := F)⟩] from rfl, View.read_writes_full]
    exact (arr3_row3 _).symm
  ihave S1 := (rep_mk (c : Thread nD τ) g18) $$ S1
  have g19 : sc2.view.read (Elt F) (sc2.view.writes (Elt F) sc2.view.junk (run_new.sl.S2_1)) = arr3 s.clearK.dc := by
    rw [show run_new.sl.S2_1 = [⟨Rect.unit (s := S2x1024x128) ![0, 0, 0] S2x1024x128.size inb_S2x1024x128_S2x1024x128_0_0_0, k0_pay6 (F := F)⟩] from rfl, View.read_writes_full]
    exact (arr3_row3 _).symm
  ihave S2 := (rep_mk (c : Thread nD τ) g19) $$ S2
  iapply Hk
  isplitl [S0]; iexact S0
  isplitl [S1]; iexact S1
  iexact S2

set_option maxHeartbeats 8000000 in
/-- On the first key tile, a step stores what the output and its cotangent contribute per query row. -/
theorem run_D (v1 v3 : Elt F .i32) (hw : k0_chk1 v1 v3) (k0_h3 : k0_cond3 v3 = 1#1)
     (x : Tile F) (d : Fin 8 → S1x8x1024.Idx → Elt F .f32) (r : Fin 8) (hr : v1.toNat = r.val)  (K : PUnit → sProp 𝕄) :
    iprop(owns (c : Thread nD τ) a7 fullShare (x.y) ∗ owns (c : Thread nD τ) a8 fullShare (x.dy) ∗ owns (c : Thread nD τ) sc5 fullShare (arr3 (d)) ∗ ((owns (c : Thread nD τ) a7 fullShare (x.y) ∗ owns (c : Thread nD τ) a8 fullShare (x.dy) ∗ owns (c : Thread nD τ) sc5 fullShare (arr3 (Function.update d r (dRow x)))) -∗ K ⟨⟩)) ⊢ wp frame (wpE (defs₀ (F := F)) Variants.none c none) Set.univ (secD a7 a8 sc5 v1 v3 hw) K := by
  rw [secD, dif_pos k0_h3]
  repeat rw [owns_eq_rep]
  have e7 : a7.view.readAt (Elt F) (Rect.unit (s := S1024x128) ![0, 0] S1024x128.size inb_S1024x128_S1024x128_0_0).toLoadRect (a7.view.rep x.y) = x.y := View.readAt_rep_full _ _ _
  have e8 : a8.view.readAt (Elt F) (Rect.unit (s := S1024x128) ![0, 0] S1024x128.size inb_S1024x128_S1024x128_0_0).toLoadRect (a8.view.rep x.dy) = x.dy := View.readAt_rep_full _ _ _
  have o2 : k0_off2 v1 = ![r.val, 0, 0] := by show ![v1.toNat, 0, 0] = _; rw [hr]
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨H7, H8, S5, Hk⟩
  sl_exec!
  sl_step
  have g22 : sc5.view.read (Elt F) (sc5.view.writes (Elt F) (sc5.view.rep (arr3 d)) [⟨Rect.unit (k0_off2 v1) S1x8x1024.size (k0_off2_inb v1 v3 hw k0_h3), k0_pay7 x.y x.dy⟩]) = arr3 (Function.update d r (dRow x)) := by
    exact read_one (n := 8) (a := 8) (b := 1024) sc5.view d r o2 (dRow x) _
  ihave S5 := (rep_mk (c : Thread nD τ) g22) $$ S5
  iapply Hk
  isplitl [H7]; iexact H7
  isplitl [H8]; iexact H8
  iexact S5

set_option maxHeartbeats 8000000 in
/-- The last step of a key tile stores its results. -/
theorem run_keys (v1 v3 : Elt F .i32) (hw : k0_chk1 v1 v3) (k0_h6 : k0_cond6 v1 = 1#1)
     (s : Sums F) (y13 : S1024x128.Idx → Elt F .bf16) (y14 : S1024x128.Idx → Elt F .bf16) (y15 : S1x1024x128.Idx → Elt F .f32) (K : PUnit → sProp 𝕄) :
    iprop(owns (c : Thread nD τ) sc0 fullShare (arr3 (s).dk) ∗ owns (c : Thread nD τ) sc1 fullShare (arr3 (s).dv) ∗ owns (c : Thread nD τ) sc2 fullShare (arr3 (s).dc) ∗ owns (c : Thread nD τ) a13 fullShare (y13) ∗ owns (c : Thread nD τ) a14 fullShare (y14) ∗ owns (c : Thread nD τ) a15 fullShare (y15) ∗ ((owns (c : Thread nD τ) sc0 fullShare (arr3 s.dk) ∗ owns (c : Thread nD τ) sc1 fullShare (arr3 s.dv) ∗ owns (c : Thread nD τ) sc2 fullShare (arr3 s.dc) ∗ owns (c : Thread nD τ) a13 fullShare (outDk s) ∗ owns (c : Thread nD τ) a14 fullShare (outDv s) ∗ owns (c : Thread nD τ) a15 fullShare (outDc i s)) -∗ K ⟨⟩)) ⊢ wp frame (wpE (defs₀ (F := F)) Variants.none c none) Set.univ (secKeys i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) K := by
  rw [secKeys, dif_pos k0_h6]
  repeat rw [owns_eq_rep]
  have e17_0 : sc0.view.readAt (Elt F) (Rect.unit (s := S2x1024x128) ![0, 0, 0] S1x1024x128.size inb_S2x1024x128_S1x1024x128_0_0_0).toLoadRect (sc0.view.rep (arr3 s.dk)) = s.dk 0 := readAt_arr3 _ _ 0 rfl _
  have e17_1 : sc0.view.readAt (Elt F) (Rect.unit (s := S2x1024x128) ![1, 0, 0] S1x1024x128.size inb_S2x1024x128_S1x1024x128_1_0_0).toLoadRect (sc0.view.rep (arr3 s.dk)) = s.dk 1 := readAt_arr3 _ _ 1 rfl _
  have e18_0 : sc1.view.readAt (Elt F) (Rect.unit (s := S2x1024x128) ![0, 0, 0] S1x1024x128.size inb_S2x1024x128_S1x1024x128_0_0_0).toLoadRect (sc1.view.rep (arr3 s.dv)) = s.dv 0 := readAt_arr3 _ _ 0 rfl _
  have e18_1 : sc1.view.readAt (Elt F) (Rect.unit (s := S2x1024x128) ![1, 0, 0] S1x1024x128.size inb_S2x1024x128_S1x1024x128_1_0_0).toLoadRect (sc1.view.rep (arr3 s.dv)) = s.dv 1 := readAt_arr3 _ _ 1 rfl _
  have e19_0 : sc2.view.readAt (Elt F) (Rect.unit (s := S2x1024x128) ![0, 0, 0] S1x1024x128.size inb_S2x1024x128_S1x1024x128_0_0_0).toLoadRect (sc2.view.rep (arr3 s.dc)) = s.dc 0 := readAt_arr3 _ _ 0 rfl _
  have e19_1 : sc2.view.readAt (Elt F) (Rect.unit (s := S2x1024x128) ![1, 0, 0] S1x1024x128.size inb_S2x1024x128_S1x1024x128_1_0_0).toLoadRect (sc2.view.rep (arr3 s.dc)) = s.dc 1 := readAt_arr3 _ _ 1 rfl _
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨S0, S1, S2, H13, H14, H15, Hk⟩
  sl_exec!
  sl_step
  have g13 : a13.view.read (Elt F) (a13.view.writes (Elt F) a13.view.junk (run_keys.sl.H13_1 s)) = outDk s := by
    rw [show run_keys.sl.H13_1 s = [⟨Rect.unit (s := S1024x128) ![0, 0] S1024x128.size inb_S1024x128_S1024x128_0_0, outDk s⟩] from rfl, View.read_writes_full]
  ihave H13 := (rep_mk (c : Thread nD τ) g13) $$ H13
  have g14 : a14.view.read (Elt F) (a14.view.writes (Elt F) a14.view.junk (run_keys.sl.H14_1 s)) = outDv s := by
    rw [show run_keys.sl.H14_1 s = [⟨Rect.unit (s := S1024x128) ![0, 0] S1024x128.size inb_S1024x128_S1024x128_0_0, outDv s⟩] from rfl, View.read_writes_full]
  ihave H14 := (rep_mk (c : Thread nD τ) g14) $$ H14
  have g15 : a15.view.read (Elt F) (a15.view.writes (Elt F) a15.view.junk (run_keys.sl.H15_1 i s)) = outDc i s := by
    rw [show run_keys.sl.H15_1 i s = [⟨Rect.unit (s := S1x1024x128) ![0, 0, 0] S1x1024x128.size inb_S1x1024x128_S1x1024x128_0_0_0, outDc i s⟩] from rfl, View.read_writes_full]
  ihave H15 := (rep_mk (c : Thread nD τ) g15) $$ H15
  iapply Hk
  isplitl [S0]; iexact S0
  isplitl [S1]; iexact S1
  isplitl [S2]; iexact S2
  isplitl [H13]; iexact H13
  isplitl [H14]; iexact H14
  iexact H15

set_option maxHeartbeats 8000000 in
/-- The last step of a pair of heads stores the query-side results. -/
theorem run_end (v1 v3 : Elt F .i32) (hw : k0_chk1 v1 v3) (k0_h7 : k0_cond7 i = 1#1)
     (s : Sums F) (y12 : S8192x128.Idx → Elt F .bf16) (y16 : S2x1x8192.Idx → Elt F .f32) (K : PUnit → sProp 𝕄) :
    iprop(owns (c : Thread nD τ) sc3 fullShare (arr3 (s).dqt) ∗ owns (c : Thread nD τ) sc4 fullShare (arr4 (s).dcq) ∗ owns (c : Thread nD τ) a12 fullShare (y12) ∗ owns (c : Thread nD τ) a16 fullShare (y16) ∗ ((owns (c : Thread nD τ) sc3 fullShare (arr3 s.dqt) ∗ owns (c : Thread nD τ) sc4 fullShare (arr4 s.dcq) ∗ owns (c : Thread nD τ) a12 fullShare (outDq s) ∗ owns (c : Thread nD τ) a16 fullShare (outDcq s)) -∗ K ⟨⟩)) ⊢ wp frame (wpE (defs₀ (F := F)) Variants.none c none) Set.univ (secEnd i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) K := by
  rw [secEnd, dif_pos k0_h7]
  repeat rw [owns_eq_rep]
  have e20_0 : sc3.view.readAt (Elt F) (Rect.unit (s := S8x128x1024) ![0, 0, 0] S1x128x1024.size inb_S8x128x1024_S1x128x1024_0_0_0).toLoadRect (sc3.view.rep (arr3 s.dqt)) = s.dqt 0 := readAt_arr3 _ _ 0 rfl _
  have e21_0_0 : sc4.view.readAt (Elt F) (Rect.unit (s := S2x8x1x1024) ![0, 0, 0, 0] S1x1x1x1024.size inb_S2x8x1x1024_S1x1x1x1024_0_0_0_0).toLoadRect (sc4.view.rep (arr4 s.dcq)) = s.dcq 0 0 := readAt_arr4 _ _ 0 0 rfl _
  have e21_1_0 : sc4.view.readAt (Elt F) (Rect.unit (s := S2x8x1x1024) ![1, 0, 0, 0] S1x1x1x1024.size inb_S2x8x1x1024_S1x1x1x1024_1_0_0_0).toLoadRect (sc4.view.rep (arr4 s.dcq)) = s.dcq 1 0 := readAt_arr4 _ _ 1 0 rfl _
  have e20_1 : sc3.view.readAt (Elt F) (Rect.unit (s := S8x128x1024) ![1, 0, 0] S1x128x1024.size inb_S8x128x1024_S1x128x1024_1_0_0).toLoadRect (sc3.view.rep (arr3 s.dqt)) = s.dqt 1 := readAt_arr3 _ _ 1 rfl _
  have e21_0_1 : sc4.view.readAt (Elt F) (Rect.unit (s := S2x8x1x1024) ![0, 1, 0, 0] S1x1x1x1024.size inb_S2x8x1x1024_S1x1x1x1024_0_1_0_0).toLoadRect (sc4.view.rep (arr4 s.dcq)) = s.dcq 0 1 := readAt_arr4 _ _ 0 1 rfl _
  have e21_1_1 : sc4.view.readAt (Elt F) (Rect.unit (s := S2x8x1x1024) ![1, 1, 0, 0] S1x1x1x1024.size inb_S2x8x1x1024_S1x1x1x1024_1_1_0_0).toLoadRect (sc4.view.rep (arr4 s.dcq)) = s.dcq 1 1 := readAt_arr4 _ _ 1 1 rfl _
  have e20_2 : sc3.view.readAt (Elt F) (Rect.unit (s := S8x128x1024) ![2, 0, 0] S1x128x1024.size inb_S8x128x1024_S1x128x1024_2_0_0).toLoadRect (sc3.view.rep (arr3 s.dqt)) = s.dqt 2 := readAt_arr3 _ _ 2 rfl _
  have e21_0_2 : sc4.view.readAt (Elt F) (Rect.unit (s := S2x8x1x1024) ![0, 2, 0, 0] S1x1x1x1024.size inb_S2x8x1x1024_S1x1x1x1024_0_2_0_0).toLoadRect (sc4.view.rep (arr4 s.dcq)) = s.dcq 0 2 := readAt_arr4 _ _ 0 2 rfl _
  have e21_1_2 : sc4.view.readAt (Elt F) (Rect.unit (s := S2x8x1x1024) ![1, 2, 0, 0] S1x1x1x1024.size inb_S2x8x1x1024_S1x1x1x1024_1_2_0_0).toLoadRect (sc4.view.rep (arr4 s.dcq)) = s.dcq 1 2 := readAt_arr4 _ _ 1 2 rfl _
  have e20_3 : sc3.view.readAt (Elt F) (Rect.unit (s := S8x128x1024) ![3, 0, 0] S1x128x1024.size inb_S8x128x1024_S1x128x1024_3_0_0).toLoadRect (sc3.view.rep (arr3 s.dqt)) = s.dqt 3 := readAt_arr3 _ _ 3 rfl _
  have e21_0_3 : sc4.view.readAt (Elt F) (Rect.unit (s := S2x8x1x1024) ![0, 3, 0, 0] S1x1x1x1024.size inb_S2x8x1x1024_S1x1x1x1024_0_3_0_0).toLoadRect (sc4.view.rep (arr4 s.dcq)) = s.dcq 0 3 := readAt_arr4 _ _ 0 3 rfl _
  have e21_1_3 : sc4.view.readAt (Elt F) (Rect.unit (s := S2x8x1x1024) ![1, 3, 0, 0] S1x1x1x1024.size inb_S2x8x1x1024_S1x1x1x1024_1_3_0_0).toLoadRect (sc4.view.rep (arr4 s.dcq)) = s.dcq 1 3 := readAt_arr4 _ _ 1 3 rfl _
  have e20_4 : sc3.view.readAt (Elt F) (Rect.unit (s := S8x128x1024) ![4, 0, 0] S1x128x1024.size inb_S8x128x1024_S1x128x1024_4_0_0).toLoadRect (sc3.view.rep (arr3 s.dqt)) = s.dqt 4 := readAt_arr3 _ _ 4 rfl _
  have e21_0_4 : sc4.view.readAt (Elt F) (Rect.unit (s := S2x8x1x1024) ![0, 4, 0, 0] S1x1x1x1024.size inb_S2x8x1x1024_S1x1x1x1024_0_4_0_0).toLoadRect (sc4.view.rep (arr4 s.dcq)) = s.dcq 0 4 := readAt_arr4 _ _ 0 4 rfl _
  have e21_1_4 : sc4.view.readAt (Elt F) (Rect.unit (s := S2x8x1x1024) ![1, 4, 0, 0] S1x1x1x1024.size inb_S2x8x1x1024_S1x1x1x1024_1_4_0_0).toLoadRect (sc4.view.rep (arr4 s.dcq)) = s.dcq 1 4 := readAt_arr4 _ _ 1 4 rfl _
  have e20_5 : sc3.view.readAt (Elt F) (Rect.unit (s := S8x128x1024) ![5, 0, 0] S1x128x1024.size inb_S8x128x1024_S1x128x1024_5_0_0).toLoadRect (sc3.view.rep (arr3 s.dqt)) = s.dqt 5 := readAt_arr3 _ _ 5 rfl _
  have e21_0_5 : sc4.view.readAt (Elt F) (Rect.unit (s := S2x8x1x1024) ![0, 5, 0, 0] S1x1x1x1024.size inb_S2x8x1x1024_S1x1x1x1024_0_5_0_0).toLoadRect (sc4.view.rep (arr4 s.dcq)) = s.dcq 0 5 := readAt_arr4 _ _ 0 5 rfl _
  have e21_1_5 : sc4.view.readAt (Elt F) (Rect.unit (s := S2x8x1x1024) ![1, 5, 0, 0] S1x1x1x1024.size inb_S2x8x1x1024_S1x1x1x1024_1_5_0_0).toLoadRect (sc4.view.rep (arr4 s.dcq)) = s.dcq 1 5 := readAt_arr4 _ _ 1 5 rfl _
  have e20_6 : sc3.view.readAt (Elt F) (Rect.unit (s := S8x128x1024) ![6, 0, 0] S1x128x1024.size inb_S8x128x1024_S1x128x1024_6_0_0).toLoadRect (sc3.view.rep (arr3 s.dqt)) = s.dqt 6 := readAt_arr3 _ _ 6 rfl _
  have e21_0_6 : sc4.view.readAt (Elt F) (Rect.unit (s := S2x8x1x1024) ![0, 6, 0, 0] S1x1x1x1024.size inb_S2x8x1x1024_S1x1x1x1024_0_6_0_0).toLoadRect (sc4.view.rep (arr4 s.dcq)) = s.dcq 0 6 := readAt_arr4 _ _ 0 6 rfl _
  have e21_1_6 : sc4.view.readAt (Elt F) (Rect.unit (s := S2x8x1x1024) ![1, 6, 0, 0] S1x1x1x1024.size inb_S2x8x1x1024_S1x1x1x1024_1_6_0_0).toLoadRect (sc4.view.rep (arr4 s.dcq)) = s.dcq 1 6 := readAt_arr4 _ _ 1 6 rfl _
  have e20_7 : sc3.view.readAt (Elt F) (Rect.unit (s := S8x128x1024) ![7, 0, 0] S1x128x1024.size inb_S8x128x1024_S1x128x1024_7_0_0).toLoadRect (sc3.view.rep (arr3 s.dqt)) = s.dqt 7 := readAt_arr3 _ _ 7 rfl _
  have e21_0_7 : sc4.view.readAt (Elt F) (Rect.unit (s := S2x8x1x1024) ![0, 7, 0, 0] S1x1x1x1024.size inb_S2x8x1x1024_S1x1x1x1024_0_7_0_0).toLoadRect (sc4.view.rep (arr4 s.dcq)) = s.dcq 0 7 := readAt_arr4 _ _ 0 7 rfl _
  have e21_1_7 : sc4.view.readAt (Elt F) (Rect.unit (s := S2x8x1x1024) ![1, 7, 0, 0] S1x1x1x1024.size inb_S2x8x1x1024_S1x1x1x1024_1_7_0_0).toLoadRect (sc4.view.rep (arr4 s.dcq)) = s.dcq 1 7 := readAt_arr4 _ _ 1 7 rfl _
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨S3, S4, H12, H16, Hk⟩
  sl_exec!
  sl_step
  have g12 : a12.view.read (Elt F) (a12.view.writes (Elt F) a12.view.junk (run_end.sl.H12_8 s)) = outDq s := by
    rw [show run_end.sl.H12_8 s = [⟨Rect.unit (s := S8192x128) ![7168, 0] S1024x128.size inb_S8192x128_S1024x128_7168_0, k0_pay73 (s.dqt 7)⟩, ⟨Rect.unit (s := S8192x128) ![6144, 0] S1024x128.size inb_S8192x128_S1024x128_6144_0, k0_pay73 (s.dqt 6)⟩, ⟨Rect.unit (s := S8192x128) ![5120, 0] S1024x128.size inb_S8192x128_S1024x128_5120_0, k0_pay73 (s.dqt 5)⟩, ⟨Rect.unit (s := S8192x128) ![4096, 0] S1024x128.size inb_S8192x128_S1024x128_4096_0, k0_pay73 (s.dqt 4)⟩, ⟨Rect.unit (s := S8192x128) ![3072, 0] S1024x128.size inb_S8192x128_S1024x128_3072_0, k0_pay73 (s.dqt 3)⟩, ⟨Rect.unit (s := S8192x128) ![2048, 0] S1024x128.size inb_S8192x128_S1024x128_2048_0, k0_pay73 (s.dqt 2)⟩, ⟨Rect.unit (s := S8192x128) ![1024, 0] S1024x128.size inb_S8192x128_S1024x128_1024_0, k0_pay73 (s.dqt 1)⟩, ⟨Rect.unit (s := S8192x128) ![0, 0] S1024x128.size inb_S8192x128_S1024x128_0_0, k0_pay73 (s.dqt 0)⟩] from rfl]
    funext y
    refine View.read_writes_apply_of_pieces _ _ (outDq s) _ ?_ y (View.cover_of_tiledL (s := S8192x128) _ S1024x128.size (by sl_kernel_rfl) y)
    intro q hq x
    simp only [List.mem_cons, List.not_mem_nil] at hq
    rcases hq with rfl | rfl | rfl | rfl | rfl | rfl | rfl | rfl | hq
    · exact outDq_emb s 7 (off := ![7168, 0]) rfl inb_S8192x128_S1024x128_7168_0 x
    · exact outDq_emb s 6 (off := ![6144, 0]) rfl inb_S8192x128_S1024x128_6144_0 x
    · exact outDq_emb s 5 (off := ![5120, 0]) rfl inb_S8192x128_S1024x128_5120_0 x
    · exact outDq_emb s 4 (off := ![4096, 0]) rfl inb_S8192x128_S1024x128_4096_0 x
    · exact outDq_emb s 3 (off := ![3072, 0]) rfl inb_S8192x128_S1024x128_3072_0 x
    · exact outDq_emb s 2 (off := ![2048, 0]) rfl inb_S8192x128_S1024x128_2048_0 x
    · exact outDq_emb s 1 (off := ![1024, 0]) rfl inb_S8192x128_S1024x128_1024_0 x
    · exact outDq_emb s 0 (off := ![0, 0]) rfl inb_S8192x128_S1024x128_0_0 x
    · exact hq.elim
  ihave H12 := (rep_mk (c : Thread nD τ) g12) $$ H12
  have g16 : a16.view.read (Elt F) (a16.view.writes (Elt F) a16.view.junk (run_end.sl.H16_16 s)) = outDcq s := by
    rw [show run_end.sl.H16_16 s = [⟨Rect.unit (s := S2x1x8192) ![1, 0, 7168] S1x1x1024.size inb_S2x1x8192_S1x1x1024_1_0_7168, k0_pay74 (s.dcq 1 7)⟩, ⟨Rect.unit (s := S2x1x8192) ![0, 0, 7168] S1x1x1024.size inb_S2x1x8192_S1x1x1024_0_0_7168, k0_pay74 (s.dcq 0 7)⟩, ⟨Rect.unit (s := S2x1x8192) ![1, 0, 6144] S1x1x1024.size inb_S2x1x8192_S1x1x1024_1_0_6144, k0_pay74 (s.dcq 1 6)⟩, ⟨Rect.unit (s := S2x1x8192) ![0, 0, 6144] S1x1x1024.size inb_S2x1x8192_S1x1x1024_0_0_6144, k0_pay74 (s.dcq 0 6)⟩, ⟨Rect.unit (s := S2x1x8192) ![1, 0, 5120] S1x1x1024.size inb_S2x1x8192_S1x1x1024_1_0_5120, k0_pay74 (s.dcq 1 5)⟩, ⟨Rect.unit (s := S2x1x8192) ![0, 0, 5120] S1x1x1024.size inb_S2x1x8192_S1x1x1024_0_0_5120, k0_pay74 (s.dcq 0 5)⟩, ⟨Rect.unit (s := S2x1x8192) ![1, 0, 4096] S1x1x1024.size inb_S2x1x8192_S1x1x1024_1_0_4096, k0_pay74 (s.dcq 1 4)⟩, ⟨Rect.unit (s := S2x1x8192) ![0, 0, 4096] S1x1x1024.size inb_S2x1x8192_S1x1x1024_0_0_4096, k0_pay74 (s.dcq 0 4)⟩, ⟨Rect.unit (s := S2x1x8192) ![1, 0, 3072] S1x1x1024.size inb_S2x1x8192_S1x1x1024_1_0_3072, k0_pay74 (s.dcq 1 3)⟩, ⟨Rect.unit (s := S2x1x8192) ![0, 0, 3072] S1x1x1024.size inb_S2x1x8192_S1x1x1024_0_0_3072, k0_pay74 (s.dcq 0 3)⟩, ⟨Rect.unit (s := S2x1x8192) ![1, 0, 2048] S1x1x1024.size inb_S2x1x8192_S1x1x1024_1_0_2048, k0_pay74 (s.dcq 1 2)⟩, ⟨Rect.unit (s := S2x1x8192) ![0, 0, 2048] S1x1x1024.size inb_S2x1x8192_S1x1x1024_0_0_2048, k0_pay74 (s.dcq 0 2)⟩, ⟨Rect.unit (s := S2x1x8192) ![1, 0, 1024] S1x1x1024.size inb_S2x1x8192_S1x1x1024_1_0_1024, k0_pay74 (s.dcq 1 1)⟩, ⟨Rect.unit (s := S2x1x8192) ![0, 0, 1024] S1x1x1024.size inb_S2x1x8192_S1x1x1024_0_0_1024, k0_pay74 (s.dcq 0 1)⟩, ⟨Rect.unit (s := S2x1x8192) ![1, 0, 0] S1x1x1024.size inb_S2x1x8192_S1x1x1024_1_0_0, k0_pay74 (s.dcq 1 0)⟩, ⟨Rect.unit (s := S2x1x8192) ![0, 0, 0] S1x1x1024.size inb_S2x1x8192_S1x1x1024_0_0_0, k0_pay74 (s.dcq 0 0)⟩] from rfl]
    funext y
    refine View.read_writes_apply_of_pieces _ _ (outDcq s) _ ?_ y (View.cover_of_tiledL (s := S2x1x8192) _ S1x1x1024.size (by sl_kernel_rfl) y)
    intro q hq x
    simp only [List.mem_cons, List.not_mem_nil] at hq
    rcases hq with rfl | rfl | rfl | rfl | rfl | rfl | rfl | rfl | rfl | rfl | rfl | rfl | rfl | rfl | rfl | rfl | hq
    · exact outDcq_emb s 1 7 (off := ![1, 0, 7168]) rfl inb_S2x1x8192_S1x1x1024_1_0_7168 x
    · exact outDcq_emb s 0 7 (off := ![0, 0, 7168]) rfl inb_S2x1x8192_S1x1x1024_0_0_7168 x
    · exact outDcq_emb s 1 6 (off := ![1, 0, 6144]) rfl inb_S2x1x8192_S1x1x1024_1_0_6144 x
    · exact outDcq_emb s 0 6 (off := ![0, 0, 6144]) rfl inb_S2x1x8192_S1x1x1024_0_0_6144 x
    · exact outDcq_emb s 1 5 (off := ![1, 0, 5120]) rfl inb_S2x1x8192_S1x1x1024_1_0_5120 x
    · exact outDcq_emb s 0 5 (off := ![0, 0, 5120]) rfl inb_S2x1x8192_S1x1x1024_0_0_5120 x
    · exact outDcq_emb s 1 4 (off := ![1, 0, 4096]) rfl inb_S2x1x8192_S1x1x1024_1_0_4096 x
    · exact outDcq_emb s 0 4 (off := ![0, 0, 4096]) rfl inb_S2x1x8192_S1x1x1024_0_0_4096 x
    · exact outDcq_emb s 1 3 (off := ![1, 0, 3072]) rfl inb_S2x1x8192_S1x1x1024_1_0_3072 x
    · exact outDcq_emb s 0 3 (off := ![0, 0, 3072]) rfl inb_S2x1x8192_S1x1x1024_0_0_3072 x
    · exact outDcq_emb s 1 2 (off := ![1, 0, 2048]) rfl inb_S2x1x8192_S1x1x1024_1_0_2048 x
    · exact outDcq_emb s 0 2 (off := ![0, 0, 2048]) rfl inb_S2x1x8192_S1x1x1024_0_0_2048 x
    · exact outDcq_emb s 1 1 (off := ![1, 0, 1024]) rfl inb_S2x1x8192_S1x1x1024_1_0_1024 x
    · exact outDcq_emb s 0 1 (off := ![0, 0, 1024]) rfl inb_S2x1x8192_S1x1x1024_0_0_1024 x
    · exact outDcq_emb s 1 0 (off := ![1, 0, 0]) rfl inb_S2x1x8192_S1x1x1024_1_0_0 x
    · exact outDcq_emb s 0 0 (off := ![0, 0, 0]) rfl inb_S2x1x8192_S1x1x1024_0_0_0 x
    · exact hq.elim
  ihave H16 := (rep_mk (c : Thread nD τ) g16) $$ H16
  iapply Hk
  isplitl [S3]; iexact S3
  isplitl [S4]; iexact S4
  isplitl [H12]; iexact H12
  iexact H16

end Cert.KernelIdeal.Fox

end
-- ==== Proof.Off.lean ====
module

public import proofs.«01_k».proof.Proof.Secs
public import proofs.«01_k».proof.Proof.State
public import proofs.«01_k».proof.Proof.Edges

@[expose] public section

set_option maxRecDepth 16384
set_option Elab.async false

noncomputable section

namespace Cert.KernelIdeal.Fox

open Cert.KernelIdeal Cert.KernelIdeal.Gen
open Idealize.ShloMosaic
open Memref (isWhole_whole)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Fox

local notation "𝕄" => MT nD τ sig Unit (Elt F) ℕ (UR sig nD τ) ℕ

set_option maxHeartbeats 8000000 in
/-- A step off the diagonal changes the sums as `offStep` says. -/
theorem run_off (c : Dev nD) (i : grid0.Coords) (a2 : Memref sig .tc .smem S36 .i32) (ha2 : a2.IsWhole) (a3 : Memref sig .tc .smem S36 .i32) (ha3 : a3.IsWhole) (a4 : Memref sig .tc .vmem S1024x128 .f32) (ha4 : a4.IsWhole) (a5 : Memref sig .tc .vmem S1024x128 .f32) (ha5 : a5.IsWhole) (a6 : Memref sig .tc .vmem S1024x128 .f32) (ha6 : a6.IsWhole) (a7 : Memref sig .tc .vmem S1024x128 .bf16) (ha7 : a7.IsWhole) (a8 : Memref sig .tc .vmem S1024x128 .bf16) (ha8 : a8.IsWhole) (a9 : Memref sig .tc .vmem S2x1024x128 .f32) (ha9 : a9.IsWhole) (a10 : Memref sig .tc .vmem S2x1x1024 .f32) (ha10 : a10.IsWhole) (a11 : Memref sig .tc .vmem S2x1x1024 .f32) (ha11 : a11.IsWhole) (a12 : Memref sig .tc .vmem S8192x128 .bf16) (ha12 : a12.IsWhole) (a13 : Memref sig .tc .vmem S1024x128 .bf16) (ha13 : a13.IsWhole) (a14 : Memref sig .tc .vmem S1024x128 .bf16) (ha14 : a14.IsWhole) (a15 : Memref sig .tc .vmem S1x1024x128 .f32) (ha15 : a15.IsWhole) (a16 : Memref sig .tc .vmem S2x1x8192 .f32) (ha16 : a16.IsWhole) (v1 v3 : Elt F .i32) (hw : k0_chk1 v1 v3) (k0_h4 : k0_cond4 v1 v3 = 1#1)
     (x : Tile F) (d : Fin 8 → S1x8x1024.Idx → Elt F .f32) (s : Sums F) (r : Fin 8) (hr : v1.toNat = r.val)  (K : PUnit → sProp 𝕄) :
    iprop(owns (c : Thread nD τ) a4 fullShare (x.k) ∗ owns (c : Thread nD τ) a5 fullShare (x.v) ∗ owns (c : Thread nD τ) a6 fullShare (x.q) ∗ owns (c : Thread nD τ) a8 fullShare (x.dy) ∗ owns (c : Thread nD τ) a9 fullShare (x.ck) ∗ owns (c : Thread nD τ) a10 fullShare (x.cq) ∗ owns (c : Thread nD τ) a11 fullShare (x.ls) ∗ owns (c : Thread nD τ) sc0 fullShare (arr3 (s).dk) ∗ owns (c : Thread nD τ) sc1 fullShare (arr3 (s).dv) ∗ owns (c : Thread nD τ) sc2 fullShare (arr3 (s).dc) ∗ owns (c : Thread nD τ) sc3 fullShare (arr3 (s).dqt) ∗ owns (c : Thread nD τ) sc4 fullShare (arr4 (s).dcq) ∗ owns (c : Thread nD τ) sc5 fullShare (arr3 (d)) ∗ ((owns (c : Thread nD τ) a4 fullShare (x.k) ∗ owns (c : Thread nD τ) a5 fullShare (x.v) ∗ owns (c : Thread nD τ) a6 fullShare (x.q) ∗ owns (c : Thread nD τ) a8 fullShare (x.dy) ∗ owns (c : Thread nD τ) a9 fullShare (x.ck) ∗ owns (c : Thread nD τ) a10 fullShare (x.cq) ∗ owns (c : Thread nD τ) a11 fullShare (x.ls) ∗ owns (c : Thread nD τ) sc0 fullShare (arr3 (offStep x (d r) s r).dk) ∗ owns (c : Thread nD τ) sc1 fullShare (arr3 (offStep x (d r) s r).dv) ∗ owns (c : Thread nD τ) sc2 fullShare (arr3 (offStep x (d r) s r).dc) ∗ owns (c : Thread nD τ) sc3 fullShare (arr3 (offStep x (d r) s r).dqt) ∗ owns (c : Thread nD τ) sc4 fullShare (arr4 (offStep x (d r) s r).dcq) ∗ owns (c : Thread nD τ) sc5 fullShare (arr3 d)) -∗ K ⟨⟩)) ⊢ wp frame (wpE (defs₀ (F := F)) Variants.none c none) Set.univ (secOff i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) K := by
  rw [secOff, dif_pos k0_h4]
  repeat rw [owns_eq_rep]
  have e4 : a4.view.readAt (Elt F) (Rect.unit (s := S1024x128) ![0, 0] S1024x128.size inb_S1024x128_S1024x128_0_0).toLoadRect (a4.view.rep x.k) = x.k := View.readAt_rep_full _ _ _
  have e5 : a5.view.readAt (Elt F) (Rect.unit (s := S1024x128) ![0, 0] S1024x128.size inb_S1024x128_S1024x128_0_0).toLoadRect (a5.view.rep x.v) = x.v := View.readAt_rep_full _ _ _
  have e6 : a6.view.readAt (Elt F) (Rect.unit (s := S1024x128) ![0, 0] S1024x128.size inb_S1024x128_S1024x128_0_0).toLoadRect (a6.view.rep x.q) = x.q := View.readAt_rep_full _ _ _
  have e8 : a8.view.readAt (Elt F) (Rect.unit (s := S1024x128) ![0, 0] S1024x128.size inb_S1024x128_S1024x128_0_0).toLoadRect (a8.view.rep x.dy) = x.dy := View.readAt_rep_full _ _ _
  have e9_0 : a9.view.readAt (Elt F) (Rect.unit (s := S2x1024x128) ![0, 0, 0] S1x1024x128.size inb_S2x1024x128_S1x1024x128_0_0_0).toLoadRect (a9.view.rep x.ck) = row3 x.ck 0 := readAt_row3 _ _ 0 rfl _
  have e9_1 : a9.view.readAt (Elt F) (Rect.unit (s := S2x1024x128) ![1, 0, 0] S1x1024x128.size inb_S2x1024x128_S1x1024x128_1_0_0).toLoadRect (a9.view.rep x.ck) = row3 x.ck 1 := readAt_row3 _ _ 1 rfl _
  have e10_0 : a10.view.readAt (Elt F) (Rect.unit (s := S2x1x1024) ![0, 0, 0] S1x1x1024.size inb_S2x1x1024_S1x1x1024_0_0_0).toLoadRect (a10.view.rep x.cq) = row3 x.cq 0 := readAt_row3 _ _ 0 rfl _
  have e10_1 : a10.view.readAt (Elt F) (Rect.unit (s := S2x1x1024) ![1, 0, 0] S1x1x1024.size inb_S2x1x1024_S1x1x1024_1_0_0).toLoadRect (a10.view.rep x.cq) = row3 x.cq 1 := readAt_row3 _ _ 1 rfl _
  have e11_0 : a11.view.readAt (Elt F) (Rect.unit (s := S2x1x1024) ![0, 0, 0] S1x1x1024.size inb_S2x1x1024_S1x1x1024_0_0_0).toLoadRect (a11.view.rep x.ls) = row3 x.ls 0 := readAt_row3 _ _ 0 rfl _
  have e11_1 : a11.view.readAt (Elt F) (Rect.unit (s := S2x1x1024) ![1, 0, 0] S1x1x1024.size inb_S2x1x1024_S1x1x1024_1_0_0).toLoadRect (a11.view.rep x.ls) = row3 x.ls 1 := readAt_row3 _ _ 1 rfl _
  have e17_0 : sc0.view.readAt (Elt F) (Rect.unit (s := S2x1024x128) ![0, 0, 0] S1x1024x128.size inb_S2x1024x128_S1x1024x128_0_0_0).toLoadRect (sc0.view.rep (arr3 s.dk)) = s.dk 0 := readAt_arr3 _ _ 0 rfl _
  have e17_1 : sc0.view.readAt (Elt F) (Rect.unit (s := S2x1024x128) ![1, 0, 0] S1x1024x128.size inb_S2x1024x128_S1x1024x128_1_0_0).toLoadRect (sc0.view.rep (arr3 s.dk)) = s.dk 1 := readAt_arr3 _ _ 1 rfl _
  have e18_0 : sc1.view.readAt (Elt F) (Rect.unit (s := S2x1024x128) ![0, 0, 0] S1x1024x128.size inb_S2x1024x128_S1x1024x128_0_0_0).toLoadRect (sc1.view.rep (arr3 s.dv)) = s.dv 0 := readAt_arr3 _ _ 0 rfl _
  have e18_1 : sc1.view.readAt (Elt F) (Rect.unit (s := S2x1024x128) ![1, 0, 0] S1x1024x128.size inb_S2x1024x128_S1x1024x128_1_0_0).toLoadRect (sc1.view.rep (arr3 s.dv)) = s.dv 1 := readAt_arr3 _ _ 1 rfl _
  have e19_0 : sc2.view.readAt (Elt F) (Rect.unit (s := S2x1024x128) ![0, 0, 0] S1x1024x128.size inb_S2x1024x128_S1x1024x128_0_0_0).toLoadRect (sc2.view.rep (arr3 s.dc)) = s.dc 0 := readAt_arr3 _ _ 0 rfl _
  have e19_1 : sc2.view.readAt (Elt F) (Rect.unit (s := S2x1024x128) ![1, 0, 0] S1x1024x128.size inb_S2x1024x128_S1x1024x128_1_0_0).toLoadRect (sc2.view.rep (arr3 s.dc)) = s.dc 1 := readAt_arr3 _ _ 1 rfl _
  have o3 : k0_off3 v1 = ![r.val, 0, 0] := by show ![v1.toNat, 0, 0] = _; rw [hr]
  have o4 : k0_off4 v1 = ![r.val, 0, 0] := by show ![v1.toNat, 0, 0] = _; rw [hr]
  have o5 : k0_off5 v1 = ![0, r.val, 0, 0] := by show ![0, v1.toNat, 0, 0] = _; rw [hr]
  have o6 : k0_off6 v1 = ![1, r.val, 0, 0] := by show ![1, v1.toNat, 0, 0] = _; rw [hr]
  have e22 : sc5.view.readAt (Elt F) (Rect.unit (s := S8x8x1024) (k0_off3 v1) S1x8x1024.size (k0_off3_inb v1 v3 hw k0_h4)).toLoadRect (sc5.view.rep (arr3 d)) = d r := readAt_arr3 _ _ r o3 _
  have e20 : sc3.view.readAt (Elt F) (Rect.unit (s := S8x128x1024) (k0_off4 v1) S1x128x1024.size (k0_off4_inb v1 v3 hw k0_h4)).toLoadRect (sc3.view.rep (arr3 s.dqt)) = s.dqt r := readAt_arr3 _ _ r o4 _
  have e21_0 : sc4.view.readAt (Elt F) (Rect.unit (s := S2x8x1x1024) (k0_off5 v1) S1x1x1x1024.size (k0_off5_inb v1 v3 hw k0_h4)).toLoadRect (sc4.view.rep (arr4 s.dcq)) = s.dcq 0 r := readAt_arr4 _ _ 0 r o5 _
  have e21_1 : sc4.view.readAt (Elt F) (Rect.unit (s := S2x8x1x1024) (k0_off6 v1) S1x1x1x1024.size (k0_off6_inb v1 v3 hw k0_h4)).toLoadRect (sc4.view.rep (arr4 s.dcq)) = s.dcq 1 r := readAt_arr4 _ _ 1 r o6 _
  have e21_w : ∀ w, sc4.view.readAt (Elt F) (Rect.unit (s := S2x8x1x1024) (k0_off6 v1) S1x1x1x1024.size (k0_off6_inb v1 v3 hw k0_h4)).toLoadRect (sc4.view.writes (Elt F) (sc4.view.rep (arr4 s.dcq)) [⟨Rect.unit (s := S2x8x1x1024) (k0_off5 v1) S1x1x1x1024.size (k0_off5_inb v1 v3 hw k0_h4), w⟩]) = s.dcq 1 r := fun w => readAt_other _ _ r o5 o6 w _ _
  have e20_w : ∀ w, sc3.view.readAt (Elt F) (Rect.unit (s := S8x128x1024) (k0_off4 v1) S1x128x1024.size (k0_off4_inb v1 v3 hw k0_h4)).toLoadRect (sc3.view.writes (Elt F) (sc3.view.rep (arr3 s.dqt)) [⟨Rect.unit (s := S8x128x1024) (k0_off4 v1) S1x128x1024.size (k0_off4_inb v1 v3 hw k0_h4), w⟩]) = w := fun w => readAt_store _ _ _ w _
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨H4, H5, H6, H8, H9, H10, H11, S0, S1, S2, S3, S4, S5, Hk⟩
  sl_exec!
  sl_step
  have g17 : sc0.view.read (Elt F) (sc0.view.writes (Elt F) sc0.view.junk (run_off.sl.S0_2 x d s r)) = arr3 (offStep x (d r) s r).dk := by
    rw [show run_off.sl.S0_2 x d s r = [⟨Rect.unit (s := S2x1024x128) ![1, 0, 0] S1x1024x128.size inb_S2x1024x128_S1x1024x128_1_0_0, offDk1 x (d r) s⟩, ⟨Rect.unit (s := S2x1024x128) ![0, 0, 0] S1x1024x128.size inb_S2x1024x128_S1x1024x128_0_0_0, offDk0 x (d r) s⟩] from rfl]
    exact read_two (a := 1024) (b := 128) sc0.view _ (offDk0 x (d r) s) (offDk1 x (d r) s) _ _
  ihave S0 := (rep_mk (c : Thread nD τ) g17) $$ S0
  have g18 : sc1.view.read (Elt F) (sc1.view.writes (Elt F) sc1.view.junk (run_off.sl.S1_2 x s)) = arr3 (offStep x (d r) s r).dv := by
    rw [show run_off.sl.S1_2 x s = [⟨Rect.unit (s := S2x1024x128) ![1, 0, 0] S1x1024x128.size inb_S2x1024x128_S1x1024x128_1_0_0, offDv1 x (d r) s⟩, ⟨Rect.unit (s := S2x1024x128) ![0, 0, 0] S1x1024x128.size inb_S2x1024x128_S1x1024x128_0_0_0, offDv0 x (d r) s⟩] from rfl]
    exact read_two (a := 1024) (b := 128) sc1.view _ (offDv0 x (d r) s) (offDv1 x (d r) s) _ _
  ihave S1 := (rep_mk (c : Thread nD τ) g18) $$ S1
  have g19 : sc2.view.read (Elt F) (sc2.view.writes (Elt F) sc2.view.junk (run_off.sl.S2_2 x d s r)) = arr3 (offStep x (d r) s r).dc := by
    rw [show run_off.sl.S2_2 x d s r = [⟨Rect.unit (s := S2x1024x128) ![1, 0, 0] S1x1024x128.size inb_S2x1024x128_S1x1024x128_1_0_0, offDc1 x (d r) s⟩, ⟨Rect.unit (s := S2x1024x128) ![0, 0, 0] S1x1024x128.size inb_S2x1024x128_S1x1024x128_0_0_0, offDc0 x (d r) s⟩] from rfl]
    exact read_two (a := 1024) (b := 128) sc2.view _ (offDc0 x (d r) s) (offDc1 x (d r) s) _ _
  ihave S2 := (rep_mk (c : Thread nD τ) g19) $$ S2
  have g20 : sc3.view.read (Elt F) (sc3.view.writes (Elt F) (sc3.view.rep (arr3 s.dqt)) (⟨Rect.unit (k0_off4 v1) S1x128x1024.size (k0_off4_inb v1 v3 hw k0_h4),
          k0_pay8 (run_off.sl.v114 x) (run_off.sl.v137 x d r) (run_off.sl.v164 x d s r)
            run_off.sl.cst_53⟩ ::
        run_off.sl.S3_1 v1 v3 hw k0_h4 x d s r)) = arr3 (offStep x (d r) s r).dqt := by
    rw [show ⟨Rect.unit (k0_off4 v1) S1x128x1024.size (k0_off4_inb v1 v3 hw k0_h4),
          k0_pay8 (run_off.sl.v114 x) (run_off.sl.v137 x d r) (run_off.sl.v164 x d s r)
            run_off.sl.cst_53⟩ ::
        run_off.sl.S3_1 v1 v3 hw k0_h4 x d s r = [⟨Rect.unit (s := S8x128x1024) (k0_off4 v1) S1x128x1024.size (k0_off4_inb v1 v3 hw k0_h4), offDq x (d r) s r⟩, ⟨Rect.unit (s := S8x128x1024) (k0_off4 v1) S1x128x1024.size (k0_off4_inb v1 v3 hw k0_h4), offDqA x (d r) s r⟩] from rfl]
    exact read_twice (n := 8) (a := 128) (b := 1024) sc3.view _ r o4 (offDqA x (d r) s r) (offDq x (d r) s r) _ _
  ihave S3 := (rep_mk (c : Thread nD τ) g20) $$ S3
  have g21 : sc4.view.read (Elt F) (sc4.view.writes (Elt F) (sc4.view.rep (arr4 s.dcq)) (⟨Rect.unit (k0_off6 v1) S1x1x1x1024.size (k0_off6_inb v1 v3 hw k0_h4),
          k0_pay9 (run_off.sl.v136 x d r) (s.dcq 1 r)⟩ ::
        run_off.sl.S4_1 v1 v3 hw k0_h4 x d s r)) = arr4 (offStep x (d r) s r).dcq := by
    rw [show ⟨Rect.unit (k0_off6 v1) S1x1x1x1024.size (k0_off6_inb v1 v3 hw k0_h4),
          k0_pay9 (run_off.sl.v136 x d r) (s.dcq 1 r)⟩ ::
        run_off.sl.S4_1 v1 v3 hw k0_h4 x d s r = [⟨Rect.unit (s := S2x8x1x1024) (k0_off6 v1) S1x1x1x1024.size (k0_off6_inb v1 v3 hw k0_h4), offDcq1 x (d r) s r⟩, ⟨Rect.unit (s := S2x8x1x1024) (k0_off5 v1) S1x1x1x1024.size (k0_off5_inb v1 v3 hw k0_h4), offDcq0 x (d r) s r⟩] from rfl]
    exact read_pair (n := 8) (a := 1) (b := 1024) sc4.view _ r o5 o6 (offDcq0 x (d r) s r) (offDcq1 x (d r) s r) _ _
  ihave S4 := (rep_mk (c : Thread nD τ) g21) $$ S4
  iapply Hk
  isplitl [H4]; iexact H4
  isplitl [H5]; iexact H5
  isplitl [H6]; iexact H6
  isplitl [H8]; iexact H8
  isplitl [H9]; iexact H9
  isplitl [H10]; iexact H10
  isplitl [H11]; iexact H11
  isplitl [S0]; iexact S0
  isplitl [S1]; iexact S1
  isplitl [S2]; iexact S2
  isplitl [S3]; iexact S3
  isplitl [S4]; iexact S4
  iexact S5

end Cert.KernelIdeal.Fox

end
-- ==== Proof.Diag.lean ====
module

public import proofs.«01_k».proof.Proof.Secs
public import proofs.«01_k».proof.Proof.State
public import proofs.«01_k».proof.Proof.Edges

@[expose] public section

set_option maxRecDepth 16384
set_option Elab.async false

noncomputable section

namespace Cert.KernelIdeal.Fox

open Cert.KernelIdeal Cert.KernelIdeal.Gen
open Idealize.ShloMosaic
open Memref (isWhole_whole)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Fox

local notation "𝕄" => MT nD τ sig Unit (Elt F) ℕ (UR sig nD τ) ℕ

set_option maxHeartbeats 8000000 in
/-- A step on the diagonal changes the sums as `diagStep` says. -/
theorem run_diag (c : Dev nD) (i : grid0.Coords) (a2 : Memref sig .tc .smem S36 .i32) (ha2 : a2.IsWhole) (a3 : Memref sig .tc .smem S36 .i32) (ha3 : a3.IsWhole) (a4 : Memref sig .tc .vmem S1024x128 .f32) (ha4 : a4.IsWhole) (a5 : Memref sig .tc .vmem S1024x128 .f32) (ha5 : a5.IsWhole) (a6 : Memref sig .tc .vmem S1024x128 .f32) (ha6 : a6.IsWhole) (a7 : Memref sig .tc .vmem S1024x128 .bf16) (ha7 : a7.IsWhole) (a8 : Memref sig .tc .vmem S1024x128 .bf16) (ha8 : a8.IsWhole) (a9 : Memref sig .tc .vmem S2x1024x128 .f32) (ha9 : a9.IsWhole) (a10 : Memref sig .tc .vmem S2x1x1024 .f32) (ha10 : a10.IsWhole) (a11 : Memref sig .tc .vmem S2x1x1024 .f32) (ha11 : a11.IsWhole) (a12 : Memref sig .tc .vmem S8192x128 .bf16) (ha12 : a12.IsWhole) (a13 : Memref sig .tc .vmem S1024x128 .bf16) (ha13 : a13.IsWhole) (a14 : Memref sig .tc .vmem S1024x128 .bf16) (ha14 : a14.IsWhole) (a15 : Memref sig .tc .vmem S1x1024x128 .f32) (ha15 : a15.IsWhole) (a16 : Memref sig .tc .vmem S2x1x8192 .f32) (ha16 : a16.IsWhole) (v1 v3 : Elt F .i32) (hw : k0_chk1 v1 v3) (k0_h5 : k0_cond5 v1 v3 = 1#1)
     (x : Tile F) (d : Fin 8 → S1x8x1024.Idx → Elt F .f32) (s : Sums F) (r : Fin 8) (hr : v1.toNat = r.val)  (K : PUnit → sProp 𝕄) :
    iprop(owns (c : Thread nD τ) a4 fullShare (x.k) ∗ owns (c : Thread nD τ) a5 fullShare (x.v) ∗ owns (c : Thread nD τ) a6 fullShare (x.q) ∗ owns (c : Thread nD τ) a8 fullShare (x.dy) ∗ owns (c : Thread nD τ) a9 fullShare (x.ck) ∗ owns (c : Thread nD τ) a10 fullShare (x.cq) ∗ owns (c : Thread nD τ) a11 fullShare (x.ls) ∗ owns (c : Thread nD τ) sc0 fullShare (arr3 (s).dk) ∗ owns (c : Thread nD τ) sc1 fullShare (arr3 (s).dv) ∗ owns (c : Thread nD τ) sc2 fullShare (arr3 (s).dc) ∗ owns (c : Thread nD τ) sc3 fullShare (arr3 (s).dqt) ∗ owns (c : Thread nD τ) sc4 fullShare (arr4 (s).dcq) ∗ owns (c : Thread nD τ) sc5 fullShare (arr3 (d)) ∗ ((owns (c : Thread nD τ) a4 fullShare (x.k) ∗ owns (c : Thread nD τ) a5 fullShare (x.v) ∗ owns (c : Thread nD τ) a6 fullShare (x.q) ∗ owns (c : Thread nD τ) a8 fullShare (x.dy) ∗ owns (c : Thread nD τ) a9 fullShare (x.ck) ∗ owns (c : Thread nD τ) a10 fullShare (x.cq) ∗ owns (c : Thread nD τ) a11 fullShare (x.ls) ∗ owns (c : Thread nD τ) sc0 fullShare (arr3 (diagStep x (d r) s r).dk) ∗ owns (c : Thread nD τ) sc1 fullShare (arr3 (diagStep x (d r) s r).dv) ∗ owns (c : Thread nD τ) sc2 fullShare (arr3 (diagStep x (d r) s r).dc) ∗ owns (c : Thread nD τ) sc3 fullShare (arr3 (diagStep x (d r) s r).dqt) ∗ owns (c : Thread nD τ) sc4 fullShare (arr4 (diagStep x (d r) s r).dcq) ∗ owns (c : Thread nD τ) sc5 fullShare (arr3 d)) -∗ K ⟨⟩)) ⊢ wp frame (wpE (defs₀ (F := F)) Variants.none c none) Set.univ (secDiag i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) K := by
  rw [secDiag, dif_pos k0_h5]
  repeat rw [owns_eq_rep]
  have e4 : a4.view.readAt (Elt F) (Rect.unit (s := S1024x128) ![0, 0] S1024x128.size inb_S1024x128_S1024x128_0_0).toLoadRect (a4.view.rep x.k) = x.k := View.readAt_rep_full _ _ _
  have e5 : a5.view.readAt (Elt F) (Rect.unit (s := S1024x128) ![0, 0] S1024x128.size inb_S1024x128_S1024x128_0_0).toLoadRect (a5.view.rep x.v) = x.v := View.readAt_rep_full _ _ _
  have e6 : a6.view.readAt (Elt F) (Rect.unit (s := S1024x128) ![0, 0] S1024x128.size inb_S1024x128_S1024x128_0_0).toLoadRect (a6.view.rep x.q) = x.q := View.readAt_rep_full _ _ _
  have e8 : a8.view.readAt (Elt F) (Rect.unit (s := S1024x128) ![0, 0] S1024x128.size inb_S1024x128_S1024x128_0_0).toLoadRect (a8.view.rep x.dy) = x.dy := View.readAt_rep_full _ _ _
  have e9_0 : a9.view.readAt (Elt F) (Rect.unit (s := S2x1024x128) ![0, 0, 0] S1x1024x128.size inb_S2x1024x128_S1x1024x128_0_0_0).toLoadRect (a9.view.rep x.ck) = row3 x.ck 0 := readAt_row3 _ _ 0 rfl _
  have e9_1 : a9.view.readAt (Elt F) (Rect.unit (s := S2x1024x128) ![1, 0, 0] S1x1024x128.size inb_S2x1024x128_S1x1024x128_1_0_0).toLoadRect (a9.view.rep x.ck) = row3 x.ck 1 := readAt_row3 _ _ 1 rfl _
  have e10_0 : a10.view.readAt (Elt F) (Rect.unit (s := S2x1x1024) ![0, 0, 0] S1x1x1024.size inb_S2x1x1024_S1x1x1024_0_0_0).toLoadRect (a10.view.rep x.cq) = row3 x.cq 0 := readAt_row3 _ _ 0 rfl _
  have e10_1 : a10.view.readAt (Elt F) (Rect.unit (s := S2x1x1024) ![1, 0, 0] S1x1x1024.size inb_S2x1x1024_S1x1x1024_1_0_0).toLoadRect (a10.view.rep x.cq) = row3 x.cq 1 := readAt_row3 _ _ 1 rfl _
  have e11_0 : a11.view.readAt (Elt F) (Rect.unit (s := S2x1x1024) ![0, 0, 0] S1x1x1024.size inb_S2x1x1024_S1x1x1024_0_0_0).toLoadRect (a11.view.rep x.ls) = row3 x.ls 0 := readAt_row3 _ _ 0 rfl _
  have e11_1 : a11.view.readAt (Elt F) (Rect.unit (s := S2x1x1024) ![1, 0, 0] S1x1x1024.size inb_S2x1x1024_S1x1x1024_1_0_0).toLoadRect (a11.view.rep x.ls) = row3 x.ls 1 := readAt_row3 _ _ 1 rfl _
  have e17_0 : sc0.view.readAt (Elt F) (Rect.unit (s := S2x1024x128) ![0, 0, 0] S1x1024x128.size inb_S2x1024x128_S1x1024x128_0_0_0).toLoadRect (sc0.view.rep (arr3 s.dk)) = s.dk 0 := readAt_arr3 _ _ 0 rfl _
  have e17_1 : sc0.view.readAt (Elt F) (Rect.unit (s := S2x1024x128) ![1, 0, 0] S1x1024x128.size inb_S2x1024x128_S1x1024x128_1_0_0).toLoadRect (sc0.view.rep (arr3 s.dk)) = s.dk 1 := readAt_arr3 _ _ 1 rfl _
  have e18_0 : sc1.view.readAt (Elt F) (Rect.unit (s := S2x1024x128) ![0, 0, 0] S1x1024x128.size inb_S2x1024x128_S1x1024x128_0_0_0).toLoadRect (sc1.view.rep (arr3 s.dv)) = s.dv 0 := readAt_arr3 _ _ 0 rfl _
  have e18_1 : sc1.view.readAt (Elt F) (Rect.unit (s := S2x1024x128) ![1, 0, 0] S1x1024x128.size inb_S2x1024x128_S1x1024x128_1_0_0).toLoadRect (sc1.view.rep (arr3 s.dv)) = s.dv 1 := readAt_arr3 _ _ 1 rfl _
  have e19_0 : sc2.view.readAt (Elt F) (Rect.unit (s := S2x1024x128) ![0, 0, 0] S1x1024x128.size inb_S2x1024x128_S1x1024x128_0_0_0).toLoadRect (sc2.view.rep (arr3 s.dc)) = s.dc 0 := readAt_arr3 _ _ 0 rfl _
  have e19_1 : sc2.view.readAt (Elt F) (Rect.unit (s := S2x1024x128) ![1, 0, 0] S1x1024x128.size inb_S2x1024x128_S1x1024x128_1_0_0).toLoadRect (sc2.view.rep (arr3 s.dc)) = s.dc 1 := readAt_arr3 _ _ 1 rfl _
  have o7 : k0_off7 v1 = ![r.val, 0, 0] := by show ![v1.toNat, 0, 0] = _; rw [hr]
  have o8 : k0_off8 v1 = ![r.val, 0, 0] := by show ![v1.toNat, 0, 0] = _; rw [hr]
  have o9 : k0_off9 v1 = ![0, r.val, 0, 0] := by show ![0, v1.toNat, 0, 0] = _; rw [hr]
  have o10 : k0_off10 v1 = ![1, r.val, 0, 0] := by show ![1, v1.toNat, 0, 0] = _; rw [hr]
  have e22 : sc5.view.readAt (Elt F) (Rect.unit (s := S8x8x1024) (k0_off7 v1) S1x8x1024.size (k0_off7_inb v1 v3 hw k0_h5)).toLoadRect (sc5.view.rep (arr3 d)) = d r := readAt_arr3 _ _ r o7 _
  have e20 : sc3.view.readAt (Elt F) (Rect.unit (s := S8x128x1024) (k0_off8 v1) S1x128x1024.size (k0_off8_inb v1 v3 hw k0_h5)).toLoadRect (sc3.view.rep (arr3 s.dqt)) = s.dqt r := readAt_arr3 _ _ r o8 _
  have e21_0 : sc4.view.readAt (Elt F) (Rect.unit (s := S2x8x1x1024) (k0_off9 v1) S1x1x1x1024.size (k0_off9_inb v1 v3 hw k0_h5)).toLoadRect (sc4.view.rep (arr4 s.dcq)) = s.dcq 0 r := readAt_arr4 _ _ 0 r o9 _
  have e21_1 : sc4.view.readAt (Elt F) (Rect.unit (s := S2x8x1x1024) (k0_off10 v1) S1x1x1x1024.size (k0_off10_inb v1 v3 hw k0_h5)).toLoadRect (sc4.view.rep (arr4 s.dcq)) = s.dcq 1 r := readAt_arr4 _ _ 1 r o10 _
  have e21_w : ∀ w, sc4.view.readAt (Elt F) (Rect.unit (s := S2x8x1x1024) (k0_off10 v1) S1x1x1x1024.size (k0_off10_inb v1 v3 hw k0_h5)).toLoadRect (sc4.view.writes (Elt F) (sc4.view.rep (arr4 s.dcq)) [⟨Rect.unit (s := S2x8x1x1024) (k0_off9 v1) S1x1x1x1024.size (k0_off9_inb v1 v3 hw k0_h5), w⟩]) = s.dcq 1 r := fun w => readAt_other _ _ r o9 o10 w _ _
  have e20_w : ∀ w, sc3.view.readAt (Elt F) (Rect.unit (s := S8x128x1024) (k0_off8 v1) S1x128x1024.size (k0_off8_inb v1 v3 hw k0_h5)).toLoadRect (sc3.view.writes (Elt F) (sc3.view.rep (arr3 s.dqt)) [⟨Rect.unit (s := S8x128x1024) (k0_off8 v1) S1x128x1024.size (k0_off8_inb v1 v3 hw k0_h5), w⟩]) = w := fun w => readAt_store _ _ _ w _
  have hS0 : sc0.IsWhole := isWhole_whole _
  have hS1 : sc1.IsWhole := isWhole_whole _
  have hS2 : sc2.IsWhole := isWhole_whole _
  have hS3 : sc3.IsWhole := isWhole_whole _
  have hS4 : sc4.IsWhole := isWhole_whole _
  have hS5 : sc5.IsWhole := isWhole_whole _
  iintro ⟨H4, H5, H6, H8, H9, H10, H11, S0, S1, S2, S3, S4, S5, Hk⟩
  sl_exec!
  sl_step
  have g17 : sc0.view.read (Elt F) (sc0.view.writes (Elt F) sc0.view.junk (run_diag.sl.S0_2 x d s r)) = arr3 (diagStep x (d r) s r).dk := by
    rw [show run_diag.sl.S0_2 x d s r = [⟨Rect.unit (s := S2x1024x128) ![1, 0, 0] S1x1024x128.size inb_S2x1024x128_S1x1024x128_1_0_0, diagDk1 x (d r) s⟩, ⟨Rect.unit (s := S2x1024x128) ![0, 0, 0] S1x1024x128.size inb_S2x1024x128_S1x1024x128_0_0_0, diagDk0 x (d r) s⟩] from rfl]
    exact read_two (a := 1024) (b := 128) sc0.view _ (diagDk0 x (d r) s) (diagDk1 x (d r) s) _ _
  ihave S0 := (rep_mk (c : Thread nD τ) g17) $$ S0
  have g18 : sc1.view.read (Elt F) (sc1.view.writes (Elt F) sc1.view.junk (run_diag.sl.S1_2 x s)) = arr3 (diagStep x (d r) s r).dv := by
    rw [show run_diag.sl.S1_2 x s = [⟨Rect.unit (s := S2x1024x128) ![1, 0, 0] S1x1024x128.size inb_S2x1024x128_S1x1024x128_1_0_0, diagDv1 x (d r) s⟩, ⟨Rect.unit (s := S2x1024x128) ![0, 0, 0] S1x1024x128.size inb_S2x1024x128_S1x1024x128_0_0_0, diagDv0 x (d r) s⟩] from rfl]
    exact read_two (a := 1024) (b := 128) sc1.view _ (diagDv0 x (d r) s) (diagDv1 x (d r) s) _ _
  ihave S1 := (rep_mk (c : Thread nD τ) g18) $$ S1
  have g19 : sc2.view.read (Elt F) (sc2.view.writes (Elt F) sc2.view.junk (run_diag.sl.S2_2 x d s r)) = arr3 (diagStep x (d r) s r).dc := by
    rw [show run_diag.sl.S2_2 x d s r = [⟨Rect.unit (s := S2x1024x128) ![1, 0, 0] S1x1024x128.size inb_S2x1024x128_S1x1024x128_1_0_0, diagDc1 x (d r) s⟩, ⟨Rect.unit (s := S2x1024x128) ![0, 0, 0] S1x1024x128.size inb_S2x1024x128_S1x1024x128_0_0_0, diagDc0 x (d r) s⟩] from rfl]
    exact read_two (a := 1024) (b := 128) sc2.view _ (diagDc0 x (d r) s) (diagDc1 x (d r) s) _ _
  ihave S2 := (rep_mk (c : Thread nD τ) g19) $$ S2
  have g20 : sc3.view.read (Elt F) (sc3.view.writes (Elt F) (sc3.view.rep (arr3 s.dqt)) (⟨Rect.unit (k0_off8 v1) S1x128x1024.size (k0_off8_inb v1 v3 hw k0_h5),
          k0_pay11 (run_diag.sl.v119 x) (run_diag.sl.r_8 x d r) (run_diag.sl.v104 x d s r)⟩ ::
        run_diag.sl.S3_1 v1 v3 hw k0_h5 x d s r)) = arr3 (diagStep x (d r) s r).dqt := by
    rw [show ⟨Rect.unit (k0_off8 v1) S1x128x1024.size (k0_off8_inb v1 v3 hw k0_h5),
          k0_pay11 (run_diag.sl.v119 x) (run_diag.sl.r_8 x d r) (run_diag.sl.v104 x d s r)⟩ ::
        run_diag.sl.S3_1 v1 v3 hw k0_h5 x d s r = [⟨Rect.unit (s := S8x128x1024) (k0_off8 v1) S1x128x1024.size (k0_off8_inb v1 v3 hw k0_h5), diagDq x (d r) s r⟩, ⟨Rect.unit (s := S8x128x1024) (k0_off8 v1) S1x128x1024.size (k0_off8_inb v1 v3 hw k0_h5), diagDqA x (d r) s r⟩] from rfl]
    exact read_twice (n := 8) (a := 128) (b := 1024) sc3.view _ r o8 (diagDqA x (d r) s r) (diagDq x (d r) s r) _ _
  ihave S3 := (rep_mk (c : Thread nD τ) g20) $$ S3
  have g21 : sc4.view.read (Elt F) (sc4.view.writes (Elt F) (sc4.view.rep (arr4 s.dcq)) (⟨Rect.unit (k0_off10 v1) S1x1x1x1024.size (k0_off10_inb v1 v3 hw k0_h5), k0_pay12 (run_diag.sl.r_7 x d r) (s.dcq 1 r)⟩ ::
        run_diag.sl.S4_1 v1 v3 hw k0_h5 x d s r)) = arr4 (diagStep x (d r) s r).dcq := by
    rw [show ⟨Rect.unit (k0_off10 v1) S1x1x1x1024.size (k0_off10_inb v1 v3 hw k0_h5), k0_pay12 (run_diag.sl.r_7 x d r) (s.dcq 1 r)⟩ ::
        run_diag.sl.S4_1 v1 v3 hw k0_h5 x d s r = [⟨Rect.unit (s := S2x8x1x1024) (k0_off10 v1) S1x1x1x1024.size (k0_off10_inb v1 v3 hw k0_h5), diagDcq1 x (d r) s r⟩, ⟨Rect.unit (s := S2x8x1x1024) (k0_off9 v1) S1x1x1x1024.size (k0_off9_inb v1 v3 hw k0_h5), diagDcq0 x (d r) s r⟩] from rfl]
    exact read_pair (n := 8) (a := 1) (b := 1024) sc4.view _ r o9 o10 (diagDcq0 x (d r) s r) (diagDcq1 x (d r) s r) _ _
  ihave S4 := (rep_mk (c : Thread nD τ) g21) $$ S4
  iapply Hk
  isplitl [H4]; iexact H4
  isplitl [H5]; iexact H5
  isplitl [H6]; iexact H6
  isplitl [H8]; iexact H8
  isplitl [H9]; iexact H9
  isplitl [H10]; iexact H10
  isplitl [H11]; iexact H11
  isplitl [S0]; iexact S0
  isplitl [S1]; iexact S1
  isplitl [S2]; iexact S2
  isplitl [S3]; iexact S3
  isplitl [S4]; iexact S4
  iexact S5

end Cert.KernelIdeal.Fox

end
-- ==== Proof.Body.lean ====
module

public import proofs.«01_k».proof.Proof.Secs
public import proofs.«01_k».proof.Proof.State
public import proofs.«01_k».proof.Proof.Edges
public import proofs.«01_k».proof.Proof.Off
public import proofs.«01_k».proof.Proof.Diag

@[expose] public section

set_option maxRecDepth 16384
set_option Elab.async false

noncomputable section

namespace Cert.KernelIdeal.Fox

open Cert.KernelIdeal Cert.KernelIdeal.Gen
open Idealize.ShloMosaic
open Memref (isWhole_whole)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Cert.Fox

local notation "𝕄" => MT nD τ sig Unit (Elt F) ℕ (UR sig nD τ) ℕ

/-- The contents of the five outputs' blocks. -/
structure Outs (F : FTy → Type) where
  dq : S8192x128.Idx → Elt F .bf16
  dk : S1024x128.Idx → Elt F .bf16
  dv : S1024x128.Idx → Elt F .bf16
  dc : S1x1024x128.Idx → Elt F .f32
  dcq : S2x1x8192.Idx → Elt F .f32

/-- The sums after the clearing of the query side. -/
def stepZero (i : grid0.Coords) (s : Sums F) : Sums F := if Scalar.cmpi .ne (Scalar.extui (Scalar.cmpi .eq (BitVec.ofNat 32 (i 1).val) 0#32)) 0#32 = 1#1 then s.clearQ else s

/-- The sums after the clearing of the key side. -/
def stepNew (v1 v3 : BitVec 32) (s : Sums F) : Sums F := if Scalar.cmpi .ne (Scalar.extui (Scalar.cmpi .eq v1 v3)) 0#32 = 1#1 then s.clearK else s

/-- The rows' contributions after a step. -/
def stepD (v3 : BitVec 32) (r : Fin 8) (x : Tile F) (d : Fin 8 → S1x8x1024.Idx → Elt F .f32) : Fin 8 → S1x8x1024.Idx → Elt F .f32 :=
  if k0_cond3 v3 = 1#1 then Function.update d r (dRow x) else d

/-- The sums after the part of a step off the diagonal. -/
def stepOff (v1 v3 : BitVec 32) (r : Fin 8) (x : Tile F) (d : Fin 8 → S1x8x1024.Idx → Elt F .f32) (s : Sums F) : Sums F :=
  if k0_cond4 v1 v3 = 1#1 then offStep x (d r) s r else s

/-- The sums after the part of a step on the diagonal. -/
def stepDiag (v1 v3 : BitVec 32) (r : Fin 8) (x : Tile F) (d : Fin 8 → S1x8x1024.Idx → Elt F .f32) (s : Sums F) : Sums F :=
  if k0_cond5 v1 v3 = 1#1 then diagStep x (d r) s r else s

/-- The outputs after the last step of a key tile. -/
def stepKeys (i : grid0.Coords) (v1 : BitVec 32) (s : Sums F) (o : Outs F) : Outs F :=
  if k0_cond6 v1 = 1#1 then { o with dk := outDk s, dv := outDv s, dc := outDc i s } else o

/-- The outputs after the last step of a pair of heads. -/
def stepEnd (i : grid0.Coords) (s : Sums F) (o : Outs F) : Outs F :=
  if k0_cond7 i = 1#1 then { o with dq := outDq s, dcq := outDcq s } else o

/-- The sums after a whole step. -/
def stepSums (i : grid0.Coords) (v1 v3 : BitVec 32) (r : Fin 8) (x : Tile F) (d : Fin 8 → S1x8x1024.Idx → Elt F .f32) (s : Sums F) : Sums F :=
  stepDiag v1 v3 r x (stepD v3 r x d) (stepOff v1 v3 r x (stepD v3 r x d) (stepNew v1 v3 (stepZero i s)))

/-- The outputs after a whole step that ends with the sums `s`. -/
def stepOuts (i : grid0.Coords) (v1 : BitVec 32) (s : Sums F) (o : Outs F) : Outs F := stepEnd i s (stepKeys i v1 s o)

/-- What a step holds: its inputs' tiles, its outputs' blocks, and the scratch arrays. -/
def Held (c : Dev nD) (a4 : Memref sig .tc .vmem S1024x128 .f32) (a5 : Memref sig .tc .vmem S1024x128 .f32) (a6 : Memref sig .tc .vmem S1024x128 .f32) (a7 : Memref sig .tc .vmem S1024x128 .bf16) (a8 : Memref sig .tc .vmem S1024x128 .bf16) (a9 : Memref sig .tc .vmem S2x1024x128 .f32) (a10 : Memref sig .tc .vmem S2x1x1024 .f32) (a11 : Memref sig .tc .vmem S2x1x1024 .f32) (a12 : Memref sig .tc .vmem S8192x128 .bf16) (a13 : Memref sig .tc .vmem S1024x128 .bf16) (a14 : Memref sig .tc .vmem S1024x128 .bf16) (a15 : Memref sig .tc .vmem S1x1024x128 .f32) (a16 : Memref sig .tc .vmem S2x1x8192 .f32) (x : Tile F) (o : Outs F) (s : Sums F) (d : Fin 8 → S1x8x1024.Idx → Elt F .f32) : sProp 𝕄 :=
  iprop(owns (c : Thread nD τ) a4 fullShare (x.k) ∗ owns (c : Thread nD τ) a5 fullShare (x.v) ∗ owns (c : Thread nD τ) a6 fullShare (x.q) ∗ owns (c : Thread nD τ) a7 fullShare (x.y) ∗ owns (c : Thread nD τ) a8 fullShare (x.dy) ∗ owns (c : Thread nD τ) a9 fullShare (x.ck) ∗ owns (c : Thread nD τ) a10 fullShare (x.cq) ∗ owns (c : Thread nD τ) a11 fullShare (x.ls) ∗ owns (c : Thread nD τ) a12 fullShare ((o).dq) ∗ owns (c : Thread nD τ) a13 fullShare ((o).dk) ∗ owns (c : Thread nD τ) a14 fullShare ((o).dv) ∗ owns (c : Thread nD τ) a15 fullShare ((o).dc) ∗ owns (c : Thread nD τ) a16 fullShare ((o).dcq) ∗ owns (c : Thread nD τ) sc0 fullShare (arr3 (s).dk) ∗ owns (c : Thread nD τ) sc1 fullShare (arr3 (s).dv) ∗ owns (c : Thread nD τ) sc2 fullShare (arr3 (s).dc) ∗ owns (c : Thread nD τ) sc3 fullShare (arr3 (s).dqt) ∗ owns (c : Thread nD τ) sc4 fullShare (arr4 (s).dcq) ∗ owns (c : Thread nD τ) sc5 fullShare (arr3 (d)))

section Parts

variable (c : Dev nD) (i : grid0.Coords) (a2 : Memref sig .tc .smem S36 .i32) (ha2 : a2.IsWhole) (a3 : Memref sig .tc .smem S36 .i32) (ha3 : a3.IsWhole) (a4 : Memref sig .tc .vmem S1024x128 .f32) (ha4 : a4.IsWhole) (a5 : Memref sig .tc .vmem S1024x128 .f32) (ha5 : a5.IsWhole) (a6 : Memref sig .tc .vmem S1024x128 .f32) (ha6 : a6.IsWhole) (a7 : Memref sig .tc .vmem S1024x128 .bf16) (ha7 : a7.IsWhole) (a8 : Memref sig .tc .vmem S1024x128 .bf16) (ha8 : a8.IsWhole) (a9 : Memref sig .tc .vmem S2x1024x128 .f32) (ha9 : a9.IsWhole) (a10 : Memref sig .tc .vmem S2x1x1024 .f32) (ha10 : a10.IsWhole) (a11 : Memref sig .tc .vmem S2x1x1024 .f32) (ha11 : a11.IsWhole) (a12 : Memref sig .tc .vmem S8192x128 .bf16) (ha12 : a12.IsWhole) (a13 : Memref sig .tc .vmem S1024x128 .bf16) (ha13 : a13.IsWhole) (a14 : Memref sig .tc .vmem S1024x128 .bf16) (ha14 : a14.IsWhole) (a15 : Memref sig .tc .vmem S1x1024x128 .f32) (ha15 : a15.IsWhole) (a16 : Memref sig .tc .vmem S2x1x8192 .f32) (ha16 : a16.IsWhole)
include c i a2 ha2 a3 ha3 a4 ha4 a5 ha5 a6 ha6 a7 ha7 a8 ha8 a9 ha9 a10 ha10 a11 ha11 a12 ha12 a13 ha13 a14 ha14 a15 ha15 a16 ha16

set_option maxHeartbeats 4000000 in
theorem zero_step (v1 v3 : Elt F .i32) (hw : k0_chk1 v1 v3)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secZero i sc3 sc4 v1 v3 hw) fun _ => Held c a4 a5 a6 a7 a8 a9 a10 a11 a12 a13 a14 a15 a16 x o (stepZero i s) d := by
  by_cases h : Scalar.cmpi .ne (Scalar.extui (Scalar.cmpi .eq (BitVec.ofNat 32 (i 1).val) 0#32)) 0#32 = 1#1
  · rw [stepZero, if_pos h]
    unfold Held
    iintro ⟨H4, H5, H6, H7, H8, H9, H10, H11, H12, H13, H14, H15, H16, S0, S1, S2, S3, S4, S5⟩
    iapply (run_zero c i a2 ha2 a3 ha3 a4 ha4 a5 ha5 a6 ha6 a7 ha7 a8 ha8 a9 ha9 a10 ha10 a11 ha11 a12 ha12 a13 ha13 a14 ha14 a15 ha15 a16 ha16 v1 v3 hw h s _)
    isplitl [S3]; iexact S3
    isplitl [S4]; iexact S4
    iintro ⟨S3, S4⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepZero, if_neg h, secZero, dif_neg h]
    rw [show (pure PUnit.unit : Prog (TpuEff nD τ sig (Elt F) Λ₀ .tc) PUnit) = Prog.ret PUnit.unit from rfl, wp_ret]
    exact fupd_intro

set_option maxHeartbeats 4000000 in
theorem new_step (v1 v3 : Elt F .i32) (hw : k0_chk1 v1 v3)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secNew sc0 sc1 sc2 v1 v3 hw) fun _ => Held c a4 a5 a6 a7 a8 a9 a10 a11 a12 a13 a14 a15 a16 x o (stepNew v1 v3 s) d := by
  by_cases h : Scalar.cmpi .ne (Scalar.extui (Scalar.cmpi .eq v1 v3)) 0#32 = 1#1
  · rw [stepNew, if_pos h]
    unfold Held
    iintro ⟨H4, H5, H6, H7, H8, H9, H10, H11, H12, H13, H14, H15, H16, S0, S1, S2, S3, S4, S5⟩
    iapply (run_new c i a2 ha2 a3 ha3 a4 ha4 a5 ha5 a6 ha6 a7 ha7 a8 ha8 a9 ha9 a10 ha10 a11 ha11 a12 ha12 a13 ha13 a14 ha14 a15 ha15 a16 ha16 v1 v3 hw h s _)
    isplitl [S0]; iexact S0
    isplitl [S1]; iexact S1
    isplitl [S2]; iexact S2
    iintro ⟨S0, S1, S2⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepNew, if_neg h, secNew, if_neg h]
    rw [show (pure PUnit.unit : Prog (TpuEff nD τ sig (Elt F) Λ₀ .tc) PUnit) = Prog.ret PUnit.unit from rfl, wp_ret]
    exact fupd_intro

set_option maxHeartbeats 4000000 in
theorem D_step (v1 v3 : Elt F .i32) (hw : k0_chk1 v1 v3) (r : Fin 8) (hr : v1.toNat = r.val)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secD a7 a8 sc5 v1 v3 hw) fun _ => Held c a4 a5 a6 a7 a8 a9 a10 a11 a12 a13 a14 a15 a16 x o s (stepD v3 r x d) := by
  by_cases h : k0_cond3 v3 = 1#1
  · rw [stepD, if_pos h]
    unfold Held
    iintro ⟨H4, H5, H6, H7, H8, H9, H10, H11, H12, H13, H14, H15, H16, S0, S1, S2, S3, S4, S5⟩
    iapply (run_D c i a2 ha2 a3 ha3 a4 ha4 a5 ha5 a6 ha6 a7 ha7 a8 ha8 a9 ha9 a10 ha10 a11 ha11 a12 ha12 a13 ha13 a14 ha14 a15 ha15 a16 ha16 v1 v3 hw h x d r hr _)
    isplitl [H7]; iexact H7
    isplitl [H8]; iexact H8
    isplitl [S5]; iexact S5
    iintro ⟨H7, H8, S5⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepD, if_neg h, secD, dif_neg h]
    rw [show (pure PUnit.unit : Prog (TpuEff nD τ sig (Elt F) Λ₀ .tc) PUnit) = Prog.ret PUnit.unit from rfl, wp_ret]
    exact fupd_intro

set_option maxHeartbeats 4000000 in
theorem off_step (v1 v3 : Elt F .i32) (hw : k0_chk1 v1 v3) (r : Fin 8) (hr : v1.toNat = r.val)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secOff i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) fun _ => Held c a4 a5 a6 a7 a8 a9 a10 a11 a12 a13 a14 a15 a16 x o (stepOff v1 v3 r x d s) d := by
  by_cases h : k0_cond4 v1 v3 = 1#1
  · rw [stepOff, if_pos h]
    unfold Held
    iintro ⟨H4, H5, H6, H7, H8, H9, H10, H11, H12, H13, H14, H15, H16, S0, S1, S2, S3, S4, S5⟩
    iapply (run_off c i a2 ha2 a3 ha3 a4 ha4 a5 ha5 a6 ha6 a7 ha7 a8 ha8 a9 ha9 a10 ha10 a11 ha11 a12 ha12 a13 ha13 a14 ha14 a15 ha15 a16 ha16 v1 v3 hw h x d s r hr _)
    isplitl [H4]; iexact H4
    isplitl [H5]; iexact H5
    isplitl [H6]; iexact H6
    isplitl [H8]; iexact H8
    isplitl [H9]; iexact H9
    isplitl [H10]; iexact H10
    isplitl [H11]; iexact H11
    isplitl [S0]; iexact S0
    isplitl [S1]; iexact S1
    isplitl [S2]; iexact S2
    isplitl [S3]; iexact S3
    isplitl [S4]; iexact S4
    isplitl [S5]; iexact S5
    iintro ⟨H4, H5, H6, H8, H9, H10, H11, S0, S1, S2, S3, S4, S5⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepOff, if_neg h, secOff, dif_neg h]
    rw [show (pure PUnit.unit : Prog (TpuEff nD τ sig (Elt F) Λ₀ .tc) PUnit) = Prog.ret PUnit.unit from rfl, wp_ret]
    exact fupd_intro

set_option maxHeartbeats 4000000 in
theorem diag_step (v1 v3 : Elt F .i32) (hw : k0_chk1 v1 v3) (r : Fin 8) (hr : v1.toNat = r.val)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secDiag i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) fun _ => Held c a4 a5 a6 a7 a8 a9 a10 a11 a12 a13 a14 a15 a16 x o (stepDiag v1 v3 r x d s) d := by
  by_cases h : k0_cond5 v1 v3 = 1#1
  · rw [stepDiag, if_pos h]
    unfold Held
    iintro ⟨H4, H5, H6, H7, H8, H9, H10, H11, H12, H13, H14, H15, H16, S0, S1, S2, S3, S4, S5⟩
    iapply (run_diag c i a2 ha2 a3 ha3 a4 ha4 a5 ha5 a6 ha6 a7 ha7 a8 ha8 a9 ha9 a10 ha10 a11 ha11 a12 ha12 a13 ha13 a14 ha14 a15 ha15 a16 ha16 v1 v3 hw h x d s r hr _)
    isplitl [H4]; iexact H4
    isplitl [H5]; iexact H5
    isplitl [H6]; iexact H6
    isplitl [H8]; iexact H8
    isplitl [H9]; iexact H9
    isplitl [H10]; iexact H10
    isplitl [H11]; iexact H11
    isplitl [S0]; iexact S0
    isplitl [S1]; iexact S1
    isplitl [S2]; iexact S2
    isplitl [S3]; iexact S3
    isplitl [S4]; iexact S4
    isplitl [S5]; iexact S5
    iintro ⟨H4, H5, H6, H8, H9, H10, H11, S0, S1, S2, S3, S4, S5⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepDiag, if_neg h, secDiag, dif_neg h]
    rw [show (pure PUnit.unit : Prog (TpuEff nD τ sig (Elt F) Λ₀ .tc) PUnit) = Prog.ret PUnit.unit from rfl, wp_ret]
    exact fupd_intro

set_option maxHeartbeats 4000000 in
theorem keys_step (v1 v3 : Elt F .i32) (hw : k0_chk1 v1 v3)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secKeys i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) fun _ => Held c a4 a5 a6 a7 a8 a9 a10 a11 a12 a13 a14 a15 a16 x (stepKeys i v1 s o) s d := by
  by_cases h : k0_cond6 v1 = 1#1
  · rw [stepKeys, if_pos h]
    unfold Held
    iintro ⟨H4, H5, H6, H7, H8, H9, H10, H11, H12, H13, H14, H15, H16, S0, S1, S2, S3, S4, S5⟩
    iapply (run_keys c i a2 ha2 a3 ha3 a4 ha4 a5 ha5 a6 ha6 a7 ha7 a8 ha8 a9 ha9 a10 ha10 a11 ha11 a12 ha12 a13 ha13 a14 ha14 a15 ha15 a16 ha16 v1 v3 hw h s _ _ _ _)
    isplitl [S0]; iexact S0
    isplitl [S1]; iexact S1
    isplitl [S2]; iexact S2
    isplitl [H13]; iexact H13
    isplitl [H14]; iexact H14
    isplitl [H15]; iexact H15
    iintro ⟨S0, S1, S2, H13, H14, H15⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepKeys, if_neg h, secKeys, dif_neg h]
    rw [show (pure PUnit.unit : Prog (TpuEff nD τ sig (Elt F) Λ₀ .tc) PUnit) = Prog.ret PUnit.unit from rfl, wp_ret]
    exact fupd_intro

set_option maxHeartbeats 4000000 in
theorem end_step (v1 v3 : Elt F .i32) (hw : k0_chk1 v1 v3)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (secEnd i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw) fun _ => Held c a4 a5 a6 a7 a8 a9 a10 a11 a12 a13 a14 a15 a16 x (stepEnd i s o) s d := by
  by_cases h : k0_cond7 i = 1#1
  · rw [stepEnd, if_pos h]
    unfold Held
    iintro ⟨H4, H5, H6, H7, H8, H9, H10, H11, H12, H13, H14, H15, H16, S0, S1, S2, S3, S4, S5⟩
    iapply (run_end c i a2 ha2 a3 ha3 a4 ha4 a5 ha5 a6 ha6 a7 ha7 a8 ha8 a9 ha9 a10 ha10 a11 ha11 a12 ha12 a13 ha13 a14 ha14 a15 ha15 a16 ha16 v1 v3 hw h s _ _ _)
    isplitl [S3]; iexact S3
    isplitl [S4]; iexact S4
    isplitl [H12]; iexact H12
    isplitl [H16]; iexact H16
    iintro ⟨S3, S4, H12, H16⟩
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [S0]; iexact S0
    isplitl [S1]; iexact S1
    isplitl [S2]; iexact S2
    isplitl [S3]; iexact S3
    isplitl [S4]; iexact S4
    iexact S5
  · rw [stepEnd, if_neg h, secEnd, dif_neg h]
    rw [show (pure PUnit.unit : Prog (TpuEff nD τ sig (Elt F) Λ₀ .tc) PUnit) = Prog.ret PUnit.unit from rfl, wp_ret]
    exact fupd_intro

/-- The seven parts of a step in a row. -/
theorem secs_step (v1 v3 : Elt F .i32) (hw : k0_chk1 v1 v3) (r : Fin 8) (hr : v1.toNat = r.val)
    (x : Tile F) (o : Outs F) (s : Sums F) (d : Fin 8 → S1x8x1024.Idx → Elt F .f32) :
    Held c a4 a5 a6 a7 a8 a9 a10 a11 a12 a13 a14 a15 a16 x o s d ⊢ wp frame (wpE (defs₀ (F := F)) Variants.none c none) Set.univ (do
      secZero i sc3 sc4 v1 v3 hw
      secNew sc0 sc1 sc2 v1 v3 hw
      secD a7 a8 sc5 v1 v3 hw
      secOff i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      secDiag i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      secKeys i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      secEnd i a2 ha2 a3 ha3 a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      pure PUnit.unit) fun _ => Held c a4 a5 a6 a7 a8 a9 a10 a11 a12 a13 a14 a15 a16 x (stepOuts i v1 (stepSums i v1 v3 r x d s) o) (stepSums i v1 v3 r x d s) (stepD v3 r x d) := by
  rw [wp_bind]
  refine (zero_step c i a2 ha2 a3 ha3 a4 ha4 a5 ha5 a6 ha6 a7 ha7 a8 ha8 a9 ha9 a10 ha10 a11 ha11 a12 ha12 a13 ha13 a14 ha14 a15 ha15 a16 ha16 v1 v3 hw x o s d).trans (wp_mono _ _ _ fun _ => ?_)
  rw [wp_bind]
  refine (new_step c i a2 ha2 a3 ha3 a4 ha4 a5 ha5 a6 ha6 a7 ha7 a8 ha8 a9 ha9 a10 ha10 a11 ha11 a12 ha12 a13 ha13 a14 ha14 a15 ha15 a16 ha16 v1 v3 hw x o _ d).trans (wp_mono _ _ _ fun _ => ?_)
  rw [wp_bind]
  refine (D_step c i a2 ha2 a3 ha3 a4 ha4 a5 ha5 a6 ha6 a7 ha7 a8 ha8 a9 ha9 a10 ha10 a11 ha11 a12 ha12 a13 ha13 a14 ha14 a15 ha15 a16 ha16 v1 v3 hw r hr x o _ d).trans (wp_mono _ _ _ fun _ => ?_)
  rw [wp_bind]
  refine (off_step c i a2 ha2 a3 ha3 a4 ha4 a5 ha5 a6 ha6 a7 ha7 a8 ha8 a9 ha9 a10 ha10 a11 ha11 a12 ha12 a13 ha13 a14 ha14 a15 ha15 a16 ha16 v1 v3 hw r hr x o _ _).trans (wp_mono _ _ _ fun _ => ?_)
  rw [wp_bind]
  refine (diag_step c i a2 ha2 a3 ha3 a4 ha4 a5 ha5 a6 ha6 a7 ha7 a8 ha8 a9 ha9 a10 ha10 a11 ha11 a12 ha12 a13 ha13 a14 ha14 a15 ha15 a16 ha16 v1 v3 hw r hr x o _ _).trans (wp_mono _ _ _ fun _ => ?_)
  rw [wp_bind]
  refine (keys_step c i a2 ha2 a3 ha3 a4 ha4 a5 ha5 a6 ha6 a7 ha7 a8 ha8 a9 ha9 a10 ha10 a11 ha11 a12 ha12 a13 ha13 a14 ha14 a15 ha15 a16 ha16 v1 v3 hw x o _ _).trans (wp_mono _ _ _ fun _ => ?_)
  rw [wp_bind]
  refine (end_step c i a2 ha2 a3 ha3 a4 ha4 a5 ha5 a6 ha6 a7 ha7 a8 ha8 a9 ha9 a10 ha10 a11 ha11 a12 ha12 a13 ha13 a14 ha14 a15 ha15 a16 ha16 v1 v3 hw x _ _ _).trans (wp_mono _ _ _ fun _ => ?_)
  rw [show (pure PUnit.unit : Prog (TpuEff nD τ sig (Elt F) Λ₀ .tc) PUnit) = Prog.ret PUnit.unit from rfl, wp_ret]
  exact fupd_intro

end Parts

set_option maxHeartbeats 4000000 in
/-- The two words a step reads, and the check of what it computes from them. -/
theorem words_step (c : Dev nD) (i : grid0.Coords) (T0 : Buf (Elt F) ((c : Thread nD τ).loc main_c)) (T1 : Buf (Elt F) ((c : Thread nD τ).loc main_c_0)) (v1 v3 : Elt F .i32)
    (e0 : View.readAt (Elt F) tb0.view (Rect.unit (s := S36) (k0_off1 i) S1.size (k0_off1_inb i)).toLoadRect T0 (Shape.Idx.first (numel1_S1.symm ▸ Nat.one_pos)) = v1)
    (e1 : View.readAt (Elt F) tb1.view (Rect.unit (s := S36) (k0_off1 i) S1.size (k0_off1_inb i)).toLoadRect T1 (Shape.Idx.first (numel1_S1.symm ▸ Nat.one_pos)) = v3)
    (hw : k0_chk1 v1 v3) (R : ∀ v1 v3 : Elt F .i32, k0_chk1 v1 v3 → Prog (TpuEff nD τ sig (Elt F) Λ₀ .tc) PUnit) (K : PUnit → sProp 𝕄) :
    iprop((tb0.view.loc (c : Thread nD τ) ↦{fullShare.right} T0) ∗ (tb1.view.loc (c : Thread nD τ) ↦{fullShare.right} T1)
      ∗ (((tb0.view.loc (c : Thread nD τ) ↦{fullShare.right} T0) ∗ (tb1.view.loc (c : Thread nD τ) ↦{fullShare.right} T1))
        -∗ wp frame (wpE (defs₀ (F := F)) Variants.none c none) Set.univ (R v1 v3 hw) K))
      ⊢ wp frame (wpE (defs₀ (F := F)) Variants.none c none) Set.univ (do
        let v1 : Elt F .i32 ← smemLoad tb0 (Rect.unit (s := S36) (k0_off1 i) S1.size (k0_off1_inb i)) numel1_S1 rfl
        let v3 : Elt F .i32 ← smemLoad tb1 (Rect.unit (s := S36) (k0_off1 i) S1.size (k0_off1_inb i)) numel1_S1 rfl
        have k0_hw1 : k0_chk1 v1 v3 := (← Prog.lift (TpuEff.assume (k0_chk1 v1 v3) (k0_chk1.dec v1 v3))).down
        R v1 v3 k0_hw1) K := by
  iintro ⟨HT0, HT1, H⟩
  have hT0 : tb0.IsWhole := isWhole_whole _
  have hT1 : tb1.IsWhole := isWhole_whole _
  subst e0 e1
  sl_exec!
  iapply H
  isplitl [HT0]; iexact HT0
  iexact HT1

set_option maxHeartbeats 4000000 in
/-- A whole step of the kernel, from the words the two tables give it. -/
theorem body_step (c : Dev nD) (i : grid0.Coords) (a4 : Memref sig .tc .vmem S1024x128 .f32) (ha4 : a4.IsWhole) (a5 : Memref sig .tc .vmem S1024x128 .f32) (ha5 : a5.IsWhole) (a6 : Memref sig .tc .vmem S1024x128 .f32) (ha6 : a6.IsWhole) (a7 : Memref sig .tc .vmem S1024x128 .bf16) (ha7 : a7.IsWhole) (a8 : Memref sig .tc .vmem S1024x128 .bf16) (ha8 : a8.IsWhole) (a9 : Memref sig .tc .vmem S2x1024x128 .f32) (ha9 : a9.IsWhole) (a10 : Memref sig .tc .vmem S2x1x1024 .f32) (ha10 : a10.IsWhole) (a11 : Memref sig .tc .vmem S2x1x1024 .f32) (ha11 : a11.IsWhole) (a12 : Memref sig .tc .vmem S8192x128 .bf16) (ha12 : a12.IsWhole) (a13 : Memref sig .tc .vmem S1024x128 .bf16) (ha13 : a13.IsWhole) (a14 : Memref sig .tc .vmem S1024x128 .bf16) (ha14 : a14.IsWhole) (a15 : Memref sig .tc .vmem S1x1024x128 .f32) (ha15 : a15.IsWhole) (a16 : Memref sig .tc .vmem S2x1x8192 .f32) (ha16 : a16.IsWhole) (T0 : Buf (Elt F) ((c : Thread nD τ).loc main_c)) (T1 : Buf (Elt F) ((c : Thread nD τ).loc main_c_0)) (v1 v3 : Elt F .i32)
    (e0 : View.readAt (Elt F) tb0.view (Rect.unit (s := S36) (k0_off1 i) S1.size (k0_off1_inb i)).toLoadRect T0 (Shape.Idx.first (numel1_S1.symm ▸ Nat.one_pos)) = v1)
    (e1 : View.readAt (Elt F) tb1.view (Rect.unit (s := S36) (k0_off1 i) S1.size (k0_off1_inb i)).toLoadRect T1 (Shape.Idx.first (numel1_S1.symm ▸ Nat.one_pos)) = v3)
    (hw : k0_chk1 v1 v3) (r : Fin 8) (hr : v1.toNat = r.val)
    (x : Tile F) (o : Outs F) (s : Sums F) (d : Fin 8 → S1x8x1024.Idx → Elt F .f32) :
    iprop((tb0.view.loc (c : Thread nD τ) ↦{fullShare.right} T0) ∗ (tb1.view.loc (c : Thread nD τ) ↦{fullShare.right} T1) ∗ Held c a4 a5 a6 a7 a8 a9 a10 a11 a12 a13 a14 a15 a16 x o s d)
      ⊢ wp frame (wpE (defs₀ (F := F)) Variants.none c none) Set.univ (cc0_fox_bwd i tb0 (isWhole_whole _) tb1 (isWhole_whole _) a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _)) fun _ =>
        iprop((tb0.view.loc (c : Thread nD τ) ↦{fullShare.right} T0) ∗ (tb1.view.loc (c : Thread nD τ) ↦{fullShare.right} T1)
          ∗ Held c a4 a5 a6 a7 a8 a9 a10 a11 a12 a13 a14 a15 a16 x (stepOuts i v1 (stepSums i v1 v3 r x d s) o) (stepSums i v1 v3 r x d s) (stepD v3 r x d)) := by
  rw [cc0_fox_bwd_eq_skeleton, skel_eq_secs]
  unfold bodySecs
  iintro ⟨HT0, HT1, H⟩
  iapply (words_step c i T0 T1 v1 v3 e0 e1 hw (fun v1 v3 hw => do
      secZero i sc3 sc4 v1 v3 hw
      secNew sc0 sc1 sc2 v1 v3 hw
      secD a7 a8 sc5 v1 v3 hw
      secOff i tb0 (isWhole_whole _) tb1 (isWhole_whole _) a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      secDiag i tb0 (isWhole_whole _) tb1 (isWhole_whole _) a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      secKeys i tb0 (isWhole_whole _) tb1 (isWhole_whole _) a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      secEnd i tb0 (isWhole_whole _) tb1 (isWhole_whole _) a4 ha4 a5 ha5 a6 ha6 a7 ha7 a8 ha8 a9 ha9 a10 ha10 a11 ha11 a12 ha12 a13 ha13 a14 ha14 a15 ha15 a16 ha16 sc0 (isWhole_whole _) sc1 (isWhole_whole _) sc2 (isWhole_whole _) sc3 (isWhole_whole _) sc4 (isWhole_whole _) sc5 (isWhole_whole _) v1 v3 hw
      pure PUnit.unit) _)
  isplitl [HT0]; iexact HT0
  isplitl [HT1]; iexact HT1
  iintro ⟨HT0, HT1⟩
  iapply ((sep_mono_right ((sep_mono_right (secs_step c i tb0 (isWhole_whole _) tb1 (isWhole_whole _) a4 ha4 a5 ha5 a6 ha6 a7 ha7 a8 ha8 a9 ha9 a10 ha10 a11 ha11 a12 ha12 a13 ha13 a14 ha14 a15 ha15 a16 ha16 v1 v3 hw r hr x o s d)).trans (wp_frame_l _ _ _))).trans (wp_frame_l _ _ _))
  isplitl [HT0]; iexact HT0
  isplitl [HT1]; iexact HT1
  iexact H

end Cert.KernelIdeal.Fox

end
-- ==== Proof.Data.lean ====
module

public import proofs.«01_k».proof.Proof.State
public import proofs.«01_k».proof.Proof.Pins
public import proofs.«01_k».proof.Proof.Body

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Fox
open Idealize.ShloMosaic.Pipeline (Dat Cfg Window BodyObligation BodyObligationLoose cellOf)

local notation "𝕄" => MT nD τ sig Unit (Elt Ideal) ℕ (UR sig nD τ) ℕ

/-! ## The staging buffers of a step -/

abbrev ms0 (t : Fin cfgA.N) : Memref sig .tc .vmem S1024x128 .f32 := spec0_0.stage (cfgA.slots t (0 : Fin 13))
abbrev hs0 (t : Fin cfgA.N) : (ms0 t).IsWhole := hstage0_0 ((cfgA.slots t (0 : Fin 13)).cast nbuf0_0)
abbrev ms1 (t : Fin cfgA.N) : Memref sig .tc .vmem S1024x128 .f32 := spec0_1.stage (cfgA.slots t (1 : Fin 13))
abbrev hs1 (t : Fin cfgA.N) : (ms1 t).IsWhole := hstage0_1 ((cfgA.slots t (1 : Fin 13)).cast nbuf0_1)
abbrev ms2 (t : Fin cfgA.N) : Memref sig .tc .vmem S1024x128 .f32 := spec0_2.stage (cfgA.slots t (2 : Fin 13))
abbrev hs2 (t : Fin cfgA.N) : (ms2 t).IsWhole := hstage0_2 ((cfgA.slots t (2 : Fin 13)).cast nbuf0_2)
abbrev ms3 (t : Fin cfgA.N) : Memref sig .tc .vmem S1024x128 .bf16 := spec0_3.stage (cfgA.slots t (3 : Fin 13))
abbrev hs3 (t : Fin cfgA.N) : (ms3 t).IsWhole := hstage0_3 ((cfgA.slots t (3 : Fin 13)).cast nbuf0_3)
abbrev ms4 (t : Fin cfgA.N) : Memref sig .tc .vmem S1024x128 .bf16 := spec0_4.stage (cfgA.slots t (4 : Fin 13))
abbrev hs4 (t : Fin cfgA.N) : (ms4 t).IsWhole := hstage0_4 ((cfgA.slots t (4 : Fin 13)).cast nbuf0_4)
abbrev ms5 (t : Fin cfgA.N) : Memref sig .tc .vmem S2x1024x128 .f32 := spec0_5.stage (cfgA.slots t (5 : Fin 13))
abbrev hs5 (t : Fin cfgA.N) : (ms5 t).IsWhole := hstage0_5 ((cfgA.slots t (5 : Fin 13)).cast nbuf0_5)
abbrev ms6 (t : Fin cfgA.N) : Memref sig .tc .vmem S2x1x1024 .f32 := spec0_6.stage (cfgA.slots t (6 : Fin 13))
abbrev hs6 (t : Fin cfgA.N) : (ms6 t).IsWhole := hstage0_6 ((cfgA.slots t (6 : Fin 13)).cast nbuf0_6)
abbrev ms7 (t : Fin cfgA.N) : Memref sig .tc .vmem S2x1x1024 .f32 := spec0_7.stage (cfgA.slots t (7 : Fin 13))
abbrev hs7 (t : Fin cfgA.N) : (ms7 t).IsWhole := hstage0_7 ((cfgA.slots t (7 : Fin 13)).cast nbuf0_7)
abbrev ms8 (t : Fin cfgA.N) : Memref sig .tc .vmem S8192x128 .bf16 := spec0_8.stage (cfgA.slots t (8 : Fin 13))
abbrev hs8 (t : Fin cfgA.N) : (ms8 t).IsWhole := hstage0_8 ((cfgA.slots t (8 : Fin 13)).cast nbuf0_8)
abbrev ms9 (t : Fin cfgA.N) : Memref sig .tc .vmem S1024x128 .bf16 := spec0_9.stage (cfgA.slots t (9 : Fin 13))
abbrev hs9 (t : Fin cfgA.N) : (ms9 t).IsWhole := hstage0_9 ((cfgA.slots t (9 : Fin 13)).cast nbuf0_9)
abbrev ms10 (t : Fin cfgA.N) : Memref sig .tc .vmem S1024x128 .bf16 := spec0_10.stage (cfgA.slots t (10 : Fin 13))
abbrev hs10 (t : Fin cfgA.N) : (ms10 t).IsWhole := hstage0_10 ((cfgA.slots t (10 : Fin 13)).cast nbuf0_10)
abbrev ms11 (t : Fin cfgA.N) : Memref sig .tc .vmem S1x1024x128 .f32 := spec0_11.stage (cfgA.slots t (11 : Fin 13))
abbrev hs11 (t : Fin cfgA.N) : (ms11 t).IsWhole := hstage0_11 ((cfgA.slots t (11 : Fin 13)).cast nbuf0_11)
abbrev ms12 (t : Fin cfgA.N) : Memref sig .tc .vmem S2x1x8192 .f32 := spec0_12.stage (cfgA.slots t (12 : Fin 13))
abbrev hs12 (t : Fin cfgA.N) : (ms12 t).IsWhole := hstage0_12 ((cfgA.slots t (12 : Fin 13)).cast nbuf0_12)

variable (V : Dev nD → Valuation τ sig (Elt Ideal))

/-- A window's block at a step, of its array as the region finds it. -/
def iblk (c : Dev nD) (w : Fin cfgA.W) (t : Fin cfgA.N) : ((cfgA.win w).xblock (crd t)).Idx → Elt Ideal (cfgA.win w).elt :=
  ((cfgA.win w).blk t).view.read (Elt Ideal) (V c (Proc.devRef .tc (Pipeline.arrRef cfgA.spec w)))

/-- The tile of a step. -/
def tile (c : Dev nD) (t : Fin cfgA.N) : Tile Ideal where
  k := iblk V c (0 : Fin 13) t
  v := iblk V c (1 : Fin 13) t
  q := iblk V c (2 : Fin 13) t
  y := iblk V c (3 : Fin 13) t
  dy := iblk V c (4 : Fin 13) t
  ck := iblk V c (5 : Fin 13) t
  cq := iblk V c (6 : Fin 13) t
  ls := iblk V c (7 : Fin 13) t

/-- The sums and the rows' contributions before the first step: nothing depends on them. -/
def sums0 : Sums Ideal where
  dk := row3 (k0_pay4 (F := Ideal))
  dv := row3 (k0_pay5 (F := Ideal))
  dc := row3 (k0_pay6 (F := Ideal))
  dqt := row3 (k0_pay2 (F := Ideal))
  dcq := fun _ _ _ => k0_pay3 (F := Ideal) (ValueIdx.ix4 0 0 0 0)

/-- The sums and the rows' contributions before each step. -/
def traj (c : Dev nD) : ℕ → Sums Ideal × (Fin 8 → S1x8x1024.Idx → Elt Ideal .f32)
  | 0 => (sums0, fun _ _ => k0_pay3 (F := Ideal) (ValueIdx.ix4 0 0 0 0))
  | n + 1 => if h : n < cfgA.N then
      (stepSums (crd ⟨n, h⟩) (w0 n) (w1 n) (row n) (tile V c ⟨n, h⟩) (traj c n).2 (traj c n).1, stepD (w1 n) (row n) (tile V c ⟨n, h⟩) (traj c n).2)
    else traj c n

theorem traj_succ (c : Dev nD) (t : Fin cfgA.N) : traj V c (t.val + 1)
    = (stepSums (crd t) (w0 t.val) (w1 t.val) (row t.val) (tile V c t) (traj V c t.val).2 (traj V c t.val).1, stepD (w1 t.val) (row t.val) (tile V c t) (traj V c t.val).2) := by
  rw [traj, dif_pos t.isLt]

/-- What the scratch arrays hold before a step, as far as a step before it has stored there. -/
def Agree (c : Dev nD) (n : ℕ) (s : Sums Ideal) (d : Fin 8 → S1x8x1024.Idx → Elt Ideal .f32) : Prop :=
  (n ≠ 0 → s = (traj V c n).1) ∧ ∀ r : Fin 8, r.val < n → d r = (traj V c n).2 r

theorem agree_zero (c : Dev nD) (s : Sums Ideal) (d : Fin 8 → S1x8x1024.Idx → Elt Ideal .f32) : Agree V c 0 s d :=
  ⟨fun h => absurd rfl h, fun r h => absurd h (Nat.not_lt_zero _)⟩

theorem stepD_row {c : Dev nD} {t : Fin cfgA.N} {s : Sums Ideal} {d : Fin 8 → S1x8x1024.Idx → Elt Ideal .f32} (h : Agree V c t.val s d)
    (r : Fin 8) (hr : (k0_cond3 (w1 t.val) = 1#1 ∧ r = row t.val) ∨ r.val < t.val) :
    stepD (w1 t.val) (row t.val) (tile V c t) d r = stepD (w1 t.val) (row t.val) (tile V c t) (traj V c t.val).2 r := by
  unfold stepD
  by_cases h3 : k0_cond3 (w1 t.val) = 1#1
  · rw [if_pos h3, if_pos h3]
    by_cases hrr : r = row t.val
    · subst hrr; rw [Function.update_self, Function.update_self]
    · rw [Function.update_of_ne hrr, Function.update_of_ne hrr]
      rcases hr with hr | hr
      · exact absurd hr.2 hrr
      · exact h.2 r hr
  · rw [if_neg h3, if_neg h3]
    rcases hr with hr | hr
    · exact absurd hr.1 h3
    · exact h.2 r hr

theorem stepSums_agree {c : Dev nD} {t : Fin cfgA.N} {s : Sums Ideal} {d : Fin 8 → S1x8x1024.Idx → Elt Ideal .f32} (h : Agree V c t.val s d) :
    stepSums (crd t) (w0 t.val) (w1 t.val) (row t.val) (tile V c t) d s = (traj V c (t.val + 1)).1 := by
  rw [traj_succ]
  have hd : stepD (w1 t.val) (row t.val) (tile V c t) d (row t.val) = stepD (w1 t.val) (row t.val) (tile V c t) (traj V c t.val).2 (row t.val) :=
    stepD_row V h _ ((row_known t).imp (fun h => ⟨h, rfl⟩) id)
  have hs : stepNew (w0 t.val) (w1 t.val) (stepZero (crd t) s) = stepNew (w0 t.val) (w1 t.val) (stepZero (crd t) (traj V c t.val).1) := by
    by_cases h0 : t.val = 0
    · obtain ⟨a, b⟩ := first_step t h0
      unfold stepNew stepZero
      rw [if_pos b, if_pos b, if_pos a, if_pos a]
      rfl
    · rw [h.1 h0]
  show stepSums _ _ _ _ _ _ _ = stepSums _ _ _ _ _ _ _
  unfold stepSums stepDiag stepOff
  rw [hd, hs]

theorem agree_succ {c : Dev nD} {t : Fin cfgA.N} {s : Sums Ideal} {d : Fin 8 → S1x8x1024.Idx → Elt Ideal .f32} (h : Agree V c t.val s d) :
    Agree V c (t.val + 1) (stepSums (crd t) (w0 t.val) (w1 t.val) (row t.val) (tile V c t) d s) (stepD (w1 t.val) (row t.val) (tile V c t) d) := by
  refine ⟨fun _ => stepSums_agree V h, fun r hr => ?_⟩
  rw [traj_succ]
  refine stepD_row V h r ?_
  rcases Nat.lt_or_ge r.val t.val with h' | h'
  · exact Or.inr h'
  · exact Or.inl (row_new t r (by omega))

/-- What holds between the steps: the scratch arrays, the tables, and the random-number register. -/
def Phi (c : Dev nD) (n : ℕ) : sProp 𝕄 :=
  iprop((∃ s d, ⌜Agree V c n s d⌝ ∗ owns (c : Thread nD τ) sc0 fullShare (arr3 (Sums.dk s)) ∗ owns (c : Thread nD τ) sc1 fullShare (arr3 (Sums.dv s)) ∗ owns (c : Thread nD τ) sc2 fullShare (arr3 (Sums.dc s)) ∗ owns (c : Thread nD τ) sc3 fullShare (arr3 (Sums.dqt s)) ∗ owns (c : Thread nD τ) sc4 fullShare (arr4 (Sums.dcq s)) ∗ owns (c : Thread nD τ) sc5 fullShare (arr3 d))
    ∗ (tb0.view.loc (c : Thread nD τ) ↦{fullShare.right} tab0) ∗ (tb1.view.loc (c : Thread nD τ) ↦{fullShare.right} tab1) ∗ ∃ r, prngReg c r)

/-- The proof data of the pipeline on a core. -/
def dats (_ : Fin 1) (c : Dev nD) : Dat τ (Elt Ideal) Unit ℕ (UR sig nD τ) ℕ cfgA c where
  A w := V c (Proc.devRef .tc (Pipeline.arrRef cfgA.spec w))
  after w t := match w with
    | ⟨0, _⟩ => iblk V c (0 : Fin 13) t
    | ⟨1, _⟩ => iblk V c (1 : Fin 13) t
    | ⟨2, _⟩ => iblk V c (2 : Fin 13) t
    | ⟨3, _⟩ => iblk V c (3 : Fin 13) t
    | ⟨4, _⟩ => iblk V c (4 : Fin 13) t
    | ⟨5, _⟩ => iblk V c (5 : Fin 13) t
    | ⟨6, _⟩ => iblk V c (6 : Fin 13) t
    | ⟨7, _⟩ => iblk V c (7 : Fin 13) t
    | ⟨8, _⟩ => outDq (traj V c (t.val + 1)).1
    | ⟨9, _⟩ => outDk (traj V c (t.val + 1)).1
    | ⟨10, _⟩ => outDv (traj V c (t.val + 1)).1
    | ⟨11, _⟩ => outDc (crd t) (traj V c (t.val + 1)).1
    | ⟨12, _⟩ => outDcq (traj V c (t.val + 1)).1
  Φ t := Phi V c t.val
  q w := Pipeline.shareOf cfgA.spec w
  owed _ := 0

theorem before0 (c : Dev nD) (t : Fin cfgA.N) (d) : (dats V 0 c).before (0 : Fin 13) t d = iblk V c (0 : Fin 13) t :=
  ((dats V 0 c).before_in_eq_fetched (0 : Fin 13) rfl (fun _ => rfl) (fun _ _ _ => rfl) (fun t => by rw [show (dats V 0 c).after (0 : Fin 13) t = iblk V c (0 : Fin 13) t from rfl]; unfold Dat.blockOf iblk; rfl) t d).trans
    (by unfold Dat.fetched Dat.blockOf iblk; rfl)
theorem before1 (c : Dev nD) (t : Fin cfgA.N) (d) : (dats V 0 c).before (1 : Fin 13) t d = iblk V c (1 : Fin 13) t :=
  ((dats V 0 c).before_in_eq_fetched (1 : Fin 13) rfl (fun _ => rfl) (fun _ _ _ => rfl) (fun t => by rw [show (dats V 0 c).after (1 : Fin 13) t = iblk V c (1 : Fin 13) t from rfl]; unfold Dat.blockOf iblk; rfl) t d).trans
    (by unfold Dat.fetched Dat.blockOf iblk; rfl)
theorem before2 (c : Dev nD) (t : Fin cfgA.N) (d) : (dats V 0 c).before (2 : Fin 13) t d = iblk V c (2 : Fin 13) t :=
  ((dats V 0 c).before_in_eq_fetched (2 : Fin 13) rfl (fun _ => rfl) (fun _ _ _ => rfl) (fun t => by rw [show (dats V 0 c).after (2 : Fin 13) t = iblk V c (2 : Fin 13) t from rfl]; unfold Dat.blockOf iblk; rfl) t d).trans
    (by unfold Dat.fetched Dat.blockOf iblk; rfl)
theorem before3 (c : Dev nD) (t : Fin cfgA.N) (d) : (dats V 0 c).before (3 : Fin 13) t d = iblk V c (3 : Fin 13) t :=
  ((dats V 0 c).before_in_eq_fetched (3 : Fin 13) rfl (fun _ => rfl) (fun _ _ _ => rfl) (fun t => by rw [show (dats V 0 c).after (3 : Fin 13) t = iblk V c (3 : Fin 13) t from rfl]; unfold Dat.blockOf iblk; rfl) t d).trans
    (by unfold Dat.fetched Dat.blockOf iblk; rfl)
theorem before4 (c : Dev nD) (t : Fin cfgA.N) (d) : (dats V 0 c).before (4 : Fin 13) t d = iblk V c (4 : Fin 13) t :=
  ((dats V 0 c).before_in_eq_fetched (4 : Fin 13) rfl (fun _ => rfl) (fun _ _ _ => rfl) (fun t => by rw [show (dats V 0 c).after (4 : Fin 13) t = iblk V c (4 : Fin 13) t from rfl]; unfold Dat.blockOf iblk; rfl) t d).trans
    (by unfold Dat.fetched Dat.blockOf iblk; rfl)
theorem before5 (c : Dev nD) (t : Fin cfgA.N) (d) : (dats V 0 c).before (5 : Fin 13) t d = iblk V c (5 : Fin 13) t :=
  ((dats V 0 c).before_in_eq_fetched (5 : Fin 13) rfl (fun _ => rfl) (fun _ _ _ => rfl) (fun t => by rw [show (dats V 0 c).after (5 : Fin 13) t = iblk V c (5 : Fin 13) t from rfl]; unfold Dat.blockOf iblk; rfl) t d).trans
    (by unfold Dat.fetched Dat.blockOf iblk; rfl)
theorem before6 (c : Dev nD) (t : Fin cfgA.N) (d) : (dats V 0 c).before (6 : Fin 13) t d = iblk V c (6 : Fin 13) t :=
  ((dats V 0 c).before_in_eq_fetched (6 : Fin 13) rfl (fun _ => rfl) (fun _ _ _ => rfl) (fun t => by rw [show (dats V 0 c).after (6 : Fin 13) t = iblk V c (6 : Fin 13) t from rfl]; unfold Dat.blockOf iblk; rfl) t d).trans
    (by unfold Dat.fetched Dat.blockOf iblk; rfl)
theorem before7 (c : Dev nD) (t : Fin cfgA.N) (d) : (dats V 0 c).before (7 : Fin 13) t d = iblk V c (7 : Fin 13) t :=
  ((dats V 0 c).before_in_eq_fetched (7 : Fin 13) rfl (fun _ => rfl) (fun _ _ _ => rfl) (fun t => by rw [show (dats V 0 c).after (7 : Fin 13) t = iblk V c (7 : Fin 13) t from rfl]; unfold Dat.blockOf iblk; rfl) t d).trans
    (by unfold Dat.fetched Dat.blockOf iblk; rfl)

/-- An output's buffer after a step: stored whole at the last step of its block, as it was found elsewhere. -/
theorem out_post (c : Dev nD) (w : Fin cfgA.W) (t : Fin cfgA.N) (b : Bool) (hi : cfgA.idle w (cfgA.grid.coords t) = !b) (hf : (cfgA.win w).flush t = b)
    (X : (cfgA.win w).block.Idx → Elt Ideal (cfgA.win w).elt) (h1 : b = true → X = (dats V 0 c).after w t) (d) (h0 : b = false → X = (dats V 0 c).before w t d) :
    (owns (c : Thread nD τ) ((cfgA.win w).stage (cfgA.slots t w)) fullShare X : sProp 𝕄) ⊢
      match cfgA.idle w (cfgA.grid.coords t) with
      | true =>
        match (cfgA.win w).flush t with
        | false => iprop(∃ d, owns (c : Thread nD τ) ((cfgA.win w).stage (cfgA.slots t w)) fullShare ((dats V 0 c).before w t d))
        | true => owns (c : Thread nD τ) ((cfgA.win w).stage (cfgA.slots t w)) fullShare ((dats V 0 c).after w t)
      | false => owns (c : Thread nD τ) ((cfgA.win w).stage (cfgA.slots t w)) fullShare ((dats V 0 c).after w t) := by
  cases b with
  | true =>
    rw [hi, hf, h1 rfl]
    show (owns (c : Thread nD τ) ((cfgA.win w).stage (cfgA.slots t w)) fullShare ((dats V 0 c).after w t) : sProp 𝕄) ⊢ (owns (c : Thread nD τ) ((cfgA.win w).stage (cfgA.slots t w)) fullShare ((dats V 0 c).after w t) : sProp 𝕄)
    iintro H
    iexact H
  | false =>
    rw [hi, hf, h0 rfl]
    show (owns (c : Thread nD τ) ((cfgA.win w).stage (cfgA.slots t w)) fullShare ((dats V 0 c).before w t d) : sProp 𝕄) ⊢ (iprop(∃ d, owns (c : Thread nD τ) ((cfgA.win w).stage (cfgA.slots t w)) fullShare ((dats V 0 c).before w t d)) : sProp 𝕄)
    iintro H
    iexists d
    iexact H

theorem outs_key (i : grid0.Coords) (v1 : BitVec 32) (s : Sums Ideal) (o : Outs Ideal) (h : k0_cond6 v1 = 1#1) :
    (stepOuts i v1 s o).dk = outDk s ∧ (stepOuts i v1 s o).dv = outDv s ∧ (stepOuts i v1 s o).dc = outDc i s := by
  unfold stepOuts stepKeys stepEnd
  rw [if_pos h]
  split <;> exact ⟨rfl, rfl, rfl⟩

theorem outs_nokey (i : grid0.Coords) (v1 : BitVec 32) (s : Sums Ideal) (o : Outs Ideal) (h : ¬ k0_cond6 v1 = 1#1) :
    (stepOuts i v1 s o).dk = o.dk ∧ (stepOuts i v1 s o).dv = o.dv ∧ (stepOuts i v1 s o).dc = o.dc := by
  unfold stepOuts stepKeys stepEnd
  rw [if_neg h]
  split <;> exact ⟨rfl, rfl, rfl⟩

theorem outs_end (i : grid0.Coords) (v1 : BitVec 32) (s : Sums Ideal) (o : Outs Ideal) (h : k0_cond7 i = 1#1) :
    (stepOuts i v1 s o).dq = outDq s ∧ (stepOuts i v1 s o).dcq = outDcq s := by
  unfold stepOuts stepEnd
  rw [if_pos h]
  exact ⟨rfl, rfl⟩

theorem outs_noend (i : grid0.Coords) (v1 : BitVec 32) (s : Sums Ideal) (o : Outs Ideal) (h : ¬ k0_cond7 i = 1#1) :
    (stepOuts i v1 s o).dq = o.dq ∧ (stepOuts i v1 s o).dcq = o.dcq := by
  unfold stepOuts stepKeys stepEnd
  rw [if_neg h]
  split <;> exact ⟨rfl, rfl⟩

/-- The body at a step, on its staging buffers. -/
abbrev bodyAt (t : Fin cfgA.N) : Prog (TpuEff nD τ sig (Elt Ideal) Λ₀ .tc) PUnit :=
  cc0_fox_bwd (crd t) tb0 (Memref.isWhole_whole _) tb1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _)

set_option maxHeartbeats 4000000 in
/-- A step of the loop. -/
theorem sound_body (c : Dev nD) (t : Fin cfgA.N) :
    iprop((dats V 0 c).Φ t.castSucc ∗ (dats V 0 c).owesAt () t.castSucc
        ∗ bigSep Finset.univ fun w : Fin cfgA.W => iprop(∃ d, owns (c : Thread nD τ) ((cfgA.win w).stage (cfgA.slots t w)) fullShare ((dats V 0 c).before w t d)))
      ⊢ wp frame (wpE (defs₀ (F := Ideal)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0, bigSep_W0]
  obtain ⟨⟨i8, f8⟩, ⟨i9, f9⟩, ⟨i10, f10⟩, ⟨i11, f11⟩, ⟨i12, f12⟩⟩ := facts t
  simp only [before0, before1, before2, before3, before4, before5, before6, before7]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi
  iintro ⟨⟨⟨%s, %d, %hA, S0, S1, S2, S3, S4, S5⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hS := stepSums_agree V hA
  have hA' := agree_succ V hA
  have hk : ∀ o : Outs Ideal, isKey t.val = true → _ := fun o h => outs_key (crd t) (w0 t.val) (traj V c (t.val + 1)).1 o ((key_eq t).2 h)
  have hnk : ∀ o : Outs Ideal, isKey t.val = false → _ := fun o h => outs_nokey (crd t) (w0 t.val) (traj V c (t.val + 1)).1 o (fun h' => by rw [(key_eq t).1 h'] at h; exact Bool.noConfusion h)
  have he : ∀ o : Outs Ideal, isEnd t.val = true → _ := fun o h => outs_end (crd t) (w0 t.val) (traj V c (t.val + 1)).1 o ((end_eq t).2 h)
  have hne : ∀ o : Outs Ideal, isEnd t.val = false → _ := fun o h => outs_noend (crd t) (w0 t.val) (traj V c (t.val + 1)).1 o (fun h' => by rw [(end_eq t).1 h'] at h; exact Bool.noConfusion h)
  iapply (wp_wand_r _ _ _)
  isplitl [HT0 HT1 S0 S1 S2 S3 S4 S5 H0 H1 H2 H3 H4 H5 H6 H7 H8 H9 H10 H11 H12]
  · iapply (body_step c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) tab0 tab1 (w0 t.val) (w1 t.val) (read0 t) (read1 t) (chk t) (row t.val) (row_eq t) (tile V c t) { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } s d)
    isplitl [HT0]; · iexact HT0
    isplitl [HT1]; · iexact HT1
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    iexact S5
  rw [hS]
  unfold Held
  iintro %_ ⟨HT0, HT1, H0, H1, H2, H3, H4, H5, H6, H7, H8, H9, H10, H11, H12, S0, S1, S2, S3, S4, S5⟩
  isplitl [S0 S1 S2 S3 S4 S5 HT0 HT1 HP]
  · isplitl [S0 S1 S2 S3 S4 S5]
    · iexists _; iexists _
      isplitr; swap
      · isplitl [S0]; · iexact S0
        isplitl [S1]; · iexact S1
        isplitl [S2]; · iexact S2
        isplitl [S3]; · iexact S3
        isplitl [S4]; · iexact S4
        iexact S5
      · ipureintro; rw [hS] at hA'; exact hA'
    isplitl [HT0]; · iexact HT0
    isplitl [HT1]; · iexact HT1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (out_post V c (8 : Fin 13) t (isEnd t.val) i8 f8 _ (fun h => (he { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1) d8 (fun h => (hne { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1)); iexact H8
  isplitl [H9]; · iapply (out_post V c (9 : Fin 13) t (isKey t.val) i9 f9 _ (fun h => (hk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1) d9 (fun h => (hnk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1)); iexact H9
  isplitl [H10]; · iapply (out_post V c (10 : Fin 13) t (isKey t.val) i10 f10 _ (fun h => (hk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.1) d10 (fun h => (hnk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.1)); iexact H10
  isplitl [H11]; · iapply (out_post V c (11 : Fin 13) t (isKey t.val) i11 f11 _ (fun h => (hk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.2) d11 (fun h => (hnk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.2)); iexact H11
  iapply (out_post V c (12 : Fin 13) t (isEnd t.val) i12 f12 _ (fun h => (he { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2) d12 (fun h => (hne { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2)); iexact H12

theorem body_obligation (c : Dev nD) : BodyObligation (dats V 0 c) (defs₀ (F := Ideal)) Variants.none () Set.univ := fun t => sound_body V c t

end Cert.KernelIdeal.Fox

end
-- ==== Proof.Frame.lean ====
module

public import proofs.«01_k».proof.Proof.State
public import proofs.«01_k».proof.Proof.Data
public import proofs.«01_k».proof.Proof.Pins
public import Idealize.ShloMosaic.Lib.Pipeline.FrameSuffix
public import Idealize.ShloMosaic.Lib.StableHlo.Run
public import Idealize.ShloMosaic.Lib.StableHlo.RunRead

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Fox
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The buffers' contents when the launch begins: what the host's lines leave. -/
def V₀ (c : Dev nD) : Valuation τ sig (Elt Ideal) := StableHlo.after (([hostOps0] : List (List (HloOp τ sig (Elt Ideal)))).flatten) (fun b => m (c, b))

/-- The host's lines leave the tables at the schedule. -/
theorem V₀_tab0 (c : Dev nD) : V₀ m c (Proc.devRef .tc main_c) = tab0 := by
  refine Eq.trans ?_ tab0_eq
  unfold V₀
  after_reads_simp
  rfl
theorem V₀_tab1 (c : Dev nD) : V₀ m c (Proc.devRef .tc main_c_0) = tab1 := by
  refine Eq.trans ?_ tab1_eq
  unfold V₀
  after_reads_simp
  rfl

/-- The host's lines leave the arguments. -/
theorem V₀_arg0 (c : Dev nD) : V₀ m c (Proc.devRef .tc main_arg0) = m (c, Proc.devRef .tc main_arg0) := by
  unfold V₀
  after_reads_simp
theorem V₀_arg1 (c : Dev nD) : V₀ m c (Proc.devRef .tc main_arg1) = m (c, Proc.devRef .tc main_arg1) := by
  unfold V₀
  after_reads_simp
theorem V₀_arg2 (c : Dev nD) : V₀ m c (Proc.devRef .tc main_arg2) = m (c, Proc.devRef .tc main_arg2) := by
  unfold V₀
  after_reads_simp

/-- The tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- A whole buffer's points-to, owned; and back. -/
theorem whole_owns (c : Thread nD τ) (b : Ref sig c.2.kind) (q : PosShare TreeShare) (f : b.ty.Contents (Elt Ideal)) :
    ((c.loc b ↦{q} f) : sProp 𝕄) ⊢ owns c (Memref.whole b) q f := by rw [owns_whole]
theorem owns_to_whole (c : Thread nD τ) (b : Ref sig c.2.kind) (q : PosShare TreeShare) (f : b.ty.Contents (Elt Ideal)) :
    (owns c (Memref.whole b) q f : sProp 𝕄) ⊢ (c.loc b ↦{q} f) := by rw [owns_whole]

/-- What is held before the first step. -/
theorem phi0_intro (c : Dev nD) :
    iprop(Pipeline.ΦA cfgA.spec c ∗ Pipeline.ΦT pre0 adm.1 c) ⊢ (dats (V₀ m) 0 c).Φ 0 := by
  unfold Pipeline.ΦA Pipeline.ΦT
  rw [prefHeld_eq, show (Pipeline.scopedRest cfgA.spec c : sProp 𝕄) = Pipeline.scopedRest spec0 c from rfl, scopedRest0_eq, show (dats (V₀ m) 0 c).Φ 0 = Phi (V₀ m) c 0 from rfl]
  unfold Phi
  iintro ⟨⟨⟨⟨%a0, H0⟩, ⟨%a1, H1⟩, ⟨%a2, H2⟩, ⟨%a3, H3⟩, ⟨%a4, H4⟩, ⟨%a5, H5⟩⟩, HP⟩, HT0, HT1⟩
  have e4 : ∃ f : Fin 2 → Fin 8 → S1x1x1x1024.Idx → Elt Ideal .f32, a4 = arr4 f := exists_arr4 (α := Elt Ideal .f32) (m := 2) (n := 8) (a := 1) (b := 1024) a4
  obtain ⟨f4, e4⟩ := e4
  isplitl [H0 H1 H2 H3 H4 H5]
  · iexists (⟨row3 (α := Elt Ideal .f32) (n := 2) (a := 1024) (b := 128) a0, row3 (α := Elt Ideal .f32) (n := 2) (a := 1024) (b := 128) a1, row3 (α := Elt Ideal .f32) (n := 2) (a := 1024) (b := 128) a2, row3 (α := Elt Ideal .f32) (n := 8) (a := 128) (b := 1024) a3, f4⟩ : Sums Ideal)
    iexists (row3 (α := Elt Ideal .f32) (n := 8) (a := 8) (b := 1024) a5)
    rw [show arr3 (Sums.dk (⟨row3 (α := Elt Ideal .f32) (n := 2) (a := 1024) (b := 128) a0, row3 (α := Elt Ideal .f32) (n := 2) (a := 1024) (b := 128) a1, row3 (α := Elt Ideal .f32) (n := 2) (a := 1024) (b := 128) a2, row3 (α := Elt Ideal .f32) (n := 8) (a := 128) (b := 1024) a3, f4⟩ : Sums Ideal)) = a0 from arr3_row3 _,
      show arr3 (Sums.dv (⟨row3 (α := Elt Ideal .f32) (n := 2) (a := 1024) (b := 128) a0, row3 (α := Elt Ideal .f32) (n := 2) (a := 1024) (b := 128) a1, row3 (α := Elt Ideal .f32) (n := 2) (a := 1024) (b := 128) a2, row3 (α := Elt Ideal .f32) (n := 8) (a := 128) (b := 1024) a3, f4⟩ : Sums Ideal)) = a1 from arr3_row3 _,
      show arr3 (Sums.dc (⟨row3 (α := Elt Ideal .f32) (n := 2) (a := 1024) (b := 128) a0, row3 (α := Elt Ideal .f32) (n := 2) (a := 1024) (b := 128) a1, row3 (α := Elt Ideal .f32) (n := 2) (a := 1024) (b := 128) a2, row3 (α := Elt Ideal .f32) (n := 8) (a := 128) (b := 1024) a3, f4⟩ : Sums Ideal)) = a2 from arr3_row3 _,
      show arr3 (Sums.dqt (⟨row3 (α := Elt Ideal .f32) (n := 2) (a := 1024) (b := 128) a0, row3 (α := Elt Ideal .f32) (n := 2) (a := 1024) (b := 128) a1, row3 (α := Elt Ideal .f32) (n := 2) (a := 1024) (b := 128) a2, row3 (α := Elt Ideal .f32) (n := 8) (a := 128) (b := 1024) a3, f4⟩ : Sums Ideal)) = a3 from arr3_row3 _,
      arr3_row3]
    isplitr; · ipureintro; exact agree_zero _ c _ _
    isplitl [H0]; · iapply (whole_owns (c : Thread nD τ) cc0_scratch0 fullShare a0); iexact H0
    isplitl [H1]; · iapply (whole_owns (c : Thread nD τ) cc0_scratch1 fullShare a1); iexact H1
    isplitl [H2]; · iapply (whole_owns (c : Thread nD τ) cc0_scratch2 fullShare a2); iexact H2
    isplitl [H3]; · iapply (whole_owns (c : Thread nD τ) cc0_scratch3 fullShare a3); iexact H3
    isplitl [H4]; · rw [e4]; iapply (whole_owns (c : Thread nD τ) cc0_scratch4 fullShare (arr4 f4)); iexact H4
    iapply (whole_owns (c : Thread nD τ) cc0_scratch5 fullShare a5); iexact H5
  isplitl [HT0]; · iexact HT0
  isplitl [HT1]; · iexact HT1
  iexact HP

/-- What is given back after the last step. -/
theorem phiN_exit (c : Dev nD) : (dats (V₀ m) 0 c).Φ (Fin.last cfgA.N) ⊢ Pipeline.ΦA cfgA.spec c := by
  unfold Pipeline.ΦA
  rw [show (Pipeline.scopedRest cfgA.spec c : sProp 𝕄) = Pipeline.scopedRest spec0 c from rfl, scopedRest0_eq, show (dats (V₀ m) 0 c).Φ (Fin.last cfgA.N) = Phi (V₀ m) c cfgA.N from rfl]
  unfold Phi
  iintro ⟨⟨%s, %d, -, H0, H1, H2, H3, H4, H5⟩, -, -, HP⟩
  isplitr [HP]; swap; · iexact HP
  isplitl [H0]; · iexists _; iapply (owns_to_whole (c : Thread nD τ) cc0_scratch0 fullShare _); iexact H0
  isplitl [H1]; · iexists _; iapply (owns_to_whole (c : Thread nD τ) cc0_scratch1 fullShare _); iexact H1
  isplitl [H2]; · iexists _; iapply (owns_to_whole (c : Thread nD τ) cc0_scratch2 fullShare _); iexact H2
  isplitl [H3]; · iexists _; iapply (owns_to_whole (c : Thread nD τ) cc0_scratch3 fullShare _); iexact H3
  isplitl [H4]; · iexists _; iapply (owns_to_whole (c : Thread nD τ) cc0_scratch4 fullShare _); iexact H4
  iexists _; iapply (owns_to_whole (c : Thread nD τ) cc0_scratch5 fullShare _); iexact H5

/-- Where the program ends: every array of the launch at its computed contents, every other buffer as the launch found it. -/
abbrev Post (r : PUnit × MemSt nD τ sig (Elt Ideal)) : Prop :=
  Pipeline.FramePost pcs (dats (V₀ m)) 0 (Pipeline.afterTail (pcfgs (F := Ideal)) (fun _ => adm) (dats (V₀ m)) 0 (V₀ m) []) r

set_option backward.isDefEq.respectTransparency.types false in
set_option maxHeartbeats 4000000 in
/-- From any memory with zero counters, every weakly fair execution ends so, with every counter at zero. -/
theorem run_all : θ_run (defs (F := Ideal)) (onTc (τ := τ) (main (F := Ideal))) ⟨m, fun _ => 0, ρ⟩
    (fun r => Post m r ∧ r.2.sem = fun _ => 0) :=
  Pipeline.θ_run_frameP_around_track_shared (pcfgs (F := Ideal)) (fun _ => adm) (dats (V₀ m)) 0 launch₀0 defs₀ Variants.none m ρ main
    (fun c => (body_obligation (V₀ m) c).loose) (fun _ _ _ => rfl) (fun _ _ => rfl) (V₀ m) []
    (fun _ h => absurd h (List.not_mem_nil)) (fun _ h => absurd h (List.not_mem_nil)) (fun _ h => absurd h (List.not_mem_nil))
    (Pipeline.hmainP_around (pcfgs (F := Ideal)) 0 defs₀ Variants.none m main [hostOps0] [] hostOps0_sub
      (by simp only [List.Forall]; repeat' constructor) (fun c => main_chain c))
    (fun _ _ => rfl)
    (fun c k => by
      match k with
      | ⟨0, _⟩ => exact V₀_tab0 m c
      | ⟨1, _⟩ => exact V₀_tab1 m c)
    (phi0_intro m) (phiN_exit m)
    (fun r => Post m r ∧ r.2.sem = fun _ => 0) (fun _ h => h)

/-- The frame: every execution ends, the arguments unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
    (((h.1 c).1 (0 : Fin 13)).trans ((dats (V₀ m) 0 c).arrAt_in (0 : Fin 13) rfl _)).trans (V₀_arg0 m c),
    ((h.1 c).2 main_arg1 (by decide)).trans (by
      unfold Pipeline.afterTail
      rw [show ([] : List (List (HloOp τ sig (Elt Ideal)))).flatten = [] from rfl]
      exact (Pipeline.withArrays_of_ne _ c (V₀ m c) _ _ (by decide)).trans (V₀_arg1 m c)),
    (((h.1 c).1 (4 : Fin 13)).trans ((dats (V₀ m) 0 c).arrAt_in (4 : Fin 13) rfl _)).trans (V₀_arg2 m c)⟩, h.2⟩) (run_all m ρ)

end Cert.KernelIdeal.Fox

end
-- ==== Proof.BitsData.lean ====
module

public import proofs.«01_k».proof.Proof.BitsState
public import proofs.«01_k».proof.Proof.BitsPins
public import proofs.«01_k».proof.Proof.BitsBody

@[expose] public section

set_option maxRecDepth 16384
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Fox
open Idealize.ShloMosaic.Pipeline (Dat Cfg Window BodyObligation BodyObligationLoose cellOf)

local notation "𝕄" => MT nD τ sig Unit (Elt Bits) ℕ (UR sig nD τ) ℕ

/-! ## The staging buffers of a step -/

abbrev ms0 (t : Fin cfgA.N) : Memref sig .tc .vmem S1024x128 .f32 := spec0_0.stage (cfgA.slots t (0 : Fin 13))
abbrev hs0 (t : Fin cfgA.N) : (ms0 t).IsWhole := hstage0_0 ((cfgA.slots t (0 : Fin 13)).cast nbuf0_0)
abbrev ms1 (t : Fin cfgA.N) : Memref sig .tc .vmem S1024x128 .f32 := spec0_1.stage (cfgA.slots t (1 : Fin 13))
abbrev hs1 (t : Fin cfgA.N) : (ms1 t).IsWhole := hstage0_1 ((cfgA.slots t (1 : Fin 13)).cast nbuf0_1)
abbrev ms2 (t : Fin cfgA.N) : Memref sig .tc .vmem S1024x128 .f32 := spec0_2.stage (cfgA.slots t (2 : Fin 13))
abbrev hs2 (t : Fin cfgA.N) : (ms2 t).IsWhole := hstage0_2 ((cfgA.slots t (2 : Fin 13)).cast nbuf0_2)
abbrev ms3 (t : Fin cfgA.N) : Memref sig .tc .vmem S1024x128 .bf16 := spec0_3.stage (cfgA.slots t (3 : Fin 13))
abbrev hs3 (t : Fin cfgA.N) : (ms3 t).IsWhole := hstage0_3 ((cfgA.slots t (3 : Fin 13)).cast nbuf0_3)
abbrev ms4 (t : Fin cfgA.N) : Memref sig .tc .vmem S1024x128 .bf16 := spec0_4.stage (cfgA.slots t (4 : Fin 13))
abbrev hs4 (t : Fin cfgA.N) : (ms4 t).IsWhole := hstage0_4 ((cfgA.slots t (4 : Fin 13)).cast nbuf0_4)
abbrev ms5 (t : Fin cfgA.N) : Memref sig .tc .vmem S2x1024x128 .f32 := spec0_5.stage (cfgA.slots t (5 : Fin 13))
abbrev hs5 (t : Fin cfgA.N) : (ms5 t).IsWhole := hstage0_5 ((cfgA.slots t (5 : Fin 13)).cast nbuf0_5)
abbrev ms6 (t : Fin cfgA.N) : Memref sig .tc .vmem S2x1x1024 .f32 := spec0_6.stage (cfgA.slots t (6 : Fin 13))
abbrev hs6 (t : Fin cfgA.N) : (ms6 t).IsWhole := hstage0_6 ((cfgA.slots t (6 : Fin 13)).cast nbuf0_6)
abbrev ms7 (t : Fin cfgA.N) : Memref sig .tc .vmem S2x1x1024 .f32 := spec0_7.stage (cfgA.slots t (7 : Fin 13))
abbrev hs7 (t : Fin cfgA.N) : (ms7 t).IsWhole := hstage0_7 ((cfgA.slots t (7 : Fin 13)).cast nbuf0_7)
abbrev ms8 (t : Fin cfgA.N) : Memref sig .tc .vmem S8192x128 .bf16 := spec0_8.stage (cfgA.slots t (8 : Fin 13))
abbrev hs8 (t : Fin cfgA.N) : (ms8 t).IsWhole := hstage0_8 ((cfgA.slots t (8 : Fin 13)).cast nbuf0_8)
abbrev ms9 (t : Fin cfgA.N) : Memref sig .tc .vmem S1024x128 .bf16 := spec0_9.stage (cfgA.slots t (9 : Fin 13))
abbrev hs9 (t : Fin cfgA.N) : (ms9 t).IsWhole := hstage0_9 ((cfgA.slots t (9 : Fin 13)).cast nbuf0_9)
abbrev ms10 (t : Fin cfgA.N) : Memref sig .tc .vmem S1024x128 .bf16 := spec0_10.stage (cfgA.slots t (10 : Fin 13))
abbrev hs10 (t : Fin cfgA.N) : (ms10 t).IsWhole := hstage0_10 ((cfgA.slots t (10 : Fin 13)).cast nbuf0_10)
abbrev ms11 (t : Fin cfgA.N) : Memref sig .tc .vmem S1x1024x128 .f32 := spec0_11.stage (cfgA.slots t (11 : Fin 13))
abbrev hs11 (t : Fin cfgA.N) : (ms11 t).IsWhole := hstage0_11 ((cfgA.slots t (11 : Fin 13)).cast nbuf0_11)
abbrev ms12 (t : Fin cfgA.N) : Memref sig .tc .vmem S2x1x8192 .f32 := spec0_12.stage (cfgA.slots t (12 : Fin 13))
abbrev hs12 (t : Fin cfgA.N) : (ms12 t).IsWhole := hstage0_12 ((cfgA.slots t (12 : Fin 13)).cast nbuf0_12)

variable (V : Dev nD → Valuation τ sig (Elt Bits))

/-- A window's block at a step, of its array as the region finds it. -/
def iblk (c : Dev nD) (w : Fin cfgA.W) (t : Fin cfgA.N) : ((cfgA.win w).xblock (crd t)).Idx → Elt Bits (cfgA.win w).elt :=
  ((cfgA.win w).blk t).view.read (Elt Bits) (V c (Proc.devRef .tc (Pipeline.arrRef cfgA.spec w)))

/-- The tile of a step. -/
def tile (c : Dev nD) (t : Fin cfgA.N) : Tile Bits where
  k := iblk V c (0 : Fin 13) t
  v := iblk V c (1 : Fin 13) t
  q := iblk V c (2 : Fin 13) t
  y := iblk V c (3 : Fin 13) t
  dy := iblk V c (4 : Fin 13) t
  ck := iblk V c (5 : Fin 13) t
  cq := iblk V c (6 : Fin 13) t
  ls := iblk V c (7 : Fin 13) t

/-- The sums and the rows' contributions before the first step: nothing depends on them. -/
def sums0 : Sums Bits where
  dk := row3 (k0_pay4 (F := Bits))
  dv := row3 (k0_pay5 (F := Bits))
  dc := row3 (k0_pay6 (F := Bits))
  dqt := row3 (k0_pay2 (F := Bits))
  dcq := fun _ _ _ => k0_pay3 (F := Bits) (ValueIdx.ix4 0 0 0 0)

/-- The sums and the rows' contributions before each step. -/
def traj (c : Dev nD) : ℕ → Sums Bits × (Fin 8 → S1x8x1024.Idx → Elt Bits .f32)
  | 0 => (sums0, fun _ _ => k0_pay3 (F := Bits) (ValueIdx.ix4 0 0 0 0))
  | n + 1 => if h : n < cfgA.N then
      (stepSums (crd ⟨n, h⟩) (w0 n) (w1 n) (row n) (tile V c ⟨n, h⟩) (traj c n).2 (traj c n).1, stepD (w1 n) (row n) (tile V c ⟨n, h⟩) (traj c n).2)
    else traj c n

theorem traj_succ (c : Dev nD) (t : Fin cfgA.N) : traj V c (t.val + 1)
    = (stepSums (crd t) (w0 t.val) (w1 t.val) (row t.val) (tile V c t) (traj V c t.val).2 (traj V c t.val).1, stepD (w1 t.val) (row t.val) (tile V c t) (traj V c t.val).2) := by
  rw [traj, dif_pos t.isLt]

/-- What the scratch arrays hold before a step, as far as a step before it has stored there. -/
def Agree (c : Dev nD) (n : ℕ) (s : Sums Bits) (d : Fin 8 → S1x8x1024.Idx → Elt Bits .f32) : Prop :=
  (n ≠ 0 → s = (traj V c n).1) ∧ ∀ r : Fin 8, r.val < n → d r = (traj V c n).2 r

theorem agree_zero (c : Dev nD) (s : Sums Bits) (d : Fin 8 → S1x8x1024.Idx → Elt Bits .f32) : Agree V c 0 s d :=
  ⟨fun h => absurd rfl h, fun r h => absurd h (Nat.not_lt_zero _)⟩

theorem stepD_row {c : Dev nD} {t : Fin cfgA.N} {s : Sums Bits} {d : Fin 8 → S1x8x1024.Idx → Elt Bits .f32} (h : Agree V c t.val s d)
    (r : Fin 8) (hr : (k0_cond3 (w1 t.val) = 1#1 ∧ r = row t.val) ∨ r.val < t.val) :
    stepD (w1 t.val) (row t.val) (tile V c t) d r = stepD (w1 t.val) (row t.val) (tile V c t) (traj V c t.val).2 r := by
  unfold stepD
  by_cases h3 : k0_cond3 (w1 t.val) = 1#1
  · rw [if_pos h3, if_pos h3]
    by_cases hrr : r = row t.val
    · subst hrr; rw [Function.update_self, Function.update_self]
    · rw [Function.update_of_ne hrr, Function.update_of_ne hrr]
      rcases hr with hr | hr
      · exact absurd hr.2 hrr
      · exact h.2 r hr
  · rw [if_neg h3, if_neg h3]
    rcases hr with hr | hr
    · exact absurd hr.1 h3
    · exact h.2 r hr

theorem stepSums_agree {c : Dev nD} {t : Fin cfgA.N} {s : Sums Bits} {d : Fin 8 → S1x8x1024.Idx → Elt Bits .f32} (h : Agree V c t.val s d) :
    stepSums (crd t) (w0 t.val) (w1 t.val) (row t.val) (tile V c t) d s = (traj V c (t.val + 1)).1 := by
  rw [traj_succ]
  have hd : stepD (w1 t.val) (row t.val) (tile V c t) d (row t.val) = stepD (w1 t.val) (row t.val) (tile V c t) (traj V c t.val).2 (row t.val) :=
    stepD_row V h _ ((row_known t).imp (fun h => ⟨h, rfl⟩) id)
  have hs : stepNew (w0 t.val) (w1 t.val) (stepZero (crd t) s) = stepNew (w0 t.val) (w1 t.val) (stepZero (crd t) (traj V c t.val).1) := by
    by_cases h0 : t.val = 0
    · obtain ⟨a, b⟩ := first_step t h0
      unfold stepNew stepZero
      rw [if_pos b, if_pos b, if_pos a, if_pos a]
      rfl
    · rw [h.1 h0]
  show stepSums _ _ _ _ _ _ _ = stepSums _ _ _ _ _ _ _
  unfold stepSums stepDiag stepOff
  rw [hd, hs]

theorem agree_succ {c : Dev nD} {t : Fin cfgA.N} {s : Sums Bits} {d : Fin 8 → S1x8x1024.Idx → Elt Bits .f32} (h : Agree V c t.val s d) :
    Agree V c (t.val + 1) (stepSums (crd t) (w0 t.val) (w1 t.val) (row t.val) (tile V c t) d s) (stepD (w1 t.val) (row t.val) (tile V c t) d) := by
  refine ⟨fun _ => stepSums_agree V h, fun r hr => ?_⟩
  rw [traj_succ]
  refine stepD_row V h r ?_
  rcases Nat.lt_or_ge r.val t.val with h' | h'
  · exact Or.inr h'
  · exact Or.inl (row_new t r (by omega))

/-- What holds between the steps: the scratch arrays, the tables, and the random-number register. -/
def Phi (c : Dev nD) (n : ℕ) : sProp 𝕄 :=
  iprop((∃ s d, ⌜Agree V c n s d⌝ ∗ owns (c : Thread nD τ) sc0 fullShare (arr3 (Sums.dk s)) ∗ owns (c : Thread nD τ) sc1 fullShare (arr3 (Sums.dv s)) ∗ owns (c : Thread nD τ) sc2 fullShare (arr3 (Sums.dc s)) ∗ owns (c : Thread nD τ) sc3 fullShare (arr3 (Sums.dqt s)) ∗ owns (c : Thread nD τ) sc4 fullShare (arr4 (Sums.dcq s)) ∗ owns (c : Thread nD τ) sc5 fullShare (arr3 d))
    ∗ (tb0.view.loc (c : Thread nD τ) ↦{fullShare.right} tab0) ∗ (tb1.view.loc (c : Thread nD τ) ↦{fullShare.right} tab1) ∗ ∃ r, prngReg c r)

/-- The proof data of the pipeline on a core. -/
def dats (_ : Fin 1) (c : Dev nD) : Dat τ (Elt Bits) Unit ℕ (UR sig nD τ) ℕ cfgA c where
  A w := V c (Proc.devRef .tc (Pipeline.arrRef cfgA.spec w))
  after w t := match w with
    | ⟨0, _⟩ => iblk V c (0 : Fin 13) t
    | ⟨1, _⟩ => iblk V c (1 : Fin 13) t
    | ⟨2, _⟩ => iblk V c (2 : Fin 13) t
    | ⟨3, _⟩ => iblk V c (3 : Fin 13) t
    | ⟨4, _⟩ => iblk V c (4 : Fin 13) t
    | ⟨5, _⟩ => iblk V c (5 : Fin 13) t
    | ⟨6, _⟩ => iblk V c (6 : Fin 13) t
    | ⟨7, _⟩ => iblk V c (7 : Fin 13) t
    | ⟨8, _⟩ => outDq (traj V c (t.val + 1)).1
    | ⟨9, _⟩ => outDk (traj V c (t.val + 1)).1
    | ⟨10, _⟩ => outDv (traj V c (t.val + 1)).1
    | ⟨11, _⟩ => outDc (crd t) (traj V c (t.val + 1)).1
    | ⟨12, _⟩ => outDcq (traj V c (t.val + 1)).1
  Φ t := Phi V c t.val
  q w := Pipeline.shareOf cfgA.spec w
  owed _ := 0

theorem before0 (c : Dev nD) (t : Fin cfgA.N) (d) : (dats V 0 c).before (0 : Fin 13) t d = iblk V c (0 : Fin 13) t :=
  ((dats V 0 c).before_in_eq_fetched (0 : Fin 13) rfl (fun _ => rfl) (fun _ _ _ => rfl) (fun t => by rw [show (dats V 0 c).after (0 : Fin 13) t = iblk V c (0 : Fin 13) t from rfl]; unfold Dat.blockOf iblk; rfl) t d).trans
    (by unfold Dat.fetched Dat.blockOf iblk; rfl)
theorem before1 (c : Dev nD) (t : Fin cfgA.N) (d) : (dats V 0 c).before (1 : Fin 13) t d = iblk V c (1 : Fin 13) t :=
  ((dats V 0 c).before_in_eq_fetched (1 : Fin 13) rfl (fun _ => rfl) (fun _ _ _ => rfl) (fun t => by rw [show (dats V 0 c).after (1 : Fin 13) t = iblk V c (1 : Fin 13) t from rfl]; unfold Dat.blockOf iblk; rfl) t d).trans
    (by unfold Dat.fetched Dat.blockOf iblk; rfl)
theorem before2 (c : Dev nD) (t : Fin cfgA.N) (d) : (dats V 0 c).before (2 : Fin 13) t d = iblk V c (2 : Fin 13) t :=
  ((dats V 0 c).before_in_eq_fetched (2 : Fin 13) rfl (fun _ => rfl) (fun _ _ _ => rfl) (fun t => by rw [show (dats V 0 c).after (2 : Fin 13) t = iblk V c (2 : Fin 13) t from rfl]; unfold Dat.blockOf iblk; rfl) t d).trans
    (by unfold Dat.fetched Dat.blockOf iblk; rfl)
theorem before3 (c : Dev nD) (t : Fin cfgA.N) (d) : (dats V 0 c).before (3 : Fin 13) t d = iblk V c (3 : Fin 13) t :=
  ((dats V 0 c).before_in_eq_fetched (3 : Fin 13) rfl (fun _ => rfl) (fun _ _ _ => rfl) (fun t => by rw [show (dats V 0 c).after (3 : Fin 13) t = iblk V c (3 : Fin 13) t from rfl]; unfold Dat.blockOf iblk; rfl) t d).trans
    (by unfold Dat.fetched Dat.blockOf iblk; rfl)
theorem before4 (c : Dev nD) (t : Fin cfgA.N) (d) : (dats V 0 c).before (4 : Fin 13) t d = iblk V c (4 : Fin 13) t :=
  ((dats V 0 c).before_in_eq_fetched (4 : Fin 13) rfl (fun _ => rfl) (fun _ _ _ => rfl) (fun t => by rw [show (dats V 0 c).after (4 : Fin 13) t = iblk V c (4 : Fin 13) t from rfl]; unfold Dat.blockOf iblk; rfl) t d).trans
    (by unfold Dat.fetched Dat.blockOf iblk; rfl)
theorem before5 (c : Dev nD) (t : Fin cfgA.N) (d) : (dats V 0 c).before (5 : Fin 13) t d = iblk V c (5 : Fin 13) t :=
  ((dats V 0 c).before_in_eq_fetched (5 : Fin 13) rfl (fun _ => rfl) (fun _ _ _ => rfl) (fun t => by rw [show (dats V 0 c).after (5 : Fin 13) t = iblk V c (5 : Fin 13) t from rfl]; unfold Dat.blockOf iblk; rfl) t d).trans
    (by unfold Dat.fetched Dat.blockOf iblk; rfl)
theorem before6 (c : Dev nD) (t : Fin cfgA.N) (d) : (dats V 0 c).before (6 : Fin 13) t d = iblk V c (6 : Fin 13) t :=
  ((dats V 0 c).before_in_eq_fetched (6 : Fin 13) rfl (fun _ => rfl) (fun _ _ _ => rfl) (fun t => by rw [show (dats V 0 c).after (6 : Fin 13) t = iblk V c (6 : Fin 13) t from rfl]; unfold Dat.blockOf iblk; rfl) t d).trans
    (by unfold Dat.fetched Dat.blockOf iblk; rfl)
theorem before7 (c : Dev nD) (t : Fin cfgA.N) (d) : (dats V 0 c).before (7 : Fin 13) t d = iblk V c (7 : Fin 13) t :=
  ((dats V 0 c).before_in_eq_fetched (7 : Fin 13) rfl (fun _ => rfl) (fun _ _ _ => rfl) (fun t => by rw [show (dats V 0 c).after (7 : Fin 13) t = iblk V c (7 : Fin 13) t from rfl]; unfold Dat.blockOf iblk; rfl) t d).trans
    (by unfold Dat.fetched Dat.blockOf iblk; rfl)

/-- An output's buffer after a step: stored whole at the last step of its block, as it was found elsewhere. -/
theorem out_post (c : Dev nD) (w : Fin cfgA.W) (t : Fin cfgA.N) (b : Bool) (hi : cfgA.idle w (cfgA.grid.coords t) = !b) (hf : (cfgA.win w).flush t = b)
    (X : (cfgA.win w).block.Idx → Elt Bits (cfgA.win w).elt) (h1 : b = true → X = (dats V 0 c).after w t) (d) (h0 : b = false → X = (dats V 0 c).before w t d) :
    (owns (c : Thread nD τ) ((cfgA.win w).stage (cfgA.slots t w)) fullShare X : sProp 𝕄) ⊢
      match cfgA.idle w (cfgA.grid.coords t) with
      | true =>
        match (cfgA.win w).flush t with
        | false => iprop(∃ d, owns (c : Thread nD τ) ((cfgA.win w).stage (cfgA.slots t w)) fullShare ((dats V 0 c).before w t d))
        | true => owns (c : Thread nD τ) ((cfgA.win w).stage (cfgA.slots t w)) fullShare ((dats V 0 c).after w t)
      | false => owns (c : Thread nD τ) ((cfgA.win w).stage (cfgA.slots t w)) fullShare ((dats V 0 c).after w t) := by
  cases b with
  | true =>
    rw [hi, hf, h1 rfl]
    show (owns (c : Thread nD τ) ((cfgA.win w).stage (cfgA.slots t w)) fullShare ((dats V 0 c).after w t) : sProp 𝕄) ⊢ (owns (c : Thread nD τ) ((cfgA.win w).stage (cfgA.slots t w)) fullShare ((dats V 0 c).after w t) : sProp 𝕄)
    iintro H
    iexact H
  | false =>
    rw [hi, hf, h0 rfl]
    show (owns (c : Thread nD τ) ((cfgA.win w).stage (cfgA.slots t w)) fullShare ((dats V 0 c).before w t d) : sProp 𝕄) ⊢ (iprop(∃ d, owns (c : Thread nD τ) ((cfgA.win w).stage (cfgA.slots t w)) fullShare ((dats V 0 c).before w t d)) : sProp 𝕄)
    iintro H
    iexists d
    iexact H

theorem outs_key (i : grid0.Coords) (v1 : BitVec 32) (s : Sums Bits) (o : Outs Bits) (h : k0_cond6 v1 = 1#1) :
    (stepOuts i v1 s o).dk = outDk s ∧ (stepOuts i v1 s o).dv = outDv s ∧ (stepOuts i v1 s o).dc = outDc i s := by
  unfold stepOuts stepKeys stepEnd
  rw [if_pos h]
  split <;> exact ⟨rfl, rfl, rfl⟩

theorem outs_nokey (i : grid0.Coords) (v1 : BitVec 32) (s : Sums Bits) (o : Outs Bits) (h : ¬ k0_cond6 v1 = 1#1) :
    (stepOuts i v1 s o).dk = o.dk ∧ (stepOuts i v1 s o).dv = o.dv ∧ (stepOuts i v1 s o).dc = o.dc := by
  unfold stepOuts stepKeys stepEnd
  rw [if_neg h]
  split <;> exact ⟨rfl, rfl, rfl⟩

theorem outs_end (i : grid0.Coords) (v1 : BitVec 32) (s : Sums Bits) (o : Outs Bits) (h : k0_cond7 i = 1#1) :
    (stepOuts i v1 s o).dq = outDq s ∧ (stepOuts i v1 s o).dcq = outDcq s := by
  unfold stepOuts stepEnd
  rw [if_pos h]
  exact ⟨rfl, rfl⟩

theorem outs_noend (i : grid0.Coords) (v1 : BitVec 32) (s : Sums Bits) (o : Outs Bits) (h : ¬ k0_cond7 i = 1#1) :
    (stepOuts i v1 s o).dq = o.dq ∧ (stepOuts i v1 s o).dcq = o.dcq := by
  unfold stepOuts stepKeys stepEnd
  rw [if_neg h]
  split <;> exact ⟨rfl, rfl⟩

/-- The body at a step, on its staging buffers. -/
abbrev bodyAt (t : Fin cfgA.N) : Prog (TpuEff nD τ sig (Elt Bits) Λ₀ .tc) PUnit :=
  cc0_fox_bwd (crd t) tb0 (Memref.isWhole_whole _) tb1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) sc4 (Memref.isWhole_whole _) sc5 (Memref.isWhole_whole _)

set_option maxHeartbeats 4000000 in
/-- A step of the loop. -/
theorem sound_body (c : Dev nD) (t : Fin cfgA.N) :
    iprop((dats V 0 c).Φ t.castSucc ∗ (dats V 0 c).owesAt () t.castSucc
        ∗ bigSep Finset.univ fun w : Fin cfgA.W => iprop(∃ d, owns (c : Thread nD τ) ((cfgA.win w).stage (cfgA.slots t w)) fullShare ((dats V 0 c).before w t d)))
      ⊢ wp frame (wpE (defs₀ (F := Bits)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0, bigSep_W0]
  obtain ⟨⟨i8, f8⟩, ⟨i9, f9⟩, ⟨i10, f10⟩, ⟨i11, f11⟩, ⟨i12, f12⟩⟩ := facts t
  simp only [before0, before1, before2, before3, before4, before5, before6, before7]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi
  iintro ⟨⟨⟨%s, %d, %hA, S0, S1, S2, S3, S4, S5⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hS := stepSums_agree V hA
  have hA' := agree_succ V hA
  have hk : ∀ o : Outs Bits, isKey t.val = true → _ := fun o h => outs_key (crd t) (w0 t.val) (traj V c (t.val + 1)).1 o ((key_eq t).2 h)
  have hnk : ∀ o : Outs Bits, isKey t.val = false → _ := fun o h => outs_nokey (crd t) (w0 t.val) (traj V c (t.val + 1)).1 o (fun h' => by rw [(key_eq t).1 h'] at h; exact Bool.noConfusion h)
  have he : ∀ o : Outs Bits, isEnd t.val = true → _ := fun o h => outs_end (crd t) (w0 t.val) (traj V c (t.val + 1)).1 o ((end_eq t).2 h)
  have hne : ∀ o : Outs Bits, isEnd t.val = false → _ := fun o h => outs_noend (crd t) (w0 t.val) (traj V c (t.val + 1)).1 o (fun h' => by rw [(end_eq t).1 h'] at h; exact Bool.noConfusion h)
  iapply (wp_wand_r _ _ _)
  isplitl [HT0 HT1 S0 S1 S2 S3 S4 S5 H0 H1 H2 H3 H4 H5 H6 H7 H8 H9 H10 H11 H12]
  · iapply (body_step c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) tab0 tab1 (w0 t.val) (w1 t.val) (read0 t) (read1 t) (chk t) (row t.val) (row_eq t) (tile V c t) { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } s d)
    isplitl [HT0]; · iexact HT0
    isplitl [HT1]; · iexact HT1
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    iexact S5
  rw [hS]
  unfold Held
  iintro %_ ⟨HT0, HT1, H0, H1, H2, H3, H4, H5, H6, H7, H8, H9, H10, H11, H12, S0, S1, S2, S3, S4, S5⟩
  isplitl [S0 S1 S2 S3 S4 S5 HT0 HT1 HP]
  · isplitl [S0 S1 S2 S3 S4 S5]
    · iexists _; iexists _
      isplitr; swap
      · isplitl [S0]; · iexact S0
        isplitl [S1]; · iexact S1
        isplitl [S2]; · iexact S2
        isplitl [S3]; · iexact S3
        isplitl [S4]; · iexact S4
        iexact S5
      · ipureintro; rw [hS] at hA'; exact hA'
    isplitl [HT0]; · iexact HT0
    isplitl [HT1]; · iexact HT1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (out_post V c (8 : Fin 13) t (isEnd t.val) i8 f8 _ (fun h => (he { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1) d8 (fun h => (hne { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1)); iexact H8
  isplitl [H9]; · iapply (out_post V c (9 : Fin 13) t (isKey t.val) i9 f9 _ (fun h => (hk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1) d9 (fun h => (hnk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).1)); iexact H9
  isplitl [H10]; · iapply (out_post V c (10 : Fin 13) t (isKey t.val) i10 f10 _ (fun h => (hk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.1) d10 (fun h => (hnk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.1)); iexact H10
  isplitl [H11]; · iapply (out_post V c (11 : Fin 13) t (isKey t.val) i11 f11 _ (fun h => (hk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.2) d11 (fun h => (hnk { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2.2)); iexact H11
  iapply (out_post V c (12 : Fin 13) t (isEnd t.val) i12 f12 _ (fun h => (he { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2) d12 (fun h => (hne { dq := (dats V 0 c).before (8 : Fin 13) t d8, dk := (dats V 0 c).before (9 : Fin 13) t d9, dv := (dats V 0 c).before (10 : Fin 13) t d10, dc := (dats V 0 c).before (11 : Fin 13) t d11, dcq := (dats V 0 c).before (12 : Fin 13) t d12 } h).2)); iexact H12

theorem body_obligation (c : Dev nD) : BodyObligation (dats V 0 c) (defs₀ (F := Bits)) Variants.none () Set.univ := fun t => sound_body V c t

end Cert.Kernel.Fox

end
-- ==== Proof.BitsFrame.lean ====
module

public import proofs.«01_k».proof.Proof.BitsState
public import proofs.«01_k».proof.Proof.BitsData
public import proofs.«01_k».proof.Proof.BitsPins
public import Idealize.ShloMosaic.Lib.Pipeline.FrameSuffix
public import Idealize.ShloMosaic.Lib.StableHlo.Run
public import Idealize.ShloMosaic.Lib.StableHlo.RunRead

@[expose] public section

set_option maxRecDepth 16384
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Fox
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The buffers' contents when the launch begins: what the host's lines leave. -/
def V₀ (c : Dev nD) : Valuation τ sig (Elt Bits) := StableHlo.after (([hostOps0] : List (List (HloOp τ sig (Elt Bits)))).flatten) (fun b => m (c, b))

/-- The host's lines leave the tables at the schedule. -/
theorem V₀_tab0 (c : Dev nD) : V₀ m c (Proc.devRef .tc main_c) = tab0 := by
  refine Eq.trans ?_ tab0_eq
  unfold V₀
  after_reads_simp
  rfl
theorem V₀_tab1 (c : Dev nD) : V₀ m c (Proc.devRef .tc main_c_0) = tab1 := by
  refine Eq.trans ?_ tab1_eq
  unfold V₀
  after_reads_simp
  rfl

/-- The host's lines leave the arguments. -/
theorem V₀_arg0 (c : Dev nD) : V₀ m c (Proc.devRef .tc main_arg0) = m (c, Proc.devRef .tc main_arg0) := by
  unfold V₀
  after_reads_simp
theorem V₀_arg1 (c : Dev nD) : V₀ m c (Proc.devRef .tc main_arg1) = m (c, Proc.devRef .tc main_arg1) := by
  unfold V₀
  after_reads_simp
theorem V₀_arg2 (c : Dev nD) : V₀ m c (Proc.devRef .tc main_arg2) = m (c, Proc.devRef .tc main_arg2) := by
  unfold V₀
  after_reads_simp

/-- The tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- A whole buffer's points-to, owned; and back. -/
theorem whole_owns (c : Thread nD τ) (b : Ref sig c.2.kind) (q : PosShare TreeShare) (f : b.ty.Contents (Elt Bits)) :
    ((c.loc b ↦{q} f) : sProp 𝕄) ⊢ owns c (Memref.whole b) q f := by rw [owns_whole]
theorem owns_to_whole (c : Thread nD τ) (b : Ref sig c.2.kind) (q : PosShare TreeShare) (f : b.ty.Contents (Elt Bits)) :
    (owns c (Memref.whole b) q f : sProp 𝕄) ⊢ (c.loc b ↦{q} f) := by rw [owns_whole]

/-- What is held before the first step. -/
theorem phi0_intro (c : Dev nD) :
    iprop(Pipeline.ΦA cfgA.spec c ∗ Pipeline.ΦT pre0 adm.1 c) ⊢ (dats (V₀ m) 0 c).Φ 0 := by
  unfold Pipeline.ΦA Pipeline.ΦT
  rw [prefHeld_eq, show (Pipeline.scopedRest cfgA.spec c : sProp 𝕄) = Pipeline.scopedRest spec0 c from rfl, scopedRest0_eq, show (dats (V₀ m) 0 c).Φ 0 = Phi (V₀ m) c 0 from rfl]
  unfold Phi
  iintro ⟨⟨⟨⟨%a0, H0⟩, ⟨%a1, H1⟩, ⟨%a2, H2⟩, ⟨%a3, H3⟩, ⟨%a4, H4⟩, ⟨%a5, H5⟩⟩, HP⟩, HT0, HT1⟩
  have e4 : ∃ f : Fin 2 → Fin 8 → S1x1x1x1024.Idx → Elt Bits .f32, a4 = arr4 f := exists_arr4 (α := Elt Bits .f32) (m := 2) (n := 8) (a := 1) (b := 1024) a4
  obtain ⟨f4, e4⟩ := e4
  isplitl [H0 H1 H2 H3 H4 H5]
  · iexists (⟨row3 (α := Elt Bits .f32) (n := 2) (a := 1024) (b := 128) a0, row3 (α := Elt Bits .f32) (n := 2) (a := 1024) (b := 128) a1, row3 (α := Elt Bits .f32) (n := 2) (a := 1024) (b := 128) a2, row3 (α := Elt Bits .f32) (n := 8) (a := 128) (b := 1024) a3, f4⟩ : Sums Bits)
    iexists (row3 (α := Elt Bits .f32) (n := 8) (a := 8) (b := 1024) a5)
    rw [show arr3 (Sums.dk (⟨row3 (α := Elt Bits .f32) (n := 2) (a := 1024) (b := 128) a0, row3 (α := Elt Bits .f32) (n := 2) (a := 1024) (b := 128) a1, row3 (α := Elt Bits .f32) (n := 2) (a := 1024) (b := 128) a2, row3 (α := Elt Bits .f32) (n := 8) (a := 128) (b := 1024) a3, f4⟩ : Sums Bits)) = a0 from arr3_row3 _,
      show arr3 (Sums.dv (⟨row3 (α := Elt Bits .f32) (n := 2) (a := 1024) (b := 128) a0, row3 (α := Elt Bits .f32) (n := 2) (a := 1024) (b := 128) a1, row3 (α := Elt Bits .f32) (n := 2) (a := 1024) (b := 128) a2, row3 (α := Elt Bits .f32) (n := 8) (a := 128) (b := 1024) a3, f4⟩ : Sums Bits)) = a1 from arr3_row3 _,
      show arr3 (Sums.dc (⟨row3 (α := Elt Bits .f32) (n := 2) (a := 1024) (b := 128) a0, row3 (α := Elt Bits .f32) (n := 2) (a := 1024) (b := 128) a1, row3 (α := Elt Bits .f32) (n := 2) (a := 1024) (b := 128) a2, row3 (α := Elt Bits .f32) (n := 8) (a := 128) (b := 1024) a3, f4⟩ : Sums Bits)) = a2 from arr3_row3 _,
      show arr3 (Sums.dqt (⟨row3 (α := Elt Bits .f32) (n := 2) (a := 1024) (b := 128) a0, row3 (α := Elt Bits .f32) (n := 2) (a := 1024) (b := 128) a1, row3 (α := Elt Bits .f32) (n := 2) (a := 1024) (b := 128) a2, row3 (α := Elt Bits .f32) (n := 8) (a := 128) (b := 1024) a3, f4⟩ : Sums Bits)) = a3 from arr3_row3 _,
      arr3_row3]
    isplitr; · ipureintro; exact agree_zero _ c _ _
    isplitl [H0]; · iapply (whole_owns (c : Thread nD τ) cc0_scratch0 fullShare a0); iexact H0
    isplitl [H1]; · iapply (whole_owns (c : Thread nD τ) cc0_scratch1 fullShare a1); iexact H1
    isplitl [H2]; · iapply (whole_owns (c : Thread nD τ) cc0_scratch2 fullShare a2); iexact H2
    isplitl [H3]; · iapply (whole_owns (c : Thread nD τ) cc0_scratch3 fullShare a3); iexact H3
    isplitl [H4]; · rw [e4]; iapply (whole_owns (c : Thread nD τ) cc0_scratch4 fullShare (arr4 f4)); iexact H4
    iapply (whole_owns (c : Thread nD τ) cc0_scratch5 fullShare a5); iexact H5
  isplitl [HT0]; · iexact HT0
  isplitl [HT1]; · iexact HT1
  iexact HP

/-- What is given back after the last step. -/
theorem phiN_exit (c : Dev nD) : (dats (V₀ m) 0 c).Φ (Fin.last cfgA.N) ⊢ Pipeline.ΦA cfgA.spec c := by
  unfold Pipeline.ΦA
  rw [show (Pipeline.scopedRest cfgA.spec c : sProp 𝕄) = Pipeline.scopedRest spec0 c from rfl, scopedRest0_eq, show (dats (V₀ m) 0 c).Φ (Fin.last cfgA.N) = Phi (V₀ m) c cfgA.N from rfl]
  unfold Phi
  iintro ⟨⟨%s, %d, -, H0, H1, H2, H3, H4, H5⟩, -, -, HP⟩
  isplitr [HP]; swap; · iexact HP
  isplitl [H0]; · iexists _; iapply (owns_to_whole (c : Thread nD τ) cc0_scratch0 fullShare _); iexact H0
  isplitl [H1]; · iexists _; iapply (owns_to_whole (c : Thread nD τ) cc0_scratch1 fullShare _); iexact H1
  isplitl [H2]; · iexists _; iapply (owns_to_whole (c : Thread nD τ) cc0_scratch2 fullShare _); iexact H2
  isplitl [H3]; · iexists _; iapply (owns_to_whole (c : Thread nD τ) cc0_scratch3 fullShare _); iexact H3
  isplitl [H4]; · iexists _; iapply (owns_to_whole (c : Thread nD τ) cc0_scratch4 fullShare _); iexact H4
  iexists _; iapply (owns_to_whole (c : Thread nD τ) cc0_scratch5 fullShare _); iexact H5

/-- Where the program ends: every array of the launch at its computed contents, every other buffer as the launch found it. -/
abbrev Post (r : PUnit × MemSt nD τ sig (Elt Bits)) : Prop :=
  Pipeline.FramePost pcs (dats (V₀ m)) 0 (Pipeline.afterTail (pcfgs (F := Bits)) (fun _ => adm) (dats (V₀ m)) 0 (V₀ m) []) r

set_option backward.isDefEq.respectTransparency.types false in
set_option maxHeartbeats 4000000 in
/-- From any memory with zero counters, every weakly fair execution ends so, with every counter at zero. -/
theorem run_all : θ_run (defs (F := Bits)) (onTc (τ := τ) (main (F := Bits))) ⟨m, fun _ => 0, ρ⟩
    (fun r => Post m r ∧ r.2.sem = fun _ => 0) :=
  Pipeline.θ_run_frameP_around_track_shared (pcfgs (F := Bits)) (fun _ => adm) (dats (V₀ m)) 0 launch₀0 defs₀ Variants.none m ρ main
    (fun c => (body_obligation (V₀ m) c).loose) (fun _ _ _ => rfl) (fun _ _ => rfl) (V₀ m) []
    (fun _ h => absurd h (List.not_mem_nil)) (fun _ h => absurd h (List.not_mem_nil)) (fun _ h => absurd h (List.not_mem_nil))
    (Pipeline.hmainP_around (pcfgs (F := Bits)) 0 defs₀ Variants.none m main [hostOps0] [] hostOps0_sub
      (by simp only [List.Forall]; repeat' constructor) (fun c => main_chain c))
    (fun _ _ => rfl)
    (fun c k => by
      match k with
      | ⟨0, _⟩ => exact V₀_tab0 m c
      | ⟨1, _⟩ => exact V₀_tab1 m c)
    (phi0_intro m) (phiN_exit m)
    (fun r => Post m r ∧ r.2.sem = fun _ => 0) (fun _ h => h)

/-- The frame: every execution ends, the arguments unchanged and every counter at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
    (((h.1 c).1 (0 : Fin 13)).trans ((dats (V₀ m) 0 c).arrAt_in (0 : Fin 13) rfl _)).trans (V₀_arg0 m c),
    ((h.1 c).2 main_arg1 (by decide)).trans (by
      unfold Pipeline.afterTail
      rw [show ([] : List (List (HloOp τ sig (Elt Bits)))).flatten = [] from rfl]
      exact (Pipeline.withArrays_of_ne _ c (V₀ m c) _ _ (by decide)).trans (V₀_arg1 m c)),
    (((h.1 c).1 (4 : Fin 13)).trans ((dats (V₀ m) 0 c).arrAt_in (4 : Fin 13) rfl _)).trans (V₀_arg2 m c)⟩, h.2⟩) (run_all m ρ)

end Cert.Kernel.Fox

end
-- ==== Proof.Spec.lean ====
module

public import Mathlib.Analysis.SpecialFunctions.Log.Basic
public import Mathlib.Algebra.BigOperators.Field
public import Mathlib.Data.EReal.Operations
public import Mathlib.Tactic.Ring
public import Mathlib.Tactic.FieldSimp
public import Mathlib.Tactic.Linarith

@[expose] public section

noncomputable section

namespace Cert.Fox

open Finset

/-- The arguments as real numbers: rows of 512 columns (head `h` has columns `64 h` to `64 h + 63`), the running sums of
the gate by head and row, the scale of a score, and the greatest score of each row. -/
structure Real8 where
  q : ℕ → ℕ → ℝ
  k : ℕ → ℕ → ℝ
  v : ℕ → ℕ → ℝ
  g : ℕ → ℕ → ℝ
  c : ℕ → ℕ → ℝ
  w : ℝ
  m : ℕ → ℕ → ℝ

namespace Real8

variable (R : Real8)

/-- The score of query row `i` at key row `j`. -/
def S (h i j : ℕ) : ℝ := (∑ d ∈ range 64, R.q i (64 * h + d) * R.k j (64 * h + d)) * R.w + R.c h i - R.c h j
/-- Its exponential after the greatest is taken off: zero above the diagonal. -/
def e (h i j : ℕ) : ℝ := if j ≤ i then Real.exp (R.S h i j - R.m h i) else 0
/-- A row's total. -/
def T (h i : ℕ) : ℝ := ∑ j ∈ range 8192, R.e h i j
/-- The weights. -/
def p (h i j : ℕ) : ℝ := R.e h i j / R.T h i
/-- The output. -/
def y (i n : ℕ) : ℝ := ∑ j ∈ range 8192, R.p (n / 64) i j * R.v j n
/-- The weights' cotangent. -/
def dp (h i j : ℕ) : ℝ := ∑ d ∈ range 64, R.g i (64 * h + d) * R.v j (64 * h + d)
/-- The weights against their cotangent. -/
def D (h i : ℕ) : ℝ := ∑ j ∈ range 8192, R.p h i j * R.dp h i j
/-- The scores' cotangent. -/
def ds (h i j : ℕ) : ℝ := R.p h i j * (R.dp h i j - R.D h i)
/-- The gradient of the values. -/
def dv (j n : ℕ) : ℝ := ∑ i ∈ range 8192, R.p (n / 64) i j * R.g i n
/-- The gradient of the keys. -/
def dk (j n : ℕ) : ℝ := ∑ i ∈ range 8192, R.ds (n / 64) i j * (R.q i n * R.w)
/-- The gradient of the queries. -/
def dq (i n : ℕ) : ℝ := (∑ j ∈ range 8192, R.ds (n / 64) i j * R.k j n) * R.w
/-- The gradient of the running sums, the query's part. -/
def dcq (h i : ℕ) : ℝ := ∑ j ∈ range 8192, R.ds h i j
/-- The gradient of the running sums, the key's part. -/
def dck (h j : ℕ) : ℝ := -∑ i ∈ range 8192, R.ds h i j

variable {R}

theorem e_nonneg (h i j : ℕ) : 0 ≤ R.e h i j := by
  unfold e; split_ifs
  · exact (Real.exp_pos _).le
  · exact le_rfl

theorem T_pos (h : ℕ) {i : ℕ} (hi : i < 8192) : 0 < R.T h i :=
  Finset.sum_pos' (fun j _ => e_nonneg h i j) ⟨i, Finset.mem_range.mpr hi, by unfold e; rw [if_pos le_rfl]; exact Real.exp_pos _⟩

theorem p_above (h : ℕ) {i j : ℕ} (hij : i < j) : R.p h i j = 0 := by
  unfold p e; rw [if_neg (by omega), zero_div]
theorem ds_above (h : ℕ) {i j : ℕ} (hij : i < j) : R.ds h i j = 0 := by
  unfold ds; rw [p_above h hij, zero_mul]

/-- A weight from the logarithm of its row's total. -/
theorem p_eq_exp (h : ℕ) {i j : ℕ} (hi : i < 8192) (hij : j ≤ i) :
    R.p h i j = Real.exp (R.S h i j - (R.m h i + Real.log (R.T h i))) := by
  unfold p e
  rw [if_pos hij, show R.S h i j - (R.m h i + Real.log (R.T h i)) = (R.S h i j - R.m h i) - Real.log (R.T h i) by ring,
    Real.exp_sub (R.S h i j - R.m h i), Real.exp_log (T_pos h hi)]

/-- The output against its cotangent is the weights against theirs. -/
theorem D_eq (h i : ℕ) : R.D h i = ∑ d ∈ range 64, R.y i (64 * h + d) * R.g i (64 * h + d) := by
  unfold D dp y
  simp only [Finset.mul_sum, Finset.sum_mul]
  rw [Finset.sum_comm]
  refine Finset.sum_congr rfl fun d hd => Finset.sum_congr rfl fun j _ => ?_
  have := Finset.mem_range.mp hd
  rw [show (64 * h + d) / 64 = h by omega]
  ring

/-- The scores' cotangent as the derivative of the quotient. -/
theorem ds_quot (h : ℕ) {i : ℕ} (j : ℕ) (hi : i < 8192) :
    (R.dp h i j / R.T h i + -∑ j' ∈ range 8192, R.dp h i j' * (1 / (R.T h i * R.T h i)) * R.e h i j') * R.e h i j = R.ds h i j := by
  have hT := (T_pos (R := R) h hi).ne'
  have hA : ∑ j' ∈ range 8192, R.dp h i j' * (1 / (R.T h i * R.T h i)) * R.e h i j' = R.D h i / R.T h i := by
    unfold D p
    rw [Finset.sum_div]
    refine Finset.sum_congr rfl fun j' _ => ?_
    field_simp
  rw [hA]
  unfold ds p
  field_simp
  ring

/-- The scaled score, with the scale on the query. -/
theorem S_eq (h i j : ℕ) : ∑ d ∈ range 64, R.k j (64 * h + d) * (R.q i (64 * h + d) * R.w) + R.c h i - R.c h j = R.S h i j := by
  unfold S
  rw [Finset.sum_mul]
  congr 2
  exact Finset.sum_congr rfl fun d _ => by ring

end Real8

/-- A sum by tiles of 1024. -/
theorem sum_tiles (f : ℕ → ℝ) (n : ℕ) : ∑ t ∈ range n, ∑ b ∈ range 1024, f (t * 1024 + b) = ∑ i ∈ range (n * 1024), f i := by
  induction n with
  | zero => simp
  | succ n ih => rw [Finset.sum_range_succ, ih, Nat.succ_mul, Finset.sum_range_add]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem coe_sum_fin (n : ℕ) (f : ℕ → ℝ) : ∑ i : Fin n, ((f i.val : ℝ) : EReal) = ((∑ i ∈ range n, f i : ℝ) : EReal) := by
  rw [coe_sum, Finset.sum_range]

end Cert.Fox

end
-- ==== Proof.Soft.lean ====
module

public import proofs.«01_k».proof.Proof.Gen.ReferenceIdeal
public import proofs.«01_k».proof.Proof.Spec
public import Idealize.ShloMosaic.Lib.Pointwise

@[expose] public section

set_option maxRecDepth 16384

noncomputable section

namespace Cert.Fox

open Cert.ReferenceIdeal Cert.ReferenceIdeal.Gen
open Idealize.ShloMosaic Finset

/-- The heads of an array of 512 columns. -/
def hd (X : FVec Ideal S8192x512 .f32) : FVec Ideal S8x8192x64 .f32 :=
  transpose S8x8192x64 [1, 0, 2] (shapeCast S8192x8x64 X shapeCasts_S8192x512_S8192x8x64) transposes_S8192x8x64_S8x8192x64_1_0_2
def colsQ (A : FVec Ideal S8192x7040 .f32) : FVec Ideal S8192x512 .f32 := extractStridedSlice S8192x512 ![0, 4608] A slices_S8192x7040_S8192x512_0_4608
def colsK (A : FVec Ideal S8192x7040 .f32) : FVec Ideal S8192x512 .f32 := extractStridedSlice S8192x512 ![0, 5120] A slices_S8192x7040_S8192x512_0_5120
def colsV (A : FVec Ideal S8192x7040 .f32) : FVec Ideal S8192x512 .f32 := extractStridedSlice S8192x512 ![0, 5632] A slices_S8192x7040_S8192x512_0_5632
def colsG (G : FVec Ideal S8192x512 .bf16) : FVec Ideal S8192x512 .f32 := extf .f32 G bitsLt_bf16_f32
/-- Which keys a query sees. -/
def tri : IVec S8x8192x8192 1 :=
  broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
/-- The scores before the mask. -/
def raw (Q K : FVec Ideal S8x8192x64 .f32) (C : FVec Ideal S8x8192 .f32) : FVec Ideal S8x8192x8192 .f32 :=
  subf (addf (mulf (Host.dotGeneral dot_S8x8192x64_S8x8192x64_S8x8192x8192_2_2_1_1_0_0 none Q K) (broadcastInDim S8x8192x8192 ![] bcast_S_S8x8192x8192 (constant S_ .f32 0x3E000000#32))) (broadcastInDim S8x8192x8192 ![0, 1, 2] bcast_S8x8192x1_S8x8192x8192_0_1_2 (broadcastInDim S8x8192x1 ![0, 1] bcast_S8x8192_S8x8192x1_0_1 C))) (broadcastInDim S8x8192x8192 ![0, 1, 2] bcast_S8x1x8192_S8x8192x8192_0_1_2 (broadcastInDim S8x1x8192 ![0, 2] bcast_S8x8192_S8x1x8192_0_2 C))
/-- The masked scores. -/
def scores (B : IVec S8x8192x8192 1) (X : FVec Ideal S8x8192x8192 .f32) : FVec Ideal S8x8192x8192 .f32 :=
  select B X (broadcastInDim S8x8192x8192 ![] bcast_S_S8x8192x8192 (constant S_ .f32 0xFF800000#32))
/-- Each row's largest. -/
def top (X : FVec Ideal S8x8192x8192 .f32) : FVec Ideal S8x8192 .f32 := Host.reduce FloatOps.maximumf X (constant S_ .f32 0xFF800000#32) reducesTo_S8x8192x8192_S8x8192_d2 h_S_
def top' (M : FVec Ideal S8x8192 .f32) : FVec Ideal S8x8192 .f32 := maximumf (broadcastInDim S8x8192 ![] bcast_S_S8x8192 (constant S_ .f32 0xFF800000#32)) M
def up (M : FVec Ideal S8x8192 .f32) : FVec Ideal S8x8192x1 .f32 := broadcastInDim S8x8192x1 ![0, 1] bcast_S8x8192_S8x8192x1_0_1 M
def wide (M : FVec Ideal S8x8192x1 .f32) : FVec Ideal S8x8192x8192 .f32 := broadcastInDim S8x8192x8192 ![0, 1, 2] bcast_S8x8192x1_S8x8192x8192_0_1_2 M
/-- The exponentials. -/
def expo (X : FVec Ideal S8x8192x8192 .f32) (M : FVec Ideal S8x8192 .f32) : FVec Ideal S8x8192x8192 .f32 := Host.exp (subf X (wide (up M)))
/-- Each row's total. -/
def tot (X : FVec Ideal S8x8192x8192 .f32) : FVec Ideal S8x8192 .f32 := Host.reduceAdd X (constant S_ .f32 0x00000000#32) reducesTo_S8x8192x8192_S8x8192_d2 h_S_
def quot (X : FVec Ideal S8x8192x8192 .f32) (T : FVec Ideal S8x8192x1 .f32) : FVec Ideal S8x8192x8192 .f32 := Host.divf X (wide T)
/-- An array of heads as 512 columns. -/
def cols (X : FVec Ideal S8x8192x64 .f32) : FVec Ideal S8192x512 .f32 :=
  shapeCast S8192x512 (transpose S8192x8x64 [1, 0, 2] X transposes_S8x8192x64_S8192x8x64_1_0_2) shapeCasts_S8192x8x64_S8192x512
def mix (X : FVec Ideal S8x8192x8192 .f32) (V : FVec Ideal S8x8192x64 .f32) : FVec Ideal S8x8192x64 .f32 :=
  Host.dotGeneral dot_S8x8192x8192_S8x8192x64_S8x8192x64_2_1_1_2_0_0 none X V

section At
variable (h : Fin 8) (i j : Fin 8192) (d : Fin 64) (n : Fin 512)

theorem hd_at (X) : hd X (ix3 h i d) = X (ix2 i ⟨h.val * 64 + d.val, by omega⟩) := by pointwise [hd]
theorem colsQ_at (A) : colsQ A (ix2 i n) = A (ix2 i ⟨4608 + n.val, by omega⟩) := by pointwise [colsQ]
theorem colsK_at (A) : colsK A (ix2 i n) = A (ix2 i ⟨5120 + n.val, by omega⟩) := by pointwise [colsK]
theorem colsV_at (A) : colsV A (ix2 i n) = A (ix2 i ⟨5632 + n.val, by omega⟩) := by pointwise [colsV]
theorem colsG_at (G) : colsG G (ix2 i n) = G (ix2 i n) := by pointwise [colsG]
theorem tri_at : tri (ix3 h i j) = IntOp.cmpi .sle (BitVec.ofNat 32 j.val) (BitVec.ofNat 32 i.val) := by pointwise [tri]
theorem raw_at (Q K C) : raw Q K C (ix3 h i j) = (∑ x, Q (ix3 h i x) * K (ix3 h j x)) * Ideal.ofBits .f32 1040187392#32 + C (ix2 h i) - C (ix2 h j) := by
  pointwise [raw]
theorem scores_at (B X) : scores B X (ix3 h i j) = Scalar.select (B (ix3 h i j)) (X (ix3 h i j)) (Ideal.ofBits .f32 4286578688#32) := by
  pointwise [scores]
theorem top_at (X) : top X (ix2 h i) = Finset.fold max (Ideal.ofBits .f32 4286578688#32) (fun x => X (ix3 h i x)) Finset.univ := by pointwise [top]
theorem top'_at (M) : top' M (ix2 h i) = max (Ideal.ofBits .f32 4286578688#32) (M (ix2 h i)) := by pointwise [top']
theorem up_at (M) : up M (ix3 h i 0) = M (ix2 h i) := by pointwise [up]
theorem expo_at (X M) : expo X M (ix3 h i j) = Ideal.exp (X (ix3 h i j) - M (ix2 h i)) := by pointwise [expo, wide, up]
theorem tot_at (X) : tot X (ix2 h i) = ∑ x, X (ix3 h i x) := by pointwise [tot]
theorem quot_at (X T) : quot X T (ix3 h i j) = Ideal.div (X (ix3 h i j)) (T (ix3 h i 0)) := by pointwise [quot, wide]
theorem cols_at (X) : cols X (ix2 i n) = X (ix3 ⟨n.val / 64, by omega⟩ i ⟨n.val % 64, by omega⟩) := by pointwise [cols]
theorem mix_at (X V) : mix X V (ix3 h i d) = ∑ x, X (ix3 h i x) * V (ix3 h x d) := by pointwise [mix]
end At

end Cert.Fox

end
-- ==== Proof.Reals.lean ====
module

public import proofs.«01_k».proof.Proof.Soft

@[expose] public section

set_option maxRecDepth 16384

noncomputable section

namespace Cert.Fox

open Cert.ReferenceIdeal Cert.ReferenceIdeal.Gen
open Idealize.ShloMosaic Finset

/-- An array of two axes as real numbers at any two whole numbers, zero outside the array. -/
def nat2 {a b : ℕ} (X : (⟨2, ![a, b]⟩ : Shape).Idx → EReal) (i n : ℕ) : ℝ := if h : i < a ∧ n < b then (X (ix2 ⟨i, h.1⟩ ⟨n, h.2⟩)).toReal else 0

theorem nat2_of {a b : ℕ} {X : (⟨2, ![a, b]⟩ : Shape).Idx → EReal} {i : Fin a} {n : Fin b} {r : ℝ} (hX : X (ix2 i n) = (r : EReal))
    {i' n' : ℕ} (hi : i' = i.val) (hn : n' = n.val) : nat2 X i' n' = r := by
  subst hi hn
  rw [nat2, dif_pos ⟨i.isLt, n.isLt⟩, hX, EReal.toReal_coe]

/-- An array of real numbers. -/
def Real2 {a b : ℕ} (X : (⟨2, ![a, b]⟩ : Shape).Idx → EReal) : Prop := ∀ (i : Fin a) (n : Fin b), ∃ r : ℝ, X (ix2 i n) = (r : EReal)

theorem Real2.at {a b : ℕ} {X : (⟨2, ![a, b]⟩ : Shape).Idx → EReal} (hX : Real2 X) (i : Fin a) (n : Fin b)
    {i' n' : ℕ} (hi : i' = i.val) (hn : n' = n.val) : X (ix2 i n) = ((nat2 X i' n' : ℝ) : EReal) := by
  obtain ⟨r, hr⟩ := hX i n
  rw [nat2_of hr hi hn, hr]

theorem ofBits_neg_inf : Ideal.ofBits .f32 4286578688#32 = (⊥ : EReal) := by simp [Ideal.ofBits, Ideal.ieee]
theorem ofBits_inf : Ideal.ofBits .f32 0x7F800000#32 = (⊤ : EReal) := by simp [Ideal.ofBits, Ideal.ieee]
theorem ofBits_eighth : Ideal.ofBits .f32 1040187392#32 = (((Ideal.ofBits .f32 1040187392#32 : EReal).toReal : ℝ) : EReal) := by
  have : Ideal.ofBits .f32 1040187392#32 = (((1 : ℝ) / 8 : ℝ) : EReal) := by
    simp [Ideal.ofBits, Ideal.ieee, -EReal.coe_mul]; norm_num
  rw [this, EReal.toReal_coe]

variable (A : FVec Ideal S8192x7040 .f32) (C : FVec Ideal S8x8192 .f32) (G : FVec Ideal S8192x512 .bf16)

/-- The masked scores of the arguments. -/
def logits : FVec Ideal S8x8192x8192 .f32 := scores tri (raw (hd (colsQ A)) (hd (colsK A)) C)

/-- The arguments as real numbers, before the maxima are known. -/
def base : Real8 where
  q i n := nat2 A i (4608 + n)
  k i n := nat2 A i (5120 + n)
  v i n := nat2 A i (5632 + n)
  g i n := nat2 G i n
  c h i := nat2 C h i
  w := (Ideal.ofBits .f32 1040187392#32 : EReal).toReal
  m _ _ := 0

/-- The arguments as real numbers, with the maxima. -/
def reals : Real8 := { base A C G with m := nat2 (top (logits A C)) }

section
variable {A C G} (hA : Real2 A) (hC : Real2 C) (hG : Real2 G)

theorem hdQ_at (h : Fin 8) (i : Fin 8192) (d : Fin 64) (hA : Real2 A) : hd (colsQ A) (ix3 h i d) = (((reals A C G).q i (64 * h + d) : ℝ) : EReal) := by
  rw [hd_at, colsQ_at]; exact hA.at i _ rfl (by show 4608 + (64 * h.val + d.val) = 4608 + (h.val * 64 + d.val); omega)
theorem hdK_at (h : Fin 8) (i : Fin 8192) (d : Fin 64) (hA : Real2 A) : hd (colsK A) (ix3 h i d) = (((reals A C G).k i (64 * h + d) : ℝ) : EReal) := by
  rw [hd_at, colsK_at]; exact hA.at i _ rfl (by show 5120 + (64 * h.val + d.val) = 5120 + (h.val * 64 + d.val); omega)
theorem hdV_at (h : Fin 8) (i : Fin 8192) (d : Fin 64) (hA : Real2 A) : hd (colsV A) (ix3 h i d) = (((reals A C G).v i (64 * h + d) : ℝ) : EReal) := by
  rw [hd_at, colsV_at]; exact hA.at i _ rfl (by show 5632 + (64 * h.val + d.val) = 5632 + (h.val * 64 + d.val); omega)
theorem hdG_at (h : Fin 8) (i : Fin 8192) (d : Fin 64) (hG : Real2 G) : hd (colsG G) (ix3 h i d) = (((reals A C G).g i (64 * h + d) : ℝ) : EReal) := by
  rw [hd_at, colsG_at]; exact hG.at i _ rfl (by show (64 * h.val + d.val) = (h.val * 64 + d.val); omega)

theorem tri_bit (h : Fin 8) (i j : Fin 8192) : tri (ix3 h i j) = BitVec.ofBool (decide (j.val ≤ i.val)) := by
  have hi := i.isLt; have hj := j.isLt
  rw [tri_at]
  simp only [IntOp.cmpi]
  congr 1
  rw [BitVec.sle_eq_decide]
  congr 1
  rw [BitVec.toInt_eq_toNat_of_lt (by rw [BitVec.toNat_ofNat]; omega), BitVec.toInt_eq_toNat_of_lt (by rw [BitVec.toNat_ofNat]; omega)]
  simp only [BitVec.toNat_ofNat]
  rw [Nat.mod_eq_of_lt (by omega), Nat.mod_eq_of_lt (by omega), Nat.cast_le]

theorem sel_tri (h : Fin 8) (i j : Fin 8192) (x y : EReal) : Scalar.select (tri (ix3 h i j)) x y = if j.val ≤ i.val then x else y := by
  rw [tri_bit]
  by_cases hj : j.val ≤ i.val <;> simp [Scalar.select, hj]

include hA hC

theorem raw_real (h : Fin 8) (i j : Fin 8192) : raw (hd (colsQ A)) (hd (colsK A)) C (ix3 h i j) = (((reals A C G).S h i j : ℝ) : EReal) := by
  rw [raw_at]
  have e : ∀ x : Fin 64, hd (colsQ A) (ix3 h i x) * hd (colsK A) (ix3 h j x)
      = (((reals A C G).q i (64 * h + x) * (reals A C G).k j (64 * h + x) : ℝ) : EReal) := fun x => by
    rw [hdQ_at (C := C) (G := G) h i x hA, hdK_at (C := C) (G := G) h j x hA, EReal.coe_mul]
  rw [Finset.sum_congr rfl fun x _ => e x, coe_sum_fin 64 (fun d => (reals A C G).q i (64 * h + d) * (reals A C G).k j (64 * h + d)),
    ofBits_eighth, hC.at h i rfl rfl, hC.at h j rfl rfl, ← EReal.coe_mul, ← EReal.coe_add, ← EReal.coe_sub]
  rfl

theorem logits_at (h : Fin 8) (i j : Fin 8192) : logits A C (ix3 h i j) = if j.val ≤ i.val then (((reals A C G).S h i j : ℝ) : EReal) else ⊥ := by
  rw [logits, scores_at, sel_tri, raw_real (G := G) hA hC, ofBits_neg_inf]

theorem top_real (h : Fin 8) (i : Fin 8192) : top (logits A C) (ix2 h i) = (((reals A C G).m h i : ℝ) : EReal) := by
  have hr : ∃ r : ℝ, top (logits A C) (ix2 h i) = (r : EReal) := by
    rw [top_at, ofBits_neg_inf]
    set x := Finset.fold max (⊥ : EReal) (fun x => logits A C (ix3 h i x)) Finset.univ with hx
    have h1 : x ≠ ⊥ := by
      have : (((reals A C G).S h i i : ℝ) : EReal) ≤ x := by
        rw [hx, Finset.le_fold_max]
        exact .inr ⟨i, Finset.mem_univ _, by rw [logits_at (G := G) hA hC, if_pos le_rfl]⟩
      intro e; rw [e] at this
      exact absurd (le_bot_iff.mp this) (EReal.coe_ne_bot _)
    have h2 : x ≠ ⊤ := by
      refine ne_of_lt ?_
      rw [hx, Finset.fold_max_lt]
      refine ⟨bot_lt_top, fun j _ => ?_⟩
      rw [logits_at (G := G) hA hC]
      split
      · exact EReal.coe_lt_top _
      · exact bot_lt_top
    exact ⟨x.toReal, (EReal.coe_toReal h2 h1).symm⟩
  obtain ⟨r, hr⟩ := hr
  have e : nat2 (top (logits A C)) h i = r := nat2_of (X := top (logits A C)) hr rfl rfl
  rw [hr, ← e]; rfl

theorem expo_real {M : FVec Ideal S8x8192 .f32} (hM : ∀ h i, M (ix2 h i) = (((reals A C G).m h i : ℝ) : EReal)) (h : Fin 8) (i j : Fin 8192) :
    expo (logits A C) M (ix3 h i j) = (((reals A C G).e h i j : ℝ) : EReal) := by
  rw [expo_at, logits_at (G := G) hA hC, hM, Real8.e]
  by_cases hj : j.val ≤ i.val
  · rw [if_pos hj, if_pos hj, ← EReal.coe_sub, Ideal.exp_coe]
  · rw [if_neg hj, if_neg hj, EReal.bot_sub, Ideal.exp_bot, EReal.coe_zero]

theorem tot_real {M : FVec Ideal S8x8192 .f32} (hM : ∀ h i, M (ix2 h i) = (((reals A C G).m h i : ℝ) : EReal)) (h : Fin 8) (i : Fin 8192) :
    tot (expo (logits A C) M) (ix2 h i) = (((reals A C G).T h i : ℝ) : EReal) := by
  rw [tot_at, Finset.sum_congr rfl fun j _ => expo_real hA hC hM h i j, coe_sum_fin 8192 (fun j => (reals A C G).e h i j)]
  rfl

theorem quot_real {M : FVec Ideal S8x8192 .f32} (hM : ∀ h i, M (ix2 h i) = (((reals A C G).m h i : ℝ) : EReal)) (h : Fin 8) (i j : Fin 8192) :
    quot (expo (logits A C) M) (up (tot (expo (logits A C) M))) (ix3 h i j) = (((reals A C G).p h i j : ℝ) : EReal) := by
  rw [quot_at, up_at, tot_real hA hC hM, expo_real hA hC hM, Ideal.div_coe (Real8.T_pos (R := reals A C G) h i.isLt).ne', ← EReal.coe_mul, Real8.p]
  congr 1
  rw [mul_one_div]

theorem top'_real (h : Fin 8) (i : Fin 8192) : top' (top (logits A C)) (ix2 h i) = (((reals A C G).m h i : ℝ) : EReal) := by
  rw [top'_at, top_real (G := G) hA hC, ofBits_neg_inf, max_eq_right bot_le]

theorem y_real {M : FVec Ideal S8x8192 .f32} (hM : ∀ h i, M (ix2 h i) = (((reals A C G).m h i : ℝ) : EReal)) (i : Fin 8192) (n : Fin 512) :
    cols (mix (quot (expo (logits A C) M) (up (tot (expo (logits A C) M)))) (hd (colsV A))) (ix2 i n) = (((reals A C G).y i n : ℝ) : EReal) := by
  have e : 64 * (n.val / 64) + n.val % 64 = n.val := by omega
  rw [cols_at, mix_at, Real8.y, ← coe_sum_fin 8192 (fun j => (reals A C G).p (n.val / 64) i j * (reals A C G).v j n)]
  refine Finset.sum_congr rfl fun j _ => ?_
  rw [quot_real hA hC hM, hdV_at (C := C) (G := G) _ j _ hA, EReal.coe_mul]
  simp only [e]

end

end Cert.Fox

end
-- ==== Proof.Soft2.lean ====
module

public import proofs.«01_k».proof.Proof.Reals

@[expose] public section

set_option maxRecDepth 16384

noncomputable section

namespace Cert.Fox

open Cert.ReferenceIdeal Cert.ReferenceIdeal.Gen
open Idealize.ShloMosaic Finset

/-- One over the square of each row's total. -/
def inv2 (T : FVec Ideal S8x8192x1 .f32) : FVec Ideal S8x8192x1 .f32 :=
  Host.divf (broadcastInDim S8x8192x1 ![] bcast_S_S8x8192x1 (constant S_ .f32 0x3F800000#32)) (mulf T T)
/-- The weights' cotangent, and the values' gradient by heads. -/
def dots (G V : FVec Ideal S8x8192x64 .f32) : FVec Ideal S8x8192x8192 .f32 := Host.dotGeneral dot_S8x8192x64_S8x8192x64_S8x8192x8192_2_2_1_1_0_0 none G V
def mixT (G : FVec Ideal S8x8192x64 .f32) (P : FVec Ideal S8x8192x8192 .f32) : FVec Ideal S8x8192x64 .f32 :=
  transpose S8x8192x64 [0, 2, 1] (Host.dotGeneral dot_S8x8192x64_S8x8192x8192_S8x64x8192_1_1_2_2_0_0 none G P) transposes_S8x64x8192_S8x8192x64_0_2_1
/-- The correction of each row. -/
def corr (X : FVec Ideal S8x8192x8192 .f32) (I : FVec Ideal S8x8192x1 .f32) (E : FVec Ideal S8x8192x8192 .f32) : FVec Ideal S8x8192 .f32 :=
  Host.reduceAdd (Host.negf (shapeCast S8x8192x1 (tot (mulf (mulf X (wide I)) E)) shapeCasts_S8x8192_S8x8192x1)) (constant S_ .f32 0x00000000#32) reducesTo_S8x8192x1_S8x8192_d2 h_S_
/-- The scores' cotangent. -/
def cot (B : IVec S8x8192x8192 1) (X : FVec Ideal S8x8192x8192 .f32) (T : FVec Ideal S8x8192x1 .f32) (N : FVec Ideal S8x8192 .f32) (E : FVec Ideal S8x8192x8192 .f32) :
    FVec Ideal S8x8192x8192 .f32 :=
  select B (mulf (addf (quot X T) (broadcastInDim S8x8192x8192 ![0, 1] bcast_S8x8192_S8x8192x8192_0_1 N)) E)
    (broadcastInDim S8x8192x8192 ![] bcast_S_S8x8192x8192 (constant S_ .f32 0x00000000#32))
def keySum (X : FVec Ideal S8x8192x8192 .f32) : FVec Ideal S8x8192 .f32 :=
  Host.reduceAdd (shapeCast S8x1x8192 (Host.reduceAdd (Host.negf X) (constant S_ .f32 0x00000000#32) reducesTo_S8x8192x8192_S8x8192_d1 h_S_) shapeCasts_S8x8192_S8x1x8192)
    (constant S_ .f32 0x00000000#32) reducesTo_S8x1x8192_S8x8192_d1 h_S_
def qrySum (X : FVec Ideal S8x8192x8192 .f32) : FVec Ideal S8x8192 .f32 :=
  Host.reduceAdd (shapeCast S8x8192x1 (tot X) shapeCasts_S8x8192_S8x8192x1) (constant S_ .f32 0x00000000#32) reducesTo_S8x8192x1_S8x8192_d2 h_S_
def eighth (X : FVec Ideal S8x8192x8192 .f32) : FVec Ideal S8x8192x8192 .f32 := mulf X (broadcastInDim S8x8192x8192 ![] bcast_S_S8x8192x8192 (constant S_ .f32 0x3E000000#32))
def mixK (X : FVec Ideal S8x8192x8192 .f32) (Q : FVec Ideal S8x8192x64 .f32) : FVec Ideal S8x8192x64 .f32 :=
  Host.dotGeneral dot_S8x8192x8192_S8x8192x64_S8x8192x64_1_1_2_2_0_0 none X Q
def half (X : FVec Ideal S8192x512 .f32) : FVec Ideal S8192x512 .bf16 := truncf .bf16 X bitsLt_bf16_f32
def flat (X : FVec Ideal S8x8192 .f32) : FVec Ideal S8x1x8192 .f32 := shapeCast S8x1x8192 X shapeCasts_S8x8192_S8x1x8192
/-- Each pair's two heads on the pair's two lanes. -/
def lanes (X : FVec Ideal S8x8192 .f32) : FVec Ideal S4x8192x128 .f32 :=
  select (cmpi .eq (iotaInDim S4x8192x128 32 2) (muli (broadcastInDim S4x8192x128 ![] bcast_S_S4x8192x128 (constantI S_ 32 2#32)) (iotaInDim S4x8192x128 32 0)))
    (broadcastInDim S4x8192x128 ![0, 1, 2] bcast_S4x8192x1_S4x8192x128_0_1_2 (broadcastInDim S4x8192x1 ![0, 1] bcast_S4x8192_S4x8192x1_0_1
      (shapeCast S4x8192 (extractStridedSlice S4x1x8192 ![0, 0, 0] (shapeCast S4x2x8192 X shapeCasts_S8x8192_S4x2x8192) slices_S4x2x8192_S4x1x8192_0_0_0) shapeCasts_S4x1x8192_S4x8192)))
    (select (cmpi .eq (iotaInDim S4x8192x128 32 2) (addi (muli (broadcastInDim S4x8192x128 ![] bcast_S_S4x8192x128 (constantI S_ 32 2#32)) (iotaInDim S4x8192x128 32 0))
        (broadcastInDim S4x8192x128 ![] bcast_S_S4x8192x128 (constantI S_ 32 1#32))))
      (broadcastInDim S4x8192x128 ![0, 1, 2] bcast_S4x8192x1_S4x8192x128_0_1_2 (broadcastInDim S4x8192x1 ![0, 1] bcast_S4x8192_S4x8192x1_0_1
        (shapeCast S4x8192 (extractStridedSlice S4x1x8192 ![0, 1, 0] (shapeCast S4x2x8192 X shapeCasts_S8x8192_S4x2x8192) slices_S4x2x8192_S4x1x8192_0_1_0) shapeCasts_S4x1x8192_S4x8192)))
      (broadcastInDim S4x8192x128 ![] bcast_S_S4x8192x128 (constant S_ .f32 0x00000000#32)))

section At
variable (h : Fin 8) (i j : Fin 8192) (d : Fin 64) (n : Fin 512)

theorem inv2_at (T) : inv2 T (ix3 h i 0) = Ideal.div 1 (T (ix3 h i 0) * T (ix3 h i 0)) := by pointwise [inv2]
theorem dots_at (G V) : dots G V (ix3 h i j) = ∑ x, G (ix3 h i x) * V (ix3 h j x) := by pointwise [dots]
theorem mixT_at (G P) : mixT G P (ix3 h j d) = ∑ x, G (ix3 h x d) * P (ix3 h x j) := by pointwise [mixT]
theorem corr_at (X I E) : corr X I E (ix2 h i) = -∑ x, X (ix3 h i x) * I (ix3 h i 0) * E (ix3 h i x) := by
  pointwise [corr, tot, wide]
  exact Fin.sum_univ_one _
theorem cot_at (B X T N E) : cot B X T N E (ix3 h i j)
    = Scalar.select (B (ix3 h i j)) ((Ideal.div (X (ix3 h i j)) (T (ix3 h i 0)) + N (ix2 h i)) * E (ix3 h i j)) 0 := by pointwise [cot, quot, wide]
theorem keySum_at (X) : keySum X (ix2 h j) = ∑ x, -X (ix3 h x j) := by
  pointwise [keySum]
  exact Fin.sum_univ_one _
theorem qrySum_at (X) : qrySum X (ix2 h i) = ∑ x, X (ix3 h i x) := by
  pointwise [qrySum, tot]
  exact Fin.sum_univ_one _
theorem eighth_at (X) : eighth X (ix3 h i j) = X (ix3 h i j) * Ideal.ofBits .f32 1040187392#32 := by pointwise [eighth]
theorem mixK_at (X Q) : mixK X Q (ix3 h j d) = ∑ x, X (ix3 h x j) * Q (ix3 h x d) := by pointwise [mixK]
theorem half_at (X) : half X (ix2 i n) = X (ix2 i n) := by pointwise [half]
theorem flat1_at (X) : flat X (ix3 h 0 i) = X (ix2 h i) := by pointwise [flat]
theorem lanes_at' (X) (p : Fin 4) (l : Fin 128) : lanes X (ix3 p i l)
    = Scalar.select (IntOp.cmpi .eq (BitVec.ofNat 32 l) (IntOp.muli 2#32 (BitVec.ofNat 32 p))) (X (ix2 ⟨p.val * 2, by omega⟩ i))
      (Scalar.select (IntOp.cmpi .eq (BitVec.ofNat 32 l) (IntOp.addi (IntOp.muli 2#32 (BitVec.ofNat 32 p)) 1#32)) (X (ix2 ⟨p.val * 2 + 1, by omega⟩ i)) 0) := by
  pointwise [lanes]
end At

/-! ## The reference's lines as real numbers -/

section
variable {R : Real8}

theorem inv2_real {T : FVec Ideal S8x8192x1 .f32} (hT : ∀ h i, T (ix3 h i 0) = ((R.T h.val i.val : ℝ) : EReal)) (h : Fin 8) (i : Fin 8192) :
    inv2 T (ix3 h i 0) = ((1 / (R.T h i * R.T h i) : ℝ) : EReal) := by
  have hp := (Real8.T_pos (R := R) h.val i.isLt).ne'
  rw [inv2_at, hT, ← EReal.coe_mul, Ideal.div_coe (mul_ne_zero hp hp), one_mul]

theorem corr_real {X E : FVec Ideal S8x8192x8192 .f32} {I : FVec Ideal S8x8192x1 .f32} (hX : ∀ h i j, X (ix3 h i j) = ((R.dp h.val i.val j.val : ℝ) : EReal))
    (hE : ∀ h i j, E (ix3 h i j) = ((R.e h.val i.val j.val : ℝ) : EReal)) (hI : ∀ h i, I (ix3 h i 0) = ((1 / (R.T h.val i.val * R.T h.val i.val) : ℝ) : EReal))
    (h : Fin 8) (i : Fin 8192) :
    corr X I E (ix2 h i) = ((-∑ j ∈ range 8192, R.dp h i j * (1 / (R.T h i * R.T h i)) * R.e h i j : ℝ) : EReal) := by
  rw [corr_at, Finset.sum_congr rfl fun j _ => (by rw [hX, hI, hE, ← EReal.coe_mul, ← EReal.coe_mul] :
      X (ix3 h i j) * I (ix3 h i 0) * E (ix3 h i j) = ((R.dp h i j * (1 / (R.T h i * R.T h i)) * R.e h i j : ℝ) : EReal)),
    coe_sum_fin 8192 (fun j => R.dp h i j * (1 / (R.T h i * R.T h i)) * R.e h i j), EReal.coe_neg]

theorem cot_real {X E : FVec Ideal S8x8192x8192 .f32} {T : FVec Ideal S8x8192x1 .f32} {N : FVec Ideal S8x8192 .f32}
    (hX : ∀ h i j, X (ix3 h i j) = ((R.dp h.val i.val j.val : ℝ) : EReal)) (hT : ∀ h i, T (ix3 h i 0) = ((R.T h.val i.val : ℝ) : EReal))
    (hE : ∀ h i j, E (ix3 h i j) = ((R.e h.val i.val j.val : ℝ) : EReal))
    (hN : ∀ h i, N (ix2 h i) = ((-∑ j ∈ range 8192, R.dp h.val i.val j * (1 / (R.T h.val i.val * R.T h.val i.val)) * R.e h.val i.val j : ℝ) : EReal))
    (h : Fin 8) (i j : Fin 8192) :
    cot tri X T N E (ix3 h i j) = ((R.ds h i j : ℝ) : EReal) := by
  rw [cot_at, sel_tri]
  split
  · rw [hX, hT, hN, hE, Ideal.div_coe (Real8.T_pos (R := R) h.val i.isLt).ne', ← EReal.coe_mul, ← EReal.coe_add, ← EReal.coe_mul, mul_one_div,
      Real8.ds_quot h.val j.val i.isLt]
  · rw [Real8.ds_above _ (by omega)]; exact EReal.coe_zero.symm

theorem dots_real {G V : FVec Ideal S8x8192x64 .f32} (hG : ∀ h i d, G (ix3 h i d) = ((R.g i.val (64 * h.val + d.val) : ℝ) : EReal))
    (hV : ∀ h i d, V (ix3 h i d) = ((R.v i.val (64 * h.val + d.val) : ℝ) : EReal)) (h : Fin 8) (i j : Fin 8192) :
    dots G V (ix3 h i j) = ((R.dp h i j : ℝ) : EReal) := by
  rw [dots_at, Finset.sum_congr rfl fun d _ => (by rw [hG, hV, ← EReal.coe_mul] : G (ix3 h i d) * V (ix3 h j d)
      = ((R.g i (64 * h + d) * R.v j (64 * h + d) : ℝ) : EReal)), coe_sum_fin 64 (fun d => R.g i (64 * h + d) * R.v j (64 * h + d))]
  rfl

section
variable {X : FVec Ideal S8x8192x8192 .f32} (hX : ∀ h i j, X (ix3 h i j) = ((R.ds h.val i.val j.val : ℝ) : EReal))
include hX

theorem keySum_real (h : Fin 8) (j : Fin 8192) : keySum X (ix2 h j) = ((R.dck h j : ℝ) : EReal) := by
  rw [keySum_at, Finset.sum_congr rfl fun i _ => (by rw [hX, ← EReal.coe_neg] : -X (ix3 h i j) = ((-R.ds h i j : ℝ) : EReal)),
    coe_sum_fin 8192 (fun i => -R.ds h i j), Finset.sum_neg_distrib]
  rfl

theorem qrySum_real (h : Fin 8) (i : Fin 8192) : qrySum X (ix2 h i) = ((R.dcq h i : ℝ) : EReal) := by
  rw [qrySum_at, Finset.sum_congr rfl fun j _ => hX h i j, coe_sum_fin 8192 (fun j => R.ds h i j)]
  rfl

theorem dk_real (hw : Ideal.ofBits .f32 1040187392#32 = ((R.w : ℝ) : EReal)) {Q : FVec Ideal S8x8192x64 .f32}
    (hQ : ∀ h i d, Q (ix3 h i d) = ((R.q i.val (64 * h.val + d.val) : ℝ) : EReal)) (j : Fin 8192) (n : Fin 512) :
    half (cols (mixK (eighth X) Q)) (ix2 j n) = ((R.dk j n : ℝ) : EReal) := by
  have e : 64 * (n.val / 64) + n.val % 64 = n.val := by omega
  rw [half_at, cols_at, mixK_at, Real8.dk, ← coe_sum_fin 8192 (fun i => R.ds (n.val / 64) i j * (R.q i n * R.w))]
  refine Finset.sum_congr rfl fun i _ => ?_
  rw [eighth_at, hX, hQ, hw, ← EReal.coe_mul, ← EReal.coe_mul]
  simp only [e]
  congr 1
  ring

theorem dq_real (hw : Ideal.ofBits .f32 1040187392#32 = ((R.w : ℝ) : EReal)) {K : FVec Ideal S8x8192x64 .f32}
    (hK : ∀ h i d, K (ix3 h i d) = ((R.k i.val (64 * h.val + d.val) : ℝ) : EReal)) (i : Fin 8192) (n : Fin 512) :
    half (cols (mix (eighth X) K)) (ix2 i n) = ((R.dq i n : ℝ) : EReal) := by
  have e : 64 * (n.val / 64) + n.val % 64 = n.val := by omega
  rw [half_at, cols_at, mix_at, Real8.dq, Finset.sum_mul, ← coe_sum_fin 8192 (fun j => R.ds (n.val / 64) i j * R.k j n * R.w)]
  refine Finset.sum_congr rfl fun j _ => ?_
  rw [eighth_at, hX, hK, hw, ← EReal.coe_mul, ← EReal.coe_mul]
  simp only [e]
  congr 1
  ring

end

theorem dv_real {P : FVec Ideal S8x8192x8192 .f32} (hP : ∀ h i j, P (ix3 h i j) = ((R.p h.val i.val j.val : ℝ) : EReal)) {G : FVec Ideal S8x8192x64 .f32}
    (hG : ∀ h i d, G (ix3 h i d) = ((R.g i.val (64 * h.val + d.val) : ℝ) : EReal)) (j : Fin 8192) (n : Fin 512) :
    half (cols (mixT G P)) (ix2 j n) = ((R.dv j n : ℝ) : EReal) := by
  have e : 64 * (n.val / 64) + n.val % 64 = n.val := by omega
  rw [half_at, cols_at, mixT_at, Real8.dv, ← coe_sum_fin 8192 (fun i => R.p (n.val / 64) i j * R.g i n)]
  refine Finset.sum_congr rfl fun i _ => ?_
  rw [hP, hG, ← EReal.coe_mul]
  simp only [e]
  congr 1
  ring

end

end Cert.Fox

end
-- ==== Proof.PayA.lean ====
module

public import proofs.«01_k».proof.Proof.Data
public import proofs.«01_k».proof.Proof.Spec
public import Idealize.ShloMosaic.Lib.Pointwise

@[expose] public section

set_option maxRecDepth 16384

noncomputable section

namespace Cert.KernelIdeal.Fox

open Cert.KernelIdeal Cert.KernelIdeal.Gen
open Idealize.ShloMosaic
open Cert.Fox Finset

variable (R : Real8)

/-- The tile of heads `2 j` and `2 j + 1`, query tile `iq` and key tile `ik`, as real numbers. -/
structure At (j iq ik : ℕ) (x : Tile Ideal) : Prop where
  w : Ideal.ofBits .f32 1040187392#32 = ((R.w : ℝ) : EReal)
  k : ∀ (a : Fin 1024) (l : Fin 128), x.k (ix2 a l) = ((R.k (ik * 1024 + a) (128 * j + l) : ℝ) : EReal)
  v : ∀ (a : Fin 1024) (l : Fin 128), x.v (ix2 a l) = ((R.v (ik * 1024 + a) (128 * j + l) : ℝ) : EReal)
  q : ∀ (b : Fin 1024) (l : Fin 128), x.q (ix2 b l) = ((R.q (iq * 1024 + b) (128 * j + l) : ℝ) : EReal)
  y : ∀ (b : Fin 1024) (l : Fin 128), x.y (ix2 b l) = ((R.y (iq * 1024 + b) (128 * j + l) : ℝ) : EReal)
  dy : ∀ (b : Fin 1024) (l : Fin 128), x.dy (ix2 b l) = ((R.g (iq * 1024 + b) (128 * j + l) : ℝ) : EReal)
  ck : ∀ (h : Fin 2) (a : Fin 1024) (l : Fin 128), x.ck (ix3 h a l) = ((R.c (2 * j + h) (ik * 1024 + a) : ℝ) : EReal)
  cq : ∀ (h : Fin 2) (b : Fin 1024), x.cq (ix3 h 0 b) = ((R.c (2 * j + h) (iq * 1024 + b) : ℝ) : EReal)
  ls : ∀ (h : Fin 2) (b : Fin 1024), x.ls (ix3 h 0 b)
    = ((R.m (2 * j + h) (iq * 1024 + b) + Real.log (R.T (2 * j + h) (iq * 1024 + b)) : ℝ) : EReal)

/-- An array of a step's weights, of head `n`. -/
def IsP (n iq ik : ℕ) (p : S1024x1024.Idx → Elt Ideal .f32) : Prop :=
  ∀ a b : Fin 1024, p (ix2 a b) = ((R.p n (iq * 1024 + b) (ik * 1024 + a) : ℝ) : EReal)
/-- An array of a step's scores' cotangents. -/
def IsDs {φ : FTy} (n iq ik : ℕ) (p : S1024x1024.Idx → Ideal φ) : Prop :=
  ∀ a b : Fin 1024, p (ix2 a b) = ((R.ds n (iq * 1024 + b) (ik * 1024 + a) : ℝ) : EReal)
/-- The rows' contributions of a query tile. -/
def IsD (j iq : ℕ) (D : S1x8x1024.Idx → Elt Ideal .f32) : Prop :=
  ∀ b : Fin 1024, D (ix3 0 0 b) = ((R.D (2 * j) (iq * 1024 + b) : ℝ) : EReal) ∧ D (ix3 0 1 b) = ((R.D (2 * j + 1) (iq * 1024 + b) : ℝ) : EReal)

variable {R}

theorem lane_bit (x : Fin 128) : k0_pay1 (ix2 (0 : Fin 1) x) = BitVec.ofBool (decide (x.val < 64)) := by
  pointwise [k0_pay1]
  revert x; decide +kernel

theorem lanes0 (f : ℕ → ℝ) : ∑ x : Fin 128, Scalar.select (k0_pay1 (ix2 (0 : Fin 1) x)) ((f x.val : ℝ) : EReal) 0
    = ((∑ d ∈ range 64, f d : ℝ) : EReal) := by
  have h : ∀ x : Fin 128, Scalar.select (k0_pay1 (ix2 (0 : Fin 1) x)) ((f x.val : ℝ) : EReal) 0
      = (((if x.val < 64 then f x.val else 0 : ℝ)) : EReal) := fun x => by
    rw [lane_bit]
    by_cases hx : x.val < 64 <;> simp [Scalar.select, hx]
  rw [Finset.sum_congr rfl fun x _ => h x, coe_sum_fin 128 (fun x => if x < 64 then f x else 0),
    show (128 : ℕ) = 64 + 64 from rfl, Finset.sum_range_add]
  congr 1
  rw [Finset.sum_congr rfl (fun x hx => if_pos (Finset.mem_range.mp hx)),
    Finset.sum_eq_zero (s := range 64) (f := fun x => if 64 + x < 64 then f (64 + x) else 0) (fun x _ => if_neg (by omega)), add_zero]

theorem lanes1 (f : ℕ → ℝ) : ∑ x : Fin 128, Scalar.select (IntOp.xori (k0_pay1 (ix2 (0 : Fin 1) x)) 1#1) ((f x.val : ℝ) : EReal) 0
    = ((∑ d ∈ range 64, f (64 + d) : ℝ) : EReal) := by
  have h : ∀ x : Fin 128, Scalar.select (IntOp.xori (k0_pay1 (ix2 (0 : Fin 1) x)) 1#1) ((f x.val : ℝ) : EReal) 0
      = (((if x.val < 64 then 0 else f x.val : ℝ)) : EReal) := fun x => by
    rw [lane_bit]
    by_cases hx : x.val < 64 <;> simp [Scalar.select, hx, IntOp.xori]
  rw [Finset.sum_congr rfl fun x _ => h x, coe_sum_fin 128 (fun x => if x < 64 then 0 else f x),
    show (128 : ℕ) = 64 + 64 from rfl, Finset.sum_range_add]
  congr 1
  rw [Finset.sum_eq_zero (s := range 64) (f := fun x => if x < 64 then 0 else f x) (fun x hx => if_pos (Finset.mem_range.mp hx)),
    zero_add]
  exact Finset.sum_congr rfl (fun x hx => if_neg (by omega))

theorem row3_ix {α : Type} {A B C : ℕ} (f : (⟨3, ![A, B, C]⟩ : Shape).Idx → α) (r : Fin A) (a : Fin B) (b : Fin C) :
    row3 f r (ix3 0 a b) = f (ix3 r a b) := rfl

theorem iotas (a b : Fin 1024) : IntOp.cmpi .sle (BitVec.ofNat 32 a.val) (BitVec.ofNat 32 b.val) = BitVec.ofBool (decide (a.val ≤ b.val)) := by
  have ha := a.isLt; have hb := b.isLt
  simp only [IntOp.cmpi]
  congr 1
  rw [BitVec.sle_eq_decide]
  congr 1
  rw [BitVec.toInt_eq_toNat_of_lt (by rw [BitVec.toNat_ofNat]; omega), BitVec.toInt_eq_toNat_of_lt (by rw [BitVec.toNat_ofNat]; omega)]
  simp only [BitVec.toNat_ofNat]
  rw [Nat.mod_eq_of_lt (by omega), Nat.mod_eq_of_lt (by omega), Nat.cast_le]

theorem mask_bot : Named.named (F := Ideal) (φ := .f32) κ "mask" 4048155338#32 = (⊥ : EReal) :=
  IdealRules.named_const.ideal_named_scalar _ _ _ _ rfl

/-- The weights from the pieces that a step adds up. -/
theorem p_val (n i j : ℕ) (hi : i < 8192) (hij : j ≤ i) (s : ℝ)
    (hs : s = ∑ d ∈ range 64, R.k j (64 * n + d) * (R.q i (64 * n + d) * R.w)) :
    Ideal.exp (((s : ℝ) : EReal) + (((R.c n i : ℝ) : EReal) - ((R.m n i + Real.log (R.T n i) : ℝ) : EReal)) - ((R.c n j : ℝ) : EReal))
      = ((R.p n i j : ℝ) : EReal) := by
  rw [← EReal.coe_sub, ← EReal.coe_add, ← EReal.coe_sub, Ideal.exp_coe, Real8.p_eq_exp n hi hij, ← Real8.S_eq, hs]
  congr 2
  ring

section
variable {j iq ik : ℕ} {x : Tile Ideal}

theorem lane_sum0 (f g : ℕ → ℝ) (w : ℝ) (j : ℕ) : ∑ l : Fin 128, Scalar.select (k0_pay1 (ix2 (0 : Fin 1) l))
    (((f (128 * j + l) : ℝ) : EReal) * (((g (128 * j + l) : ℝ) : EReal) * ((w : ℝ) : EReal))) 0
    = ((∑ d ∈ range 64, f (64 * (2 * j) + d) * (g (64 * (2 * j) + d) * w) : ℝ) : EReal) := by
  simp only [← EReal.coe_mul]
  rw [lanes0 (fun l => f (128 * j + l) * (g (128 * j + l) * w)), show 64 * (2 * j) = 128 * j by ring]

theorem lane_sum1 (f g : ℕ → ℝ) (w : ℝ) (j : ℕ) : ∑ l : Fin 128, Scalar.select (IntOp.xori (k0_pay1 (ix2 (0 : Fin 1) l)) 1#1)
    (((f (128 * j + l) : ℝ) : EReal) * (((g (128 * j + l) : ℝ) : EReal) * ((w : ℝ) : EReal))) 0
    = ((∑ d ∈ range 64, f (64 * (2 * j + 1) + d) * (g (64 * (2 * j + 1) + d) * w) : ℝ) : EReal) := by
  simp only [← EReal.coe_mul]
  rw [lanes1 (fun l => f (128 * j + l) * (g (128 * j + l) * w))]
  simp only [show ∀ d, 64 * (2 * j + 1) + d = 128 * j + (64 + d) from fun d => by ring]

theorem lane_dot0 (f g : ℕ → ℝ) (j : ℕ) : ∑ l : Fin 128, Scalar.select (k0_pay1 (ix2 (0 : Fin 1) l))
    (((f (128 * j + l) : ℝ) : EReal) * ((g (128 * j + l) : ℝ) : EReal)) 0
    = ((∑ d ∈ range 64, f (64 * (2 * j) + d) * g (64 * (2 * j) + d) : ℝ) : EReal) := by
  have := lane_sum0 f g 1 j
  simpa only [EReal.coe_one, mul_one] using this

theorem lane_dot1 (f g : ℕ → ℝ) (j : ℕ) : ∑ l : Fin 128, Scalar.select (IntOp.xori (k0_pay1 (ix2 (0 : Fin 1) l)) 1#1)
    (((f (128 * j + l) : ℝ) : EReal) * ((g (128 * j + l) : ℝ) : EReal)) 0
    = ((∑ d ∈ range 64, f (64 * (2 * j + 1) + d) * g (64 * (2 * j + 1) + d) : ℝ) : EReal) := by
  have := lane_sum1 f g 1 j
  simpa only [EReal.coe_one, mul_one] using this

/-- Head 0, off the diagonal. -/
theorem offP0 (hx : At R j iq ik x) (hq : iq < 8) (hlt : ik < iq) :
    IsP R (2 * j) iq ik (k0_pay21 k0_pay1 x.k x.q (row3 x.cq 0) (row3 x.ls 0) (row3 x.ck 0)) := fun a b => by
  pointwise [k0_pay21, k0_pay20, k0_pay18, k0_pay16]
  simp only [row3_ix, hx.k, hx.q, hx.w, hx.cq, hx.ls, hx.ck, dite_eq_ite, ite_self]
  rw [lane_sum0 (R.k (ik * 1024 + a)) (R.q (iq * 1024 + b)) R.w j]
  exact p_val (2 * j) _ _ (by omega) (by omega) _ rfl

theorem offP1 (hx : At R j iq ik x) (hq : iq < 8) (hlt : ik < iq) :
    IsP R (2 * j + 1) iq ik (k0_pay35 k0_pay1 (k0_pay16 x.k) (k0_pay18 x.q) (row3 x.cq 1) (row3 x.ls 1) (row3 x.ck 1)) := fun a b => by
  pointwise [k0_pay35, k0_pay33, k0_pay32, k0_pay18, k0_pay16]
  simp only [row3_ix, hx.k, hx.q, hx.w, hx.cq, hx.ls, hx.ck, dite_eq_ite, ite_self]
  rw [lane_sum1 (R.k (ik * 1024 + a)) (R.q (iq * 1024 + b)) R.w j]
  exact p_val (2 * j + 1) _ _ (by omega) (by omega) _ rfl

theorem diagP0 (hx : At R j iq ik x) (hq : iq < 8) (heq : ik = iq) :
    IsP R (2 * j) iq ik (k0_pay51 (k0_pay48 k0_pay1 x.k x.q (row3 x.cq 0) (row3 x.ls 0) (row3 x.ck 0)) k0_pay49 k0_pay50) := fun a b => by
  pointwise [k0_pay51, k0_pay48, k0_pay46, k0_pay42, k0_pay44, k0_pay49, k0_pay50]
  simp only [row3_ix, hx.k, hx.q, hx.w, hx.cq, hx.ls, hx.ck, dite_eq_ite, ite_self]
  rw [lane_sum0 (R.k (ik * 1024 + a)) (R.q (iq * 1024 + b)) R.w j, iotas]
  by_cases hab : a.val ≤ b.val
  · simp only [hab, decide_true, BitVec.ofBool_true, Scalar.select, if_true]
    exact p_val (2 * j) _ _ (by omega) (by omega) _ rfl
  · simp only [hab, decide_false, BitVec.ofBool_false, Scalar.select]
    rw [if_neg (by decide), mask_bot, Ideal.exp_bot, Real8.p_above _ (by omega), EReal.coe_zero]

theorem diagP1 (hx : At R j iq ik x) (hq : iq < 8) (heq : ik = iq) :
    IsP R (2 * j + 1) iq ik (k0_pay63 (k0_pay62 k0_pay1 (k0_pay42 x.k) (k0_pay44 x.q) (row3 x.cq 1) (row3 x.ls 1)) (row3 x.ck 1)) := fun a b => by
  pointwise [k0_pay63, k0_pay62, k0_pay60, k0_pay59, k0_pay42, k0_pay44]
  simp only [row3_ix, hx.k, hx.q, hx.w, hx.cq, hx.ls, hx.ck, dite_eq_ite, ite_self]
  rw [lane_sum1 (R.k (ik * 1024 + a)) (R.q (iq * 1024 + b)) R.w j, iotas]
  by_cases hab : a.val ≤ b.val
  · simp only [hab, decide_true, BitVec.ofBool_true, Scalar.select, if_true]
    exact p_val (2 * j + 1) _ _ (by omega) (by omega) _ rfl
  · simp only [hab, decide_false, BitVec.ofBool_false, Scalar.select]
    rw [if_neg (by decide), mask_bot, Ideal.exp_bot, Real8.p_above _ (by omega), EReal.coe_zero]

/-- What the rows contribute. -/
theorem isD (hx : At R j iq ik x) : IsD R j iq (dRow x) := fun b => by
  constructor
  · unfold dRow
    pointwise [k0_pay7]
    simp only [hx.y, hx.dy]
    rw [Real8.D_eq, ← lane_dot0 (R.y (iq * 1024 + b)) (R.g (iq * 1024 + b)) j]
    refine Finset.sum_congr rfl fun l _ => ?_
    rw [lane_bit]
    by_cases hl : l.val < 64 <;> simp [hl, IntOp.ori, IntOp.andi, IntOp.cmpi, IntOp.xori]
  · unfold dRow
    pointwise [k0_pay7]
    simp only [hx.y, hx.dy]
    rw [Real8.D_eq, ← lane_dot1 (R.y (iq * 1024 + b)) (R.g (iq * 1024 + b)) j]
    refine Finset.sum_congr rfl fun l _ => ?_
    rw [lane_bit]
    by_cases hl : l.val < 64 <;> simp [hl, IntOp.ori, IntOp.andi, IntOp.cmpi, IntOp.xori]

theorem ds_val (n i jj : ℕ) (s : ℝ) (hs : s = ∑ d ∈ range 64, R.v jj (64 * n + d) * R.g i (64 * n + d)) :
    ((R.p n i jj : ℝ) : EReal) * (((s : ℝ) : EReal) - ((R.D n i : ℝ) : EReal)) = ((R.ds n i jj : ℝ) : EReal) := by
  rw [← EReal.coe_sub, ← EReal.coe_mul, Real8.ds, Real8.dp, hs]
  simp only [mul_comm]

theorem offDs0 (hx : At R j iq ik x) {D} (hD : IsD R j iq D) {p} (hp : IsP R (2 * j) iq ik p) :
    IsDs R (φ := .f32) (2 * j) iq ik (k0_pay24 p (k0_pay22 k0_pay1 x.v x.dy) (k0_pay23 D)) := fun a b => by
  pointwise [k0_pay24, k0_pay22, k0_pay23, k0_pay17, k0_pay19]
  simp only [hp a b, hx.v, hx.dy, (hD b).1]
  rw [lane_dot0 (R.v (ik * 1024 + a)) (R.g (iq * 1024 + b)) j]
  exact ds_val _ _ _ _ rfl

theorem offDs1 (hx : At R j iq ik x) {D} (hD : IsD R j iq D) {p} (hp : IsP R (2 * j + 1) iq ik p) :
    IsDs R (φ := .f32) (2 * j + 1) iq ik (k0_pay36 x.dy (k0_pay19 D) (k0_pay34 k0_pay1 (k0_pay17 x.v)) p (constant S1024x1024 .f32 0x00000000#32)) := fun a b => by
  pointwise [k0_pay36, k0_pay34, k0_pay32, k0_pay17, k0_pay19]
  simp only [hp a b, hx.v, hx.dy, (hD b).2]
  rw [lane_dot1 (R.v (ik * 1024 + a)) (R.g (iq * 1024 + b)) j]
  exact ds_val _ _ _ _ rfl

theorem diagDs0 (hx : At R j iq ik x) {D} (hD : IsD R j iq D) {s m n} (hp : IsP R (2 * j) iq ik (k0_pay51 s m n)) :
    IsDs R (φ := .f32) (2 * j) iq ik (k0_pay52 x.dy (k0_pay45 D) (k0_pay47 k0_pay1 x.v) s m n) := fun a b => by
  pointwise [k0_pay52, k0_pay47, k0_pay43, k0_pay45]
  simp only [hp a b, hx.v, hx.dy, (hD b).1]
  rw [lane_dot0 (R.v (ik * 1024 + a)) (R.g (iq * 1024 + b)) j]
  exact ds_val _ _ _ _ rfl

theorem diagDs1 (hx : At R j iq ik x) {D} (hD : IsD R j iq D) {s m} (hp : IsP R (2 * j + 1) iq ik (k0_pay63 s m)) :
    IsDs R (φ := .f32) (2 * j + 1) iq ik (k0_pay64 x.dy (k0_pay45 D) (k0_pay61 k0_pay1 (k0_pay43 x.v)) s m) := fun a b => by
  pointwise [k0_pay64, k0_pay61, k0_pay59, k0_pay43, k0_pay45]
  simp only [hp a b, hx.v, hx.dy, (hD b).2]
  rw [lane_dot1 (R.v (ik * 1024 + a)) (R.g (iq * 1024 + b)) j]
  exact ds_val _ _ _ _ rfl

end

end Cert.KernelIdeal.Fox

end
-- ==== Proof.PayB.lean ====
module

public import proofs.«01_k».proof.Proof.PayA

@[expose] public section

set_option maxRecDepth 16384

noncomputable section

namespace Cert.KernelIdeal.Fox

open Cert.KernelIdeal Cert.KernelIdeal.Gen
open Idealize.ShloMosaic
open Cert.Fox Finset

variable (R : Real8)

/-- What one step adds to the gradient of the value tile. -/
def incV (n iq ik a col : ℕ) : ℝ := ∑ b ∈ range 1024, R.p n (iq * 1024 + b) (ik * 1024 + a) * R.g (iq * 1024 + b) col
/-- What one step adds to the gradient of the key tile. -/
def incK (n iq ik a col : ℕ) : ℝ := ∑ b ∈ range 1024, R.ds n (iq * 1024 + b) (ik * 1024 + a) * (R.q (iq * 1024 + b) col * R.w)
/-- What one step takes from the key-side sums. -/
def incC (n iq ik a : ℕ) : ℝ := ∑ b ∈ range 1024, R.ds n (iq * 1024 + b) (ik * 1024 + a)
/-- What one step adds to the gradient of the query tile. -/
def incQ (n iq ik b col : ℕ) : ℝ := ∑ a ∈ range 1024, R.ds n (iq * 1024 + b) (ik * 1024 + a) * R.k (ik * 1024 + a) col
/-- What one step adds to the query-side sums. -/
def incCq (n iq ik b : ℕ) : ℝ := ∑ a ∈ range 1024, R.ds n (iq * 1024 + b) (ik * 1024 + a)

variable {R}
variable {j iq ik n : ℕ} {x : Tile Ideal} {D : S1x8x1024.Idx → Elt Ideal .f32} {s : Sums Ideal}

theorem sumV (hx : At R j iq ik x) {p : S1024x1024.Idx → Elt Ideal .f32} (hp : IsP R n iq ik p) {S : ℝ} (a : Fin 1024) (l : Fin 128) {z : EReal} (hz : z = (S : EReal)) :
    z + ∑ b : Fin 1024, (p (ix2 a b) * x.dy (ix2 b l) : EReal) = ((S + incV R n iq ik a (128 * j + l) : ℝ) : EReal) := by
  rw [hz, incV, EReal.coe_add, ← coe_sum_fin 1024 (fun b => R.p n (iq * 1024 + b) (ik * 1024 + a) * R.g (iq * 1024 + b) (128 * j + l))]
  congr 1
  refine Finset.sum_congr rfl fun b _ => ?_
  rw [hp a b, hx.dy b l, EReal.coe_mul]

theorem sumK (hx : At R j iq ik x) {φ : FTy} {p : S1024x1024.Idx → Ideal φ} (hp : IsDs R n iq ik p) {S : ℝ} (a : Fin 1024) (l : Fin 128) {z : EReal} (hz : z = (S : EReal)) :
    z + ∑ b : Fin 1024, (p (ix2 a b) * (x.q (ix2 b l) * Ideal.ofBits .f32 1040187392#32) : EReal) = ((S + incK R n iq ik a (128 * j + l) : ℝ) : EReal) := by
  rw [hz, incK, EReal.coe_add, ← coe_sum_fin 1024 (fun b => R.ds n (iq * 1024 + b) (ik * 1024 + a) * (R.q (iq * 1024 + b) (128 * j + l) * R.w))]
  congr 1
  refine Finset.sum_congr rfl fun b _ => ?_
  rw [hp a b, hx.q b l, hx.w, EReal.coe_mul, EReal.coe_mul]

theorem sumC {φ : FTy} {p : S1024x1024.Idx → Ideal φ} (hp : IsDs R n iq ik p) {S : ℝ} (a : Fin 1024) {z : EReal} (hz : z = (S : EReal)) :
    z - ∑ b : Fin 1024, (p (ix2 a b) : EReal) = ((S - incC R n iq ik a : ℝ) : EReal) := by
  rw [hz, incC, EReal.coe_sub, ← coe_sum_fin 1024 (fun b => R.ds n (iq * 1024 + b) (ik * 1024 + a))]
  congr 1
  refine Finset.sum_congr rfl fun b _ => ?_
  rw [hp a b]

theorem sumCq {φ : FTy} {p : S1024x1024.Idx → Ideal φ} (hp : IsDs R n iq ik p) {S : ℝ} (b : Fin 1024) {z : EReal} (hz : z = (S : EReal)) :
    z + ∑ a : Fin 1024, (p (ix2 a b) : EReal) = ((S + incCq R n iq ik b : ℝ) : EReal) := by
  rw [hz, incCq, EReal.coe_add, ← coe_sum_fin 1024 (fun a => R.ds n (iq * 1024 + b) (ik * 1024 + a))]
  congr 1
  refine Finset.sum_congr rfl fun a _ => ?_
  rw [hp a b]

theorem sumQ (hx : At R j iq ik x) {φ ψ : FTy} {p : S1024x1024.Idx → Ideal φ} {p' : S1024x1024.Idx → Ideal ψ}
    (hp : IsDs R (2 * j) iq ik p) (hp' : IsDs R (2 * j + 1) iq ik p') {S : ℝ} (l : Fin 128) (b : Fin 1024) {z : EReal} (hz : z = (S : EReal)) :
    (z + ∑ a : Fin 1024, Scalar.select (k0_pay1 (ix2 (0 : Fin 1) l)) (x.k (ix2 a l) * p (ix2 a b) : EReal) 0)
      + ∑ a : Fin 1024, Scalar.select (IntOp.xori (k0_pay1 (ix2 (0 : Fin 1) l)) 1#1) (x.k (ix2 a l) * p' (ix2 a b) : EReal) 0
      = ((S + incQ R (2 * j + l.val / 64) iq ik b (128 * j + l) : ℝ) : EReal) := by
  have hl := l.isLt
  rw [lane_bit]
  by_cases h : l.val < 64
  · have e : 2 * j + l.val / 64 = 2 * j := by omega
    rw [e, hz, incQ, EReal.coe_add, ← coe_sum_fin 1024 (fun a => R.ds (2 * j) (iq * 1024 + b) (ik * 1024 + a) * R.k (ik * 1024 + a) (128 * j + l)),
      Finset.sum_eq_zero (f := fun a : Fin 1024 => Scalar.select _ (x.k (ix2 a l) * p' (ix2 a b) : EReal) 0) (fun a _ => by simp [h, Scalar.select, IntOp.xori]), add_zero]
    congr 1
    refine Finset.sum_congr rfl fun a _ => ?_
    rw [hp a b, hx.k a l, EReal.coe_mul, mul_comm (((R.ds _ _ _ : ℝ)) : EReal)]
    simp [h, Scalar.select]
  · have e : 2 * j + l.val / 64 = 2 * j + 1 := by omega
    rw [e, hz, incQ, EReal.coe_add, ← coe_sum_fin 1024 (fun a => R.ds (2 * j + 1) (iq * 1024 + b) (ik * 1024 + a) * R.k (ik * 1024 + a) (128 * j + l)),
      Finset.sum_eq_zero (f := fun a : Fin 1024 => Scalar.select _ (x.k (ix2 a l) * p (ix2 a b) : EReal) 0) (fun a _ => by simp [h, Scalar.select]), add_zero]
    congr 1
    refine Finset.sum_congr rfl fun a _ => ?_
    rw [hp' a b, hx.k a l, EReal.coe_mul, mul_comm (((R.ds _ _ _ : ℝ)) : EReal)]
    simp [h, Scalar.select, IntOp.xori]

section Off
variable (hx : At R j iq ik x) (hD : IsD R j iq D) (hq : iq < 8) (hlt : ik < iq)
include hx hq hlt

theorem offDv0_val (a : Fin 1024) (l : Fin 128) {S : ℝ} (hS : s.dv 0 (ix3 0 a l) = (S : EReal)) :
    offDv0 x D s (ix3 0 a l) = ((S + incV R (2 * j) iq ik a (128 * j + l) : ℝ) : EReal) := by
  simp only [offDv0]; pointwise [k0_pay26]
  exact sumV hx (offP0 hx hq hlt) a l hS

theorem offDv1_val (a : Fin 1024) (l : Fin 128) {S : ℝ} (hS : s.dv 1 (ix3 0 a l) = (S : EReal)) :
    offDv1 x D s (ix3 0 a l) = ((S + incV R (2 * j + 1) iq ik a (128 * j + l) : ℝ) : EReal) := by
  simp only [offDv1]; pointwise [k0_pay38]
  exact sumV hx (offP1 hx hq hlt) a l hS

include hD

theorem offDk0_val (a : Fin 1024) (l : Fin 128) {S : ℝ} (hS : s.dk 0 (ix3 0 a l) = (S : EReal)) :
    offDk0 x D s (ix3 0 a l) = ((S + incK R (2 * j) iq ik a (128 * j + l) : ℝ) : EReal) := by
  simp only [offDk0]; pointwise [k0_pay27, k0_pay25, k0_pay18]
  exact sumK hx (offDs0 hx hD (offP0 hx hq hlt)) a l hS

theorem offDk1_val (a : Fin 1024) (l : Fin 128) {S : ℝ} (hS : s.dk 1 (ix3 0 a l) = (S : EReal)) :
    offDk1 x D s (ix3 0 a l) = ((S + incK R (2 * j + 1) iq ik a (128 * j + l) : ℝ) : EReal) := by
  simp only [offDk1]; pointwise [k0_pay39, k0_pay37, k0_pay18]
  exact sumK hx (offDs1 hx hD (offP1 hx hq hlt)) a l hS

theorem offDc0_val (a : Fin 1024) (l : Fin 128) {S : ℝ} (hS : s.dc 0 (ix3 0 a l) = (S : EReal)) :
    offDc0 x D s (ix3 0 a l) = ((S - incC R (2 * j) iq ik a : ℝ) : EReal) := by
  simp only [offDc0]; pointwise [k0_pay28]
  exact sumC (offDs0 hx hD (offP0 hx hq hlt)) a hS

theorem offDc1_val (a : Fin 1024) (l : Fin 128) {S : ℝ} (hS : s.dc 1 (ix3 0 a l) = (S : EReal)) :
    offDc1 x D s (ix3 0 a l) = ((S - incC R (2 * j + 1) iq ik a : ℝ) : EReal) := by
  simp only [offDc1]; pointwise [k0_pay40]
  exact sumC (offDs1 hx hD (offP1 hx hq hlt)) a hS

theorem offDcq0_val (r : Fin 8) (b : Fin 1024) {S : ℝ} (hS : s.dcq 0 r (ix4 0 0 0 b) = (S : EReal)) :
    offDcq0 x D s r (ix4 0 0 0 b) = ((S + incCq R (2 * j) iq ik b : ℝ) : EReal) := by
  simp only [offDcq0]; pointwise [k0_pay31]
  exact sumCq (offDs0 hx hD (offP0 hx hq hlt)) b hS

theorem offDcq1_val (r : Fin 8) (b : Fin 1024) {S : ℝ} (hS : s.dcq 1 r (ix4 0 0 0 b) = (S : EReal)) :
    offDcq1 x D s r (ix4 0 0 0 b) = ((S + incCq R (2 * j + 1) iq ik b : ℝ) : EReal) := by
  simp only [offDcq1]; pointwise [k0_pay9]
  exact sumCq (offDs1 hx hD (offP1 hx hq hlt)) b hS

theorem offDq_val (r : Fin 8) (l : Fin 128) (b : Fin 1024) {S : ℝ} (hS : s.dqt r (ix3 0 l b) = (S : EReal)) :
    offDq x D s r (ix3 0 l b) = ((S + incQ R (2 * j + l.val / 64) iq ik b (128 * j + l) : ℝ) : EReal) := by
  simp only [offDq, offDqA]; pointwise [k0_pay8, k0_pay33, k0_pay32, k0_pay37, k0_pay41, k0_pay30, k0_pay29, k0_pay25, k0_pay20, k0_pay16]
  exact sumQ hx (offDs0 hx hD (offP0 hx hq hlt)) (offDs1 hx hD (offP1 hx hq hlt)) l b hS

end Off

section Diag
variable (hx : At R j iq ik x) (hD : IsD R j iq D) (hq : iq < 8) (heq : ik = iq)
include hx hq heq

theorem diagDv0_val (a : Fin 1024) (l : Fin 128) {S : ℝ} (hS : s.dv 0 (ix3 0 a l) = (S : EReal)) :
    diagDv0 x D s (ix3 0 a l) = ((S + incV R (2 * j) iq ik a (128 * j + l) : ℝ) : EReal) := by
  simp only [diagDv0]; pointwise [k0_pay54]
  exact sumV hx (diagP0 hx hq heq) a l hS

theorem diagDv1_val (a : Fin 1024) (l : Fin 128) {S : ℝ} (hS : s.dv 1 (ix3 0 a l) = (S : EReal)) :
    diagDv1 x D s (ix3 0 a l) = ((S + incV R (2 * j + 1) iq ik a (128 * j + l) : ℝ) : EReal) := by
  simp only [diagDv1]; pointwise [k0_pay66]
  exact sumV hx (diagP1 hx hq heq) a l hS

include hD

theorem diagDk0_val (a : Fin 1024) (l : Fin 128) {S : ℝ} (hS : s.dk 0 (ix3 0 a l) = (S : EReal)) :
    diagDk0 x D s (ix3 0 a l) = ((S + incK R (2 * j) iq ik a (128 * j + l) : ℝ) : EReal) := by
  simp only [diagDk0]; pointwise [k0_pay55, k0_pay53, k0_pay44]
  exact sumK hx (diagDs0 hx hD (diagP0 hx hq heq)) a l hS

theorem diagDk1_val (a : Fin 1024) (l : Fin 128) {S : ℝ} (hS : s.dk 1 (ix3 0 a l) = (S : EReal)) :
    diagDk1 x D s (ix3 0 a l) = ((S + incK R (2 * j + 1) iq ik a (128 * j + l) : ℝ) : EReal) := by
  simp only [diagDk1]; pointwise [k0_pay67, k0_pay65, k0_pay44]
  exact sumK hx (diagDs1 hx hD (diagP1 hx hq heq)) a l hS

theorem diagDc0_val (a : Fin 1024) (l : Fin 128) {S : ℝ} (hS : s.dc 0 (ix3 0 a l) = (S : EReal)) :
    diagDc0 x D s (ix3 0 a l) = ((S - incC R (2 * j) iq ik a : ℝ) : EReal) := by
  simp only [diagDc0]; pointwise [k0_pay56]
  exact sumC (diagDs0 hx hD (diagP0 hx hq heq)) a hS

theorem diagDc1_val (a : Fin 1024) (l : Fin 128) {S : ℝ} (hS : s.dc 1 (ix3 0 a l) = (S : EReal)) :
    diagDc1 x D s (ix3 0 a l) = ((S - incC R (2 * j + 1) iq ik a : ℝ) : EReal) := by
  simp only [diagDc1]; pointwise [k0_pay10, k0_pay68]
  exact sumC (diagDs1 hx hD (diagP1 hx hq heq)) a hS

theorem diagDcq0_val (r : Fin 8) (b : Fin 1024) {S : ℝ} (hS : s.dcq 0 r (ix4 0 0 0 b) = (S : EReal)) :
    diagDcq0 x D s r (ix4 0 0 0 b) = ((S + incCq R (2 * j) iq ik b : ℝ) : EReal) := by
  simp only [diagDcq0]; pointwise [k0_pay58]
  exact sumCq (diagDs0 hx hD (diagP0 hx hq heq)) b hS

theorem diagDcq1_val (r : Fin 8) (b : Fin 1024) {S : ℝ} (hS : s.dcq 1 r (ix4 0 0 0 b) = (S : EReal)) :
    diagDcq1 x D s r (ix4 0 0 0 b) = ((S + incCq R (2 * j + 1) iq ik b : ℝ) : EReal) := by
  simp only [diagDcq1]; pointwise [k0_pay12]
  exact sumCq (diagDs1 hx hD (diagP1 hx hq heq)) b hS

theorem diagDq_val (r : Fin 8) (l : Fin 128) (b : Fin 1024) {S : ℝ} (hS : s.dqt r (ix3 0 l b) = (S : EReal)) :
    diagDq x D s r (ix3 0 l b) = ((S + incQ R (2 * j + l.val / 64) iq ik b (128 * j + l) : ℝ) : EReal) := by
  simp only [diagDq, diagDqA]; pointwise [k0_pay11, k0_pay60, k0_pay59, k0_pay65, k0_pay57, k0_pay53, k0_pay46, k0_pay42]
  exact sumQ hx (diagDs0 hx hD (diagP0 hx hq heq)) (diagDs1 hx hD (diagP1 hx hq heq)) l b hS

end Diag

end Cert.KernelIdeal.Fox

end
-- ==== Proof.Fold.lean ====
module

public import proofs.«01_k».proof.Proof.PayB

@[expose] public section

set_option maxRecDepth 16384

noncomputable section

namespace Cert.KernelIdeal.Fox

open Cert.KernelIdeal Cert.KernelIdeal.Gen
open Idealize.ShloMosaic
open Cert.Fox Finset
open Idealize.ShloMosaic.TcCoe

variable (R : Real8)

/-- The key-side sums hold the first `m` query tiles' contributions to key tile `k`. -/
structure KeyAt (j k m : ℕ) (s : Sums Ideal) : Prop where
  dv0 : ∀ (a : Fin 1024) (l : Fin 128), s.dv 0 (ix3 0 a l) = ((∑ t ∈ range m, incV R (2 * j) t k a (128 * j + l) : ℝ) : EReal)
  dv1 : ∀ (a : Fin 1024) (l : Fin 128), s.dv 1 (ix3 0 a l) = ((∑ t ∈ range m, incV R (2 * j + 1) t k a (128 * j + l) : ℝ) : EReal)
  dk0 : ∀ (a : Fin 1024) (l : Fin 128), s.dk 0 (ix3 0 a l) = ((∑ t ∈ range m, incK R (2 * j) t k a (128 * j + l) : ℝ) : EReal)
  dk1 : ∀ (a : Fin 1024) (l : Fin 128), s.dk 1 (ix3 0 a l) = ((∑ t ∈ range m, incK R (2 * j + 1) t k a (128 * j + l) : ℝ) : EReal)
  dc0 : ∀ (a : Fin 1024) (l : Fin 128), s.dc 0 (ix3 0 a l) = ((-∑ t ∈ range m, incC R (2 * j) t k a : ℝ) : EReal)
  dc1 : ∀ (a : Fin 1024) (l : Fin 128), s.dc 1 (ix3 0 a l) = ((-∑ t ∈ range m, incC R (2 * j + 1) t k a : ℝ) : EReal)

/-- The query-side sums of query tile `r` hold the first `m r` key tiles' contributions. -/
structure QryAt (j : ℕ) (m : Fin 8 → ℕ) (s : Sums Ideal) : Prop where
  dq : ∀ (r : Fin 8) (l : Fin 128) (b : Fin 1024), s.dqt r (ix3 0 l b)
    = ((∑ t ∈ range (m r), incQ R (2 * j + l.val / 64) r t b (128 * j + l) : ℝ) : EReal)
  dcq0 : ∀ (r : Fin 8) (b : Fin 1024), s.dcq 0 r (ix4 0 0 0 b) = ((∑ t ∈ range (m r), incCq R (2 * j) r t b : ℝ) : EReal)
  dcq1 : ∀ (r : Fin 8) (b : Fin 1024), s.dcq 1 r (ix4 0 0 0 b) = ((∑ t ∈ range (m r), incCq R (2 * j + 1) r t b : ℝ) : EReal)

variable {R}
variable {j : ℕ} {x : Tile Ideal} {s : Sums Ideal}

theorem p_tile (n : ℕ) {t k : ℕ} (h : t < k) (a b : ℕ) (hb : b < 1024) : R.p n (t * 1024 + b) (k * 1024 + a) = 0 :=
  Real8.p_above _ (by have : (t + 1) * 1024 ≤ k * 1024 := Nat.mul_le_mul_right _ h; omega)
theorem ds_tile (n : ℕ) {t k : ℕ} (h : t < k) (a b : ℕ) (hb : b < 1024) : R.ds n (t * 1024 + b) (k * 1024 + a) = 0 :=
  Real8.ds_above _ (by have : (t + 1) * 1024 ≤ k * 1024 := Nat.mul_le_mul_right _ h; omega)

theorem incV_above (n : ℕ) {t k : ℕ} (h : t < k) (a col : ℕ) : incV R n t k a col = 0 :=
  Finset.sum_eq_zero fun b hb => by rw [p_tile n h a b (Finset.mem_range.mp hb), zero_mul]
theorem incK_above (n : ℕ) {t k : ℕ} (h : t < k) (a col : ℕ) : incK R n t k a col = 0 :=
  Finset.sum_eq_zero fun b hb => by rw [ds_tile n h a b (Finset.mem_range.mp hb), zero_mul]
theorem incC_above (n : ℕ) {t k : ℕ} (h : t < k) (a : ℕ) : incC R n t k a = 0 :=
  Finset.sum_eq_zero fun b hb => ds_tile n h a b (Finset.mem_range.mp hb)
theorem incQ_above (n : ℕ) {t k : ℕ} (h : t < k) (b col : ℕ) (hb : b < 1024) : incQ R n t k b col = 0 :=
  Finset.sum_eq_zero fun a _ => by rw [ds_tile n h a b hb, zero_mul]
theorem incCq_above (n : ℕ) {t k : ℕ} (h : t < k) (b : ℕ) (hb : b < 1024) : incCq R n t k b = 0 :=
  Finset.sum_eq_zero fun a _ => ds_tile n h a b hb

theorem clearK_at (k : ℕ) : KeyAt R j k k s.clearK where
  dv0 a l := by
    rw [Finset.sum_eq_zero fun t ht => incV_above _ (Finset.mem_range.mp ht) _ _]
    simp only [Sums.clearK, row3_ix]; pointwise [k0_pay5]; exact EReal.coe_zero.symm
  dv1 a l := by
    rw [Finset.sum_eq_zero fun t ht => incV_above _ (Finset.mem_range.mp ht) _ _]
    simp only [Sums.clearK, row3_ix]; pointwise [k0_pay5]; exact EReal.coe_zero.symm
  dk0 a l := by
    rw [Finset.sum_eq_zero fun t ht => incK_above _ (Finset.mem_range.mp ht) _ _]
    simp only [Sums.clearK, row3_ix]; pointwise [k0_pay4]; exact EReal.coe_zero.symm
  dk1 a l := by
    rw [Finset.sum_eq_zero fun t ht => incK_above _ (Finset.mem_range.mp ht) _ _]
    simp only [Sums.clearK, row3_ix]; pointwise [k0_pay4]; exact EReal.coe_zero.symm
  dc0 a l := by
    rw [Finset.sum_eq_zero fun t ht => incC_above _ (Finset.mem_range.mp ht) _, neg_zero]
    simp only [Sums.clearK, row3_ix]; pointwise [k0_pay6]; exact EReal.coe_zero.symm
  dc1 a l := by
    rw [Finset.sum_eq_zero fun t ht => incC_above _ (Finset.mem_range.mp ht) _, neg_zero]
    simp only [Sums.clearK, row3_ix]; pointwise [k0_pay6]; exact EReal.coe_zero.symm

theorem clearK_qry {m} (h : QryAt R j m s) : QryAt R j m s.clearK := ⟨h.dq, h.dcq0, h.dcq1⟩

theorem clearQ_at : QryAt R j (fun _ => 0) s.clearQ where
  dq r l b := by
    rw [Finset.sum_range_zero]
    simp only [Sums.clearQ, row3_ix]; pointwise [k0_pay2]; exact EReal.coe_zero.symm
  dcq0 r b := by
    rw [Finset.sum_range_zero]
    show k0_pay3 (F := Ideal) (ix4 0 r 0 b) = _
    pointwise [k0_pay3]; exact EReal.coe_zero.symm
  dcq1 r b := by
    rw [Finset.sum_range_zero]
    show k0_pay3 (F := Ideal) (ix4 1 r 0 b) = _
    pointwise [k0_pay3]; exact EReal.coe_zero.symm

section
variable {r : Fin 8} {k : ℕ} {D : S1x8x1024.Idx → Elt Ideal .f32}

theorem off_key (hx : At R j r k x) (hD : IsD R j r D) (hlt : k < r.val) (h : KeyAt R j k r s) : KeyAt R j k (r + 1) (offStep x D s r) where
  dv0 a l := by rw [Finset.sum_range_succ]; exact offDv0_val (D := D) hx r.isLt hlt a l (h.dv0 a l)
  dv1 a l := by rw [Finset.sum_range_succ]; exact offDv1_val (D := D) hx r.isLt hlt a l (h.dv1 a l)
  dk0 a l := by rw [Finset.sum_range_succ]; exact offDk0_val hx hD r.isLt hlt a l (h.dk0 a l)
  dk1 a l := by rw [Finset.sum_range_succ]; exact offDk1_val hx hD r.isLt hlt a l (h.dk1 a l)
  dc0 a l := by rw [Finset.sum_range_succ, neg_add, ← sub_eq_add_neg]; exact offDc0_val hx hD r.isLt hlt a l (h.dc0 a l)
  dc1 a l := by rw [Finset.sum_range_succ, neg_add, ← sub_eq_add_neg]; exact offDc1_val hx hD r.isLt hlt a l (h.dc1 a l)

theorem diag_key (hx : At R j r k x) (hD : IsD R j r D) (heq : k = r.val) (h : KeyAt R j k r s) : KeyAt R j k (r + 1) (diagStep x D s r) where
  dv0 a l := by rw [Finset.sum_range_succ]; exact diagDv0_val (D := D) hx r.isLt heq a l (h.dv0 a l)
  dv1 a l := by rw [Finset.sum_range_succ]; exact diagDv1_val (D := D) hx r.isLt heq a l (h.dv1 a l)
  dk0 a l := by rw [Finset.sum_range_succ]; exact diagDk0_val hx hD r.isLt heq a l (h.dk0 a l)
  dk1 a l := by rw [Finset.sum_range_succ]; exact diagDk1_val hx hD r.isLt heq a l (h.dk1 a l)
  dc0 a l := by rw [Finset.sum_range_succ, neg_add, ← sub_eq_add_neg]; exact diagDc0_val hx hD r.isLt heq a l (h.dc0 a l)
  dc1 a l := by rw [Finset.sum_range_succ, neg_add, ← sub_eq_add_neg]; exact diagDc1_val hx hD r.isLt heq a l (h.dc1 a l)

/-- A step's query side: only query tile `r` changes. -/
theorem qry_update {m m' : Fin 8 → ℕ} {s' : Sums Ideal} (h : QryAt R j m s) (hm : m r = k) (hm' : ∀ r', m' r' = if r' = r then k + 1 else m r')
    (e : ∀ r', r' ≠ r → s'.dqt r' = s.dqt r' ∧ s'.dcq 0 r' = s.dcq 0 r' ∧ s'.dcq 1 r' = s.dcq 1 r')
    (q : ∀ (l : Fin 128) (b : Fin 1024) {S : ℝ}, s.dqt r (ix3 0 l b) = (S : EReal) →
      s'.dqt r (ix3 0 l b) = ((S + incQ R (2 * j + l.val / 64) r k b (128 * j + l) : ℝ) : EReal))
    (c0 : ∀ (b : Fin 1024) {S : ℝ}, s.dcq 0 r (ix4 0 0 0 b) = (S : EReal) → s'.dcq 0 r (ix4 0 0 0 b) = ((S + incCq R (2 * j) r k b : ℝ) : EReal))
    (c1 : ∀ (b : Fin 1024) {S : ℝ}, s.dcq 1 r (ix4 0 0 0 b) = (S : EReal) → s'.dcq 1 r (ix4 0 0 0 b) = ((S + incCq R (2 * j + 1) r k b : ℝ) : EReal)) :
    QryAt R j m' s' where
  dq r' l b := by
    rw [hm']
    by_cases hr : r' = r
    · subst hr
      rw [if_pos rfl, Finset.sum_range_succ]
      exact q l b (by rw [h.dq r' l b, hm])
    · rw [if_neg hr, (e r' hr).1]; exact h.dq r' l b
  dcq0 r' b := by
    rw [hm']
    by_cases hr : r' = r
    · subst hr
      rw [if_pos rfl, Finset.sum_range_succ]
      exact c0 b (by rw [h.dcq0 r' b, hm])
    · rw [if_neg hr, (e r' hr).2.1]; exact h.dcq0 r' b
  dcq1 r' b := by
    rw [hm']
    by_cases hr : r' = r
    · subst hr
      rw [if_pos rfl, Finset.sum_range_succ]
      exact c1 b (by rw [h.dcq1 r' b, hm])
    · rw [if_neg hr, (e r' hr).2.2]; exact h.dcq1 r' b

theorem off_qry {m m' : Fin 8 → ℕ} (hx : At R j r k x) (hD : IsD R j r D) (hlt : k < r.val) (h : QryAt R j m s) (hm : m r = k)
    (hm' : ∀ r', m' r' = if r' = r then k + 1 else m r') : QryAt R j m' (offStep x D s r) :=
  qry_update h hm hm' (fun r' hr => ⟨Function.update_of_ne hr _ _, Function.update_of_ne hr _ _, Function.update_of_ne hr _ _⟩)
    (fun l b S hS => by
      show Function.update s.dqt r (offDq x D s r) r (ix3 0 l b) = _
      rw [Function.update_self]; exact offDq_val hx hD r.isLt hlt r l b hS)
    (fun b S hS => by
      show Function.update (s.dcq 0) r (offDcq0 x D s r) r (ix4 0 0 0 b) = _
      rw [Function.update_self]; exact offDcq0_val hx hD r.isLt hlt r b hS)
    (fun b S hS => by
      show Function.update (s.dcq 1) r (offDcq1 x D s r) r (ix4 0 0 0 b) = _
      rw [Function.update_self]; exact offDcq1_val hx hD r.isLt hlt r b hS)

theorem diag_qry {m m' : Fin 8 → ℕ} (hx : At R j r k x) (hD : IsD R j r D) (heq : k = r.val) (h : QryAt R j m s) (hm : m r = k)
    (hm' : ∀ r', m' r' = if r' = r then k + 1 else m r') : QryAt R j m' (diagStep x D s r) :=
  qry_update h hm hm' (fun r' hr => ⟨Function.update_of_ne hr _ _, Function.update_of_ne hr _ _, Function.update_of_ne hr _ _⟩)
    (fun l b S hS => by
      show Function.update s.dqt r (diagDq x D s r) r (ix3 0 l b) = _
      rw [Function.update_self]; exact diagDq_val hx hD r.isLt heq r l b hS)
    (fun b S hS => by
      show Function.update (s.dcq 0) r (diagDcq0 x D s r) r (ix4 0 0 0 b) = _
      rw [Function.update_self]; exact diagDcq0_val hx hD r.isLt heq r b hS)
    (fun b S hS => by
      show Function.update (s.dcq 1) r (diagDcq1 x D s r) r (ix4 0 0 0 b) = _
      rw [Function.update_self]; exact diagDcq1_val hx hD r.isLt heq r b hS)

end

/-- How many of the first `s` steps of a pair are on query tile `r`. -/
def cnt (s : ℕ) (r : Fin 8) : ℕ := ((List.range s).filter fun i => iqs.getD i 0 == r.val).length

theorem zero_eq : ∀ t : Fin cfgA.N, (Scalar.cmpi .ne (Scalar.extui (Scalar.cmpi .eq (BitVec.ofNat 32 ((crd t) 1).val) 0#32)) 0#32 = 1#1) ↔ t.val % 36 = 0 := by decide +kernel
theorem new_eq : ∀ t : Fin cfgA.N, (Scalar.cmpi .ne (Scalar.extui (Scalar.cmpi .eq (w0 t.val) (w1 t.val))) 0#32 = 1#1) ↔ ik t.val = iq t.val := by decide +kernel
theorem cond3_eq : ∀ t : Fin cfgA.N, (k0_cond3 (w1 t.val) = 1#1) ↔ ik t.val = 0 := by decide +kernel
theorem cond4_eq : ∀ t : Fin cfgA.N, (k0_cond4 (w0 t.val) (w1 t.val) = 1#1) ↔ ik t.val < iq t.val := by decide +kernel
theorem cond5_eq : ∀ t : Fin cfgA.N, (k0_cond5 (w0 t.val) (w1 t.val) = 1#1) ↔ ik t.val = iq t.val := by decide +kernel
theorem row_iq : ∀ t : Fin cfgA.N, iq t.val = (row t.val).val ∧ ik t.val ≤ iq t.val := by decide +kernel
theorem prev_eq : ∀ t : Fin cfgA.N, ik t.val ≠ iq t.val → t.val % 36 ≠ 0 ∧ iq (t.val % 36 - 1) + 1 = iq t.val ∧ ik (t.val % 36 - 1) = ik t.val := by decide +kernel
theorem rows_seen : ∀ t : Fin cfgA.N, (ik t.val = 0 → iq t.val = t.val % 36) ∧ (ik t.val ≠ 0 → 8 ≤ t.val % 36) := by decide +kernel
theorem cnt_row : ∀ t : Fin cfgA.N, cnt (t.val % 36) (row t.val) = ik t.val := by decide +kernel
theorem cnt_succ : ∀ t : Fin cfgA.N, ∀ r : Fin 8, cnt (t.val % 36 + 1) r = if r = row t.val then ik t.val + 1 else cnt (t.val % 36) r := by decide +kernel
theorem cnt_end : ∀ r : Fin 8, cnt 36 r = r.val + 1 := by decide +kernel
theorem ik_mod (n : ℕ) : ik (n % 36) = ik n := by simp [ik]
theorem iq_mod (n : ℕ) : iq (n % 36) = iq n := by simp [iq]

variable (R) in
/-- The state after `n` steps of pair `j`. -/
structure Inv (j n : ℕ) (s : Sums Ideal) (d : Fin 8 → S1x8x1024.Idx → Elt Ideal .f32) : Prop where
  key : KeyAt R j (ik (n - 1)) (iq (n - 1) + 1) s
  qry : QryAt R j (cnt n) s
  row : ∀ r : Fin 8, r.val < n → IsD R j r (d r)

theorem inv_step (t : Fin cfgA.N) {d : Fin 8 → S1x8x1024.Idx → Elt Ideal .f32} (hx : At R j (iq t.val) (ik t.val) x)
    (h : t.val % 36 = 0 ∨ Inv R j (t.val % 36) s d) :
    Inv R j (t.val % 36 + 1) (stepSums (crd t) (w0 t.val) (w1 t.val) (row t.val) x d s) (stepD (w1 t.val) (row t.val) x d) := by
  have hrow := (row_iq t).1
  have hq1 : QryAt R j (cnt (t.val % 36)) (stepZero (crd t) s) := by
    unfold stepZero
    by_cases h0 : t.val % 36 = 0
    · rw [if_pos ((zero_eq t).2 h0), h0]; exact clearQ_at
    · rw [if_neg (fun hc => h0 ((zero_eq t).1 hc))]; exact (h.resolve_left h0).qry
  have hq2 : QryAt R j (cnt (t.val % 36)) (stepNew (w0 t.val) (w1 t.val) (stepZero (crd t) s)) := by
    unfold stepNew
    split
    · exact clearK_qry hq1
    · exact hq1
  have hk2 : KeyAt R j (ik t.val) (row t.val) (stepNew (w0 t.val) (w1 t.val) (stepZero (crd t) s)) := by
    rw [← hrow]
    unfold stepNew
    by_cases he : ik t.val = iq t.val
    · rw [if_pos ((new_eq t).2 he), ← he]; exact clearK_at _
    · rw [if_neg (fun hc => he ((new_eq t).1 hc))]
      have hp := prev_eq t he
      unfold stepZero
      rw [if_neg (fun hc => hp.1 ((zero_eq t).1 hc))]
      have := (h.resolve_left hp.1).key
      rwa [hp.2.1, hp.2.2] at this
  have hd : ∀ r : Fin 8, r.val < t.val % 36 + 1 → IsD R j r (stepD (w1 t.val) (row t.val) x d r) := fun r hr => by
    have hold : r.val < t.val % 36 → IsD R j r (d r) := fun hr' => (h.resolve_left (by omega)).row r hr'
    unfold stepD
    by_cases h3 : ik t.val = 0
    · rw [if_pos ((cond3_eq t).2 h3)]
      by_cases hr' : r = row t.val
      · rw [hr', Function.update_self, ← hrow]; exact isD hx
      · rw [Function.update_of_ne hr']
        refine hold ?_
        have := (rows_seen t).1 h3
        have : r.val ≠ (row t.val).val := fun e => hr' (Fin.ext e)
        omega
    · rw [if_neg (fun hc => h3 ((cond3_eq t).1 hc))]
      refine hold ?_
      have := (rows_seen t).2 h3
      have := r.isLt
      omega
  have hD : IsD R j (row t.val) (stepD (w1 t.val) (row t.val) x d (row t.val)) := by
    refine hd _ ?_
    by_cases h3 : ik t.val = 0
    · have := (rows_seen t).1 h3; omega
    · have := (rows_seen t).2 h3
      have := (row t.val).isLt
      omega
  rw [hrow] at hx
  have hmod : (t.val % 36 + 1 - 1) = t.val % 36 := rfl
  have hle := (row_iq t).2
  unfold stepSums stepDiag stepOff
  by_cases he : ik t.val = iq t.val
  · rw [if_pos ((cond5_eq t).2 he), if_neg (fun hc => by have := (cond4_eq t).1 hc; omega)]
    refine ⟨?_, ?_, hd⟩
    · rw [hmod, ik_mod, iq_mod, hrow]
      exact diag_key hx hD (he.trans hrow) hk2
    · exact diag_qry hx hD (he.trans hrow) hq2 (cnt_row t) (cnt_succ t)
  · rw [if_neg (fun hc => he ((cond5_eq t).1 hc)), if_pos ((cond4_eq t).2 (by omega))]
    refine ⟨?_, ?_, hd⟩
    · rw [hmod, ik_mod, iq_mod, hrow]
      exact off_key hx hD (by omega) hk2
    · exact off_qry hx hD (by omega) hq2 (cnt_row t) (cnt_succ t)

section
variable (V : Dev nD → Valuation τ sig (Elt Ideal)) (c : Dev nD)

/-- After every step the running sums are those of the derivative. -/
theorem inv_traj (hx : ∀ t : Fin cfgA.N, At R (t.val / 36) (iq t.val) (ik t.val) (tile V c t)) :
    ∀ n (hn : n < cfgA.N), Inv R (n / 36) (n % 36 + 1) (traj V c (n + 1)).1 (traj V c (n + 1)).2 := by
  intro n
  induction n with
  | zero =>
    intro hn
    rw [traj_succ V c ⟨0, hn⟩]
    exact inv_step ⟨0, hn⟩ (hx ⟨0, hn⟩) (.inl rfl)
  | succ n ih =>
    intro hn
    have h := ih (by omega)
    rw [traj_succ V c ⟨n + 1, hn⟩]
    refine inv_step ⟨n + 1, hn⟩ (hx ⟨n + 1, hn⟩) ?_
    by_cases h0 : (n + 1) % 36 = 0
    · exact .inl h0
    · right
      have e1 : (n + 1) / 36 = n / 36 := by omega
      have e2 : (n + 1) % 36 = n % 36 + 1 := by omega
      show Inv R ((n + 1) / 36) ((n + 1) % 36) _ _
      rw [e1, e2]; exact h
end

end Cert.KernelIdeal.Fox

end
-- ==== Proof.Tiles.lean ====
module

public import proofs.«01_k».proof.Proof.Frame
public import proofs.«01_k».proof.Proof.Reals
public import proofs.«01_k».proof.Proof.PayA
public import Idealize.ShloMosaic.Lib.Pipeline.ValueKit

@[expose] public section

set_option maxRecDepth 16384
set_option Elab.async false

noncomputable section

namespace Cert.KernelIdeal.Fox

open Cert.KernelIdeal Cert.KernelIdeal.Gen
open Idealize.ShloMosaic
open Idealize.ShloMosaic.TcCoe
open Cert.Fox

/-! ## Where each window's block lies at a step -/

theorem idx0 : ∀ t : Fin cfgA.N, (cfgA.win (0 : Fin 13)).index t = ![ik t.val, 40 + t.val / 36] := by decide +kernel
theorem idx1 : ∀ t : Fin cfgA.N, (cfgA.win (1 : Fin 13)).index t = ![ik t.val, 44 + t.val / 36] := by decide +kernel
theorem idx2 : ∀ t : Fin cfgA.N, (cfgA.win (2 : Fin 13)).index t = ![iq t.val, 36 + t.val / 36] := by decide +kernel
theorem idx3 : ∀ t : Fin cfgA.N, (cfgA.win (3 : Fin 13)).index t = ![iq t.val, t.val / 36] := by decide +kernel
theorem idx4 : ∀ t : Fin cfgA.N, (cfgA.win (4 : Fin 13)).index t = ![iq t.val, t.val / 36] := by decide +kernel
theorem idx5 : ∀ t : Fin cfgA.N, (cfgA.win (5 : Fin 13)).index t = ![t.val / 36, ik t.val, 0] := by decide +kernel
theorem idx6 : ∀ t : Fin cfgA.N, (cfgA.win (6 : Fin 13)).index t = ![t.val / 36, 0, iq t.val] := by decide +kernel
theorem idx7 : ∀ t : Fin cfgA.N, (cfgA.win (7 : Fin 13)).index t = ![t.val / 36, 0, iq t.val] := by decide +kernel

variable (m : (ℓ : Loc nD τ sig) → Buf (Elt Ideal) ℓ)

/-- The three arguments of the call. -/
def aA (c : Dev nD) : FVec Ideal S8192x7040 .f32 := m (c, Proc.devRef .tc main_arg0)
def aC (c : Dev nD) : FVec Ideal S8x8192 .f32 := m (c, Proc.devRef .tc main_arg1)
def aG (c : Dev nD) : FVec Ideal S8192x512 .bf16 := m (c, Proc.devRef .tc main_arg2)

/-! ## What the host's lines leave in the windows' arrays -/

theorem V₀_v46 (c : Dev nD) : V₀ m c (Proc.devRef .tc main_v46) = shapeCast S8x1x8192 (aC m c) shapeCasts_S8x8192_S8x1x8192 := by
  unfold V₀
  after_reads_simp
  rfl

theorem V₀_v45 (c : Dev nD) : V₀ m c (Proc.devRef .tc main_v45)
    = broadcastInDim S8x8192x128 ![0, 1, 2] bcast_S8x8192x1_S8x8192x128_0_1_2 (broadcastInDim S8x8192x1 ![0, 1] bcast_S8x8192_S8x8192x1_0_1 (aC m c)) := by
  unfold V₀
  after_reads_simp
  rfl

theorem V₀_v47 (c : Dev nD) : V₀ m c (Proc.devRef .tc main_v47)
    = shapeCast S8x1x8192 (addf (top (logits (aA m c) (aC m c))) (Host.log (tot (expo (logits (aA m c) (aC m c)) (top (logits (aA m c) (aC m c))))))) shapeCasts_S8x8192_S8x1x8192 := by
  unfold V₀
  after_reads_simp
  rfl

theorem V₀_v43 (c : Dev nD) : V₀ m c (Proc.devRef .tc main_v43)
    = truncf .bf16 (cols (mix (quot (expo (logits (aA m c) (aC m c)) (top (logits (aA m c) (aC m c)))) (up (tot (expo (logits (aA m c) (aC m c)) (top (logits (aA m c) (aC m c)))))))
      (hd (colsV (aA m c))))) bitsLt_bf16_f32 := by
  unfold V₀
  after_reads_simp
  rfl

/-! ## A step's tile as real numbers -/

variable (c : Dev nD) (t : Fin cfgA.N)

theorem N_eq : cfgA.N = 144 := by decide +kernel
theorem iq_lt : iq t.val < 8 := by revert t; decide +kernel
theorem ik_lt : ik t.val < 8 := by revert t; decide +kernel
theorem j_lt : t.val / 36 < 4 := by have h : t.val < 144 := N_eq ▸ t.isLt; omega

variable (V : Dev nD → Valuation τ sig (Elt Ideal))

theorem k_at (a : Fin 1024) (l : Fin 128) : (tile V c t).k (ix2 a l)
    = V c (Proc.devRef .tc main_arg0) (ix2 (⟨ik t.val * 1024 + a, by have := ik_lt t; omega⟩ : Fin 8192) (⟨(40 + t.val / 36) * 128 + l, by have := j_lt t; omega⟩ : Fin 7040)) := by
  show iblk V c (0 : Fin 13) t _ = _
  unfold iblk
  rw [View.read_apply]
  show V c (Proc.devRef .tc main_arg0) _ = V c (Proc.devRef .tc main_arg0) _
  refine congrArg (V c (Proc.devRef .tc main_arg0)) ?_
  blk_ext [idx0 t]

theorem v_at (a : Fin 1024) (l : Fin 128) : (tile V c t).v (ix2 a l)
    = V c (Proc.devRef .tc main_arg0) (ix2 (⟨ik t.val * 1024 + a, by have := ik_lt t; omega⟩ : Fin 8192) (⟨(44 + t.val / 36) * 128 + l, by have := j_lt t; omega⟩ : Fin 7040)) := by
  show iblk V c (1 : Fin 13) t _ = _
  unfold iblk
  rw [View.read_apply]
  show V c (Proc.devRef .tc main_arg0) _ = V c (Proc.devRef .tc main_arg0) _
  refine congrArg (V c (Proc.devRef .tc main_arg0)) ?_
  blk_ext [idx1 t]

theorem q_at (a : Fin 1024) (l : Fin 128) : (tile V c t).q (ix2 a l)
    = V c (Proc.devRef .tc main_arg0) (ix2 (⟨iq t.val * 1024 + a, by have := iq_lt t; omega⟩ : Fin 8192) (⟨(36 + t.val / 36) * 128 + l, by have := j_lt t; omega⟩ : Fin 7040)) := by
  show iblk V c (2 : Fin 13) t _ = _
  unfold iblk
  rw [View.read_apply]
  show V c (Proc.devRef .tc main_arg0) _ = V c (Proc.devRef .tc main_arg0) _
  refine congrArg (V c (Proc.devRef .tc main_arg0)) ?_
  blk_ext [idx2 t]

theorem dy_at (a : Fin 1024) (l : Fin 128) : (tile V c t).dy (ix2 a l)
    = V c (Proc.devRef .tc main_arg2) (ix2 (⟨iq t.val * 1024 + a, by have := iq_lt t; omega⟩ : Fin 8192) (⟨(t.val / 36) * 128 + l, by have := j_lt t; omega⟩ : Fin 512)) := by
  show iblk V c (4 : Fin 13) t _ = _
  unfold iblk
  rw [View.read_apply]
  show V c (Proc.devRef .tc main_arg2) _ = V c (Proc.devRef .tc main_arg2) _
  refine congrArg (V c (Proc.devRef .tc main_arg2)) ?_
  blk_ext [idx4 t]

theorem y_at (a : Fin 1024) (l : Fin 128) : (tile V c t).y (ix2 a l)
    = V c (Proc.devRef .tc main_v43) (ix2 (⟨iq t.val * 1024 + a, by have := iq_lt t; omega⟩ : Fin 8192) (⟨(t.val / 36) * 128 + l, by have := j_lt t; omega⟩ : Fin 512)) := by
  show iblk V c (3 : Fin 13) t _ = _
  unfold iblk
  rw [View.read_apply]
  show V c (Proc.devRef .tc main_v43) _ = V c (Proc.devRef .tc main_v43) _
  refine congrArg (V c (Proc.devRef .tc main_v43)) ?_
  blk_ext [idx3 t]

theorem ck_at (h : Fin 2) (a : Fin 1024) (l : Fin 128) : (tile V c t).ck (ix3 h a l)
    = V c (Proc.devRef .tc main_v45) (ix3 (⟨t.val / 36 * 2 + h, by have := j_lt t; omega⟩ : Fin 8) (⟨ik t.val * 1024 + a, by have := ik_lt t; omega⟩ : Fin 8192) l) := by
  show iblk V c (5 : Fin 13) t _ = _
  unfold iblk
  rw [View.read_apply]
  show V c (Proc.devRef .tc main_v45) _ = V c (Proc.devRef .tc main_v45) _
  refine congrArg (V c (Proc.devRef .tc main_v45)) ?_
  blk_ext [idx5 t]

theorem cq_at (h : Fin 2) (b : Fin 1024) : (tile V c t).cq (ix3 h 0 b)
    = V c (Proc.devRef .tc main_v46) (ix3 (⟨t.val / 36 * 2 + h, by have := j_lt t; omega⟩ : Fin 8) (0 : Fin 1) (⟨iq t.val * 1024 + b, by have := iq_lt t; omega⟩ : Fin 8192)) := by
  show iblk V c (6 : Fin 13) t _ = _
  unfold iblk
  rw [View.read_apply]
  show V c (Proc.devRef .tc main_v46) _ = V c (Proc.devRef .tc main_v46) _
  refine congrArg (V c (Proc.devRef .tc main_v46)) ?_
  blk_ext [idx6 t]

theorem ls_at (h : Fin 2) (b : Fin 1024) : (tile V c t).ls (ix3 h 0 b)
    = V c (Proc.devRef .tc main_v47) (ix3 (⟨t.val / 36 * 2 + h, by have := j_lt t; omega⟩ : Fin 8) (0 : Fin 1) (⟨iq t.val * 1024 + b, by have := iq_lt t; omega⟩ : Fin 8192)) := by
  show iblk V c (7 : Fin 13) t _ = _
  unfold iblk
  rw [View.read_apply]
  show V c (Proc.devRef .tc main_v47) _ = V c (Proc.devRef .tc main_v47) _
  refine congrArg (V c (Proc.devRef .tc main_v47)) ?_
  blk_ext [idx7 t]

theorem lse_at (M T : FVec Ideal S8x8192 .f32) (h : Fin 8) (i : Fin 8192) :
    shapeCast S8x1x8192 (addf M (Host.log T)) shapeCasts_S8x8192_S8x1x8192 (ix3 h (0 : Fin 1) i) = M (ix2 h i) + Ideal.log (T (ix2 h i)) := by pointwise

theorem flat_at (X : FVec Ideal S8x8192 .f32) (h : Fin 8) (i : Fin 8192) : shapeCast S8x1x8192 X shapeCasts_S8x8192_S8x1x8192 (ix3 h (0 : Fin 1) i) = X (ix2 h i) := by pointwise

theorem lanes_at (X : FVec Ideal S8x8192 .f32) (h : Fin 8) (i : Fin 8192) (l : Fin 128) :
    broadcastInDim S8x8192x128 ![0, 1, 2] bcast_S8x8192x1_S8x8192x128_0_1_2 (broadcastInDim S8x8192x1 ![0, 1] bcast_S8x8192_S8x8192x1_0_1 X) (ix3 h i l) = X (ix2 h i) := by pointwise

/-- The arrays of the call as real numbers. -/
abbrev RR : Real8 := reals (aA m c) (aC m c) (aG m c)

section
variable {m c}
variable (hA : Real2 (aA m c)) (hC : Real2 (aC m c)) (hG : Real2 (aG m c))
include hA hC hG

theorem v46_at (h : Fin 8) (i : Fin 8192) : V₀ m c (Proc.devRef .tc main_v46) (ix3 h (0 : Fin 1) i) = (((RR m c).c h i : ℝ) : EReal) := by
  rw [V₀_v46, flat_at]; exact hC.at h i rfl rfl

theorem v45_at (h : Fin 8) (i : Fin 8192) (l : Fin 128) : V₀ m c (Proc.devRef .tc main_v45) (ix3 h i l) = (((RR m c).c h i : ℝ) : EReal) := by
  rw [V₀_v45, lanes_at]; exact hC.at h i rfl rfl

theorem v47_at (h : Fin 8) (i : Fin 8192) : V₀ m c (Proc.devRef .tc main_v47) (ix3 h (0 : Fin 1) i)
    = (((RR m c).m h i + Real.log ((RR m c).T h i) : ℝ) : EReal) := by
  rw [V₀_v47, lse_at, tot_real (G := aG m c) hA hC (top_real hA hC) h i, top_real (G := aG m c) hA hC, Ideal.log_coe,
    if_neg (not_le.mpr (Real8.T_pos (R := RR m c) h i.isLt)), EReal.coe_add]

theorem v43_at (i : Fin 8192) (n : Fin 512) : V₀ m c (Proc.devRef .tc main_v43) (ix2 i n) = (((RR m c).y i n : ℝ) : EReal) := by
  rw [V₀_v43]
  exact y_real (G := aG m c) hA hC (top_real hA hC) i n

/-- A step's tile holds the arrays' blocks as real numbers. -/
theorem tile_at (t : Fin cfgA.N) : At (RR m c) (t.val / 36) (iq t.val) (ik t.val) (tile (V₀ m) c t) where
  w := ofBits_eighth
  k a l := by rw [k_at, V₀_arg0]; exact hA.at _ _ rfl (by show 5120 + (128 * (t.val / 36) + l.val) = (40 + t.val / 36) * 128 + l.val; omega)
  v a l := by rw [v_at, V₀_arg0]; exact hA.at _ _ rfl (by show 5632 + (128 * (t.val / 36) + l.val) = (44 + t.val / 36) * 128 + l.val; omega)
  q a l := by rw [q_at, V₀_arg0]; exact hA.at _ _ rfl (by show 4608 + (128 * (t.val / 36) + l.val) = (36 + t.val / 36) * 128 + l.val; omega)
  dy a l := by rw [dy_at, V₀_arg2]; exact hG.at _ _ rfl (by show (128 * (t.val / 36) + l.val) = (t.val / 36) * 128 + l.val; omega)
  y a l := by
    rw [y_at, v43_at hA hC hG]
    simp only [Nat.mul_comm (t.val / 36) 128]
  ck h a l := by
    rw [ck_at, v45_at hA hC hG]
    simp only [Nat.mul_comm (t.val / 36) 2]
  cq h b := by
    rw [cq_at, v46_at hA hC hG]
    simp only [Nat.mul_comm (t.val / 36) 2]
  ls h b := by
    rw [ls_at, v47_at hA hC hG]
    simp only [Nat.mul_comm (t.val / 36) 2]

end

end Cert.KernelIdeal.Fox

end
-- ==== Proof.Outs.lean ====
module

public import proofs.«01_k».proof.Proof.Fold
public import proofs.«01_k».proof.Proof.Tiles

@[expose] public section

set_option maxRecDepth 16384
set_option Elab.async false

noncomputable section

namespace Cert.KernelIdeal.Fox

open Cert.KernelIdeal Cert.KernelIdeal.Gen
open Idealize.ShloMosaic
open Idealize.ShloMosaic.TcCoe
open Cert.Fox Finset

variable {R : Real8} {j : ℕ} {s : Sums Ideal}

/-! ## What the last steps store, at an index -/

theorem outDk_at (s : Sums Ideal) (a : Fin 1024) (l : Fin 128) : outDk s (ix2 a l) = if l.val < 64 then s.dk 0 (ix3 0 a l) else s.dk 1 (ix3 0 a l) := by
  unfold outDk
  generalize s.dk 0 = x
  generalize s.dk 1 = y
  have e : k0_pay69 (F := Ideal) k0_pay1 x y (ix2 a l) = Scalar.select (k0_pay1 (ix2 0 l)) (x (ix3 0 a l)) (y (ix3 0 a l)) := by
    pointwise [k0_pay69]
  rw [e, lane_bit]
  by_cases hl : l.val < 64 <;> simp [Scalar.select, hl]

theorem outDv_at (s : Sums Ideal) (a : Fin 1024) (l : Fin 128) : outDv s (ix2 a l) = if l.val < 64 then s.dv 0 (ix3 0 a l) else s.dv 1 (ix3 0 a l) := by
  unfold outDv
  generalize s.dv 0 = x
  generalize s.dv 1 = y
  have e : k0_pay70 (F := Ideal) k0_pay1 x y (ix2 a l) = Scalar.select (k0_pay1 (ix2 0 l)) (x (ix3 0 a l)) (y (ix3 0 a l)) := by
    pointwise [k0_pay70]
  rw [e, lane_bit]
  by_cases hl : l.val < 64 <;> simp [Scalar.select, hl]

theorem sel_word (p q : ℕ) (hp : p < 2 ^ 32) (hq : q < 2 ^ 32) (x y : EReal) :
    Scalar.select (IntOp.cmpi .eq (BitVec.ofNat 32 p) (BitVec.ofNat 32 q)) x y = if p = q then x else y := by
  by_cases h : p = q
  · subst h; simp [Scalar.select, IntOp.cmpi]
  · have : BitVec.ofNat 32 p ≠ BitVec.ofNat 32 q := fun e => h (by
      have := congrArg BitVec.toNat e
      rwa [BitVec.toNat_ofNat, BitVec.toNat_ofNat, Nat.mod_eq_of_lt hp, Nat.mod_eq_of_lt hq] at this)
    have hb : (BitVec.ofNat 32 p == BitVec.ofNat 32 q) = false := beq_eq_false_iff_ne.mpr this
    simp only [Scalar.select, IntOp.cmpi, hb, if_neg h]
    rfl

theorem outDc_at (i : grid0.Coords) (s : Sums Ideal) (a : Fin 1024) (l : Fin 128) : outDc i s (ix3 0 a l)
    = if l.val = 2 * (i 0).val then s.dc 0 (ix3 0 a l) else if l.val = 2 * (i 0).val + 1 then s.dc 1 (ix3 0 a l) else 0 := by
  unfold outDc
  have hi : (i 0).val < 4 := (i 0).isLt
  generalize (i 0).val = n at *
  generalize s.dc 0 = x
  generalize s.dc 1 = y
  have e1 : IntOp.muli 2#32 (BitVec.ofNat 32 n) = BitVec.ofNat 32 (2 * n) := by interval_cases n <;> rfl
  have e2 : IntOp.addi (BitVec.ofNat 32 (2 * n)) 1#32 = BitVec.ofNat 32 (2 * n + 1) := by interval_cases n <;> rfl
  simp only [k0_pay13, k0_pay71, k0_pay72]
  pointwise
  have f1 : Scalar.muli 2#32 (BitVec.ofNat 32 n) = BitVec.ofNat 32 (2 * n) := e1
  have f2 : Scalar.addi (BitVec.ofNat 32 (2 * n)) 1#32 = BitVec.ofNat 32 (2 * n + 1) := e2
  rw [f1, f2, sel_word _ _ (by omega) (by omega), sel_word _ _ (by omega) (by omega)]
  by_cases h1 : l.val = 2 * n
  · rw [if_pos h1, if_pos h1, if_neg (by omega)]; exact add_zero _
  · rw [if_neg h1, if_neg h1]; exact zero_add _

theorem outDq_at (s : Sums Ideal) (i : Fin 8192) (l : Fin 128) : outDq s (ix2 i l)
    = s.dqt ⟨i.val / 1024, by omega⟩ (ix3 0 l ⟨i.val % 1024, by omega⟩) * Ideal.ofBits .f32 1040187392#32 := by
  show k0_pay73 (F := Ideal) (s.dqt ⟨i.val / 1024, _⟩) (ix2 ⟨i.val % 1024, _⟩ l) = _
  generalize s.dqt _ = x
  pointwise [k0_pay73]

theorem outDcq_at (s : Sums Ideal) (h : Fin 2) (i : Fin 8192) : outDcq s (ix3 h 0 i)
    = s.dcq h ⟨i.val / 1024, by omega⟩ (ix4 0 0 0 ⟨i.val % 1024, by omega⟩) := by
  show k0_pay74 (F := Ideal) (s.dcq h ⟨i.val / 1024, _⟩) (ix3 0 0 ⟨i.val % 1024, _⟩) = _
  generalize s.dcq h _ = x
  pointwise [k0_pay74]

/-! ## The sums over all tiles -/

theorem allV (n k a col : ℕ) (hn : col / 64 = n) : ∑ t ∈ range 8, incV R n t k a col = R.dv (k * 1024 + a) col := by
  subst hn; exact sum_tiles (fun i => R.p (col / 64) i (k * 1024 + a) * R.g i col) 8
theorem allK (n k a col : ℕ) (hn : col / 64 = n) : ∑ t ∈ range 8, incK R n t k a col = R.dk (k * 1024 + a) col := by
  subst hn; exact sum_tiles (fun i => R.ds (col / 64) i (k * 1024 + a) * (R.q i col * R.w)) 8
theorem allC (n k a : ℕ) : -∑ t ∈ range 8, incC R n t k a = R.dck n (k * 1024 + a) :=
  congrArg Neg.neg (sum_tiles (fun i => R.ds n i (k * 1024 + a)) 8)
theorem allQ (n r b col : ℕ) (hr : r < 8) (hb : b < 1024) (hn : col / 64 = n) : (∑ t ∈ range (r + 1), incQ R n r t b col) * R.w = R.dq (r * 1024 + b) col := by
  subst hn
  rw [Finset.sum_subset (s₂ := range 8) (fun t ht => by simp only [Finset.mem_range] at *; omega)
    (fun t _ ht => incQ_above _ (by simp only [Finset.mem_range] at ht; omega) b col hb)]
  exact congrArg (· * R.w) (sum_tiles (fun i => R.ds (col / 64) (r * 1024 + b) i * R.k i col) 8)
theorem allCq (n r b : ℕ) (hr : r < 8) (hb : b < 1024) : ∑ t ∈ range (r + 1), incCq R n r t b = R.dcq n (r * 1024 + b) := by
  rw [Finset.sum_subset (s₂ := range 8) (fun t ht => by simp only [Finset.mem_range] at *; omega)
    (fun t _ ht => incCq_above _ (by simp only [Finset.mem_range] at ht; omega) b hb)]
  exact sum_tiles (fun i => R.ds n (r * 1024 + b) i) 8

/-! ## The stored blocks as real numbers -/

theorem dk_blk {k : ℕ} (h : KeyAt R j k 8 s) (a : Fin 1024) (l : Fin 128) : outDk s (ix2 a l) = ((R.dk (k * 1024 + a) (j * 128 + l) : ℝ) : EReal) := by
  rw [outDk_at, Nat.mul_comm j 128]
  split
  · rw [h.dk0, allK _ _ _ _ (by omega)]
  · rw [h.dk1, allK _ _ _ _ (by omega)]

theorem dv_blk {k : ℕ} (h : KeyAt R j k 8 s) (a : Fin 1024) (l : Fin 128) : outDv s (ix2 a l) = ((R.dv (k * 1024 + a) (j * 128 + l) : ℝ) : EReal) := by
  rw [outDv_at, Nat.mul_comm j 128]
  split
  · rw [h.dv0, allV _ _ _ _ (by omega)]
  · rw [h.dv1, allV _ _ _ _ (by omega)]

theorem dq_blk (hw : Ideal.ofBits .f32 1040187392#32 = ((R.w : ℝ) : EReal)) (h : QryAt R j (cnt 36) s) (i : Fin 8192) (l : Fin 128) :
    outDq s (ix2 i l) = ((R.dq i (j * 128 + l) : ℝ) : EReal) := by
  rw [outDq_at, Nat.mul_comm j 128, h.dq, hw, ← EReal.coe_mul, cnt_end,
    allQ _ _ _ _ (by show i.val / 1024 < 8; omega) (by show i.val % 1024 < 1024; omega) (by omega)]
  congr 2
  show i.val / 1024 * 1024 + i.val % 1024 = i.val
  omega

theorem dcq_blk (h : QryAt R j (cnt 36) s) (hh : Fin 2) (i : Fin 8192) :
    outDcq s (ix3 hh 0 i) = ((R.dcq (j * 2 + hh) i : ℝ) : EReal) := by
  have e : i.val / 1024 * 1024 + i.val % 1024 = i.val := by omega
  rw [outDcq_at, Nat.mul_comm j 2]
  match hh with
  | ⟨0, _⟩ =>
    refine (h.dcq0 _ _).trans ?_
    rw [cnt_end, allCq _ _ _ (by show i.val / 1024 < 8; omega) (by show i.val % 1024 < 1024; omega)]
    show ((R.dcq (2 * j) (i.val / 1024 * 1024 + i.val % 1024) : ℝ) : EReal) = _
    rw [e]; rfl
  | ⟨1, _⟩ =>
    refine (h.dcq1 _ _).trans ?_
    rw [cnt_end, allCq _ _ _ (by show i.val / 1024 < 8; omega) (by show i.val % 1024 < 1024; omega)]
    show ((R.dcq (2 * j + 1) (i.val / 1024 * 1024 + i.val % 1024) : ℝ) : EReal) = _
    rw [e]

theorem dc_blk {k : ℕ} (c : grid0.Coords) (hc : (c 0).val = j) (h : KeyAt R j k 8 s) (a : Fin 1024) (l : Fin 128) : outDc c s (ix3 0 a l)
    = if l.val = 2 * j then ((R.dck (2 * j) (k * 1024 + a) : ℝ) : EReal) else if l.val = 2 * j + 1 then ((R.dck (2 * j + 1) (k * 1024 + a) : ℝ) : EReal) else 0 := by
  rw [outDc_at, hc, h.dc0, h.dc1, allC, allC]

/-! ## The output arrays -/

/-- An array of rows and 512 columns, a pair's key-side sums on their lanes, and the query-side sums. -/
def arr2 (f : ℕ → ℕ → ℝ) : S8192x512.Idx → EReal := fun x => ((f (x 0).val (x 1).val : ℝ) : EReal)
def arrLanes (f : ℕ → ℕ → ℝ) : S4x8192x128.Idx → EReal := fun x =>
  if (x 2).val = 2 * (x 0).val then ((f (2 * (x 0).val) (x 1).val : ℝ) : EReal)
  else if (x 2).val = 2 * (x 0).val + 1 then ((f (2 * (x 0).val + 1) (x 1).val : ℝ) : EReal) else 0
def arrFlat (f : ℕ → ℕ → ℝ) : S8x1x8192.Idx → EReal := fun x => ((f (x 0).val (x 2).val : ℝ) : EReal)

theorem idx8 : ∀ t : Fin cfgA.N, (cfgA.win (8 : Fin 13)).index t = ![0, t.val / 36] := by decide +kernel
theorem idx9 : ∀ t : Fin cfgA.N, (cfgA.win (9 : Fin 13)).index t = ![ik t.val, t.val / 36] := by decide +kernel
theorem idx10 : ∀ t : Fin cfgA.N, (cfgA.win (10 : Fin 13)).index t = ![ik t.val, t.val / 36] := by decide +kernel
theorem idx11 : ∀ t : Fin cfgA.N, (cfgA.win (11 : Fin 13)).index t = ![t.val / 36, ik t.val, 0] := by decide +kernel
theorem idx12 : ∀ t : Fin cfgA.N, (cfgA.win (12 : Fin 13)).index t = ![t.val / 36, 0, 0] := by decide +kernel
theorem crd0 : ∀ t : Fin cfgA.N, ((crd t) 0).val = t.val / 36 := by decide +kernel

theorem cov8 : (cfgA.win (8 : Fin 13)).Covers := by decide +kernel
theorem cov9 : (cfgA.win (9 : Fin 13)).Covers := by decide +kernel
theorem cov10 : (cfgA.win (10 : Fin 13)).Covers := by decide +kernel
theorem cov11 : (cfgA.win (11 : Fin 13)).Covers := by decide +kernel
theorem cov12 : (cfgA.win (12 : Fin 13)).Covers := by decide +kernel

section
variable (V : Dev nD → Valuation τ sig (Elt Ideal)) {c : Dev nD}

theorem key_at (hx : ∀ t : Fin cfgA.N, At R (t.val / 36) (iq t.val) (ik t.val) (tile V c t)) (t : Fin cfgA.N) (h : isKey t.val = true) :
    KeyAt R (t.val / 36) (ik t.val) 8 (traj V c (t.val + 1)).1 := by
  have h7 : iq t.val = 7 := by simpa [isKey] using h
  have k := (inv_traj V c hx t.val t.isLt).key
  rwa [Nat.add_sub_cancel, ik_mod, iq_mod, h7] at k

theorem qry_at (hx : ∀ t : Fin cfgA.N, At R (t.val / 36) (iq t.val) (ik t.val) (tile V c t)) (t : Fin cfgA.N) (h : isEnd t.val = true) :
    QryAt R (t.val / 36) (cnt 36) (traj V c (t.val + 1)).1 := by
  have h7 : t.val % 36 = 35 := by simpa [isEnd] using h
  have k := (inv_traj V c hx t.val t.isLt).qry
  rwa [h7] at k

theorem dk_arr (hx : ∀ t : Fin cfgA.N, At R (t.val / 36) (iq t.val) (ik t.val) (tile V c t)) : (dats V 0 c).arrAt (9 : Fin 13) cfgA.N = arr2 R.dk := by
  refine (dats V 0 c).arrAt_eq_of_covers (9 : Fin 13) (arr2 R.dk) cov9 fun t hf y => ?_
  have hk : isKey t.val = true := (facts t).2.1.2.symm.trans hf
  obtain ⟨a, l, rfl⟩ : ∃ (a : Fin 1024) (l : Fin 128), y = ix2 a l := ⟨y 0, y 1, by funext i; match i with | ⟨0, _⟩ => rfl | ⟨1, _⟩ => rfl⟩
  refine (dk_blk (key_at V hx t hk) a l).trans ?_
  have e0 : ((((cfgA.win (9 : Fin 13)).blk t).view.emb (ix2 a l)) (0 : Fin 2)).val = ik t.val * 1024 + a.val := by blk_simp [idx9 t]
  have e1 : ((((cfgA.win (9 : Fin 13)).blk t).view.emb (ix2 a l)) (1 : Fin 2)).val = t.val / 36 * 128 + l.val := by blk_simp [idx9 t]
  unfold arr2
  rw [e0, e1]

theorem dv_arr (hx : ∀ t : Fin cfgA.N, At R (t.val / 36) (iq t.val) (ik t.val) (tile V c t)) : (dats V 0 c).arrAt (10 : Fin 13) cfgA.N = arr2 R.dv := by
  refine (dats V 0 c).arrAt_eq_of_covers (10 : Fin 13) (arr2 R.dv) cov10 fun t hf y => ?_
  have hk : isKey t.val = true := (facts t).2.2.1.2.symm.trans hf
  obtain ⟨a, l, rfl⟩ : ∃ (a : Fin 1024) (l : Fin 128), y = ix2 a l := ⟨y 0, y 1, by funext i; match i with | ⟨0, _⟩ => rfl | ⟨1, _⟩ => rfl⟩
  refine (dv_blk (key_at V hx t hk) a l).trans ?_
  have e0 : ((((cfgA.win (10 : Fin 13)).blk t).view.emb (ix2 a l)) (0 : Fin 2)).val = ik t.val * 1024 + a.val := by blk_simp [idx10 t]
  have e1 : ((((cfgA.win (10 : Fin 13)).blk t).view.emb (ix2 a l)) (1 : Fin 2)).val = t.val / 36 * 128 + l.val := by blk_simp [idx10 t]
  unfold arr2
  rw [e0, e1]

theorem dq_arr (hx : ∀ t : Fin cfgA.N, At R (t.val / 36) (iq t.val) (ik t.val) (tile V c t)) : (dats V 0 c).arrAt (8 : Fin 13) cfgA.N = arr2 R.dq := by
  refine (dats V 0 c).arrAt_eq_of_covers (8 : Fin 13) (arr2 R.dq) cov8 fun t hf y => ?_
  have hk : isEnd t.val = true := (facts t).1.2.symm.trans hf
  obtain ⟨a, l, rfl⟩ : ∃ (a : Fin 8192) (l : Fin 128), y = ix2 a l := ⟨y 0, y 1, by funext i; match i with | ⟨0, _⟩ => rfl | ⟨1, _⟩ => rfl⟩
  refine (dq_blk (hx t).w (qry_at V hx t hk) a l).trans ?_
  have e0 : ((((cfgA.win (8 : Fin 13)).blk t).view.emb (ix2 a l)) (0 : Fin 2)).val = a.val := by blk_simp [idx8 t]
  have e1 : ((((cfgA.win (8 : Fin 13)).blk t).view.emb (ix2 a l)) (1 : Fin 2)).val = t.val / 36 * 128 + l.val := by blk_simp [idx8 t]
  unfold arr2
  rw [e0, e1]

theorem dck_arr (hx : ∀ t : Fin cfgA.N, At R (t.val / 36) (iq t.val) (ik t.val) (tile V c t)) : (dats V 0 c).arrAt (11 : Fin 13) cfgA.N = arrLanes R.dck := by
  refine (dats V 0 c).arrAt_eq_of_covers (11 : Fin 13) (arrLanes R.dck) cov11 fun t hf y => ?_
  have hk : isKey t.val = true := (facts t).2.2.2.1.2.symm.trans hf
  obtain ⟨a, l, rfl⟩ : ∃ (a : Fin 1024) (l : Fin 128), y = ix3 0 a l :=
    ⟨y 1, y 2, by funext i; match i with | ⟨0, _⟩ => exact Fin.ext (Nat.lt_one_iff.mp (y 0).isLt) | ⟨1, _⟩ => rfl | ⟨2, _⟩ => rfl⟩
  refine (dc_blk (crd t) (crd0 t) (key_at V hx t hk) a l).trans ?_
  have e0 : ((((cfgA.win (11 : Fin 13)).blk t).view.emb (ix3 0 a l)) (0 : Fin 3)).val = t.val / 36 := by blk_simp [idx11 t]; rfl
  have e1 : ((((cfgA.win (11 : Fin 13)).blk t).view.emb (ix3 0 a l)) (1 : Fin 3)).val = ik t.val * 1024 + a.val := by blk_simp [idx11 t]
  have e2 : ((((cfgA.win (11 : Fin 13)).blk t).view.emb (ix3 0 a l)) (2 : Fin 3)).val = l.val := by blk_simp [idx11 t]
  unfold arrLanes
  rw [e0, e1, e2]

theorem dcq_arr (hx : ∀ t : Fin cfgA.N, At R (t.val / 36) (iq t.val) (ik t.val) (tile V c t)) : (dats V 0 c).arrAt (12 : Fin 13) cfgA.N = arrFlat R.dcq := by
  refine (dats V 0 c).arrAt_eq_of_covers (12 : Fin 13) (arrFlat R.dcq) cov12 fun t hf y => ?_
  have hk : isEnd t.val = true := (facts t).2.2.2.2.2.symm.trans hf
  obtain ⟨h, i, rfl⟩ : ∃ (h : Fin 2) (i : Fin 8192), y = ix3 h 0 i :=
    ⟨y 0, y 2, by funext i; match i with | ⟨0, _⟩ => rfl | ⟨1, _⟩ => exact Fin.ext (Nat.lt_one_iff.mp (y 1).isLt) | ⟨2, _⟩ => rfl⟩
  refine (dcq_blk (qry_at V hx t hk) h i).trans ?_
  have e0 : ((((cfgA.win (12 : Fin 13)).blk t).view.emb (ix3 h 0 i)) (0 : Fin 3)).val = t.val / 36 * 2 + h.val := by blk_simp [idx12 t]
  have e2 : ((((cfgA.win (12 : Fin 13)).blk t).view.emb (ix3 h 0 i)) (2 : Fin 3)).val = i.val := by blk_simp [idx12 t]
  unfold arrFlat
  rw [e0, e2]

end

end Cert.KernelIdeal.Fox

end
-- ==== Proof.RefVal.lean ====
module

public import proofs.«01_k».proof.Proof.Soft2
public import proofs.«01_k».proof.Proof.Outs
public import proofs.«01_k».proof.Proof.Gen.ReferenceIdeal.Run

@[expose] public section

set_option maxRecDepth 16384

noncomputable section

namespace Cert.Fox

open Cert.ReferenceIdeal Cert.ReferenceIdeal.Gen
open Idealize.ShloMosaic Finset
open Idealize.ShloMosaic.TcCoe
open Cert.KernelIdeal.Fox (arr2 arrLanes arrFlat sel_word)

variable (A : FVec Ideal S8192x7040 .f32) (C : FVec Ideal S8x8192 .f32) (G : FVec Ideal S8192x512 .bf16)

/-! ## The reference's lines, in order -/

/-- The weights before they are divided, the totals, the weights and their cotangent. -/
def refE : FVec Ideal S8x8192x8192 .f32 := expo (logits A C) (top' (top (logits A C)))
def refT : FVec Ideal S8x8192x1 .f32 := up (tot (refE A C))
def refP : FVec Ideal S8x8192x8192 .f32 := quot (refE A C) (refT A C)
def refDP : FVec Ideal S8x8192x8192 .f32 := dots (hd (colsG G)) (hd (colsV A))
/-- The cotangent of the scores. -/
def refDS : FVec Ideal S8x8192x8192 .f32 :=
  cot tri (refDP A G) (refT A C) (corr (refDP A G) (inv2 (refT A C)) (refE A C)) (refE A C)

section
variable {A C G} (hA : Real2 A) (hC : Real2 C) (hG : Real2 G)
include hA hC

theorem refE_real (h : Fin 8) (i j : Fin 8192) : refE A C (ix3 h i j) = (((reals A C G).e h i j : ℝ) : EReal) :=
  expo_real hA hC (top'_real hA hC) h i j
theorem refT_real (h : Fin 8) (i : Fin 8192) : refT A C (ix3 h i 0) = (((reals A C G).T h i : ℝ) : EReal) :=
  (up_at h i _).trans (tot_real hA hC (top'_real hA hC) h i)
theorem refP_real (h : Fin 8) (i j : Fin 8192) : refP A C (ix3 h i j) = (((reals A C G).p h i j : ℝ) : EReal) :=
  quot_real hA hC (top'_real hA hC) h i j

include hG

theorem refDS_real (h : Fin 8) (i j : Fin 8192) : refDS A C G (ix3 h i j) = (((reals A C G).ds h i j : ℝ) : EReal) := by
  have hDP : ∀ h i j, refDP A G (ix3 h i j) = (((reals A C G).dp h i j : ℝ) : EReal) :=
    dots_real (R := reals A C G) (fun h i d => hdG_at h i d hG) (fun h i d => hdV_at h i d hA)
  have hT := refT_real (G := G) hA hC
  have hE := refE_real (G := G) hA hC
  exact cot_real hDP hT hE (corr_real hDP hE (inv2_real hT)) h i j

/-! ## Its results -/

theorem ref_dv : half (cols (mixT (hd (colsG G)) (refP A C))) = arr2 (reals A C G).dv := by
  funext x
  obtain ⟨j, n, rfl⟩ : ∃ (j : Fin 8192) (n : Fin 512), x = ix2 j n := ⟨x 0, x 1, by funext i; match i with | ⟨0, _⟩ => rfl | ⟨1, _⟩ => rfl⟩
  exact dv_real (R := reals A C G) (refP_real hA hC) (fun h i d => hdG_at h i d hG) j n

theorem ref_dk : half (cols (mixK (eighth (refDS A C G)) (hd (colsQ A)))) = arr2 (reals A C G).dk := by
  funext x
  obtain ⟨j, n, rfl⟩ : ∃ (j : Fin 8192) (n : Fin 512), x = ix2 j n := ⟨x 0, x 1, by funext i; match i with | ⟨0, _⟩ => rfl | ⟨1, _⟩ => rfl⟩
  exact dk_real (R := reals A C G) (refDS_real hA hC hG) ofBits_eighth (fun h i d => hdQ_at h i d hA) j n

theorem ref_dq : half (cols (mix (eighth (refDS A C G)) (hd (colsK A)))) = arr2 (reals A C G).dq := by
  funext x
  obtain ⟨i, n, rfl⟩ : ∃ (i : Fin 8192) (n : Fin 512), x = ix2 i n := ⟨x 0, x 1, by funext i; match i with | ⟨0, _⟩ => rfl | ⟨1, _⟩ => rfl⟩
  exact dq_real (R := reals A C G) (refDS_real hA hC hG) ofBits_eighth (fun h i d => hdK_at h i d hA) i n

theorem ref_dcq : flat (qrySum (refDS A C G)) = arrFlat (reals A C G).dcq := by
  funext x
  obtain ⟨h, i, rfl⟩ : ∃ (h : Fin 8) (i : Fin 8192), x = ix3 h 0 i :=
    ⟨x 0, x 2, by funext i; match i with | ⟨0, _⟩ => rfl | ⟨1, _⟩ => exact Fin.ext (Nat.lt_one_iff.mp (x 1).isLt) | ⟨2, _⟩ => rfl⟩
  exact (flat1_at h i _).trans (qrySum_real (R := reals A C G) (refDS_real hA hC hG) h i)

omit hA hC hG in
theorem lanes_at (X : FVec Ideal S8x8192 .f32) (p : Fin 4) (i : Fin 8192) (l : Fin 128) : lanes X (ix3 p i l)
    = if l.val = 2 * p.val then X (ix2 ⟨p.val * 2, by omega⟩ i) else if l.val = 2 * p.val + 1 then X (ix2 ⟨p.val * 2 + 1, by omega⟩ i) else 0 := by
  rw [lanes_at']
  have e1 : IntOp.muli 2#32 (BitVec.ofNat 32 p) = BitVec.ofNat 32 (2 * p.val) := by
    obtain ⟨p, hp⟩ := p; interval_cases p <;> rfl
  have e2 : IntOp.addi (BitVec.ofNat 32 (2 * p.val)) 1#32 = BitVec.ofNat 32 (2 * p.val + 1) := by
    obtain ⟨p, hp⟩ := p; interval_cases p <;> rfl
  rw [e1, e2, sel_word _ _ (by omega) (by omega), sel_word _ _ (by omega) (by omega)]

theorem ref_dck : lanes (keySum (refDS A C G)) = arrLanes (reals A C G).dck := by
  funext x
  obtain ⟨p, i, l, rfl⟩ : ∃ (p : Fin 4) (i : Fin 8192) (l : Fin 128), x = ix3 p i l :=
    ⟨x 0, x 1, x 2, by funext i; match i with | ⟨0, _⟩ => rfl | ⟨1, _⟩ => rfl | ⟨2, _⟩ => rfl⟩
  have hk := keySum_real (R := reals A C G) (refDS_real hA hC hG)
  rw [lanes_at, hk, hk]
  show _ = if l.val = 2 * p.val then _ else if l.val = 2 * p.val + 1 then _ else _
  simp only [Nat.mul_comm p.val 2]
  rfl
end

/-! ## What the program stores is these lines -/

section
variable (m' : (ℓ : Loc nD τ sig) → Buf (Elt Ideal) ℓ) (c : Dev nD)

/-- The reference's arguments. -/
abbrev bA : FVec Ideal S8192x7040 .f32 := m' (c, Proc.devRef .tc main_arg0)
abbrev bC : FVec Ideal S8x8192 .f32 := m' (c, Proc.devRef .tc main_arg1)
abbrev bG : FVec Ideal S8192x512 .bf16 := m' (c, Proc.devRef .tc main_arg2)

theorem res_dv : Value.res_main_v123 m' c = half (cols (mixT (hd (colsG (bG m' c))) (refP (bA m' c) (bC m' c)))) := by
  unfold Value.res_main_v123; rfl
theorem res_dk : Value.res_main_v122 m' c = half (cols (mixK (eighth (refDS (bA m' c) (bC m' c) (bG m' c))) (hd (colsQ (bA m' c))))) := by
  unfold Value.res_main_v122; rfl
theorem res_dq : Value.res_main_v121 m' c = half (cols (mix (eighth (refDS (bA m' c) (bC m' c) (bG m' c))) (hd (colsK (bA m' c))))) := by
  unfold Value.res_main_v121; rfl
theorem res_dck : Value.res_main_v120 m' c = lanes (keySum (refDS (bA m' c) (bC m' c) (bG m' c))) := by
  unfold Value.res_main_v120; rfl
theorem res_dcq : Value.res_main_v124 m' c = flat (qrySum (refDS (bA m' c) (bC m' c) (bG m' c))) := by
  unfold Value.res_main_v124; rfl

end

end Cert.Fox

end
-- ==== Proof.Fin8.lean ====
module

public import proofs.«01_k».proof.Pre_finite
public import proofs.«01_k».proof.Proof.Reals

@[expose] public section

set_option maxRecDepth 16384

noncomputable section

namespace Cert.Fox

open Cert.ReferenceIdeal Cert.ReferenceIdeal.Gen
open Idealize.ShloMosaic Finset

/-- The side conditions of the precondition's operations. -/
theorem finite_facts : Cert.Pre_finite.Facts where
  bcast_S_S8192x7040 := by decide
  reducesTo_S8192x7040_S_d0_1 := by decide
  h_S_ := by decide
  bcast_S_S8x8192 := by decide
  reducesTo_S8x8192_S_d0_1 := by decide
  bitsLt_bf16_f32 := by decide
  bcast_S_S8192x512 := by decide
  reducesTo_S8192x512_S_d0_1 := by decide

attribute [local instance] finite_facts

theorem and_fold {ι : Type*} (s : Finset ι) (f : ι → BitVec 1) (h : s.fold IntOp.andi (1#1) f = 1#1) : ∀ x ∈ s, f x = 1#1 := by
  classical
  induction s using Finset.induction_on with
  | empty => simp
  | insert a s ha ih =>
    rw [Finset.fold_insert ha] at h
    have h2 : ∀ c d : BitVec 1, IntOp.andi c d = 1#1 → c = 1#1 ∧ d = 1#1 := by decide
    intro x hx
    rcases Finset.mem_insert.mp hx with rfl | hx
    · exact (h2 _ _ h).1
    · exact ih (h2 _ _ h).2 x hx

theorem and_univ {ι : Type*} [Fintype ι] {f : ι → BitVec 1} (h : (Finset.univ : Finset ι).fold IntOp.andi (1#1) f = 1#1) (x : ι) : f x = 1#1 :=
  and_fold _ _ h x (Finset.mem_univ x)

theorem real_of_abs {x : EReal} (h : BitVec.ofBool (decide ((FloatOps.absf (F := Ideal) (φ := .f32) x : EReal) < Ideal.ofBits FTy.f32 2139095040#32)) = 1#1) :
    ∃ r : ℝ, x = (r : EReal) := by
  have h' : max x (-x) < ⊤ := by
    rw [ofBits_inf] at h
    by_contra hn
    have hn' : ¬ ((FloatOps.absf (F := Ideal) (φ := .f32) x : EReal) < ⊤) := hn
    rw [decide_eq_false hn'] at h
    exact absurd h (by decide)
  induction x with
  | bot => exact absurd h' (by simp)
  | top => exact absurd h' (by simp)
  | coe r => exact ⟨r, rfl⟩

/-- The precondition says that every entry of the three arguments is a real number. -/
theorem real_of_finite (A : FVec Ideal S8192x7040 .f32) (C : FVec Ideal S8x8192 .f32) (G : FVec Ideal S8192x512 .bf16)
    (h : Cert.Pre_finite.fn (F := Ideal) A C G = fun _ => 1#1) : Real2 A ∧ Real2 C ∧ Real2 G := by
  have h := congrFun h ix0
  pointwise [Cert.Pre_finite.fn] at h
  have h2 : ∀ c d : BitVec 1, IntOp.andi c d = 1#1 → c = 1#1 ∧ d = 1#1 := by decide
  obtain ⟨h, hG⟩ := h2 _ _ h
  obtain ⟨hA, hC⟩ := h2 _ _ h
  refine ⟨fun i n => ?_, fun i n => ?_, fun i n => ?_⟩
  · have h := and_univ hA (i, n)
    exact real_of_abs h
  · have h := and_univ hC (i, n)
    exact real_of_abs h
  · have h := and_univ hG (i, n)
    exact real_of_abs (x := G (ix2 i n)) h

end Cert.Fox

end
-- ==== Proof.Final.lean ====
module

public import proofs.«01_k».proof.Proof.RefVal
public import proofs.«01_k».proof.Proof.Frame
public import proofs.«01_k».proof.Proof.Fin8

@[expose] public section

set_option maxRecDepth 16384

noncomputable section

namespace Cert.KernelIdeal.Fox

open Cert.KernelIdeal Cert.KernelIdeal.Gen
open Idealize.ShloMosaic Idealize.SL.Sem
open Idealize.ShloMosaic.TcCoe
open Cert.Fox

set_option maxHeartbeats 2000000 in
/-- The kernel's five arrays, when every argument is finite, are the gradients of the specification; the arguments are unchanged. -/
theorem run_grads (m : (ℓ : Loc nD τ sig) → Buf (Elt Ideal) ℓ) (ρ : Dev nD → PrngReg)
    (hA : ∀ c, Real2 (aA m c)) (hC : ∀ c, Real2 (aC m c)) (hG : ∀ c, Real2 (aG m c)) :
    θ_run (defs (F := Ideal)) (onTc (τ := τ) (main (F := Ideal))) ⟨m, fun _ => 0, ρ⟩ (fun r => ∀ c : Dev nD,
      r.2.mem ((c.tc : Thread nD τ).loc main_v48_0) = arr2 (RR m c).dq
      ∧ r.2.mem ((c.tc : Thread nD τ).loc main_v48_1) = arr2 (RR m c).dk
      ∧ r.2.mem ((c.tc : Thread nD τ).loc main_v48_2) = arr2 (RR m c).dv
      ∧ r.2.mem ((c.tc : Thread nD τ).loc main_v48_3) = arrLanes (RR m c).dck
      ∧ r.2.mem ((c.tc : Thread nD τ).loc main_v48_4) = arrFlat (RR m c).dcq
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    have hx : ∀ t : Fin cfgA.N, At (RR m c) (t.val / 36) (iq t.val) (ik t.val) (tile (V₀ m) c t) := fun t => tile_at (hA c) (hC c) (hG c) t
    ⟨((h.1 c).1 (8 : Fin 13)).trans (dq_arr (V₀ m) hx),
     ((h.1 c).1 (9 : Fin 13)).trans (dk_arr (V₀ m) hx),
     ((h.1 c).1 (10 : Fin 13)).trans (dv_arr (V₀ m) hx),
     ((h.1 c).1 (11 : Fin 13)).trans (dck_arr (V₀ m) hx),
     ((h.1 c).1 (12 : Fin 13)).trans (dcq_arr (V₀ m) hx),
     (((h.1 c).1 (0 : Fin 13)).trans ((dats (V₀ m) 0 c).arrAt_in (0 : Fin 13) rfl _)).trans (V₀_arg0 m c),
     ((h.1 c).2 main_arg1 (by decide)).trans (by
      unfold Pipeline.afterTail
      rw [show ([] : List (List (HloOp τ sig (Elt Ideal)))).flatten = [] from rfl]
      exact (Pipeline.withArrays_of_ne _ c (V₀ m c) _ _ (by decide)).trans (V₀_arg1 m c)),
     (((h.1 c).1 (4 : Fin 13)).trans ((dats (V₀ m) 0 c).arrAt_in (4 : Fin 13) rfl _)).trans (V₀_arg2 m c)⟩) (run_all m ρ)

end Cert.KernelIdeal.Fox

namespace Cert.Fox

open Cert.ReferenceIdeal Cert.ReferenceIdeal.Gen
open Idealize.ShloMosaic Idealize.SL.Sem
open Idealize.ShloMosaic.TcCoe
open Cert.KernelIdeal.Fox (arr2 arrLanes arrFlat)

/-- So are the reference's. -/
theorem ref_grads (m : (ℓ : Loc nD τ sig) → Buf (Elt Ideal) ℓ) (ρ : Dev nD → PrngReg)
    (A : Dev nD → FVec Ideal S8192x7040 .f32) (C : Dev nD → FVec Ideal S8x8192 .f32) (G : Dev nD → FVec Ideal S8192x512 .bf16)
    (hA : ∀ c, Real2 (A c)) (hC : ∀ c, Real2 (C c)) (hG : ∀ c, Real2 (G c))
    (e : ∀ c : Dev nD, bA m c = A c ∧ bC m c = C c ∧ bG m c = G c) :
    θ_run (defs (F := Ideal)) (onTc (τ := τ) (main (F := Ideal))) ⟨m, fun _ => 0, ρ⟩ (fun r => ∀ c : Dev nD,
      r.2.mem ((c.tc : Thread nD τ).loc main_v121) = arr2 (reals (A c) (C c) (G c)).dq
      ∧ r.2.mem ((c.tc : Thread nD τ).loc main_v122) = arr2 (reals (A c) (C c) (G c)).dk
      ∧ r.2.mem ((c.tc : Thread nD τ).loc main_v123) = arr2 (reals (A c) (C c) (G c)).dv
      ∧ r.2.mem ((c.tc : Thread nD τ).loc main_v120) = arrLanes (reals (A c) (C c) (G c)).dck
      ∧ r.2.mem ((c.tc : Thread nD τ).loc main_v124) = arrFlat (reals (A c) (C c) (G c)).dcq
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h1, h2, h3, h4, h5, ha⟩ := h c
    obtain ⟨eA, eC, eG⟩ := e c
    refine ⟨h1.trans ?_, h2.trans ?_, h3.trans ?_, h4.trans ?_, h5.trans ?_, ha⟩
    · rw [res_dq, eA, eC, eG]; exact ref_dq (hA c) (hC c) (hG c)
    · rw [res_dk, eA, eC, eG]; exact ref_dk (hA c) (hC c) (hG c)
    · rw [res_dv, eA, eC, eG]; exact ref_dv (hA c) (hC c) (hG c)
    · rw [res_dck, eA, eC, eG]; exact ref_dck (hA c) (hC c) (hG c)
    · rw [res_dcq, eA, eC, eG]; exact ref_dcq (hA c) (hC c) (hG c)) (Value.run (F := Ideal) m ρ)

end Cert.Fox

end
-- ==== Proof.lean ====
/- The proof of the certificate's claims: the frames of the kernel, of its idealization and of the reference, that the
   idealization is the kernel's, and that on finite arguments it computes the reference's gradients; and the same of nineteen
   products, of the input projection, the feed-forward net, the branches and the cross attention, on any arguments. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelDw
public import proofs.«01_k».proof.Proof.Gen.KernelDh
public import proofs.«01_k».proof.Proof.Dw
public import proofs.«01_k».proof.Proof.Dh
public import proofs.«01_k».proof.Proof.Gen.KernelProj
public import proofs.«01_k».proof.Proof.Proj
public import proofs.«01_k».proof.Proof.Gen.KernelGu
public import proofs.«01_k».proof.Proof.Gu
public import proofs.«01_k».proof.Proof.Gen.KernelDh1
public import proofs.«01_k».proof.Proof.Dh1
public import proofs.«01_k».proof.Proof.Gen.KernelDgate
public import proofs.«01_k».proof.Proof.Dgate
public import proofs.«01_k».proof.Proof.Gen.KernelDdown
public import proofs.«01_k».proof.Proof.Ddown
public import proofs.«01_k».proof.Proof.Gen.KernelDxg
public import proofs.«01_k».proof.Proof.Dxg
public import proofs.«01_k».proof.Proof.Gen.KernelDxu
public import proofs.«01_k».proof.Proof.Dxu
public import proofs.«01_k».proof.Proof.Gen.KernelDown
public import proofs.«01_k».proof.Proof.Down
public import proofs.«01_k».proof.Proof.Gen.KernelDmix
public import proofs.«01_k».proof.Proof.Dmix
public import proofs.«01_k».proof.Proof.Gen.KernelDmerged
public import proofs.«01_k».proof.Proof.Dmerged
public import proofs.«01_k».proof.Proof.Gen.KernelMix
public import proofs.«01_k».proof.Proof.Mix
public import proofs.«01_k».proof.Proof.Gen.KernelBranch
public import proofs.«01_k».proof.Proof.Branch
public import proofs.«01_k».proof.Proof.Gen.KernelDy
public import proofs.«01_k».proof.Proof.Dy
public import proofs.«01_k».proof.Proof.Gen.KernelDyb
public import proofs.«01_k».proof.Proof.Dyb
public import proofs.«01_k».proof.Proof.Gen.KernelDbranch
public import proofs.«01_k».proof.Proof.Dbranch
public import proofs.«01_k».proof.Proof.Gen.KernelXq
public import proofs.«01_k».proof.Proof.Xq
public import proofs.«01_k».proof.Proof.Gen.KernelDo
public import proofs.«01_k».proof.Proof.Do
public import proofs.«01_k».proof.Proof.Frame
public import proofs.«01_k».proof.Proof.BitsFrame
public import proofs.«01_k».proof.Proof.Final
public import Idealize.ShloMosaic.Adequacy
public import Idealize.ShloMosaic.Init

@[expose] public section

noncomputable section

namespace Cert.Proof

open Idealize.ShloMosaic Idealize.SL.Sem Cert.Kernel

/-- The kernel ends, its arguments unchanged and its counters at zero. -/
theorem frame_kernel : Cert.quiescent_Kernel := fun m ρ _ => Cert.Kernel.Fox.frame m ρ

/-- So does its idealization. -/
theorem frame_ideal : Cert.quiescent_KernelIdeal := fun m ρ _ => Cert.KernelIdeal.Fox.frame m ρ

/-- So does the reference, which has no semaphore at all. -/
theorem frame_reference : Cert.quiescent_ReferenceIdeal := fun m ρ _ =>
  (θ_run _ _ _).mono
    (fun r h => ⟨fun c => (h c).2.2.2.2.2, sem_eq_zero_of_no_sems (by decide) r.2⟩)
    (Cert.ReferenceIdeal.Value.run (F := Ideal) m ρ)

/-- The one named constant is the mask's minus infinity. -/
theorem preserves : Cert.preserves_Kernel_KernelIdeal :=
  IdealRules.named_const.statement Cert.KernelIdeal.κ "mask" .f32 0xF149F2CA#32 ⊥ rfl

/-- On finite arguments the kernel's idealization and the reference end with the same five gradients. -/
theorem algebraic : Cert.algebraic_KernelIdeal_ReferenceIdeal_pre_finite (hPre_finite := Cert.Fox.finite_facts) := fun m g m' g' hp e =>
  have hr := fun c => Cert.Fox.real_of_finite _ _ _ (hp c)
  have hA : ∀ c, Cert.Fox.Real2 (Cert.KernelIdeal.Fox.aA m c) := fun c => (hr c).1
  have hC : ∀ c, Cert.Fox.Real2 (Cert.KernelIdeal.Fox.aC m c) := fun c => (hr c).2.1
  have hG : ∀ c, Cert.Fox.Real2 (Cert.KernelIdeal.Fox.aG m c) := fun c => (hr c).2.2
  ⟨_, _, _, _, _, Cert.KernelIdeal.Fox.run_grads m g hA hC hG, Cert.Fox.ref_grads m' g' _ _ _ hA hC hG e⟩

/-- The product that gives the weight's gradient ends, its arguments unchanged and its counters at zero. The program read at
the machine's words has the same text as the one read at the reals, so its frame is the same theorem. -/
theorem frame_dw : Cert.quiescent_KernelDw := fun m ρ _ => by
  have e : Cert.KernelDw.defs (F := Bits) = Cert.KernelDwIdeal.defs (F := Bits) :=
    congrArg (Pipeline.defs Cert.KernelDwIdeal.pcfgs) (congrArg Defs.onTc (funext fun l => match l with | 0 => rfl))
  rw [e]
  exact Cert.KernelDwIdeal.Gen.frame (F := Bits) m ρ
theorem frame_dw_reference : Cert.quiescent_ReferenceDwIdeal := fun m ρ _ =>
  (θ_run _ _ _).mono (fun r h => ⟨fun c => (h c).2, sem_eq_zero_of_no_sems (by decide) r.2⟩)
    (Cert.ReferenceDwIdeal.Value.run (F := Ideal) m ρ)

/-- So does the one that gives the input's gradient. -/
theorem frame_dh : Cert.quiescent_KernelDh := fun m ρ _ => by
  have e : Cert.KernelDh.defs (F := Bits) = Cert.KernelDhIdeal.defs (F := Bits) :=
    congrArg (Pipeline.defs Cert.KernelDhIdeal.pcfgs) (congrArg Defs.onTc (funext fun l => match l with | 0 => rfl))
  rw [e]
  exact Cert.KernelDhIdeal.Gen.frame (F := Bits) m ρ
theorem frame_dh_reference : Cert.quiescent_ReferenceDhIdeal := fun m ρ _ =>
  (θ_run _ _ _).mono (fun r h => ⟨fun c => (h c).2, sem_eq_zero_of_no_sems (by decide) r.2⟩)
    (Cert.ReferenceDhIdeal.Value.run (F := Ideal) m ρ)

/-- So does the input projection. -/
theorem frame_proj : Cert.quiescent_KernelProj := fun m ρ _ => by
  have e : Cert.KernelProj.defs (F := Bits) = Cert.KernelProjIdeal.defs (F := Bits) :=
    congrArg (Pipeline.defs Cert.KernelProjIdeal.pcfgs) (congrArg Defs.onTc (funext fun l => match l with | 0 => rfl))
  rw [e]
  exact Cert.KernelProjIdeal.Gen.frame (F := Bits) m ρ
theorem frame_proj_reference : Cert.quiescent_ReferenceProjIdeal := fun m ρ _ =>
  (θ_run _ _ _).mono (fun r h => ⟨fun c => (h c).2, sem_eq_zero_of_no_sems (by decide) r.2⟩)
    (Cert.ReferenceProjIdeal.Value.run (F := Ideal) m ρ)

/-- So does the gate and up projection. -/
theorem frame_gu : Cert.quiescent_KernelGu := fun m ρ _ => by
  have e : Cert.KernelGu.defs (F := Bits) = Cert.KernelGuIdeal.defs (F := Bits) :=
    congrArg (Pipeline.defs Cert.KernelGuIdeal.pcfgs) (congrArg Defs.onTc (funext fun l => match l with | 0 => rfl))
  rw [e]
  exact Cert.KernelGuIdeal.Gen.frame (F := Bits) m ρ
theorem frame_gu_reference : Cert.quiescent_ReferenceGuIdeal := fun m ρ _ =>
  (θ_run _ _ _).mono (fun r h => ⟨fun c => (h c).2, sem_eq_zero_of_no_sems (by decide) r.2⟩)
    (Cert.ReferenceGuIdeal.Value.run (F := Ideal) m ρ)

/-- So does the gradient of the down projection's input. -/
theorem frame_dh1 : Cert.quiescent_KernelDh1 := fun m ρ _ => by
  have e : Cert.KernelDh1.defs (F := Bits) = Cert.KernelDh1Ideal.defs (F := Bits) :=
    congrArg (Pipeline.defs Cert.KernelDh1Ideal.pcfgs) (congrArg Defs.onTc (funext fun l => match l with | 0 => rfl))
  rw [e]
  exact Cert.KernelDh1Ideal.Gen.frame (F := Bits) m ρ
theorem frame_dh1_reference : Cert.quiescent_ReferenceDh1Ideal := fun m ρ _ =>
  (θ_run _ _ _).mono (fun r h => ⟨fun c => (h c).2, sem_eq_zero_of_no_sems (by decide) r.2⟩)
    (Cert.ReferenceDh1Ideal.Value.run (F := Ideal) m ρ)

/-- So does the gradient of the gate's weight, or of the up projection's. -/
theorem frame_dgate : Cert.quiescent_KernelDgate := fun m ρ _ => by
  have e : Cert.KernelDgate.defs (F := Bits) = Cert.KernelDgateIdeal.defs (F := Bits) :=
    congrArg (Pipeline.defs Cert.KernelDgateIdeal.pcfgs) (congrArg Defs.onTc (funext fun l => match l with | 0 => rfl))
  rw [e]
  exact Cert.KernelDgateIdeal.Gen.frame (F := Bits) m ρ
theorem frame_dgate_reference : Cert.quiescent_ReferenceDgateIdeal := fun m ρ _ =>
  (θ_run _ _ _).mono (fun r h => ⟨fun c => (h c).2, sem_eq_zero_of_no_sems (by decide) r.2⟩)
    (Cert.ReferenceDgateIdeal.Value.run (F := Ideal) m ρ)

/-- So does the gradient of the down projection's weight. -/
theorem frame_ddown : Cert.quiescent_KernelDdown := fun m ρ _ => by
  have e : Cert.KernelDdown.defs (F := Bits) = Cert.KernelDdownIdeal.defs (F := Bits) :=
    congrArg (Pipeline.defs Cert.KernelDdownIdeal.pcfgs) (congrArg Defs.onTc (funext fun l => match l with | 0 => rfl))
  rw [e]
  exact Cert.KernelDdownIdeal.Gen.frame (F := Bits) m ρ
theorem frame_ddown_reference : Cert.quiescent_ReferenceDdownIdeal := fun m ρ _ =>
  (θ_run _ _ _).mono (fun r h => ⟨fun c => (h c).2, sem_eq_zero_of_no_sems (by decide) r.2⟩)
    (Cert.ReferenceDdownIdeal.Value.run (F := Ideal) m ρ)

/-- So does the gradient of the net's input through the gate. -/
theorem frame_dxg : Cert.quiescent_KernelDxg := fun m ρ _ => by
  have e : Cert.KernelDxg.defs (F := Bits) = Cert.KernelDxgIdeal.defs (F := Bits) :=
    congrArg (Pipeline.defs Cert.KernelDxgIdeal.pcfgs) (congrArg Defs.onTc (funext fun l => match l with | 0 => rfl))
  rw [e]
  exact Cert.KernelDxgIdeal.Gen.frame (F := Bits) m ρ
theorem frame_dxg_reference : Cert.quiescent_ReferenceDxgIdeal := fun m ρ _ =>
  (θ_run _ _ _).mono (fun r h => ⟨fun c => (h c).2, sem_eq_zero_of_no_sems (by decide) r.2⟩)
    (Cert.ReferenceDxgIdeal.Value.run (F := Ideal) m ρ)

/-- So does the one through the up projection, added to it. -/
theorem frame_dxu : Cert.quiescent_KernelDxu := fun m ρ _ => by
  have e : Cert.KernelDxu.defs (F := Bits) = Cert.KernelDxuIdeal.defs (F := Bits) :=
    congrArg (Pipeline.defs Cert.KernelDxuIdeal.pcfgs) (congrArg Defs.onTc (funext fun l => match l with | 0 => rfl))
  rw [e]
  exact Cert.KernelDxuIdeal.Gen.frame (F := Bits) m ρ
theorem frame_dxu_reference : Cert.quiescent_ReferenceDxuIdeal := fun m ρ _ =>
  (θ_run _ _ _).mono (fun r h => ⟨fun c => (h c).2, sem_eq_zero_of_no_sems (by decide) r.2⟩)
    (Cert.ReferenceDxuIdeal.Value.run (F := Ideal) m ρ)

/-- So does the down projection, added to the stream. -/
theorem frame_down : Cert.quiescent_KernelDown := fun m ρ _ => by
  have e : Cert.KernelDown.defs (F := Bits) = Cert.KernelDownIdeal.defs (F := Bits) :=
    congrArg (Pipeline.defs Cert.KernelDownIdeal.pcfgs) (congrArg Defs.onTc (funext fun l => match l with | 0 => rfl))
  rw [e]
  exact Cert.KernelDownIdeal.Gen.frame (F := Bits) m ρ
theorem frame_down_reference : Cert.quiescent_ReferenceDownIdeal := fun m ρ _ =>
  (θ_run _ _ _).mono (fun r h => ⟨fun c => (h c).2, sem_eq_zero_of_no_sems (by decide) r.2⟩)
    (Cert.ReferenceDownIdeal.Value.run (F := Ideal) m ρ)

/-- So does the gradient of the mixing weight. -/
theorem frame_dmix : Cert.quiescent_KernelDmix := fun m ρ _ => by
  have e : Cert.KernelDmix.defs (F := Bits) = Cert.KernelDmixIdeal.defs (F := Bits) :=
    congrArg (Pipeline.defs Cert.KernelDmixIdeal.pcfgs) (congrArg Defs.onTc (funext fun l => match l with | 0 => rfl))
  rw [e]
  exact Cert.KernelDmixIdeal.Gen.frame (F := Bits) m ρ
theorem frame_dmix_reference : Cert.quiescent_ReferenceDmixIdeal := fun m ρ _ =>
  (θ_run _ _ _).mono (fun r h => ⟨fun c => (h c).2, sem_eq_zero_of_no_sems (by decide) r.2⟩)
    (Cert.ReferenceDmixIdeal.Value.run (F := Ideal) m ρ)

/-- So does the gradient of the merged branches. -/
theorem frame_dmerged : Cert.quiescent_KernelDmerged := fun m ρ _ => by
  have e : Cert.KernelDmerged.defs (F := Bits) = Cert.KernelDmergedIdeal.defs (F := Bits) :=
    congrArg (Pipeline.defs Cert.KernelDmergedIdeal.pcfgs) (congrArg Defs.onTc (funext fun l => match l with | 0 => rfl))
  rw [e]
  exact Cert.KernelDmergedIdeal.Gen.frame (F := Bits) m ρ
theorem frame_dmerged_reference : Cert.quiescent_ReferenceDmergedIdeal := fun m ρ _ =>
  (θ_run _ _ _).mono (fun r h => ⟨fun c => (h c).2, sem_eq_zero_of_no_sems (by decide) r.2⟩)
    (Cert.ReferenceDmergedIdeal.Value.run (F := Ideal) m ρ)

/-- So does the mixing projection, added to the stream. -/
theorem frame_mix : Cert.quiescent_KernelMix := fun m ρ _ => by
  have e : Cert.KernelMix.defs (F := Bits) = Cert.KernelMixIdeal.defs (F := Bits) :=
    congrArg (Pipeline.defs Cert.KernelMixIdeal.pcfgs) (congrArg Defs.onTc (funext fun l => match l with | 0 => rfl))
  rw [e]
  exact Cert.KernelMixIdeal.Gen.frame (F := Bits) m ρ
theorem frame_mix_reference : Cert.quiescent_ReferenceMixIdeal := fun m ρ _ =>
  (θ_run _ _ _).mono (fun r h => ⟨fun c => (h c).2, sem_eq_zero_of_no_sems (by decide) r.2⟩)
    (Cert.ReferenceMixIdeal.Value.run (F := Ideal) m ρ)

/-- So does the projection of a branch. -/
theorem frame_branch : Cert.quiescent_KernelBranch := fun m ρ _ => by
  have e : Cert.KernelBranch.defs (F := Bits) = Cert.KernelBranchIdeal.defs (F := Bits) :=
    congrArg (Pipeline.defs Cert.KernelBranchIdeal.pcfgs) (congrArg Defs.onTc (funext fun l => match l with | 0 => rfl))
  rw [e]
  exact Cert.KernelBranchIdeal.Gen.frame (F := Bits) m ρ
theorem frame_branch_reference : Cert.quiescent_ReferenceBranchIdeal := fun m ρ _ =>
  (θ_run _ _ _).mono (fun r h => ⟨fun c => (h c).2, sem_eq_zero_of_no_sems (by decide) r.2⟩)
    (Cert.ReferenceBranchIdeal.Value.run (F := Ideal) m ρ)

/-- So does the gradient of a branch's output. -/
theorem frame_dy : Cert.quiescent_KernelDy := fun m ρ _ => by
  have e : Cert.KernelDy.defs (F := Bits) = Cert.KernelDyIdeal.defs (F := Bits) :=
    congrArg (Pipeline.defs Cert.KernelDyIdeal.pcfgs) (congrArg Defs.onTc (funext fun l => match l with | 0 => rfl))
  rw [e]
  exact Cert.KernelDyIdeal.Gen.frame (F := Bits) m ρ
theorem frame_dy_reference : Cert.quiescent_ReferenceDyIdeal := fun m ρ _ =>
  (θ_run _ _ _).mono (fun r h => ⟨fun c => (h c).2, sem_eq_zero_of_no_sems (by decide) r.2⟩)
    (Cert.ReferenceDyIdeal.Value.run (F := Ideal) m ρ)

/-- So does the gradient of a branch's output in bf16. -/
theorem frame_dyb : Cert.quiescent_KernelDyb := fun m ρ _ => by
  have e : Cert.KernelDyb.defs (F := Bits) = Cert.KernelDybIdeal.defs (F := Bits) :=
    congrArg (Pipeline.defs Cert.KernelDybIdeal.pcfgs) (congrArg Defs.onTc (funext fun l => match l with | 0 => rfl))
  rw [e]
  exact Cert.KernelDybIdeal.Gen.frame (F := Bits) m ρ
theorem frame_dyb_reference : Cert.quiescent_ReferenceDybIdeal := fun m ρ _ =>
  (θ_run _ _ _).mono (fun r h => ⟨fun c => (h c).2, sem_eq_zero_of_no_sems (by decide) r.2⟩)
    (Cert.ReferenceDybIdeal.Value.run (F := Ideal) m ρ)

/-- So does the gradient of a branch's weight. -/
theorem frame_dbranch : Cert.quiescent_KernelDbranch := fun m ρ _ => by
  have e : Cert.KernelDbranch.defs (F := Bits) = Cert.KernelDbranchIdeal.defs (F := Bits) :=
    congrArg (Pipeline.defs Cert.KernelDbranchIdeal.pcfgs) (congrArg Defs.onTc (funext fun l => match l with | 0 => rfl))
  rw [e]
  exact Cert.KernelDbranchIdeal.Gen.frame (F := Bits) m ρ
theorem frame_dbranch_reference : Cert.quiescent_ReferenceDbranchIdeal := fun m ρ _ =>
  (θ_run _ _ _).mono (fun r h => ⟨fun c => (h c).2, sem_eq_zero_of_no_sems (by decide) r.2⟩)
    (Cert.ReferenceDbranchIdeal.Value.run (F := Ideal) m ρ)

/-- So does the projection to the cross attention's queries. -/
theorem frame_xq : Cert.quiescent_KernelXq := fun m ρ _ => by
  have e : Cert.KernelXq.defs (F := Bits) = Cert.KernelXqIdeal.defs (F := Bits) :=
    congrArg (Pipeline.defs Cert.KernelXqIdeal.pcfgs) (congrArg Defs.onTc (funext fun l => match l with | 0 => rfl))
  rw [e]
  exact Cert.KernelXqIdeal.Gen.frame (F := Bits) m ρ
theorem frame_xq_reference : Cert.quiescent_ReferenceXqIdeal := fun m ρ _ =>
  (θ_run _ _ _).mono (fun r h => ⟨fun c => (h c).2, sem_eq_zero_of_no_sems (by decide) r.2⟩)
    (Cert.ReferenceXqIdeal.Value.run (F := Ideal) m ρ)

/-- So does the gradient of the cross attention's output. -/
theorem frame_do : Cert.quiescent_KernelDo := fun m ρ _ => by
  have e : Cert.KernelDo.defs (F := Bits) = Cert.KernelDoIdeal.defs (F := Bits) :=
    congrArg (Pipeline.defs Cert.KernelDoIdeal.pcfgs) (congrArg Defs.onTc (funext fun l => match l with | 0 => rfl))
  rw [e]
  exact Cert.KernelDoIdeal.Gen.frame (F := Bits) m ρ
theorem frame_do_reference : Cert.quiescent_ReferenceDoIdeal := fun m ρ _ =>
  (θ_run _ _ _).mono (fun r h => ⟨fun c => (h c).2, sem_eq_zero_of_no_sems (by decide) r.2⟩)
    (Cert.ReferenceDoIdeal.Value.run (F := Ideal) m ρ)

/-- The kernel's weight gradient is the reference's. -/
theorem algebraic_dw : Cert.algebraic_KernelDwIdeal_ReferenceDwIdeal := fun m g m' g' _ e =>
  ⟨_, Cert.KernelDwIdeal.Value.run m g, (θ_run _ _ _).mono
    (fun _ h c => ⟨(h c).1.trans (Cert.KernelDwIdeal.Sum.same m c _ _ (e c).1 (e c).2), (h c).2⟩) (Cert.ReferenceDwIdeal.Value.run (F := Ideal) m' g')⟩

/-- So is its input gradient. -/
theorem algebraic_dh : Cert.algebraic_KernelDhIdeal_ReferenceDhIdeal := fun m g m' g' _ e =>
  ⟨_, Cert.KernelDhIdeal.Value.run m g, (θ_run _ _ _).mono
    (fun _ h c => ⟨(h c).1.trans (Cert.KernelDhIdeal.Sum.same m c _ _ (e c).1 (e c).2), (h c).2⟩) (Cert.ReferenceDhIdeal.Value.run (F := Ideal) m' g')⟩

/-- So is its input projection. -/
theorem algebraic_proj : Cert.algebraic_KernelProjIdeal_ReferenceProjIdeal := fun m g m' g' _ e =>
  ⟨_, Cert.KernelProjIdeal.Value.run_blocks m g, (θ_run _ _ _).mono
    (fun _ h c => ⟨(h c).1.trans (Cert.KernelProjIdeal.Whole.same m c _ _ (e c).1 (e c).2), (h c).2⟩) (Cert.ReferenceProjIdeal.Value.run (F := Ideal) m' g')⟩

/-- So is its gate and up projection. -/
theorem algebraic_gu : Cert.algebraic_KernelGuIdeal_ReferenceGuIdeal := fun m g m' g' _ e =>
  ⟨_, Cert.KernelGuIdeal.Value.run_blocks m g, (θ_run _ _ _).mono
    (fun _ h c => ⟨(h c).1.trans (Cert.KernelGuIdeal.Whole.same m c _ _ (e c).1 (e c).2), (h c).2⟩) (Cert.ReferenceGuIdeal.Value.run (F := Ideal) m' g')⟩

/-- So is its gradient of the down projection's input. -/
theorem algebraic_dh1 : Cert.algebraic_KernelDh1Ideal_ReferenceDh1Ideal := fun m g m' g' _ e =>
  ⟨_, Cert.KernelDh1Ideal.Value.run_blocks m g, (θ_run _ _ _).mono
    (fun _ h c => ⟨(h c).1.trans (Cert.KernelDh1Ideal.Whole.same m c _ _ (e c).1 (e c).2), (h c).2⟩) (Cert.ReferenceDh1Ideal.Value.run (F := Ideal) m' g')⟩

/-- So is its gradient of the gate's weight, or of the up projection's. -/
theorem algebraic_dgate : Cert.algebraic_KernelDgateIdeal_ReferenceDgateIdeal := fun m g m' g' _ e =>
  ⟨_, Cert.KernelDgateIdeal.Value.run m g, (θ_run _ _ _).mono
    (fun _ h c => ⟨(h c).1.trans (Cert.KernelDgateIdeal.Sum.same m c _ _ (e c).1 (e c).2), (h c).2⟩) (Cert.ReferenceDgateIdeal.Value.run (F := Ideal) m' g')⟩

/-- So is its gradient of the down projection's weight. -/
theorem algebraic_ddown : Cert.algebraic_KernelDdownIdeal_ReferenceDdownIdeal := fun m g m' g' _ e =>
  ⟨_, Cert.KernelDdownIdeal.Value.run m g, (θ_run _ _ _).mono
    (fun _ h c => ⟨(h c).1.trans (Cert.KernelDdownIdeal.Sum.same m c _ _ (e c).1 (e c).2), (h c).2⟩) (Cert.ReferenceDdownIdeal.Value.run (F := Ideal) m' g')⟩

/-- So is its gradient of the net's input through the gate. -/
theorem algebraic_dxg : Cert.algebraic_KernelDxgIdeal_ReferenceDxgIdeal := fun m g m' g' _ e =>
  ⟨_, Cert.KernelDxgIdeal.Value.run m g, (θ_run _ _ _).mono
    (fun _ h c => ⟨(h c).1.trans (Cert.KernelDxgIdeal.Sum.same m c _ _ (e c).1 (e c).2), (h c).2⟩) (Cert.ReferenceDxgIdeal.Value.run (F := Ideal) m' g')⟩

/-- So is its gradient through the up projection, added to it. -/
theorem algebraic_dxu : Cert.algebraic_KernelDxuIdeal_ReferenceDxuIdeal := fun m g m' g' _ e =>
  ⟨_, Cert.KernelDxuIdeal.Value.run m g, (θ_run _ _ _).mono
    (fun _ h c => ⟨(h c).1.trans (Cert.KernelDxuIdeal.Sum.same m c _ _ _ (e c).1 (e c).2.1 (e c).2.2), (h c).2⟩) (Cert.ReferenceDxuIdeal.Value.run (F := Ideal) m' g')⟩

/-- So is its down projection, added to the stream. -/
theorem algebraic_down : Cert.algebraic_KernelDownIdeal_ReferenceDownIdeal := fun m g m' g' _ e =>
  ⟨_, Cert.KernelDownIdeal.Value.run m g, (θ_run _ _ _).mono
    (fun _ h c => ⟨(h c).1.trans (Cert.KernelDownIdeal.Sum.same m c _ _ _ (e c).1 (e c).2.1 (e c).2.2), (h c).2⟩) (Cert.ReferenceDownIdeal.Value.run (F := Ideal) m' g')⟩

/-- So is its gradient of the mixing weight. -/
theorem algebraic_dmix : Cert.algebraic_KernelDmixIdeal_ReferenceDmixIdeal := fun m g m' g' _ e =>
  ⟨_, Cert.KernelDmixIdeal.Value.run m g, (θ_run _ _ _).mono
    (fun _ h c => ⟨(h c).1.trans (Cert.KernelDmixIdeal.Sum.same m c _ _ (e c).1 (e c).2), (h c).2⟩) (Cert.ReferenceDmixIdeal.Value.run (F := Ideal) m' g')⟩

/-- So is its gradient of the merged branches. -/
theorem algebraic_dmerged : Cert.algebraic_KernelDmergedIdeal_ReferenceDmergedIdeal := fun m g m' g' _ e =>
  ⟨_, Cert.KernelDmergedIdeal.Value.run_blocks m g, (θ_run _ _ _).mono
    (fun _ h c => ⟨(h c).1.trans (Cert.KernelDmergedIdeal.Whole.same m c _ _ (e c).1 (e c).2), (h c).2⟩) (Cert.ReferenceDmergedIdeal.Value.run (F := Ideal) m' g')⟩

/-- So is its mixing projection, added to the stream. -/
theorem algebraic_mix : Cert.algebraic_KernelMixIdeal_ReferenceMixIdeal := fun m g m' g' _ e =>
  ⟨_, Cert.KernelMixIdeal.Value.run_blocks m g, (θ_run _ _ _).mono
    (fun _ h c => ⟨(h c).1.trans (Cert.KernelMixIdeal.Whole.same m c _ _ _ (e c).1 (e c).2.1 (e c).2.2), (h c).2⟩) (Cert.ReferenceMixIdeal.Value.run (F := Ideal) m' g')⟩

/-- So is its projection of a branch. -/
theorem algebraic_branch : Cert.algebraic_KernelBranchIdeal_ReferenceBranchIdeal := fun m g m' g' _ e =>
  ⟨_, Cert.KernelBranchIdeal.Value.run_blocks m g, (θ_run _ _ _).mono
    (fun _ h c => ⟨(h c).1.trans (Cert.KernelBranchIdeal.Whole.same m c _ _ (e c).1 (e c).2), (h c).2⟩) (Cert.ReferenceBranchIdeal.Value.run (F := Ideal) m' g')⟩

/-- So is its gradient of a branch's output. -/
theorem algebraic_dy : Cert.algebraic_KernelDyIdeal_ReferenceDyIdeal := fun m g m' g' _ e =>
  ⟨_, Cert.KernelDyIdeal.Value.run_blocks m g, (θ_run _ _ _).mono
    (fun _ h c => ⟨(h c).1.trans (Cert.KernelDyIdeal.Whole.same m c _ _ (e c).1 (e c).2), (h c).2⟩) (Cert.ReferenceDyIdeal.Value.run (F := Ideal) m' g')⟩

/-- So is its gradient of a branch's output in bf16. -/
theorem algebraic_dyb : Cert.algebraic_KernelDybIdeal_ReferenceDybIdeal := fun m g m' g' _ e =>
  ⟨_, Cert.KernelDybIdeal.Value.run_blocks m g, (θ_run _ _ _).mono
    (fun _ h c => ⟨(h c).1.trans (Cert.KernelDybIdeal.Whole.same m c _ _ (e c).1 (e c).2), (h c).2⟩) (Cert.ReferenceDybIdeal.Value.run (F := Ideal) m' g')⟩

/-- So is its gradient of a branch's weight. -/
theorem algebraic_dbranch : Cert.algebraic_KernelDbranchIdeal_ReferenceDbranchIdeal := fun m g m' g' _ e =>
  ⟨_, Cert.KernelDbranchIdeal.Value.run m g, (θ_run _ _ _).mono
    (fun _ h c => ⟨(h c).1.trans (Cert.KernelDbranchIdeal.Sum.same m c _ _ (e c).1 (e c).2), (h c).2⟩) (Cert.ReferenceDbranchIdeal.Value.run (F := Ideal) m' g')⟩

/-- So is its projection to the cross attention's queries. -/
theorem algebraic_xq : Cert.algebraic_KernelXqIdeal_ReferenceXqIdeal := fun m g m' g' _ e =>
  ⟨_, Cert.KernelXqIdeal.Value.run_blocks m g, (θ_run _ _ _).mono
    (fun _ h c => ⟨(h c).1.trans (Cert.KernelXqIdeal.Whole.same m c _ _ (e c).1 (e c).2), (h c).2⟩) (Cert.ReferenceXqIdeal.Value.run (F := Ideal) m' g')⟩

/-- So is its gradient of the cross attention's output. -/
theorem algebraic_do : Cert.algebraic_KernelDoIdeal_ReferenceDoIdeal := fun m g m' g' _ e =>
  ⟨_, Cert.KernelDoIdeal.Value.run_blocks m g, (θ_run _ _ _).mono
    (fun _ h c => ⟨(h c).1.trans (Cert.KernelDoIdeal.Whole.same m c _ _ (e c).1 (e c).2), (h c).2⟩) (Cert.ReferenceDoIdeal.Value.run (F := Ideal) m' g')⟩

theorem claim : Cert.Claim := ⟨Cert.Kernel.Gen.facts, Cert.KernelIdeal.Gen.facts, Cert.ReferenceIdeal.Gen.facts,
  Cert.KernelDw.Gen.facts, Cert.KernelDwIdeal.Gen.facts, Cert.ReferenceDwIdeal.Gen.facts,
  Cert.KernelDh.Gen.facts, Cert.KernelDhIdeal.Gen.facts, Cert.ReferenceDhIdeal.Gen.facts,
  Cert.KernelProj.Gen.facts, Cert.KernelProjIdeal.Gen.facts, Cert.ReferenceProjIdeal.Gen.facts,
  Cert.KernelGu.Gen.facts, Cert.KernelGuIdeal.Gen.facts, Cert.ReferenceGuIdeal.Gen.facts,
  Cert.KernelDh1.Gen.facts, Cert.KernelDh1Ideal.Gen.facts, Cert.ReferenceDh1Ideal.Gen.facts,
  Cert.KernelDgate.Gen.facts, Cert.KernelDgateIdeal.Gen.facts, Cert.ReferenceDgateIdeal.Gen.facts,
  Cert.KernelDdown.Gen.facts, Cert.KernelDdownIdeal.Gen.facts, Cert.ReferenceDdownIdeal.Gen.facts,
  Cert.KernelDxg.Gen.facts, Cert.KernelDxgIdeal.Gen.facts, Cert.ReferenceDxgIdeal.Gen.facts,
  Cert.KernelDxu.Gen.facts, Cert.KernelDxuIdeal.Gen.facts, Cert.ReferenceDxuIdeal.Gen.facts,
  Cert.KernelDown.Gen.facts, Cert.KernelDownIdeal.Gen.facts, Cert.ReferenceDownIdeal.Gen.facts,
  Cert.KernelDmix.Gen.facts, Cert.KernelDmixIdeal.Gen.facts, Cert.ReferenceDmixIdeal.Gen.facts,
  Cert.KernelDmerged.Gen.facts, Cert.KernelDmergedIdeal.Gen.facts, Cert.ReferenceDmergedIdeal.Gen.facts,
  Cert.KernelMix.Gen.facts, Cert.KernelMixIdeal.Gen.facts, Cert.ReferenceMixIdeal.Gen.facts,
  Cert.KernelBranch.Gen.facts, Cert.KernelBranchIdeal.Gen.facts, Cert.ReferenceBranchIdeal.Gen.facts,
  Cert.KernelDy.Gen.facts, Cert.KernelDyIdeal.Gen.facts, Cert.ReferenceDyIdeal.Gen.facts,
  Cert.KernelDyb.Gen.facts, Cert.KernelDybIdeal.Gen.facts, Cert.ReferenceDybIdeal.Gen.facts,
  Cert.KernelDbranch.Gen.facts, Cert.KernelDbranchIdeal.Gen.facts, Cert.ReferenceDbranchIdeal.Gen.facts,
  Cert.KernelXq.Gen.facts, Cert.KernelXqIdeal.Gen.facts, Cert.ReferenceXqIdeal.Gen.facts,
  Cert.KernelDo.Gen.facts, Cert.KernelDoIdeal.Gen.facts, Cert.ReferenceDoIdeal.Gen.facts,
  Cert.Fox.finite_facts,
  frame_kernel, frame_ideal, fun m ρ _ => Cert.KernelIdeal.Fox.frame m ρ, frame_reference, fun m ρ _ => frame_reference m ρ trivial,
  frame_dw, fun m ρ _ => Cert.KernelDwIdeal.Gen.frame m ρ, frame_dw_reference, frame_dh, fun m ρ _ => Cert.KernelDhIdeal.Gen.frame m ρ, frame_dh_reference,
  frame_proj, fun m ρ _ => Cert.KernelProjIdeal.Gen.frame m ρ, frame_proj_reference,
  frame_gu, fun m ρ _ => Cert.KernelGuIdeal.Gen.frame m ρ, frame_gu_reference,
  frame_dh1, fun m ρ _ => Cert.KernelDh1Ideal.Gen.frame m ρ, frame_dh1_reference,
  frame_dgate, fun m ρ _ => Cert.KernelDgateIdeal.Gen.frame m ρ, frame_dgate_reference,
  frame_ddown, fun m ρ _ => Cert.KernelDdownIdeal.Gen.frame m ρ, frame_ddown_reference,
  frame_dxg, fun m ρ _ => Cert.KernelDxgIdeal.Gen.frame m ρ, frame_dxg_reference,
  frame_dxu, fun m ρ _ => Cert.KernelDxuIdeal.Gen.frame m ρ, frame_dxu_reference,
  frame_down, fun m ρ _ => Cert.KernelDownIdeal.Gen.frame m ρ, frame_down_reference,
  frame_dmix, fun m ρ _ => Cert.KernelDmixIdeal.Gen.frame m ρ, frame_dmix_reference,
  frame_dmerged, fun m ρ _ => Cert.KernelDmergedIdeal.Gen.frame m ρ, frame_dmerged_reference,
  frame_mix, fun m ρ _ => Cert.KernelMixIdeal.Gen.frame m ρ, frame_mix_reference,
  frame_branch, fun m ρ _ => Cert.KernelBranchIdeal.Gen.frame m ρ, frame_branch_reference,
  frame_dy, fun m ρ _ => Cert.KernelDyIdeal.Gen.frame m ρ, frame_dy_reference,
  frame_dyb, fun m ρ _ => Cert.KernelDybIdeal.Gen.frame m ρ, frame_dyb_reference,
  frame_dbranch, fun m ρ _ => Cert.KernelDbranchIdeal.Gen.frame m ρ, frame_dbranch_reference,
  frame_xq, fun m ρ _ => Cert.KernelXqIdeal.Gen.frame m ρ, frame_xq_reference,
  frame_do, fun m ρ _ => Cert.KernelDoIdeal.Gen.frame m ρ, frame_do_reference,
  preserves, algebraic, trivial, algebraic_dw, trivial, algebraic_dh,
  trivial, algebraic_proj, trivial, algebraic_gu, trivial, algebraic_dh1, trivial, algebraic_dgate, trivial, algebraic_ddown,
  trivial, algebraic_dxg, trivial, algebraic_dxu, trivial, algebraic_down, trivial, algebraic_dmix, trivial, algebraic_dmerged, trivial, algebraic_mix,
  trivial, algebraic_branch, trivial, algebraic_dy, trivial, algebraic_dyb, trivial, algebraic_dbranch, trivial, algebraic_xq, trivial, algebraic_do⟩

end Cert.Proof

end
